-- ==== Defs.lean ====
def Pre_Sb (m : (ℓ : Loc Cert.Sb.nD Cert.Sb.τ Cert.Sb.sig) → Buf (Elt Bits) ℓ) : Prop :=
  True

def Pre_SbIdeal (m : (ℓ : Loc Cert.SbIdeal.nD Cert.SbIdeal.τ Cert.SbIdeal.sig) → Buf (Elt Ideal) ℓ) : Prop :=
  True

def Pre_SbIdeal_finite_qk [hPre_finite_qk : Cert.Pre_finite_qk.Facts] (m : (ℓ : Loc Cert.SbIdeal.nD Cert.SbIdeal.τ Cert.SbIdeal.sig) → Buf (Elt Ideal) ℓ) : Prop :=
  ∀ c : Dev Cert.SbIdeal.nD,
    (Cert.Pre_finite_qk.fn (F := Ideal) (m ((c.tc : Thread Cert.SbIdeal.nD Cert.SbIdeal.τ).loc Cert.SbIdeal.main_arg0))) = (fun _ => 1#1)

def Pre_SbRefIdeal (m : (ℓ : Loc Cert.SbRefIdeal.nD Cert.SbRefIdeal.τ Cert.SbRefIdeal.sig) → Buf (Elt Ideal) ℓ) : Prop :=
  True

def Pre_SbRefIdeal_finite_qk [hPre_finite_qk : Cert.Pre_finite_qk.Facts] (m : (ℓ : Loc Cert.SbRefIdeal.nD Cert.SbRefIdeal.τ Cert.SbRefIdeal.sig) → Buf (Elt Ideal) ℓ) : Prop :=
  ∀ c : Dev Cert.SbRefIdeal.nD,
    (Cert.Pre_finite_qk.fn (F := Ideal) (m ((c.tc : Thread Cert.SbRefIdeal.nD Cert.SbRefIdeal.τ).loc Cert.SbRefIdeal.main_arg0))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Swiglu (m : (ℓ : Loc Cert.Swiglu.nD Cert.Swiglu.τ Cert.Swiglu.sig) → Buf (Elt Bits) ℓ) : Prop :=
  True

def Pre_SwigluIdeal (m : (ℓ : Loc Cert.SwigluIdeal.nD Cert.SwigluIdeal.τ Cert.SwigluIdeal.sig) → Buf (Elt Ideal) ℓ) : Prop :=
  True

def Pre_SwigluRefIdeal (m : (ℓ : Loc Cert.SwigluRefIdeal.nD Cert.SwigluRefIdeal.τ Cert.SwigluRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_MoeDown [hPre_routed : Cert.Pre_routed.Facts] (m : (ℓ : Loc Cert.MoeDown.nD Cert.MoeDown.τ Cert.MoeDown.sig) → Buf (Elt Bits) ℓ) : Prop :=
  ∀ c : Dev Cert.MoeDown.nD,
    (Cert.Pre_routed.fn (F := Bits) (m ((c.tc : Thread Cert.MoeDown.nD Cert.MoeDown.τ).loc Cert.MoeDown.main_arg0)) (m ((c.tc : Thread Cert.MoeDown.nD Cert.MoeDown.τ).loc Cert.MoeDown.main_arg1)) (m ((c.tc : Thread Cert.MoeDown.nD Cert.MoeDown.τ).loc Cert.MoeDown.main_arg2)) (m ((c.tc : Thread Cert.MoeDown.nD Cert.MoeDown.τ).loc Cert.MoeDown.main_arg3))) = (fun _ => 1#1)

def Pre_MoeDownIdeal [hPre_routed : Cert.Pre_routed.Facts] (m : (ℓ : Loc Cert.MoeDownIdeal.nD Cert.MoeDownIdeal.τ Cert.MoeDownIdeal.sig) → Buf (Elt Ideal) ℓ) : Prop :=
  ∀ c : Dev Cert.MoeDownIdeal.nD,
    (Cert.Pre_routed.fn (F := Ideal) (m ((c.tc : Thread Cert.MoeDownIdeal.nD Cert.MoeDownIdeal.τ).loc Cert.MoeDownIdeal.main_arg0)) (m ((c.tc : Thread Cert.MoeDownIdeal.nD Cert.MoeDownIdeal.τ).loc Cert.MoeDownIdeal.main_arg1)) (m ((c.tc : Thread Cert.MoeDownIdeal.nD Cert.MoeDownIdeal.τ).loc Cert.MoeDownIdeal.main_arg2)) (m ((c.tc : Thread Cert.MoeDownIdeal.nD Cert.MoeDownIdeal.τ).loc Cert.MoeDownIdeal.main_arg3))) = (fun _ => 1#1)

def Pre_MoeDownRefIdeal (m : (ℓ : Loc Cert.MoeDownRefIdeal.nD Cert.MoeDownRefIdeal.τ Cert.MoeDownRefIdeal.sig) → Buf (Elt Ideal) ℓ) : Prop :=
  True

def Pre_MoeDownRefIdeal_routed [hPre_routed : Cert.Pre_routed.Facts] (m : (ℓ : Loc Cert.MoeDownRefIdeal.nD Cert.MoeDownRefIdeal.τ Cert.MoeDownRefIdeal.sig) → Buf (Elt Ideal) ℓ) : Prop :=
  ∀ c : Dev Cert.MoeDownRefIdeal.nD,
    (Cert.Pre_routed.fn (F := Ideal) (m ((c.tc : Thread Cert.MoeDownRefIdeal.nD Cert.MoeDownRefIdeal.τ).loc Cert.MoeDownRefIdeal.main_arg0)) (m ((c.tc : Thread Cert.MoeDownRefIdeal.nD Cert.MoeDownRefIdeal.τ).loc Cert.MoeDownRefIdeal.main_arg1)) (m ((c.tc : Thread Cert.MoeDownRefIdeal.nD Cert.MoeDownRefIdeal.τ).loc Cert.MoeDownRefIdeal.main_arg2)) (m ((c.tc : Thread Cert.MoeDownRefIdeal.nD Cert.MoeDownRefIdeal.τ).loc Cert.MoeDownRefIdeal.main_arg3))) = (fun _ => 1#1)

def Pre_MoeUp [hPre_dispatched : Cert.Pre_dispatched.Facts] (m : (ℓ : Loc Cert.MoeUp.nD Cert.MoeUp.τ Cert.MoeUp.sig) → Buf (Elt Bits) ℓ) : Prop :=
  ∀ c : Dev Cert.MoeUp.nD,
    (Cert.Pre_dispatched.fn (F := Bits) (m ((c.tc : Thread Cert.MoeUp.nD Cert.MoeUp.τ).loc Cert.MoeUp.main_arg0)) (m ((c.tc : Thread Cert.MoeUp.nD Cert.MoeUp.τ).loc Cert.MoeUp.main_arg1)) (m ((c.tc : Thread Cert.MoeUp.nD Cert.MoeUp.τ).loc Cert.MoeUp.main_arg2)) (m ((c.tc : Thread Cert.MoeUp.nD Cert.MoeUp.τ).loc Cert.MoeUp.main_arg3)) (m ((c.tc : Thread Cert.MoeUp.nD Cert.MoeUp.τ).loc Cert.MoeUp.main_arg4)) (m ((c.tc : Thread Cert.MoeUp.nD Cert.MoeUp.τ).loc Cert.MoeUp.main_arg5))) = (fun _ => 1#1)

def Pre_MoeUpIdeal [hPre_dispatched : Cert.Pre_dispatched.Facts] (m : (ℓ : Loc Cert.MoeUpIdeal.nD Cert.MoeUpIdeal.τ Cert.MoeUpIdeal.sig) → Buf (Elt Ideal) ℓ) : Prop :=
  ∀ c : Dev Cert.MoeUpIdeal.nD,
    (Cert.Pre_dispatched.fn (F := Ideal) (m ((c.tc : Thread Cert.MoeUpIdeal.nD Cert.MoeUpIdeal.τ).loc Cert.MoeUpIdeal.main_arg0)) (m ((c.tc : Thread Cert.MoeUpIdeal.nD Cert.MoeUpIdeal.τ).loc Cert.MoeUpIdeal.main_arg1)) (m ((c.tc : Thread Cert.MoeUpIdeal.nD Cert.MoeUpIdeal.τ).loc Cert.MoeUpIdeal.main_arg2)) (m ((c.tc : Thread Cert.MoeUpIdeal.nD Cert.MoeUpIdeal.τ).loc Cert.MoeUpIdeal.main_arg3)) (m ((c.tc : Thread Cert.MoeUpIdeal.nD Cert.MoeUpIdeal.τ).loc Cert.MoeUpIdeal.main_arg4)) (m ((c.tc : Thread Cert.MoeUpIdeal.nD Cert.MoeUpIdeal.τ).loc Cert.MoeUpIdeal.main_arg5))) = (fun _ => 1#1)

def Pre_MoeUpRefIdeal (m : (ℓ : Loc Cert.MoeUpRefIdeal.nD Cert.MoeUpRefIdeal.τ Cert.MoeUpRefIdeal.sig) → Buf (Elt Ideal) ℓ) : Prop :=
  True

def Pre_MoeUpRefIdeal_dispatched [hPre_dispatched : Cert.Pre_dispatched.Facts] (m : (ℓ : Loc Cert.MoeUpRefIdeal.nD Cert.MoeUpRefIdeal.τ Cert.MoeUpRefIdeal.sig) → Buf (Elt Ideal) ℓ) : Prop :=
  ∀ c : Dev Cert.MoeUpRefIdeal.nD,
    (Cert.Pre_dispatched.fn (F := Ideal) (m ((c.tc : Thread Cert.MoeUpRefIdeal.nD Cert.MoeUpRefIdeal.τ).loc Cert.MoeUpRefIdeal.main_arg0)) (m ((c.tc : Thread Cert.MoeUpRefIdeal.nD Cert.MoeUpRefIdeal.τ).loc Cert.MoeUpRefIdeal.main_arg1)) (m ((c.tc : Thread Cert.MoeUpRefIdeal.nD Cert.MoeUpRefIdeal.τ).loc Cert.MoeUpRefIdeal.main_arg2)) (m ((c.tc : Thread Cert.MoeUpRefIdeal.nD Cert.MoeUpRefIdeal.τ).loc Cert.MoeUpRefIdeal.main_arg3)) (m ((c.tc : Thread Cert.MoeUpRefIdeal.nD Cert.MoeUpRefIdeal.τ).loc Cert.MoeUpRefIdeal.main_arg4)) (m ((c.tc : Thread Cert.MoeUpRefIdeal.nD Cert.MoeUpRefIdeal.τ).loc Cert.MoeUpRefIdeal.main_arg5))) = (fun _ => 1#1)

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def quiescent_Sb [hSb : Cert.Sb.Facts] : Prop :=
  ∀ (m : (ℓ : Loc Cert.Sb.nD Cert.Sb.τ Cert.Sb.sig) → Buf (Elt Bits) ℓ) (g : Dev Cert.Sb.nD → PrngReg), Pre_Sb m →
    θ_run (Cert.Sb.defs (F := Bits)) (onTc (τ := Cert.Sb.τ) (Cert.Sb.main (F := Bits))) ⟨m, fun _ => 0, g⟩ (fun r => (∀ c : Dev Cert.Sb.nD,
      r.2.mem ((c.tc : Thread Cert.Sb.nD Cert.Sb.τ).loc Cert.Sb.main_arg0) = m ((c.tc : Thread Cert.Sb.nD Cert.Sb.τ).loc Cert.Sb.main_arg0))
      ∧ r.2.sem = fun _ => 0)

def quiescent_SbIdeal [hSbIdeal : Cert.SbIdeal.Facts] : Prop :=
  ∀ (m : (ℓ : Loc Cert.SbIdeal.nD Cert.SbIdeal.τ Cert.SbIdeal.sig) → Buf (Elt Ideal) ℓ) (g : Dev Cert.SbIdeal.nD → PrngReg), Pre_SbIdeal m →
    θ_run (Cert.SbIdeal.defs (F := Ideal)) (onTc (τ := Cert.SbIdeal.τ) (Cert.SbIdeal.main (F := Ideal))) ⟨m, fun _ => 0, g⟩ (fun r => (∀ c : Dev Cert.SbIdeal.nD,
      r.2.mem ((c.tc : Thread Cert.SbIdeal.nD Cert.SbIdeal.τ).loc Cert.SbIdeal.main_arg0) = m ((c.tc : Thread Cert.SbIdeal.nD Cert.SbIdeal.τ).loc Cert.SbIdeal.main_arg0))
      ∧ r.2.sem = fun _ => 0)

def quiescent_SbIdeal_pre_finite_qk [hSbIdeal : Cert.SbIdeal.Facts] [hPre_finite_qk : Cert.Pre_finite_qk.Facts] : Prop :=
  ∀ (m : (ℓ : Loc Cert.SbIdeal.nD Cert.SbIdeal.τ Cert.SbIdeal.sig) → Buf (Elt Ideal) ℓ) (g : Dev Cert.SbIdeal.nD → PrngReg), Pre_SbIdeal_finite_qk m →
    θ_run (Cert.SbIdeal.defs (F := Ideal)) (onTc (τ := Cert.SbIdeal.τ) (Cert.SbIdeal.main (F := Ideal))) ⟨m, fun _ => 0, g⟩ (fun r => (∀ c : Dev Cert.SbIdeal.nD,
      r.2.mem ((c.tc : Thread Cert.SbIdeal.nD Cert.SbIdeal.τ).loc Cert.SbIdeal.main_arg0) = m ((c.tc : Thread Cert.SbIdeal.nD Cert.SbIdeal.τ).loc Cert.SbIdeal.main_arg0))
      ∧ r.2.sem = fun _ => 0)

def quiescent_SbRefIdeal [hSbRefIdeal : Cert.SbRefIdeal.Facts] : Prop :=
  ∀ (m : (ℓ : Loc Cert.SbRefIdeal.nD Cert.SbRefIdeal.τ Cert.SbRefIdeal.sig) → Buf (Elt Ideal) ℓ) (g : Dev Cert.SbRefIdeal.nD → PrngReg), Pre_SbRefIdeal m →
    θ_run (Cert.SbRefIdeal.defs (F := Ideal)) (onTc (τ := Cert.SbRefIdeal.τ) (Cert.SbRefIdeal.main (F := Ideal))) ⟨m, fun _ => 0, g⟩ (fun r => (∀ c : Dev Cert.SbRefIdeal.nD,
      r.2.mem ((c.tc : Thread Cert.SbRefIdeal.nD Cert.SbRefIdeal.τ).loc Cert.SbRefIdeal.main_arg0) = m ((c.tc : Thread Cert.SbRefIdeal.nD Cert.SbRefIdeal.τ).loc Cert.SbRefIdeal.main_arg0))
      ∧ r.2.sem = fun _ => 0)

def quiescent_SbRefIdeal_pre_finite_qk [hSbRefIdeal : Cert.SbRefIdeal.Facts] [hPre_finite_qk : Cert.Pre_finite_qk.Facts] : Prop :=
  ∀ (m : (ℓ : Loc Cert.SbRefIdeal.nD Cert.SbRefIdeal.τ Cert.SbRefIdeal.sig) → Buf (Elt Ideal) ℓ) (g : Dev Cert.SbRefIdeal.nD → PrngReg), Pre_SbRefIdeal_finite_qk m →
    θ_run (Cert.SbRefIdeal.defs (F := Ideal)) (onTc (τ := Cert.SbRefIdeal.τ) (Cert.SbRefIdeal.main (F := Ideal))) ⟨m, fun _ => 0, g⟩ (fun r => (∀ c : Dev Cert.SbRefIdeal.nD,
      r.2.mem ((c.tc : Thread Cert.SbRefIdeal.nD Cert.SbRefIdeal.τ).loc Cert.SbRefIdeal.main_arg0) = m ((c.tc : Thread Cert.SbRefIdeal.nD Cert.SbRefIdeal.τ).loc Cert.SbRefIdeal.main_arg0))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_Swiglu [hSwiglu : Cert.Swiglu.Facts] : Prop :=
  ∀ (m : (ℓ : Loc Cert.Swiglu.nD Cert.Swiglu.τ Cert.Swiglu.sig) → Buf (Elt Bits) ℓ) (g : Dev Cert.Swiglu.nD → PrngReg), Pre_Swiglu m →
    θ_run (Cert.Swiglu.defs (F := Bits)) (onTc (τ := Cert.Swiglu.τ) (Cert.Swiglu.main (F := Bits))) ⟨m, fun _ => 0, g⟩ (fun r => (∀ c : Dev Cert.Swiglu.nD,
      r.2.mem ((c.tc : Thread Cert.Swiglu.nD Cert.Swiglu.τ).loc Cert.Swiglu.main_arg0) = m ((c.tc : Thread Cert.Swiglu.nD Cert.Swiglu.τ).loc Cert.Swiglu.main_arg0)
      ∧ r.2.mem ((c.tc : Thread Cert.Swiglu.nD Cert.Swiglu.τ).loc Cert.Swiglu.main_arg1) = m ((c.tc : Thread Cert.Swiglu.nD Cert.Swiglu.τ).loc Cert.Swiglu.main_arg1)
      ∧ r.2.mem ((c.tc : Thread Cert.Swiglu.nD Cert.Swiglu.τ).loc Cert.Swiglu.main_arg2) = m ((c.tc : Thread Cert.Swiglu.nD Cert.Swiglu.τ).loc Cert.Swiglu.main_arg2))
      ∧ r.2.sem = fun _ => 0)

def quiescent_SwigluIdeal [hSwigluIdeal : Cert.SwigluIdeal.Facts] : Prop :=
  ∀ (m : (ℓ : Loc Cert.SwigluIdeal.nD Cert.SwigluIdeal.τ Cert.SwigluIdeal.sig) → Buf (Elt Ideal) ℓ) (g : Dev Cert.SwigluIdeal.nD → PrngReg), Pre_SwigluIdeal m →
    θ_run (Cert.SwigluIdeal.defs (F := Ideal)) (onTc (τ := Cert.SwigluIdeal.τ) (Cert.SwigluIdeal.main (F := Ideal))) ⟨m, fun _ => 0, g⟩ (fun r => (∀ c : Dev Cert.SwigluIdeal.nD,
      r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
      ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1)
      ∧ r.2.mem ((c.tc : Thread Cert.SwigluIdeal.nD Cert.SwigluIdeal.τ).loc Cert.SwigluIdeal.main_arg2) = m ((c.tc : Thread Cert.SwigluIdeal.nD Cert.SwigluIdeal.τ).loc Cert.SwigluIdeal.main_arg2))
      ∧ r.2.sem = fun _ => 0)

def quiescent_SwigluRefIdeal [hSwigluRefIdeal : Cert.SwigluRefIdeal.Facts] : Prop :=
  ∀ (m : (ℓ : Loc Cert.SwigluRefIdeal.nD Cert.SwigluRefIdeal.τ Cert.SwigluRefIdeal.sig) → Buf (Elt Ideal) ℓ) (g : Dev Cert.SwigluRefIdeal.nD → PrngReg), Pre_SwigluRefIdeal m →
    θ_run (Cert.SwigluRefIdeal.defs (F := Ideal)) (onTc (τ := Cert.SwigluRefIdeal.τ) (Cert.SwigluRefIdeal.main (F := Ideal))) ⟨m, fun _ => 0, g⟩ (fun r => (∀ c : Dev Cert.SwigluRefIdeal.nD,
      r.2.mem ((c.tc : Thread Cert.SwigluRefIdeal.nD Cert.SwigluRefIdeal.τ).loc Cert.SwigluRefIdeal.main_arg0) = m ((c.tc : Thread Cert.SwigluRefIdeal.nD Cert.SwigluRefIdeal.τ).loc Cert.SwigluRefIdeal.main_arg0)
      ∧ r.2.mem ((c.tc : Thread Cert.SwigluRefIdeal.nD Cert.SwigluRefIdeal.τ).loc Cert.SwigluRefIdeal.main_arg1) = m ((c.tc : Thread Cert.SwigluRefIdeal.nD Cert.SwigluRefIdeal.τ).loc Cert.SwigluRefIdeal.main_arg1)
      ∧ r.2.mem ((c.tc : Thread Cert.SwigluRefIdeal.nD Cert.SwigluRefIdeal.τ).loc Cert.SwigluRefIdeal.main_arg2) = m ((c.tc : Thread Cert.SwigluRefIdeal.nD Cert.SwigluRefIdeal.τ).loc Cert.SwigluRefIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6))
      ∧ r.2.sem = fun _ => 0)

def quiescent_MoeDown [hMoeDown : Cert.MoeDown.Facts] [hPre_routed : Cert.Pre_routed.Facts] : Prop :=
  ∀ (m : (ℓ : Loc Cert.MoeDown.nD Cert.MoeDown.τ Cert.MoeDown.sig) → Buf (Elt Bits) ℓ) (g : Dev Cert.MoeDown.nD → PrngReg), Pre_MoeDown m →
    θ_run (Cert.MoeDown.defs (F := Bits)) (onTc (τ := Cert.MoeDown.τ) (Cert.MoeDown.main (F := Bits))) ⟨m, fun _ => 0, g⟩ (fun r => (∀ c : Dev Cert.MoeDown.nD,
      r.2.mem ((c.tc : Thread Cert.MoeDown.nD Cert.MoeDown.τ).loc Cert.MoeDown.main_arg0) = m ((c.tc : Thread Cert.MoeDown.nD Cert.MoeDown.τ).loc Cert.MoeDown.main_arg0)
      ∧ r.2.mem ((c.tc : Thread Cert.MoeDown.nD Cert.MoeDown.τ).loc Cert.MoeDown.main_arg1) = m ((c.tc : Thread Cert.MoeDown.nD Cert.MoeDown.τ).loc Cert.MoeDown.main_arg1)
      ∧ r.2.mem ((c.tc : Thread Cert.MoeDown.nD Cert.MoeDown.τ).loc Cert.MoeDown.main_arg2) = m ((c.tc : Thread Cert.MoeDown.nD Cert.MoeDown.τ).loc Cert.MoeDown.main_arg2)
      ∧ r.2.mem ((c.tc : Thread Cert.MoeDown.nD Cert.MoeDown.τ).loc Cert.MoeDown.main_arg3) = m ((c.tc : Thread Cert.MoeDown.nD Cert.MoeDown.τ).loc Cert.MoeDown.main_arg3))
      ∧ r.2.sem = fun _ => 0)

def quiescent_MoeDownIdeal [hMoeDownIdeal : Cert.MoeDownIdeal.Facts] [hPre_routed : Cert.Pre_routed.Facts] : Prop :=
  ∀ (m : (ℓ : Loc Cert.MoeDownIdeal.nD Cert.MoeDownIdeal.τ Cert.MoeDownIdeal.sig) → Buf (Elt Ideal) ℓ) (g : Dev Cert.MoeDownIdeal.nD → PrngReg), Pre_MoeDownIdeal m →
    θ_run (Cert.MoeDownIdeal.defs (F := Ideal)) (onTc (τ := Cert.MoeDownIdeal.τ) (Cert.MoeDownIdeal.main (F := Ideal))) ⟨m, fun _ => 0, g⟩ (fun r => (∀ c : Dev Cert.MoeDownIdeal.nD,
      r.2.mem ((c.tc : Thread Cert.MoeDownIdeal.nD Cert.MoeDownIdeal.τ).loc Cert.MoeDownIdeal.main_arg0) = m ((c.tc : Thread Cert.MoeDownIdeal.nD Cert.MoeDownIdeal.τ).loc Cert.MoeDownIdeal.main_arg0)
      ∧ r.2.mem ((c.tc : Thread Cert.MoeDownIdeal.nD Cert.MoeDownIdeal.τ).loc Cert.MoeDownIdeal.main_arg1) = m ((c.tc : Thread Cert.MoeDownIdeal.nD Cert.MoeDownIdeal.τ).loc Cert.MoeDownIdeal.main_arg1)
      ∧ r.2.mem ((c.tc : Thread Cert.MoeDownIdeal.nD Cert.MoeDownIdeal.τ).loc Cert.MoeDownIdeal.main_arg2) = m ((c.tc : Thread Cert.MoeDownIdeal.nD Cert.MoeDownIdeal.τ).loc Cert.MoeDownIdeal.main_arg2)
      ∧ r.2.mem ((c.tc : Thread Cert.MoeDownIdeal.nD Cert.MoeDownIdeal.τ).loc Cert.MoeDownIdeal.main_arg3) = m ((c.tc : Thread Cert.MoeDownIdeal.nD Cert.MoeDownIdeal.τ).loc Cert.MoeDownIdeal.main_arg3))
      ∧ r.2.sem = fun _ => 0)

def quiescent_MoeDownRefIdeal [hMoeDownRefIdeal : Cert.MoeDownRefIdeal.Facts] : Prop :=
  ∀ (m : (ℓ : Loc Cert.MoeDownRefIdeal.nD Cert.MoeDownRefIdeal.τ Cert.MoeDownRefIdeal.sig) → Buf (Elt Ideal) ℓ) (g : Dev Cert.MoeDownRefIdeal.nD → PrngReg), Pre_MoeDownRefIdeal m →
    θ_run (Cert.MoeDownRefIdeal.defs (F := Ideal)) (onTc (τ := Cert.MoeDownRefIdeal.τ) (Cert.MoeDownRefIdeal.main (F := Ideal))) ⟨m, fun _ => 0, g⟩ (fun r => (∀ c : Dev Cert.MoeDownRefIdeal.nD,
      r.2.mem ((c.tc : Thread Cert.MoeDownRefIdeal.nD Cert.MoeDownRefIdeal.τ).loc Cert.MoeDownRefIdeal.main_arg0) = m ((c.tc : Thread Cert.MoeDownRefIdeal.nD Cert.MoeDownRefIdeal.τ).loc Cert.MoeDownRefIdeal.main_arg0)
      ∧ r.2.mem ((c.tc : Thread Cert.MoeDownRefIdeal.nD Cert.MoeDownRefIdeal.τ).loc Cert.MoeDownRefIdeal.main_arg1) = m ((c.tc : Thread Cert.MoeDownRefIdeal.nD Cert.MoeDownRefIdeal.τ).loc Cert.MoeDownRefIdeal.main_arg1)
      ∧ r.2.mem ((c.tc : Thread Cert.MoeDownRefIdeal.nD Cert.MoeDownRefIdeal.τ).loc Cert.MoeDownRefIdeal.main_arg2) = m ((c.tc : Thread Cert.MoeDownRefIdeal.nD Cert.MoeDownRefIdeal.τ).loc Cert.MoeDownRefIdeal.main_arg2)
      ∧ r.2.mem ((c.tc : Thread Cert.MoeDownRefIdeal.nD Cert.MoeDownRefIdeal.τ).loc Cert.MoeDownRefIdeal.main_arg3) = m ((c.tc : Thread Cert.MoeDownRefIdeal.nD Cert.MoeDownRefIdeal.τ).loc Cert.MoeDownRefIdeal.main_arg3))
      ∧ r.2.sem = fun _ => 0)

def quiescent_MoeDownRefIdeal_pre_routed [hMoeDownRefIdeal : Cert.MoeDownRefIdeal.Facts] [hPre_routed : Cert.Pre_routed.Facts] : Prop :=
  ∀ (m : (ℓ : Loc Cert.MoeDownRefIdeal.nD Cert.MoeDownRefIdeal.τ Cert.MoeDownRefIdeal.sig) → Buf (Elt Ideal) ℓ) (g : Dev Cert.MoeDownRefIdeal.nD → PrngReg), Pre_MoeDownRefIdeal_routed m →
    θ_run (Cert.MoeDownRefIdeal.defs (F := Ideal)) (onTc (τ := Cert.MoeDownRefIdeal.τ) (Cert.MoeDownRefIdeal.main (F := Ideal))) ⟨m, fun _ => 0, g⟩ (fun r => (∀ c : Dev Cert.MoeDownRefIdeal.nD,
      r.2.mem ((c.tc : Thread Cert.MoeDownRefIdeal.nD Cert.MoeDownRefIdeal.τ).loc Cert.MoeDownRefIdeal.main_arg0) = m ((c.tc : Thread Cert.MoeDownRefIdeal.nD Cert.MoeDownRefIdeal.τ).loc Cert.MoeDownRefIdeal.main_arg0)
      ∧ r.2.mem ((c.tc : Thread Cert.MoeDownRefIdeal.nD Cert.MoeDownRefIdeal.τ).loc Cert.MoeDownRefIdeal.main_arg1) = m ((c.tc : Thread Cert.MoeDownRefIdeal.nD Cert.MoeDownRefIdeal.τ).loc Cert.MoeDownRefIdeal.main_arg1)
      ∧ r.2.mem ((c.tc : Thread Cert.MoeDownRefIdeal.nD Cert.MoeDownRefIdeal.τ).loc Cert.MoeDownRefIdeal.main_arg2) = m ((c.tc : Thread Cert.MoeDownRefIdeal.nD Cert.MoeDownRefIdeal.τ).loc Cert.MoeDownRefIdeal.main_arg2)
      ∧ r.2.mem ((c.tc : Thread Cert.MoeDownRefIdeal.nD Cert.MoeDownRefIdeal.τ).loc Cert.MoeDownRefIdeal.main_arg3) = m ((c.tc : Thread Cert.MoeDownRefIdeal.nD Cert.MoeDownRefIdeal.τ).loc Cert.MoeDownRefIdeal.main_arg3))
      ∧ r.2.sem = fun _ => 0)

def quiescent_MoeUp [hMoeUp : Cert.MoeUp.Facts] [hPre_dispatched : Cert.Pre_dispatched.Facts] : Prop :=
  ∀ (m : (ℓ : Loc Cert.MoeUp.nD Cert.MoeUp.τ Cert.MoeUp.sig) → Buf (Elt Bits) ℓ) (g : Dev Cert.MoeUp.nD → PrngReg), Pre_MoeUp m →
    θ_run (Cert.MoeUp.defs (F := Bits)) (onTc (τ := Cert.MoeUp.τ) (Cert.MoeUp.main (F := Bits))) ⟨m, fun _ => 0, g⟩ (fun r => (∀ c : Dev Cert.MoeUp.nD,
      r.2.mem ((c.tc : Thread Cert.MoeUp.nD Cert.MoeUp.τ).loc Cert.MoeUp.main_arg0) = m ((c.tc : Thread Cert.MoeUp.nD Cert.MoeUp.τ).loc Cert.MoeUp.main_arg0)
      ∧ r.2.mem ((c.tc : Thread Cert.MoeUp.nD Cert.MoeUp.τ).loc Cert.MoeUp.main_arg1) = m ((c.tc : Thread Cert.MoeUp.nD Cert.MoeUp.τ).loc Cert.MoeUp.main_arg1)
      ∧ r.2.mem ((c.tc : Thread Cert.MoeUp.nD Cert.MoeUp.τ).loc Cert.MoeUp.main_arg2) = m ((c.tc : Thread Cert.MoeUp.nD Cert.MoeUp.τ).loc Cert.MoeUp.main_arg2)
      ∧ r.2.mem ((c.tc : Thread Cert.MoeUp.nD Cert.MoeUp.τ).loc Cert.MoeUp.main_arg3) = m ((c.tc : Thread Cert.MoeUp.nD Cert.MoeUp.τ).loc Cert.MoeUp.main_arg3)
      ∧ r.2.mem ((c.tc : Thread Cert.MoeUp.nD Cert.MoeUp.τ).loc Cert.MoeUp.main_arg4) = m ((c.tc : Thread Cert.MoeUp.nD Cert.MoeUp.τ).loc Cert.MoeUp.main_arg4)
      ∧ r.2.mem ((c.tc : Thread Cert.MoeUp.nD Cert.MoeUp.τ).loc Cert.MoeUp.main_arg5) = m ((c.tc : Thread Cert.MoeUp.nD Cert.MoeUp.τ).loc Cert.MoeUp.main_arg5))
      ∧ r.2.sem = fun _ => 0)

def quiescent_MoeUpIdeal [hMoeUpIdeal : Cert.MoeUpIdeal.Facts] [hPre_dispatched : Cert.Pre_dispatched.Facts] : Prop :=
  ∀ (m : (ℓ : Loc Cert.MoeUpIdeal.nD Cert.MoeUpIdeal.τ Cert.MoeUpIdeal.sig) → Buf (Elt Ideal) ℓ) (g : Dev Cert.MoeUpIdeal.nD → PrngReg), Pre_MoeUpIdeal m →
    θ_run (Cert.MoeUpIdeal.defs (F := Ideal)) (onTc (τ := Cert.MoeUpIdeal.τ) (Cert.MoeUpIdeal.main (F := Ideal))) ⟨m, fun _ => 0, g⟩ (fun r => (∀ c : Dev Cert.MoeUpIdeal.nD,
      r.2.mem ((c.tc : Thread Cert.MoeUpIdeal.nD Cert.MoeUpIdeal.τ).loc Cert.MoeUpIdeal.main_arg0) = m ((c.tc : Thread Cert.MoeUpIdeal.nD Cert.MoeUpIdeal.τ).loc Cert.MoeUpIdeal.main_arg0)
      ∧ r.2.mem ((c.tc : Thread Cert.MoeUpIdeal.nD Cert.MoeUpIdeal.τ).loc Cert.MoeUpIdeal.main_arg1) = m ((c.tc : Thread Cert.MoeUpIdeal.nD Cert.MoeUpIdeal.τ).loc Cert.MoeUpIdeal.main_arg1)
      ∧ r.2.mem ((c.tc : Thread Cert.MoeUpIdeal.nD Cert.MoeUpIdeal.τ).loc Cert.MoeUpIdeal.main_arg2) = m ((c.tc : Thread Cert.MoeUpIdeal.nD Cert.MoeUpIdeal.τ).loc Cert.MoeUpIdeal.main_arg2)
      ∧ r.2.mem ((c.tc : Thread Cert.MoeUpIdeal.nD Cert.MoeUpIdeal.τ).loc Cert.MoeUpIdeal.main_arg3) = m ((c.tc : Thread Cert.MoeUpIdeal.nD Cert.MoeUpIdeal.τ).loc Cert.MoeUpIdeal.main_arg3)
      ∧ r.2.mem ((c.tc : Thread Cert.MoeUpIdeal.nD Cert.MoeUpIdeal.τ).loc Cert.MoeUpIdeal.main_arg4) = m ((c.tc : Thread Cert.MoeUpIdeal.nD Cert.MoeUpIdeal.τ).loc Cert.MoeUpIdeal.main_arg4)
      ∧ r.2.mem ((c.tc : Thread Cert.MoeUpIdeal.nD Cert.MoeUpIdeal.τ).loc Cert.MoeUpIdeal.main_arg5) = m ((c.tc : Thread Cert.MoeUpIdeal.nD Cert.MoeUpIdeal.τ).loc Cert.MoeUpIdeal.main_arg5))
      ∧ r.2.sem = fun _ => 0)

def quiescent_MoeUpRefIdeal [hMoeUpRefIdeal : Cert.MoeUpRefIdeal.Facts] : Prop :=
  ∀ (m : (ℓ : Loc Cert.MoeUpRefIdeal.nD Cert.MoeUpRefIdeal.τ Cert.MoeUpRefIdeal.sig) → Buf (Elt Ideal) ℓ) (g : Dev Cert.MoeUpRefIdeal.nD → PrngReg), Pre_MoeUpRefIdeal m →
    θ_run (Cert.MoeUpRefIdeal.defs (F := Ideal)) (onTc (τ := Cert.MoeUpRefIdeal.τ) (Cert.MoeUpRefIdeal.main (F := Ideal))) ⟨m, fun _ => 0, g⟩ (fun r => (∀ c : Dev Cert.MoeUpRefIdeal.nD,
      r.2.mem ((c.tc : Thread Cert.MoeUpRefIdeal.nD Cert.MoeUpRefIdeal.τ).loc Cert.MoeUpRefIdeal.main_arg0) = m ((c.tc : Thread Cert.MoeUpRefIdeal.nD Cert.MoeUpRefIdeal.τ).loc Cert.MoeUpRefIdeal.main_arg0)
      ∧ r.2.mem ((c.tc : Thread Cert.MoeUpRefIdeal.nD Cert.MoeUpRefIdeal.τ).loc Cert.MoeUpRefIdeal.main_arg1) = m ((c.tc : Thread Cert.MoeUpRefIdeal.nD Cert.MoeUpRefIdeal.τ).loc Cert.MoeUpRefIdeal.main_arg1)
      ∧ r.2.mem ((c.tc : Thread Cert.MoeUpRefIdeal.nD Cert.MoeUpRefIdeal.τ).loc Cert.MoeUpRefIdeal.main_arg2) = m ((c.tc : Thread Cert.MoeUpRefIdeal.nD Cert.MoeUpRefIdeal.τ).loc Cert.MoeUpRefIdeal.main_arg2)
      ∧ r.2.mem ((c.tc : Thread Cert.MoeUpRefIdeal.nD Cert.MoeUpRefIdeal.τ).loc Cert.MoeUpRefIdeal.main_arg3) = m ((c.tc : Thread Cert.MoeUpRefIdeal.nD Cert.MoeUpRefIdeal.τ).loc Cert.MoeUpRefIdeal.main_arg3)
      ∧ r.2.mem ((c.tc : Thread Cert.MoeUpRefIdeal.nD Cert.MoeUpRefIdeal.τ).loc Cert.MoeUpRefIdeal.main_arg4) = m ((c.tc : Thread Cert.MoeUpRefIdeal.nD Cert.MoeUpRefIdeal.τ).loc Cert.MoeUpRefIdeal.main_arg4)
      ∧ r.2.mem ((c.tc : Thread Cert.MoeUpRefIdeal.nD Cert.MoeUpRefIdeal.τ).loc Cert.MoeUpRefIdeal.main_arg5) = m ((c.tc : Thread Cert.MoeUpRefIdeal.nD Cert.MoeUpRefIdeal.τ).loc Cert.MoeUpRefIdeal.main_arg5))
      ∧ r.2.sem = fun _ => 0)

def quiescent_MoeUpRefIdeal_pre_dispatched [hMoeUpRefIdeal : Cert.MoeUpRefIdeal.Facts] [hPre_dispatched : Cert.Pre_dispatched.Facts] : Prop :=
  ∀ (m : (ℓ : Loc Cert.MoeUpRefIdeal.nD Cert.MoeUpRefIdeal.τ Cert.MoeUpRefIdeal.sig) → Buf (Elt Ideal) ℓ) (g : Dev Cert.MoeUpRefIdeal.nD → PrngReg), Pre_MoeUpRefIdeal_dispatched m →
    θ_run (Cert.MoeUpRefIdeal.defs (F := Ideal)) (onTc (τ := Cert.MoeUpRefIdeal.τ) (Cert.MoeUpRefIdeal.main (F := Ideal))) ⟨m, fun _ => 0, g⟩ (fun r => (∀ c : Dev Cert.MoeUpRefIdeal.nD,
      r.2.mem ((c.tc : Thread Cert.MoeUpRefIdeal.nD Cert.MoeUpRefIdeal.τ).loc Cert.MoeUpRefIdeal.main_arg0) = m ((c.tc : Thread Cert.MoeUpRefIdeal.nD Cert.MoeUpRefIdeal.τ).loc Cert.MoeUpRefIdeal.main_arg0)
      ∧ r.2.mem ((c.tc : Thread Cert.MoeUpRefIdeal.nD Cert.MoeUpRefIdeal.τ).loc Cert.MoeUpRefIdeal.main_arg1) = m ((c.tc : Thread Cert.MoeUpRefIdeal.nD Cert.MoeUpRefIdeal.τ).loc Cert.MoeUpRefIdeal.main_arg1)
      ∧ r.2.mem ((c.tc : Thread Cert.MoeUpRefIdeal.nD Cert.MoeUpRefIdeal.τ).loc Cert.MoeUpRefIdeal.main_arg2) = m ((c.tc : Thread Cert.MoeUpRefIdeal.nD Cert.MoeUpRefIdeal.τ).loc Cert.MoeUpRefIdeal.main_arg2)
      ∧ r.2.mem ((c.tc : Thread Cert.MoeUpRefIdeal.nD Cert.MoeUpRefIdeal.τ).loc Cert.MoeUpRefIdeal.main_arg3) = m ((c.tc : Thread Cert.MoeUpRefIdeal.nD Cert.MoeUpRefIdeal.τ).loc Cert.MoeUpRefIdeal.main_arg3)
      ∧ r.2.mem ((c.tc : Thread Cert.MoeUpRefIdeal.nD Cert.MoeUpRefIdeal.τ).loc Cert.MoeUpRefIdeal.main_arg4) = m ((c.tc : Thread Cert.MoeUpRefIdeal.nD Cert.MoeUpRefIdeal.τ).loc Cert.MoeUpRefIdeal.main_arg4)
      ∧ r.2.mem ((c.tc : Thread Cert.MoeUpRefIdeal.nD Cert.MoeUpRefIdeal.τ).loc Cert.MoeUpRefIdeal.main_arg5) = m ((c.tc : Thread Cert.MoeUpRefIdeal.nD Cert.MoeUpRefIdeal.τ).loc Cert.MoeUpRefIdeal.main_arg5))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2))
      ∧ r.2.sem = fun _ => 0)

def preserves_Sb_SbIdeal : Prop :=
  True

def algebraic_SbIdeal_SbRefIdeal_pre_finite_qk [hSbIdeal : Cert.SbIdeal.Facts] [hSbRefIdeal : Cert.SbRefIdeal.Facts] [hPre_finite_qk : Cert.Pre_finite_qk.Facts] : Prop :=
  ∀ (m : (ℓ : Loc Cert.SbIdeal.nD Cert.SbIdeal.τ Cert.SbIdeal.sig) → Buf (Elt Ideal) ℓ) (g : Dev Cert.SbIdeal.nD → PrngReg)
    (m' : (ℓ : Loc Cert.SbRefIdeal.nD Cert.SbRefIdeal.τ Cert.SbRefIdeal.sig) → Buf (Elt Ideal) ℓ) (g' : Dev Cert.SbRefIdeal.nD → PrngReg), Pre_SbIdeal_finite_qk m →
    (∀ c : Dev Cert.SbIdeal.nD,
      m' ((c.tc : Thread Cert.SbRefIdeal.nD Cert.SbRefIdeal.τ).loc Cert.SbRefIdeal.main_arg0) = m ((c.tc : Thread Cert.SbIdeal.nD Cert.SbIdeal.τ).loc Cert.SbIdeal.main_arg0)) →
    ∃ (v0 : (c : Dev Cert.SbIdeal.nD) → Buf (Elt Ideal) ((c.tc : Thread Cert.SbIdeal.nD Cert.SbIdeal.τ).loc Cert.SbIdeal.main_v0)),
      θ_run (Cert.SbIdeal.defs (F := Ideal)) (onTc (τ := Cert.SbIdeal.τ) (Cert.SbIdeal.main (F := Ideal))) ⟨m, fun _ => 0, g⟩ (fun r => ∀ c : Dev Cert.SbIdeal.nD,
          r.2.mem ((c.tc : Thread Cert.SbIdeal.nD Cert.SbIdeal.τ).loc Cert.SbIdeal.main_v0) = v0 c
          ∧ r.2.mem ((c.tc : Thread Cert.SbIdeal.nD Cert.SbIdeal.τ).loc Cert.SbIdeal.main_arg0) = m ((c.tc : Thread Cert.SbIdeal.nD Cert.SbIdeal.τ).loc Cert.SbIdeal.main_arg0))
      ∧ θ_run (Cert.SbRefIdeal.defs (F := Ideal)) (onTc (τ := Cert.SbRefIdeal.τ) (Cert.SbRefIdeal.main (F := Ideal))) ⟨m', fun _ => 0, g'⟩ (fun r => ∀ c : Dev Cert.SbRefIdeal.nD,
          r.2.mem ((c.tc : Thread Cert.SbRefIdeal.nD Cert.SbRefIdeal.τ).loc Cert.SbRefIdeal.main_v35) = v0 c
          ∧ r.2.mem ((c.tc : Thread Cert.SbRefIdeal.nD Cert.SbRefIdeal.τ).loc Cert.SbRefIdeal.main_arg0) = m' ((c.tc : Thread Cert.SbRefIdeal.nD Cert.SbRefIdeal.τ).loc Cert.SbRefIdeal.main_arg0))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v0)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v4) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_Swiglu_SwigluIdeal : Prop :=
  True

def algebraic_SwigluIdeal_SwigluRefIdeal [hSwigluIdeal : Cert.SwigluIdeal.Facts] [hSwigluRefIdeal : Cert.SwigluRefIdeal.Facts] : Prop :=
  ∀ (m : (ℓ : Loc Cert.SwigluIdeal.nD Cert.SwigluIdeal.τ Cert.SwigluIdeal.sig) → Buf (Elt Ideal) ℓ) (g : Dev Cert.SwigluIdeal.nD → PrngReg)
    (m' : (ℓ : Loc Cert.SwigluRefIdeal.nD Cert.SwigluRefIdeal.τ Cert.SwigluRefIdeal.sig) → Buf (Elt Ideal) ℓ) (g' : Dev Cert.SwigluRefIdeal.nD → PrngReg), Pre_SwigluIdeal m →
    (∀ c : Dev Cert.SwigluIdeal.nD,
      m' ((c.tc : Thread Cert.SwigluRefIdeal.nD Cert.SwigluRefIdeal.τ).loc Cert.SwigluRefIdeal.main_arg0) = m ((c.tc : Thread Cert.SwigluIdeal.nD Cert.SwigluIdeal.τ).loc Cert.SwigluIdeal.main_arg0)
      ∧ m' ((c.tc : Thread Cert.SwigluRefIdeal.nD Cert.SwigluRefIdeal.τ).loc Cert.SwigluRefIdeal.main_arg1) = m ((c.tc : Thread Cert.SwigluIdeal.nD Cert.SwigluIdeal.τ).loc Cert.SwigluIdeal.main_arg1)
      ∧ m' ((c.tc : Thread Cert.SwigluRefIdeal.nD Cert.SwigluRefIdeal.τ).loc Cert.SwigluRefIdeal.main_arg2) = m ((c.tc : Thread Cert.SwigluIdeal.nD Cert.SwigluIdeal.τ).loc Cert.SwigluIdeal.main_arg2)) →
    ∃ (v0 : (c : Dev Cert.SwigluIdeal.nD) → Buf (Elt Ideal) ((c.tc : Thread Cert.SwigluIdeal.nD Cert.SwigluIdeal.τ).loc Cert.SwigluIdeal.main_v0)),
      θ_run (Cert.SwigluIdeal.defs (F := Ideal)) (onTc (τ := Cert.SwigluIdeal.τ) (Cert.SwigluIdeal.main (F := Ideal))) ⟨m, fun _ => 0, g⟩ (fun r => ∀ c : Dev Cert.SwigluIdeal.nD,
          r.2.mem ((c.tc : Thread Cert.SwigluIdeal.nD Cert.SwigluIdeal.τ).loc Cert.SwigluIdeal.main_v0) = v0 c
          ∧ r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
          ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1)
          ∧ r.2.mem ((c.tc : Thread Cert.SwigluIdeal.nD Cert.SwigluIdeal.τ).loc Cert.SwigluIdeal.main_arg2) = m ((c.tc : Thread Cert.SwigluIdeal.nD Cert.SwigluIdeal.τ).loc Cert.SwigluIdeal.main_arg2))
      ∧ θ_run (Cert.SwigluRefIdeal.defs (F := Ideal)) (onTc (τ := Cert.SwigluRefIdeal.τ) (Cert.SwigluRefIdeal.main (F := Ideal))) ⟨m', fun _ => 0, g'⟩ (fun r => ∀ c : Dev Cert.SwigluRefIdeal.nD,
          r.2.mem ((c.tc : Thread Cert.SwigluRefIdeal.nD Cert.SwigluRefIdeal.τ).loc Cert.SwigluRefIdeal.main_v7) = v0 c
          ∧ r.2.mem ((c.tc : Thread Cert.SwigluRefIdeal.nD Cert.SwigluRefIdeal.τ).loc Cert.SwigluRefIdeal.main_arg0) = m' ((c.tc : Thread Cert.SwigluRefIdeal.nD Cert.SwigluRefIdeal.τ).loc Cert.SwigluRefIdeal.main_arg0)
          ∧ r.2.mem ((c.tc : Thread Cert.SwigluRefIdeal.nD Cert.SwigluRefIdeal.τ).loc Cert.SwigluRefIdeal.main_arg1) = m' ((c.tc : Thread Cert.SwigluRefIdeal.nD Cert.SwigluRefIdeal.τ).loc Cert.SwigluRefIdeal.main_arg1)
          ∧ r.2.mem ((c.tc : Thread Cert.SwigluRefIdeal.nD Cert.SwigluRefIdeal.τ).loc Cert.SwigluRefIdeal.main_arg2) = m' ((c.tc : Thread Cert.SwigluRefIdeal.nD Cert.SwigluRefIdeal.τ).loc Cert.SwigluRefIdeal.main_arg2))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v16) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v15) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v35) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6))

def preserves_MoeDown_MoeDownIdeal : Prop :=
  True

def algebraic_MoeDownIdeal_MoeDownRefIdeal [hMoeDownIdeal : Cert.MoeDownIdeal.Facts] [hMoeDownRefIdeal : Cert.MoeDownRefIdeal.Facts] [hPre_routed : Cert.Pre_routed.Facts] : Prop :=
  ∀ (m : (ℓ : Loc Cert.MoeDownIdeal.nD Cert.MoeDownIdeal.τ Cert.MoeDownIdeal.sig) → Buf (Elt Ideal) ℓ) (g : Dev Cert.MoeDownIdeal.nD → PrngReg)
    (m' : (ℓ : Loc Cert.MoeDownRefIdeal.nD Cert.MoeDownRefIdeal.τ Cert.MoeDownRefIdeal.sig) → Buf (Elt Ideal) ℓ) (g' : Dev Cert.MoeDownRefIdeal.nD → PrngReg), Pre_MoeDownIdeal m →
    (∀ c : Dev Cert.MoeDownIdeal.nD,
      m' ((c.tc : Thread Cert.MoeDownRefIdeal.nD Cert.MoeDownRefIdeal.τ).loc Cert.MoeDownRefIdeal.main_arg0) = m ((c.tc : Thread Cert.MoeDownIdeal.nD Cert.MoeDownIdeal.τ).loc Cert.MoeDownIdeal.main_arg0)
      ∧ m' ((c.tc : Thread Cert.MoeDownRefIdeal.nD Cert.MoeDownRefIdeal.τ).loc Cert.MoeDownRefIdeal.main_arg1) = m ((c.tc : Thread Cert.MoeDownIdeal.nD Cert.MoeDownIdeal.τ).loc Cert.MoeDownIdeal.main_arg1)
      ∧ m' ((c.tc : Thread Cert.MoeDownRefIdeal.nD Cert.MoeDownRefIdeal.τ).loc Cert.MoeDownRefIdeal.main_arg2) = m ((c.tc : Thread Cert.MoeDownIdeal.nD Cert.MoeDownIdeal.τ).loc Cert.MoeDownIdeal.main_arg2)
      ∧ m' ((c.tc : Thread Cert.MoeDownRefIdeal.nD Cert.MoeDownRefIdeal.τ).loc Cert.MoeDownRefIdeal.main_arg3) = m ((c.tc : Thread Cert.MoeDownIdeal.nD Cert.MoeDownIdeal.τ).loc Cert.MoeDownIdeal.main_arg3)) →
    ∃ (v0 : (c : Dev Cert.MoeDownIdeal.nD) → Buf (Elt Ideal) ((c.tc : Thread Cert.MoeDownIdeal.nD Cert.MoeDownIdeal.τ).loc Cert.MoeDownIdeal.main_v0)),
      θ_run (Cert.MoeDownIdeal.defs (F := Ideal)) (onTc (τ := Cert.MoeDownIdeal.τ) (Cert.MoeDownIdeal.main (F := Ideal))) ⟨m, fun _ => 0, g⟩ (fun r => ∀ c : Dev Cert.MoeDownIdeal.nD,
          r.2.mem ((c.tc : Thread Cert.MoeDownIdeal.nD Cert.MoeDownIdeal.τ).loc Cert.MoeDownIdeal.main_v0) = v0 c
          ∧ r.2.mem ((c.tc : Thread Cert.MoeDownIdeal.nD Cert.MoeDownIdeal.τ).loc Cert.MoeDownIdeal.main_arg0) = m ((c.tc : Thread Cert.MoeDownIdeal.nD Cert.MoeDownIdeal.τ).loc Cert.MoeDownIdeal.main_arg0)
          ∧ r.2.mem ((c.tc : Thread Cert.MoeDownIdeal.nD Cert.MoeDownIdeal.τ).loc Cert.MoeDownIdeal.main_arg1) = m ((c.tc : Thread Cert.MoeDownIdeal.nD Cert.MoeDownIdeal.τ).loc Cert.MoeDownIdeal.main_arg1)
          ∧ r.2.mem ((c.tc : Thread Cert.MoeDownIdeal.nD Cert.MoeDownIdeal.τ).loc Cert.MoeDownIdeal.main_arg2) = m ((c.tc : Thread Cert.MoeDownIdeal.nD Cert.MoeDownIdeal.τ).loc Cert.MoeDownIdeal.main_arg2)
          ∧ r.2.mem ((c.tc : Thread Cert.MoeDownIdeal.nD Cert.MoeDownIdeal.τ).loc Cert.MoeDownIdeal.main_arg3) = m ((c.tc : Thread Cert.MoeDownIdeal.nD Cert.MoeDownIdeal.τ).loc Cert.MoeDownIdeal.main_arg3))
      ∧ θ_run (Cert.MoeDownRefIdeal.defs (F := Ideal)) (onTc (τ := Cert.MoeDownRefIdeal.τ) (Cert.MoeDownRefIdeal.main (F := Ideal))) ⟨m', fun _ => 0, g'⟩ (fun r => ∀ c : Dev Cert.MoeDownRefIdeal.nD,
          r.2.mem ((c.tc : Thread Cert.MoeDownRefIdeal.nD Cert.MoeDownRefIdeal.τ).loc Cert.MoeDownRefIdeal.main_v17) = v0 c
          ∧ r.2.mem ((c.tc : Thread Cert.MoeDownRefIdeal.nD Cert.MoeDownRefIdeal.τ).loc Cert.MoeDownRefIdeal.main_arg0) = m' ((c.tc : Thread Cert.MoeDownRefIdeal.nD Cert.MoeDownRefIdeal.τ).loc Cert.MoeDownRefIdeal.main_arg0)
          ∧ r.2.mem ((c.tc : Thread Cert.MoeDownRefIdeal.nD Cert.MoeDownRefIdeal.τ).loc Cert.MoeDownRefIdeal.main_arg1) = m' ((c.tc : Thread Cert.MoeDownRefIdeal.nD Cert.MoeDownRefIdeal.τ).loc Cert.MoeDownRefIdeal.main_arg1)
          ∧ r.2.mem ((c.tc : Thread Cert.MoeDownRefIdeal.nD Cert.MoeDownRefIdeal.τ).loc Cert.MoeDownRefIdeal.main_arg2) = m' ((c.tc : Thread Cert.MoeDownRefIdeal.nD Cert.MoeDownRefIdeal.τ).loc Cert.MoeDownRefIdeal.main_arg2)
          ∧ r.2.mem ((c.tc : Thread Cert.MoeDownRefIdeal.nD Cert.MoeDownRefIdeal.τ).loc Cert.MoeDownRefIdeal.main_arg3) = m' ((c.tc : Thread Cert.MoeDownRefIdeal.nD Cert.MoeDownRefIdeal.τ).loc Cert.MoeDownRefIdeal.main_arg3))

def preserves_MoeUp_MoeUpIdeal : Prop :=
  True

def algebraic_MoeUpIdeal_MoeUpRefIdeal [hMoeUpIdeal : Cert.MoeUpIdeal.Facts] [hMoeUpRefIdeal : Cert.MoeUpRefIdeal.Facts] [hPre_dispatched : Cert.Pre_dispatched.Facts] : Prop :=
  ∀ (m : (ℓ : Loc Cert.MoeUpIdeal.nD Cert.MoeUpIdeal.τ Cert.MoeUpIdeal.sig) → Buf (Elt Ideal) ℓ) (g : Dev Cert.MoeUpIdeal.nD → PrngReg)
    (m' : (ℓ : Loc Cert.MoeUpRefIdeal.nD Cert.MoeUpRefIdeal.τ Cert.MoeUpRefIdeal.sig) → Buf (Elt Ideal) ℓ) (g' : Dev Cert.MoeUpRefIdeal.nD → PrngReg), Pre_MoeUpIdeal m →
    (∀ c : Dev Cert.MoeUpIdeal.nD,
      m' ((c.tc : Thread Cert.MoeUpRefIdeal.nD Cert.MoeUpRefIdeal.τ).loc Cert.MoeUpRefIdeal.main_arg0) = m ((c.tc : Thread Cert.MoeUpIdeal.nD Cert.MoeUpIdeal.τ).loc Cert.MoeUpIdeal.main_arg0)
      ∧ m' ((c.tc : Thread Cert.MoeUpRefIdeal.nD Cert.MoeUpRefIdeal.τ).loc Cert.MoeUpRefIdeal.main_arg1) = m ((c.tc : Thread Cert.MoeUpIdeal.nD Cert.MoeUpIdeal.τ).loc Cert.MoeUpIdeal.main_arg1)
      ∧ m' ((c.tc : Thread Cert.MoeUpRefIdeal.nD Cert.MoeUpRefIdeal.τ).loc Cert.MoeUpRefIdeal.main_arg2) = m ((c.tc : Thread Cert.MoeUpIdeal.nD Cert.MoeUpIdeal.τ).loc Cert.MoeUpIdeal.main_arg2)
      ∧ m' ((c.tc : Thread Cert.MoeUpRefIdeal.nD Cert.MoeUpRefIdeal.τ).loc Cert.MoeUpRefIdeal.main_arg3) = m ((c.tc : Thread Cert.MoeUpIdeal.nD Cert.MoeUpIdeal.τ).loc Cert.MoeUpIdeal.main_arg3)
      ∧ m' ((c.tc : Thread Cert.MoeUpRefIdeal.nD Cert.MoeUpRefIdeal.τ).loc Cert.MoeUpRefIdeal.main_arg4) = m ((c.tc : Thread Cert.MoeUpIdeal.nD Cert.MoeUpIdeal.τ).loc Cert.MoeUpIdeal.main_arg4)
      ∧ m' ((c.tc : Thread Cert.MoeUpRefIdeal.nD Cert.MoeUpRefIdeal.τ).loc Cert.MoeUpRefIdeal.main_arg5) = m ((c.tc : Thread Cert.MoeUpIdeal.nD Cert.MoeUpIdeal.τ).loc Cert.MoeUpIdeal.main_arg5)) →
    ∃ (v0 : (c : Dev Cert.MoeUpIdeal.nD) → Buf (Elt Ideal) ((c.tc : Thread Cert.MoeUpIdeal.nD Cert.MoeUpIdeal.τ).loc Cert.MoeUpIdeal.main_v0)),
      θ_run (Cert.MoeUpIdeal.defs (F := Ideal)) (onTc (τ := Cert.MoeUpIdeal.τ) (Cert.MoeUpIdeal.main (F := Ideal))) ⟨m, fun _ => 0, g⟩ (fun r => ∀ c : Dev Cert.MoeUpIdeal.nD,
          r.2.mem ((c.tc : Thread Cert.MoeUpIdeal.nD Cert.MoeUpIdeal.τ).loc Cert.MoeUpIdeal.main_v0) = v0 c
          ∧ r.2.mem ((c.tc : Thread Cert.MoeUpIdeal.nD Cert.MoeUpIdeal.τ).loc Cert.MoeUpIdeal.main_arg0) = m ((c.tc : Thread Cert.MoeUpIdeal.nD Cert.MoeUpIdeal.τ).loc Cert.MoeUpIdeal.main_arg0)
          ∧ r.2.mem ((c.tc : Thread Cert.MoeUpIdeal.nD Cert.MoeUpIdeal.τ).loc Cert.MoeUpIdeal.main_arg1) = m ((c.tc : Thread Cert.MoeUpIdeal.nD Cert.MoeUpIdeal.τ).loc Cert.MoeUpIdeal.main_arg1)
          ∧ r.2.mem ((c.tc : Thread Cert.MoeUpIdeal.nD Cert.MoeUpIdeal.τ).loc Cert.MoeUpIdeal.main_arg2) = m ((c.tc : Thread Cert.MoeUpIdeal.nD Cert.MoeUpIdeal.τ).loc Cert.MoeUpIdeal.main_arg2)
          ∧ r.2.mem ((c.tc : Thread Cert.MoeUpIdeal.nD Cert.MoeUpIdeal.τ).loc Cert.MoeUpIdeal.main_arg3) = m ((c.tc : Thread Cert.MoeUpIdeal.nD Cert.MoeUpIdeal.τ).loc Cert.MoeUpIdeal.main_arg3)
          ∧ r.2.mem ((c.tc : Thread Cert.MoeUpIdeal.nD Cert.MoeUpIdeal.τ).loc Cert.MoeUpIdeal.main_arg4) = m ((c.tc : Thread Cert.MoeUpIdeal.nD Cert.MoeUpIdeal.τ).loc Cert.MoeUpIdeal.main_arg4)
          ∧ r.2.mem ((c.tc : Thread Cert.MoeUpIdeal.nD Cert.MoeUpIdeal.τ).loc Cert.MoeUpIdeal.main_arg5) = m ((c.tc : Thread Cert.MoeUpIdeal.nD Cert.MoeUpIdeal.τ).loc Cert.MoeUpIdeal.main_arg5))
      ∧ θ_run (Cert.MoeUpRefIdeal.defs (F := Ideal)) (onTc (τ := Cert.MoeUpRefIdeal.τ) (Cert.MoeUpRefIdeal.main (F := Ideal))) ⟨m', fun _ => 0, g'⟩ (fun r => ∀ c : Dev Cert.MoeUpRefIdeal.nD,
          r.2.mem ((c.tc : Thread Cert.MoeUpRefIdeal.nD Cert.MoeUpRefIdeal.τ).loc Cert.MoeUpRefIdeal.main_v37) = v0 c
          ∧ r.2.mem ((c.tc : Thread Cert.MoeUpRefIdeal.nD Cert.MoeUpRefIdeal.τ).loc Cert.MoeUpRefIdeal.main_arg0) = m' ((c.tc : Thread Cert.MoeUpRefIdeal.nD Cert.MoeUpRefIdeal.τ).loc Cert.MoeUpRefIdeal.main_arg0)
          ∧ r.2.mem ((c.tc : Thread Cert.MoeUpRefIdeal.nD Cert.MoeUpRefIdeal.τ).loc Cert.MoeUpRefIdeal.main_arg1) = m' ((c.tc : Thread Cert.MoeUpRefIdeal.nD Cert.MoeUpRefIdeal.τ).loc Cert.MoeUpRefIdeal.main_arg1)
          ∧ r.2.mem ((c.tc : Thread Cert.MoeUpRefIdeal.nD Cert.MoeUpRefIdeal.τ).loc Cert.MoeUpRefIdeal.main_arg2) = m' ((c.tc : Thread Cert.MoeUpRefIdeal.nD Cert.MoeUpRefIdeal.τ).loc Cert.MoeUpRefIdeal.main_arg2)
          ∧ r.2.mem ((c.tc : Thread Cert.MoeUpRefIdeal.nD Cert.MoeUpRefIdeal.τ).loc Cert.MoeUpRefIdeal.main_arg3) = m' ((c.tc : Thread Cert.MoeUpRefIdeal.nD Cert.MoeUpRefIdeal.τ).loc Cert.MoeUpRefIdeal.main_arg3)
          ∧ r.2.mem ((c.tc : Thread Cert.MoeUpRefIdeal.nD Cert.MoeUpRefIdeal.τ).loc Cert.MoeUpRefIdeal.main_arg4) = m' ((c.tc : Thread Cert.MoeUpRefIdeal.nD Cert.MoeUpRefIdeal.τ).loc Cert.MoeUpRefIdeal.main_arg4)
          ∧ r.2.mem ((c.tc : Thread Cert.MoeUpRefIdeal.nD Cert.MoeUpRefIdeal.τ).loc Cert.MoeUpRefIdeal.main_arg5) = m' ((c.tc : Thread Cert.MoeUpRefIdeal.nD Cert.MoeUpRefIdeal.τ).loc Cert.MoeUpRefIdeal.main_arg5))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v1)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v1) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v5) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v27) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2))

def Claim : Prop :=
  ∃ (hSb : Cert.Sb.Facts) (hSbIdeal : Cert.SbIdeal.Facts) (hSbRefIdeal : Cert.SbRefIdeal.Facts) (hProj : Cert.Proj.Facts) (hProjIdeal : Cert.ProjIdeal.Facts) (hProjRefIdeal : Cert.ProjRefIdeal.Facts) (hSwiglu : Cert.Swiglu.Facts) (hSwigluIdeal : Cert.SwigluIdeal.Facts) (hSwigluRefIdeal : Cert.SwigluRefIdeal.Facts) (hOut : Cert.Out.Facts) (hOutIdeal : Cert.OutIdeal.Facts) (hOutRefIdeal : Cert.OutRefIdeal.Facts) (hDown : Cert.Down.Facts) (hDownIdeal : Cert.DownIdeal.Facts) (hDownRefIdeal : Cert.DownRefIdeal.Facts) (hMerge : Cert.Merge.Facts) (hMergeIdeal : Cert.MergeIdeal.Facts) (hMergeRefIdeal : Cert.MergeRefIdeal.Facts) (hMoeDown : Cert.MoeDown.Facts) (hMoeDownIdeal : Cert.MoeDownIdeal.Facts) (hMoeDownRefIdeal : Cert.MoeDownRefIdeal.Facts) (hMoeUp : Cert.MoeUp.Facts) (hMoeUpIdeal : Cert.MoeUpIdeal.Facts) (hMoeUpRefIdeal : Cert.MoeUpRefIdeal.Facts) (hAda : Cert.Ada.Facts) (hAdaIdeal : Cert.AdaIdeal.Facts) (hAdaRefIdeal : Cert.AdaRefIdeal.Facts) (hNorm : Cert.Norm.Facts) (hNormIdeal : Cert.NormIdeal.Facts) (hNormRefIdeal : Cert.NormRefIdeal.Facts) (hPre_finite_qk : Cert.Pre_finite_qk.Facts) (hPre_routed : Cert.Pre_routed.Facts) (hPre_dispatched : Cert.Pre_dispatched.Facts),
    quiescent_Sb (hSb := hSb)
    ∧ quiescent_SbIdeal (hSbIdeal := hSbIdeal)
    ∧ quiescent_SbIdeal_pre_finite_qk (hSbIdeal := hSbIdeal) (hPre_finite_qk := hPre_finite_qk)
    ∧ quiescent_SbRefIdeal (hSbRefIdeal := hSbRefIdeal)
    ∧ quiescent_SbRefIdeal_pre_finite_qk (hSbRefIdeal := hSbRefIdeal) (hPre_finite_qk := hPre_finite_qk)
    ∧ quiescent_Proj (hProj := hProj)
    ∧ quiescent_ProjIdeal (hProjIdeal := hProjIdeal)
    ∧ quiescent_ProjRefIdeal (hProjRefIdeal := hProjRefIdeal)
    ∧ quiescent_Swiglu (hSwiglu := hSwiglu)
    ∧ quiescent_SwigluIdeal (hSwigluIdeal := hSwigluIdeal)
    ∧ quiescent_SwigluRefIdeal (hSwigluRefIdeal := hSwigluRefIdeal)
    ∧ quiescent_Out (hOut := hOut)
    ∧ quiescent_OutIdeal (hOutIdeal := hOutIdeal)
    ∧ quiescent_OutRefIdeal (hOutRefIdeal := hOutRefIdeal)
    ∧ quiescent_Down (hDown := hDown)
    ∧ quiescent_DownIdeal (hDownIdeal := hDownIdeal)
    ∧ quiescent_DownRefIdeal (hDownRefIdeal := hDownRefIdeal)
    ∧ quiescent_Merge (hMerge := hMerge)
    ∧ quiescent_MergeIdeal (hMergeIdeal := hMergeIdeal)
    ∧ quiescent_MergeRefIdeal (hMergeRefIdeal := hMergeRefIdeal)
    ∧ quiescent_MoeDown (hMoeDown := hMoeDown) (hPre_routed := hPre_routed)
    ∧ quiescent_MoeDownIdeal (hMoeDownIdeal := hMoeDownIdeal) (hPre_routed := hPre_routed)
    ∧ quiescent_MoeDownRefIdeal (hMoeDownRefIdeal := hMoeDownRefIdeal)
    ∧ quiescent_MoeDownRefIdeal_pre_routed (hMoeDownRefIdeal := hMoeDownRefIdeal) (hPre_routed := hPre_routed)
    ∧ quiescent_MoeUp (hMoeUp := hMoeUp) (hPre_dispatched := hPre_dispatched)
    ∧ quiescent_MoeUpIdeal (hMoeUpIdeal := hMoeUpIdeal) (hPre_dispatched := hPre_dispatched)
    ∧ quiescent_MoeUpRefIdeal (hMoeUpRefIdeal := hMoeUpRefIdeal)
    ∧ quiescent_MoeUpRefIdeal_pre_dispatched (hMoeUpRefIdeal := hMoeUpRefIdeal) (hPre_dispatched := hPre_dispatched)
    ∧ quiescent_Ada (hAda := hAda)
    ∧ quiescent_AdaIdeal (hAdaIdeal := hAdaIdeal)
    ∧ quiescent_AdaRefIdeal (hAdaRefIdeal := hAdaRefIdeal)
    ∧ quiescent_Norm (hNorm := hNorm)
    ∧ quiescent_NormIdeal (hNormIdeal := hNormIdeal)
    ∧ quiescent_NormRefIdeal (hNormRefIdeal := hNormRefIdeal)
    ∧ preserves_Sb_SbIdeal
    ∧ algebraic_SbIdeal_SbRefIdeal_pre_finite_qk (hSbIdeal := hSbIdeal) (hSbRefIdeal := hSbRefIdeal) (hPre_finite_qk := hPre_finite_qk)
    ∧ preserves_Proj_ProjIdeal
    ∧ algebraic_ProjIdeal_ProjRefIdeal (hProjIdeal := hProjIdeal) (hProjRefIdeal := hProjRefIdeal)
    ∧ preserves_Swiglu_SwigluIdeal
    ∧ algebraic_SwigluIdeal_SwigluRefIdeal (hSwigluIdeal := hSwigluIdeal) (hSwigluRefIdeal := hSwigluRefIdeal)
    ∧ preserves_Out_OutIdeal
    ∧ algebraic_OutIdeal_OutRefIdeal (hOutIdeal := hOutIdeal) (hOutRefIdeal := hOutRefIdeal)
    ∧ preserves_Down_DownIdeal
    ∧ algebraic_DownIdeal_DownRefIdeal (hDownIdeal := hDownIdeal) (hDownRefIdeal := hDownRefIdeal)
    ∧ preserves_Merge_MergeIdeal
    ∧ algebraic_MergeIdeal_MergeRefIdeal (hMergeIdeal := hMergeIdeal) (hMergeRefIdeal := hMergeRefIdeal)
    ∧ preserves_MoeDown_MoeDownIdeal
    ∧ algebraic_MoeDownIdeal_MoeDownRefIdeal (hMoeDownIdeal := hMoeDownIdeal) (hMoeDownRefIdeal := hMoeDownRefIdeal) (hPre_routed := hPre_routed)
    ∧ preserves_MoeUp_MoeUpIdeal
    ∧ algebraic_MoeUpIdeal_MoeUpRefIdeal (hMoeUpIdeal := hMoeUpIdeal) (hMoeUpRefIdeal := hMoeUpRefIdeal) (hPre_dispatched := hPre_dispatched)
    ∧ preserves_Ada_AdaIdeal
    ∧ algebraic_AdaIdeal_AdaRefIdeal (hAdaIdeal := hAdaIdeal) (hAdaRefIdeal := hAdaRefIdeal)
    ∧ preserves_Norm_NormIdeal
    ∧ algebraic_NormIdeal_NormRefIdeal (hNormIdeal := hNormIdeal) (hNormRefIdeal := hNormRefIdeal)
-- ==== Pre_dispatched.lean ====
abbrev S16384x40x128 : Shape := ⟨3, ![16384, 40, 128]⟩
abbrev S36864 : Shape := ⟨1, ![36864]⟩
abbrev S8x4096x3072 : Shape := ⟨3, ![8, 4096, 3072]⟩
abbrev S72 : Shape := ⟨1, ![72]⟩
abbrev S1 : Shape := ⟨1, ![1]⟩
abbrev S_ : Shape := ⟨0, ![]⟩

class Facts : Prop where
  bcast_S_S72 : S_.BroadcastsInDim S72 (![] : Fin 0 → Fin S72.rank)
  reducesTo_S72_S_d0 : S72.ReducesTo [0] S_
  h_S_ : 0 < S_.numel
  shapeCasts_S1_S_ : S1.ShapeCasts S_
  bcast_S_S36864 : S_.BroadcastsInDim S36864 (![] : Fin 0 → Fin S36864.rank)
  reducesTo_S36864_S_d0 : S36864.ReducesTo [0] S_

variable [Facts]

def fn_part1 {F : FTy → Type} [FloatOps F] (main_v11 : IVec S_ 1) (main_v16 : IVec S36864 1) : IVec S_ 1 :=
  let main_c_6 : IVec S_ 1 := constantI S_ 1 1#1
  let main_v17 : IVec S_ 1 := (fun x v => Host.reduce IntOp.andi x v reducesTo_S36864_S_d0 h_S_) main_v16 main_c_6
  let main_v18 : IVec S_ 1 := andi main_v11 main_v17
  main_v18

def fn {F : FTy → Type} [FloatOps F] (main_arg0 : FVec F S16384x40x128 .f32) (main_arg1 : IVec S36864 32) (main_arg2 : FVec F S8x4096x3072 .bf16) (main_arg3 : FVec F S8x4096x3072 .bf16) (main_arg4 : IVec S72 32) (main_arg5 : IVec S1 32) : IVec S_ 1 :=
  let main_c : IVec S_ 32 := constantI S_ 32 0#32
  let main_v0 : IVec S72 32 := broadcastInDim S72 ![] bcast_S_S72 main_c
  let main_v1 : IVec S72 1 := cmpi .sge main_arg4 main_v0
  let main_c_0 : IVec S_ 32 := constantI S_ 32 8#32
  let main_v2 : IVec S72 32 := broadcastInDim S72 ![] bcast_S_S72 main_c_0
  let main_v3 : IVec S72 1 := cmpi .slt main_arg4 main_v2
  let main_v4 : IVec S72 1 := andi main_v1 main_v3
  let main_c_1 : IVec S_ 1 := constantI S_ 1 1#1
  let main_v5 : IVec S_ 1 := (fun x v => Host.reduce IntOp.andi x v reducesTo_S72_S_d0 h_S_) main_v4 main_c_1
  let main_v6 : IVec S_ 32 := shapeCast S_ main_arg5 shapeCasts_S1_S_
  let main_c_2 : IVec S_ 32 := constantI S_ 32 1#32
  let main_v7 : IVec S_ 1 := cmpi .sge main_v6 main_c_2
  let main_v8 : IVec S_ 1 := andi main_v5 main_v7
  let main_v9 : IVec S_ 32 := shapeCast S_ main_arg5 shapeCasts_S1_S_
  let main_c_3 : IVec S_ 32 := constantI S_ 32 72#32
  let main_v10 : IVec S_ 1 := cmpi .sle main_v9 main_c_3
  let main_v11 : IVec S_ 1 := andi main_v8 main_v10
  let main_c_4 : IVec S_ 32 := constantI S_ 32 0#32
  let main_v12 : IVec S36864 32 := broadcastInDim S36864 ![] bcast_S_S36864 main_c_4
  let main_v13 : IVec S36864 1 := cmpi .sge main_arg1 main_v12
  let main_c_5 : IVec S_ 32 := constantI S_ 32 16384#32
  let main_v14 : IVec S36864 32 := broadcastInDim S36864 ![] bcast_S_S36864 main_c_5
  let main_v15 : IVec S36864 1 := cmpi .slt main_arg1 main_v14
  let main_v16 : IVec S36864 1 := andi main_v13 main_v15
  fn_part1 (F := F) main_v11 main_v16
-- ==== Pre_finite_qk.lean ====
abbrev S16384x24064 : Shape := ⟨2, ![16384, 24064]⟩
abbrev S16384x3072 : Shape := ⟨2, ![16384, 3072]⟩
abbrev S_ : Shape := ⟨0, ![]⟩

class Facts : Prop where
  slices_S16384x24064_S16384x3072_0_1024 : S16384x24064.Slices ![0, 1024] S16384x3072
  bitsLt_bf16_f32 : FTy.bits .bf16 < FTy.bits .f32
  bcast_S_S16384x3072 : S_.BroadcastsInDim S16384x3072 (![] : Fin 0 → Fin S16384x3072.rank)
  reducesTo_S16384x3072_S_d0_1 : S16384x3072.ReducesTo [0, 1] S_
  h_S_ : 0 < S_.numel

variable [Facts]

def fn {F : FTy → Type} [FloatOps F] (main_arg0 : FVec F S16384x24064 .bf16) : IVec S_ 1 :=
  let main_v0 : FVec F S16384x3072 .bf16 := (extractStridedSlice S16384x3072 ![0, 1024] · slices_S16384x24064_S16384x3072_0_1024) main_arg0
  let main_v1 : FVec F S16384x3072 .f32 := (extf .f32 · bitsLt_bf16_f32) main_v0
  let main_v2 : FVec F S16384x3072 .f32 := Host.absf main_v1
  let main_cst : FVec F S_ .f32 := constant S_ .f32 0x7F800000#32
  let main_v3 : FVec F S16384x3072 .f32 := broadcastInDim S16384x3072 ![] bcast_S_S16384x3072 main_cst
  let main_v4 : IVec S16384x3072 1 := cmpf .olt main_v2 main_v3
  let main_c : IVec S_ 1 := constantI S_ 1 1#1
  let main_v5 : IVec S_ 1 := (fun x v => Host.reduce IntOp.andi x v reducesTo_S16384x3072_S_d0_1 h_S_) main_v4 main_c
  main_v5
-- ==== Pre_routed.lean ====
abbrev S36864x3072 : Shape := ⟨2, ![36864, 3072]⟩
abbrev S8x3072x4096 : Shape := ⟨3, ![8, 3072, 4096]⟩
abbrev S72 : Shape := ⟨1, ![72]⟩
abbrev S1 : Shape := ⟨1, ![1]⟩
abbrev S_ : Shape := ⟨0, ![]⟩

class Facts : Prop where
  bcast_S_S72 : S_.BroadcastsInDim S72 (![] : Fin 0 → Fin S72.rank)
  reducesTo_S72_S_d0 : S72.ReducesTo [0] S_
  h_S_ : 0 < S_.numel
  shapeCasts_S1_S_ : S1.ShapeCasts S_

variable [Facts]

def fn {F : FTy → Type} [FloatOps F] (main_arg0 : FVec F S36864x3072 .bf16) (main_arg1 : FVec F S8x3072x4096 .bf16) (main_arg2 : IVec S72 32) (main_arg3 : IVec S1 32) : IVec S_ 1 :=
  let main_c : IVec S_ 32 := constantI S_ 32 0#32
  let main_v0 : IVec S72 32 := broadcastInDim S72 ![] bcast_S_S72 main_c
  let main_v1 : IVec S72 1 := cmpi .sge main_arg2 main_v0
  let main_c_0 : IVec S_ 32 := constantI S_ 32 8#32
  let main_v2 : IVec S72 32 := broadcastInDim S72 ![] bcast_S_S72 main_c_0
  let main_v3 : IVec S72 1 := cmpi .slt main_arg2 main_v2
  let main_v4 : IVec S72 1 := andi main_v1 main_v3
  let main_c_1 : IVec S_ 1 := constantI S_ 1 1#1
  let main_v5 : IVec S_ 1 := (fun x v => Host.reduce IntOp.andi x v reducesTo_S72_S_d0 h_S_) main_v4 main_c_1
  let main_v6 : IVec S_ 32 := shapeCast S_ main_arg3 shapeCasts_S1_S_
  let main_c_2 : IVec S_ 32 := constantI S_ 32 1#32
  let main_v7 : IVec S_ 1 := cmpi .sge main_v6 main_c_2
  let main_v8 : IVec S_ 1 := andi main_v5 main_v7
  main_v8
-- ==== Sb.lean ====
abbrev S16384x24064 : Shape := ⟨2, ![16384, 24064]⟩
abbrev S16384x1536 : Shape := ⟨2, ![16384, 1536]⟩
abbrev S256x512 : Shape := ⟨2, ![256, 512]⟩
abbrev S2048x512 : Shape := ⟨2, ![2048, 512]⟩
abbrev S256x256 : Shape := ⟨2, ![256, 256]⟩
abbrev S256x128 : Shape := ⟨2, ![256, 128]⟩
abbrev S256x1 : Shape := ⟨2, ![256, 1]⟩
abbrev S256 : Shape := ⟨1, ![256]⟩

abbrev nBuf : Space → Nat
  | .hbm => 2
  | .vmem => 8
  | .smem => 0
  | _ => 0

abbrev bufTy : (tb : Table) → Fin (tcTables nBuf tb) → BufTy
  | .hbm, ⟨0, _⟩ => ⟨S16384x24064, .bf16⟩
  | .hbm, ⟨1, _⟩ => ⟨S16384x1536, .bf16⟩
  | .local _ .vmem, ⟨0, _⟩ => ⟨S256x512, .bf16⟩
  | .local _ .vmem, ⟨1, _⟩ => ⟨S256x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S256x512, .bf16⟩
  | .local _ .vmem, ⟨7, _⟩ => ⟨S256x512, .bf16⟩
  | _, _ => ⟨S16384x24064, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 3, 8], ![false, false, false]⟩

def k0_mult1 (i : grid0.Coords) : BitVec 32 :=
  let arg2 : BitVec 32 := BitVec.ofNat 32 (i 2).val
  let c256_i32 : BitVec 32 := 256#32
  let v13 : BitVec 32 := Scalar.muli arg2 c256_i32
  v13
def k0_off1 (i : grid0.Coords) : Fin 2 → Nat :=
  let arg2 : BitVec 32 := BitVec.ofNat 32 (i 2).val
  let c256_i32 : BitVec 32 := 256#32
  let v13 : BitVec 32 := Scalar.muli arg2 c256_i32
  let v14 : BitVec 32 := v13
  let v15 : Index := Scalar.indexCast v14
  let c0_5 : Index := 0#32
  ![v15.toNat, 0]
def k0_off2 (i : grid0.Coords) : Fin 2 → Nat :=
  let arg2 : BitVec 32 := BitVec.ofNat 32 (i 2).val
  let c256_i32 : BitVec 32 := 256#32
  let v13 : BitVec 32 := Scalar.muli arg2 c256_i32
  let v14 : BitVec 32 := v13
  let v20 : Index := Scalar.indexCast v14
  let c128_8 : Index := 128#32
  ![v20.toNat, 128]
def k0_off3 (i : grid0.Coords) : Fin 2 → Nat :=
  let arg2 : BitVec 32 := BitVec.ofNat 32 (i 2).val
  let c256_i32 : BitVec 32 := 256#32
  let v13 : BitVec 32 := Scalar.muli arg2 c256_i32
  let v14 : BitVec 32 := v13
  let v25 : Index := Scalar.indexCast v14
  let c256_11 : Index := 256#32
  ![v25.toNat, 256]
def k0_off4 (i : grid0.Coords) : Fin 2 → Nat :=
  let arg2 : BitVec 32 := BitVec.ofNat 32 (i 2).val
  let c256_i32 : BitVec 32 := 256#32
  let v13 : BitVec 32 := Scalar.muli arg2 c256_i32
  let v14 : BitVec 32 := v13
  let v30 : Index := Scalar.indexCast v14
  let c384_14 : Index := 384#32
  ![v30.toNat, 384]
@[reducible] def k0_t1_loop (i : grid0.Coords) : Scf.Loop 32 :=
  let c1_i32_57 : BitVec 32 := 1#32
  let arg2 : BitVec 32 := BitVec.ofNat 32 (i 2).val
  let c1_i32 : BitVec 32 := 1#32
  let v171 : BitVec 32 := Scalar.addi arg2 c1_i32
  let v172 : BitVec 32 := Scalar.subi v171 c1_i32_57
  let c1_i32_58 : BitVec 32 := 1#32
  let v174 : BitVec 32 := Scalar.divsi v172 c1_i32_58
  let v175 : BitVec 32 := Scalar.muli v174 c1_i32_58
  let v176 : BitVec 32 := Scalar.addi c1_i32_57 v175
  let c1_i32_59 : BitVec 32 := 1#32
  ⟨c1_i32_57, v176, c1_i32_59⟩
def k0_mult2 (i : grid0.Coords) (k0_t1 : Fin (k0_t1_loop i).trips) : BitVec 32 :=
  let arg2 : BitVec 32 := BitVec.ofNat 32 (i 2).val
  let c1_i32_57 : BitVec 32 := 1#32
  let c1_i32_59 : BitVec 32 := 1#32
  let arg7 : BitVec 32 := Scf.iv c1_i32_57 c1_i32_59 k0_t1
  let v187 : BitVec 32 := Scalar.subi arg2 arg7
  let c256_i32_69 : BitVec 32 := 256#32
  let v188 : BitVec 32 := Scalar.muli v187 c256_i32_69
  v188
def k0_off5 (i : grid0.Coords) (k0_t1 : Fin (k0_t1_loop i).trips) : Fin 2 → Nat :=
  let arg2 : BitVec 32 := BitVec.ofNat 32 (i 2).val
  let c1_i32_57 : BitVec 32 := 1#32
  let c1_i32_59 : BitVec 32 := 1#32
  let arg7 : BitVec 32 := Scf.iv c1_i32_57 c1_i32_59 k0_t1
  let v187 : BitVec 32 := Scalar.subi arg2 arg7
  let c256_i32_69 : BitVec 32 := 256#32
  let v188 : BitVec 32 := Scalar.muli v187 c256_i32_69
  let v189 : BitVec 32 := v188
  let v190 : Index := Scalar.indexCast v189
  let c0_70 : Index := 0#32
  ![v190.toNat, 0]
def k0_off6 (i : grid0.Coords) (k0_t1 : Fin (k0_t1_loop i).trips) : Fin 2 → Nat :=
  let arg2 : BitVec 32 := BitVec.ofNat 32 (i 2).val
  let c1_i32_57 : BitVec 32 := 1#32
  let c1_i32_59 : BitVec 32 := 1#32
  let arg7 : BitVec 32 := Scf.iv c1_i32_57 c1_i32_59 k0_t1
  let v187 : BitVec 32 := Scalar.subi arg2 arg7
  let c256_i32_69 : BitVec 32 := 256#32
  let v188 : BitVec 32 := Scalar.muli v187 c256_i32_69
  let v189 : BitVec 32 := v188
  let v195 : Index := Scalar.indexCast v189
  let c128_73 : Index := 128#32
  ![v195.toNat, 128]
def k0_off7 (i : grid0.Coords) (k0_t1 : Fin (k0_t1_loop i).trips) : Fin 2 → Nat :=
  let arg2 : BitVec 32 := BitVec.ofNat 32 (i 2).val
  let c1_i32_57 : BitVec 32 := 1#32
  let c1_i32_59 : BitVec 32 := 1#32
  let arg7 : BitVec 32 := Scf.iv c1_i32_57 c1_i32_59 k0_t1
  let v187 : BitVec 32 := Scalar.subi arg2 arg7
  let c256_i32_69 : BitVec 32 := 256#32
  let v188 : BitVec 32 := Scalar.muli v187 c256_i32_69
  let v189 : BitVec 32 := v188
  let v200 : Index := Scalar.indexCast v189
  let c256_76 : Index := 256#32
  ![v200.toNat, 256]
def k0_off8 (i : grid0.Coords) (k0_t1 : Fin (k0_t1_loop i).trips) : Fin 2 → Nat :=
  let arg2 : BitVec 32 := BitVec.ofNat 32 (i 2).val
  let c1_i32_57 : BitVec 32 := 1#32
  let c1_i32_59 : BitVec 32 := 1#32
  let arg7 : BitVec 32 := Scf.iv c1_i32_57 c1_i32_59 k0_t1
  let v187 : BitVec 32 := Scalar.subi arg2 arg7
  let c256_i32_69 : BitVec 32 := 256#32
  let v188 : BitVec 32 := Scalar.muli v187 c256_i32_69
  let v189 : BitVec 32 := v188
  let v205 : Index := Scalar.indexCast v189
  let c384_79 : Index := 384#32
  ![v205.toNat, 384]
@[reducible] def k0_t2_loop (i : grid0.Coords) : Scf.Loop 32 :=
  let c1_i32_57 : BitVec 32 := 1#32
  let arg2 : BitVec 32 := BitVec.ofNat 32 (i 2).val
  let c1_i32 : BitVec 32 := 1#32
  let v171 : BitVec 32 := Scalar.addi arg2 c1_i32
  let v172 : BitVec 32 := Scalar.subi v171 c1_i32_57
  let c1_i32_58 : BitVec 32 := 1#32
  let v174 : BitVec 32 := Scalar.divsi v172 c1_i32_58
  let v175 : BitVec 32 := Scalar.muli v174 c1_i32_58
  let v176 : BitVec 32 := Scalar.addi c1_i32_57 v175
  let v173 : BitVec 32 := Scalar.addi c1_i32_57 v172
  let c1_i32_60 : BitVec 32 := 1#32
  ⟨v176, v173, c1_i32_60⟩
def k0_mult3 (i : grid0.Coords) (k0_t2 : Fin (k0_t2_loop i).trips) : BitVec 32 :=
  let arg2 : BitVec 32 := BitVec.ofNat 32 (i 2).val
  let c1_i32_57 : BitVec 32 := 1#32
  let c1_i32 : BitVec 32 := 1#32
  let v171 : BitVec 32 := Scalar.addi arg2 c1_i32
  let v172 : BitVec 32 := Scalar.subi v171 c1_i32_57
  let c1_i32_58 : BitVec 32 := 1#32
  let v174 : BitVec 32 := Scalar.divsi v172 c1_i32_58
  let v175 : BitVec 32 := Scalar.muli v174 c1_i32_58
  let v176 : BitVec 32 := Scalar.addi c1_i32_57 v175
  let c1_i32_60 : BitVec 32 := 1#32
  let arg7 : BitVec 32 := Scf.iv v176 c1_i32_60 k0_t2
  let v187 : BitVec 32 := Scalar.subi arg2 arg7
  let c256_i32_69 : BitVec 32 := 256#32
  let v188 : BitVec 32 := Scalar.muli v187 c256_i32_69
  v188
def k0_off9 (i : grid0.Coords) (k0_t2 : Fin (k0_t2_loop i).trips) : Fin 2 → Nat :=
  let arg2 : BitVec 32 := BitVec.ofNat 32 (i 2).val
  let c1_i32_57 : BitVec 32 := 1#32
  let c1_i32 : BitVec 32 := 1#32
  let v171 : BitVec 32 := Scalar.addi arg2 c1_i32
  let v172 : BitVec 32 := Scalar.subi v171 c1_i32_57
  let c1_i32_58 : BitVec 32 := 1#32
  let v174 : BitVec 32 := Scalar.divsi v172 c1_i32_58
  let v175 : BitVec 32 := Scalar.muli v174 c1_i32_58
  let v176 : BitVec 32 := Scalar.addi c1_i32_57 v175
  let c1_i32_60 : BitVec 32 := 1#32
  let arg7 : BitVec 32 := Scf.iv v176 c1_i32_60 k0_t2
  let v187 : BitVec 32 := Scalar.subi arg2 arg7
  let c256_i32_69 : BitVec 32 := 256#32
  let v188 : BitVec 32 := Scalar.muli v187 c256_i32_69
  let v189 : BitVec 32 := v188
  let v190 : Index := Scalar.indexCast v189
  let c0_70 : Index := 0#32
  ![v190.toNat, 0]
def k0_off10 (i : grid0.Coords) (k0_t2 : Fin (k0_t2_loop i).trips) : Fin 2 → Nat :=
  let arg2 : BitVec 32 := BitVec.ofNat 32 (i 2).val
  let c1_i32_57 : BitVec 32 := 1#32
  let c1_i32 : BitVec 32 := 1#32
  let v171 : BitVec 32 := Scalar.addi arg2 c1_i32
  let v172 : BitVec 32 := Scalar.subi v171 c1_i32_57
  let c1_i32_58 : BitVec 32 := 1#32
  let v174 : BitVec 32 := Scalar.divsi v172 c1_i32_58
  let v175 : BitVec 32 := Scalar.muli v174 c1_i32_58
  let v176 : BitVec 32 := Scalar.addi c1_i32_57 v175
  let c1_i32_60 : BitVec 32 := 1#32
  let arg7 : BitVec 32 := Scf.iv v176 c1_i32_60 k0_t2
  let v187 : BitVec 32 := Scalar.subi arg2 arg7
  let c256_i32_69 : BitVec 32 := 256#32
  let v188 : BitVec 32 := Scalar.muli v187 c256_i32_69
  let v189 : BitVec 32 := v188
  let v195 : Index := Scalar.indexCast v189
  let c128_73 : Index := 128#32
  ![v195.toNat, 128]
def k0_off11 (i : grid0.Coords) (k0_t2 : Fin (k0_t2_loop i).trips) : Fin 2 → Nat :=
  let arg2 : BitVec 32 := BitVec.ofNat 32 (i 2).val
  let c1_i32_57 : BitVec 32 := 1#32
  let c1_i32 : BitVec 32 := 1#32
  let v171 : BitVec 32 := Scalar.addi arg2 c1_i32
  let v172 : BitVec 32 := Scalar.subi v171 c1_i32_57
  let c1_i32_58 : BitVec 32 := 1#32
  let v174 : BitVec 32 := Scalar.divsi v172 c1_i32_58
  let v175 : BitVec 32 := Scalar.muli v174 c1_i32_58
  let v176 : BitVec 32 := Scalar.addi c1_i32_57 v175
  let c1_i32_60 : BitVec 32 := 1#32
  let arg7 : BitVec 32 := Scf.iv v176 c1_i32_60 k0_t2
  let v187 : BitVec 32 := Scalar.subi arg2 arg7
  let c256_i32_69 : BitVec 32 := 256#32
  let v188 : BitVec 32 := Scalar.muli v187 c256_i32_69
  let v189 : BitVec 32 := v188
  let v200 : Index := Scalar.indexCast v189
  let c256_76 : Index := 256#32
  ![v200.toNat, 256]
def k0_off12 (i : grid0.Coords) (k0_t2 : Fin (k0_t2_loop i).trips) : Fin 2 → Nat :=
  let arg2 : BitVec 32 := BitVec.ofNat 32 (i 2).val
  let c1_i32_57 : BitVec 32 := 1#32
  let c1_i32 : BitVec 32 := 1#32
  let v171 : BitVec 32 := Scalar.addi arg2 c1_i32
  let v172 : BitVec 32 := Scalar.subi v171 c1_i32_57
  let c1_i32_58 : BitVec 32 := 1#32
  let v174 : BitVec 32 := Scalar.divsi v172 c1_i32_58
  let v175 : BitVec 32 := Scalar.muli v174 c1_i32_58
  let v176 : BitVec 32 := Scalar.addi c1_i32_57 v175
  let c1_i32_60 : BitVec 32 := 1#32
  let arg7 : BitVec 32 := Scf.iv v176 c1_i32_60 k0_t2
  let v187 : BitVec 32 := Scalar.subi arg2 arg7
  let c256_i32_69 : BitVec 32 := 256#32
  let v188 : BitVec 32 := Scalar.muli v187 c256_i32_69
  let v189 : BitVec 32 := v188
  let v205 : Index := Scalar.indexCast v189
  let c384_79 : Index := 384#32
  ![v205.toNat, 384]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c2_i32 : BitVec 32 := 2#32
  let v2 : BitVec 32 := Scalar.addi c2_i32 arg1
  let c0_i32 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let v0 : BitVec 32 := Scalar.addi c5_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== SbRefIdeal.lean ====
abbrev S16384x24064 : Shape := ⟨2, ![16384, 24064]⟩
abbrev S8x2048x24064 : Shape := ⟨3, ![8, 2048, 24064]⟩
abbrev S8x2048x1024 : Shape := ⟨3, ![8, 2048, 1024]⟩
abbrev S8x2048x1536 : Shape := ⟨3, ![8, 2048, 1536]⟩
abbrev S8x2048x18432 : Shape := ⟨3, ![8, 2048, 18432]⟩
abbrev S8x2048x12x128 : Shape := ⟨4, ![8, 2048, 12, 128]⟩
abbrev S8x12x2048x128 : Shape := ⟨4, ![8, 12, 2048, 128]⟩
abbrev S8x12x2048x2048 : Shape := ⟨4, ![8, 12, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S16384x1536 : Shape := ⟨2, ![16384, 1536]⟩

abbrev nBuf : Space → Nat
  | .hbm => 78
  | .vmem => 0
  | .smem => 0
  | _ => 0

abbrev bufTy : (tb : Table) → Fin (tcTables nBuf tb) → BufTy
  | .hbm, ⟨0, _⟩ => ⟨S16384x24064, .bf16⟩
  | .hbm, ⟨1, _⟩ => ⟨S16384x24064, .f32⟩
  | .hbm, ⟨2, _⟩ => ⟨S8x2048x24064, .f32⟩
  | .hbm, ⟨3, _⟩ => ⟨S8x2048x1024, .f32⟩
  | .hbm, ⟨4, _⟩ => ⟨S8x2048x1536, .f32⟩
  | .hbm, ⟨5, _⟩ => ⟨S8x2048x1536, .f32⟩
  | .hbm, ⟨6, _⟩ => ⟨S8x2048x1536, .f32⟩
  | .hbm, ⟨7, _⟩ => ⟨S8x2048x18432, .f32⟩
  | .hbm, ⟨8, _⟩ => ⟨S8x2048x12x128, .f32⟩
  | .hbm, ⟨9, _⟩ => ⟨S8x12x2048x128, .f32⟩
  | .hbm, ⟨10, _⟩ => ⟨S8x2048x12x128, .f32⟩
  | .hbm, ⟨11, _⟩ => ⟨S8x12x2048x128, .f32⟩
  | .hbm, ⟨12, _⟩ => ⟨S8x2048x12x128, .f32⟩
  | .hbm, ⟨13, _⟩ => ⟨S8x12x2048x128, .f32⟩
  | .hbm, ⟨14, _⟩ => ⟨S8x12x2048x2048, .f32⟩
  | .hbm, ⟨15, _⟩ => ⟨S_, .f32⟩
  | .hbm, ⟨16, _⟩ => ⟨S8x12x2048x2048, .f32⟩
  | .hbm, ⟨17, _⟩ => ⟨S8x12x2048x2048, .f32⟩
  | .hbm, ⟨18, _⟩ => ⟨S2048, .i32⟩
  | .hbm, ⟨19, _⟩ => ⟨S1x2048, .i32⟩
  | .hbm, ⟨20, _⟩ => ⟨S2048, .i32⟩
  | .hbm, ⟨21, _⟩ => ⟨S2048x1, .i32⟩
  | .hbm, ⟨22, _⟩ => ⟨S2048x2048, .i32⟩
  | .hbm, ⟨23, _⟩ => ⟨S2048x2048, .i32⟩
  | .hbm, ⟨24, _⟩ => ⟨S2048x2048, .i1⟩
  | .hbm, ⟨25, _⟩ => ⟨S8x12x2048x2048, .f32⟩
  | .hbm, ⟨26, _⟩ => ⟨S_, .f32⟩
  | .hbm, ⟨27, _⟩ => ⟨S8x12x2048x2048, .f32⟩
  | .hbm, ⟨28, _⟩ => ⟨S8x12x2048x2048, .f32⟩
  | .hbm, ⟨29, _⟩ => ⟨S8x12x2048x2048, .f32⟩
  | .hbm, ⟨30, _⟩ => ⟨S8x12x2048x2048, .f32⟩
  | .hbm, ⟨31, _⟩ => ⟨S8x12x2048x2048, .i1⟩
  | .hbm, ⟨32, _⟩ => ⟨S8x12x2048x2048, .f32⟩
  | .hbm, ⟨33, _⟩ => ⟨S8x12x2048x2048, .f32⟩
  | .hbm, ⟨34, _⟩ => ⟨S8x12x2048x2048, .f32⟩
  | .hbm, ⟨35, _⟩ => ⟨S8x12x2048x2048, .f32⟩
  | .hbm, ⟨36, _⟩ => ⟨S8x12x2048x2048, .f32⟩
  | .hbm, ⟨37, _⟩ => ⟨S8x12x2048x2048, .f32⟩
  | .hbm, ⟨38, _⟩ => ⟨S8x12x2048x2048, .f32⟩
  | .hbm, ⟨39, _⟩ => ⟨S8x12x2048x2048, .f32⟩
  | .hbm, ⟨40, _⟩ => ⟨S8x12x2048x2048, .f32⟩
  | .hbm, ⟨41, _⟩ => ⟨S8x12x2048x2048, .f32⟩
  | .hbm, ⟨42, _⟩ => ⟨S8x12x2048x2048, .f32⟩
  | .hbm, ⟨43, _⟩ => ⟨S_, .f32⟩
  | .hbm, ⟨44, _⟩ => ⟨S8x12x2048x2048, .f32⟩
  | .hbm, ⟨45, _⟩ => ⟨S8x12x2048x2048, .f32⟩
  | .hbm, ⟨46, _⟩ => ⟨S8x12x2048x2048, .f32⟩
  | .hbm, ⟨47, _⟩ => ⟨S8x12x2048x2048, .f32⟩
  | .hbm, ⟨48, _⟩ => ⟨S8x12x2048x2048, .i1⟩
  | .hbm, ⟨49, _⟩ => ⟨S8x12x2048x2048, .f32⟩
  | .hbm, ⟨50, _⟩ => ⟨S8x12x2048x2048, .f32⟩
  | .hbm, ⟨51, _⟩ => ⟨S8x12x2048x2048, .f32⟩
  | .hbm, ⟨52, _⟩ => ⟨S8x12x2048x2048, .f32⟩
  | .hbm, ⟨53, _⟩ => ⟨S8x12x2048x2048, .f32⟩
  | .hbm, ⟨54, _⟩ => ⟨S8x12x2048x2048, .f32⟩
  | .hbm, ⟨55, _⟩ => ⟨S8x12x2048x2048, .f32⟩
  | .hbm, ⟨56, _⟩ => ⟨S8x12x2048x2048, .f32⟩
  | .hbm, ⟨57, _⟩ => ⟨S8x12x2048x2048, .f32⟩
  | .hbm, ⟨58, _⟩ => ⟨S_, .f32⟩
  | .hbm, ⟨59, _⟩ => ⟨S_, .f32⟩
  | .hbm, ⟨60, _⟩ => ⟨S8x12x2048x2048, .i1⟩
  | .hbm, ⟨61, _⟩ => ⟨S8x12x2048x2048, .f32⟩
  | .hbm, ⟨62, _⟩ => ⟨S8x12x2048x2048, .f32⟩
  | .hbm, ⟨63, _⟩ => ⟨S_, .f32⟩
  | .hbm, ⟨64, _⟩ => ⟨S_, .f32⟩
  | .hbm, ⟨65, _⟩ => ⟨S8x12x2048x2048, .f32⟩
  | .hbm, ⟨66, _⟩ => ⟨S8x12x2048x2048, .f32⟩
  | .hbm, ⟨67, _⟩ => ⟨S8x12x2048x2048, .f32⟩
  | .hbm, ⟨68, _⟩ => ⟨S8x12x2048x2048, .f32⟩
  | .hbm, ⟨69, _⟩ => ⟨S_, .f32⟩
  | .hbm, ⟨70, _⟩ => ⟨S_, .f32⟩
  | .hbm, ⟨71, _⟩ => ⟨S8x12x2048x2048, .i1⟩
  | .hbm, ⟨72, _⟩ => ⟨S8x12x2048x2048, .f32⟩
  | .hbm, ⟨73, _⟩ => ⟨S8x12x2048x2048, .f32⟩
  | .hbm, ⟨74, _⟩ => ⟨S8x12x2048x128, .f32⟩
  | .hbm, ⟨75, _⟩ => ⟨S8x2048x12x128, .f32⟩
  | .hbm, ⟨76, _⟩ => ⟨S16384x1536, .f32⟩
  | .hbm, ⟨77, _⟩ => ⟨S16384x1536, .bf16⟩
  | _, _ => ⟨S16384x24064, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_cst : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_call0_v0 : Ref sig .tc := ⟨.hbm, 25, rfl⟩
abbrev main_call0_call0_cst : Ref sig .tc := ⟨.hbm, 26, rfl⟩
abbrev main_call0_call0_v0 : Ref sig .tc := ⟨.hbm, 27, rfl⟩
abbrev main_call0_call0_v1 : Ref sig .tc := ⟨.hbm, 28, rfl⟩
abbrev main_call0_call0_v2 : Ref sig .tc := ⟨.hbm, 29, rfl⟩
abbrev main_call0_call0_v3 : Ref sig .tc := ⟨.hbm, 30, rfl⟩
abbrev main_call0_call0_v4 : Ref sig .tc := ⟨.hbm, 31, rfl⟩
abbrev main_call0_call0_v5 : Ref sig .tc := ⟨.hbm, 32, rfl⟩
abbrev main_call0_call0_v6 : Ref sig .tc := ⟨.hbm, 33, rfl⟩
abbrev main_call0_call0_v7 : Ref sig .tc := ⟨.hbm, 34, rfl⟩
abbrev main_call0_call0_v8 : Ref sig .tc := ⟨.hbm, 35, rfl⟩
abbrev main_call0_call0_v9 : Ref sig .tc := ⟨.hbm, 36, rfl⟩
abbrev main_call0_call0_v10 : Ref sig .tc := ⟨.hbm, 37, rfl⟩
abbrev main_call0_call0_v11 : Ref sig .tc := ⟨.hbm, 38, rfl⟩
abbrev main_call0_v1 : Ref sig .tc := ⟨.hbm, 39, rfl⟩
abbrev main_v23 : Ref sig .tc := ⟨.hbm, 40, rfl⟩
abbrev main_v24 : Ref sig .tc := ⟨.hbm, 41, rfl⟩
abbrev main_call1_v0 : Ref sig .tc := ⟨.hbm, 42, rfl⟩
abbrev main_call1_call0_cst : Ref sig .tc := ⟨.hbm, 43, rfl⟩
abbrev main_call1_call0_v0 : Ref sig .tc := ⟨.hbm, 44, rfl⟩
abbrev main_call1_call0_v1 : Ref sig .tc := ⟨.hbm, 45, rfl⟩
abbrev main_call1_call0_v2 : Ref sig .tc := ⟨.hbm, 46, rfl⟩
abbrev main_call1_call0_v3 : Ref sig .tc := ⟨.hbm, 47, rfl⟩
abbrev main_call1_call0_v4 : Ref sig .tc := ⟨.hbm, 48, rfl⟩
abbrev main_call1_call0_v5 : Ref sig .tc := ⟨.hbm, 49, rfl⟩
abbrev main_call1_call0_v6 : Ref sig .tc := ⟨.hbm, 50, rfl⟩
abbrev main_call1_call0_v7 : Ref sig .tc := ⟨.hbm, 51, rfl⟩
abbrev main_call1_call0_v8 : Ref sig .tc := ⟨.hbm, 52, rfl⟩
abbrev main_call1_call0_v9 : Ref sig .tc := ⟨.hbm, 53, rfl⟩
abbrev main_call1_call0_v10 : Ref sig .tc := ⟨.hbm, 54, rfl⟩
abbrev main_call1_call0_v11 : Ref sig .tc := ⟨.hbm, 55, rfl⟩
abbrev main_call1_v1 : Ref sig .tc := ⟨.hbm, 56, rfl⟩
abbrev main_v25 : Ref sig .tc := ⟨.hbm, 57, rfl⟩
abbrev main_cst_0 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_v26 : Ref sig .tc := ⟨.hbm, 62, rfl⟩
abbrev main_call3_cst : Ref sig .tc := ⟨.hbm, 63, rfl⟩
abbrev main_call3_v0 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_cst_1 : Ref sig .tc := ⟨.hbm, 69, rfl⟩
abbrev main_call4_v0 : Ref sig .tc := ⟨.hbm, 70, rfl⟩
abbrev main_call4_v1 : Ref sig .tc := ⟨.hbm, 71, rfl⟩
abbrev main_call4_v2 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩

abbrev nD : Nat := 1
abbrev τ : Topo := Topo.v7x

variable {F : FTy → Type} [FloatOps F]
-- ==== Proj.lean ====
abbrev S16384x4096 : Shape := ⟨2, ![16384, 4096]⟩
abbrev S2x4096x24064 : Shape := ⟨3, ![2, 4096, 24064]⟩
abbrev S16384x24064 : Shape := ⟨2, ![16384, 24064]⟩
abbrev S2048x4096 : Shape := ⟨2, ![2048, 4096]⟩
abbrev S1x4096x512 : Shape := ⟨3, ![1, 4096, 512]⟩
abbrev S2048x512 : Shape := ⟨2, ![2048, 512]⟩
abbrev S4096x512 : Shape := ⟨2, ![4096, 512]⟩

abbrev nBuf : Space → Nat
  | .hbm => 3
  | .vmem => 5
  | .smem => 0
  | _ => 0

abbrev bufTy : (tb : Table) → Fin (tcTables nBuf tb) → BufTy
  | .hbm, ⟨0, _⟩ => ⟨S16384x4096, .bf16⟩
  | .hbm, ⟨1, _⟩ => ⟨S2x4096x24064, .f32⟩
  | .hbm, ⟨2, _⟩ => ⟨S16384x24064, .bf16⟩
  | .local _ .vmem, ⟨0, _⟩ => ⟨S2048x4096, .bf16⟩
  | .local _ .vmem, ⟨1, _⟩ => ⟨S1x4096x512, .f32⟩
  | .local _ .vmem, ⟨2, _⟩ => ⟨S1x4096x512, .f32⟩
  | .local _ .vmem, ⟨3, _⟩ => ⟨S2048x512, .bf16⟩
  | .local _ .vmem, ⟨4, _⟩ => ⟨S2048x512, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 47], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjRefIdeal.lean ====
abbrev S16384x4096 : Shape := ⟨2, ![16384, 4096]⟩
abbrev S2x4096x24064 : Shape := ⟨3, ![2, 4096, 24064]⟩
abbrev S1x4096x24064 : Shape := ⟨3, ![1, 4096, 24064]⟩
abbrev S4096x24064 : Shape := ⟨2, ![4096, 24064]⟩
abbrev S16384x24064 : Shape := ⟨2, ![16384, 24064]⟩

abbrev nBuf : Space → Nat
  | .hbm => 7
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S2x4096x24064, .f32⟩
  | .hbm, ⟨2, _⟩ => ⟨S16384x4096, .f32⟩
  | .hbm, ⟨3, _⟩ => ⟨S1x4096x24064, .f32⟩
  | .hbm, ⟨4, _⟩ => ⟨S4096x24064, .f32⟩
  | .hbm, ⟨5, _⟩ => ⟨S16384x24064, .f32⟩
  | .hbm, ⟨6, _⟩ => ⟨S16384x24064, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Swiglu.lean ====
abbrev S16384x4096 : Shape := ⟨2, ![16384, 4096]⟩
abbrev S1x4096x11008 : Shape := ⟨3, ![1, 4096, 11008]⟩
abbrev S16384x11008 : Shape := ⟨2, ![16384, 11008]⟩
abbrev S2048x4096 : Shape := ⟨2, ![2048, 4096]⟩
abbrev S1x4096x256 : Shape := ⟨3, ![1, 4096, 256]⟩
abbrev S2048x256 : Shape := ⟨2, ![2048, 256]⟩
abbrev S4096x256 : Shape := ⟨2, ![4096, 256]⟩

abbrev nBuf : Space → Nat
  | .hbm => 4
  | .vmem => 7
  | .smem => 0
  | _ => 0

abbrev bufTy : (tb : Table) → Fin (tcTables nBuf tb) → BufTy
  | .hbm, ⟨0, _⟩ => ⟨S16384x4096, .bf16⟩
  | .hbm, ⟨1, _⟩ => ⟨S1x4096x11008, .f32⟩
  | .hbm, ⟨2, _⟩ => ⟨S1x4096x11008, .f32⟩
  | .hbm, ⟨3, _⟩ => ⟨S16384x11008, .bf16⟩
  | .local _ .vmem, ⟨0, _⟩ => ⟨S2048x4096, .bf16⟩
  | .local _ .vmem, ⟨1, _⟩ => ⟨S1x4096x256, .f32⟩
  | .local _ .vmem, ⟨2, _⟩ => ⟨S1x4096x256, .f32⟩
  | .local _ .vmem, ⟨3, _⟩ => ⟨S1x4096x256, .f32⟩
  | .local _ .vmem, ⟨4, _⟩ => ⟨S1x4096x256, .f32⟩
  | .local _ .vmem, ⟨5, _⟩ => ⟨S2048x256, .bf16⟩
  | .local _ .vmem, ⟨6, _⟩ => ⟨S2048x256, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== SwigluRefIdeal.lean ====
abbrev S16384x4096 : Shape := ⟨2, ![16384, 4096]⟩
abbrev S1x4096x11008 : Shape := ⟨3, ![1, 4096, 11008]⟩
abbrev S4096x11008 : Shape := ⟨2, ![4096, 11008]⟩
abbrev S16384x11008 : Shape := ⟨2, ![16384, 11008]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S1x4096x11008, .f32⟩
  | .hbm, ⟨2, _⟩ => ⟨S1x4096x11008, .f32⟩
  | .hbm, ⟨3, _⟩ => ⟨S16384x4096, .f32⟩
  | .hbm, ⟨4, _⟩ => ⟨S4096x11008, .f32⟩
  | .hbm, ⟨5, _⟩ => ⟨S16384x11008, .f32⟩
  | .hbm, ⟨6, _⟩ => ⟨S16384x11008, .f32⟩
  | .hbm, ⟨7, _⟩ => ⟨S16384x11008, .f32⟩
  | .hbm, ⟨8, _⟩ => ⟨S_, .f32⟩
  | .hbm, ⟨9, _⟩ => ⟨S16384x11008, .f32⟩
  | .hbm, ⟨10, _⟩ => ⟨S16384x11008, .f32⟩
  | .hbm, ⟨11, _⟩ => ⟨S_, .f32⟩
  | .hbm, ⟨12, _⟩ => ⟨S16384x11008, .f32⟩
  | .hbm, ⟨13, _⟩ => ⟨S16384x11008, .f32⟩
  | .hbm, ⟨14, _⟩ => ⟨S16384x11008, .f32⟩
  | .hbm, ⟨15, _⟩ => ⟨S4096x11008, .f32⟩
  | .hbm, ⟨16, _⟩ => ⟨S16384x11008, .f32⟩
  | .hbm, ⟨17, _⟩ => ⟨S16384x11008, .f32⟩
  | .hbm, ⟨18, _⟩ => ⟨S16384x11008, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩

abbrev nD : Nat := 1
abbrev τ : Topo := Topo.v7x

variable {F : FTy → Type} [FloatOps F]
-- ==== Out.lean ====
abbrev S16384x4096 : Shape := ⟨2, ![16384, 4096]⟩
abbrev S2x4096x4096 : Shape := ⟨3, ![2, 4096, 4096]⟩
abbrev S8x1x24576 : Shape := ⟨3, ![8, 1, 24576]⟩
abbrev S1024x4096 : Shape := ⟨2, ![1024, 4096]⟩
abbrev S1x4096x512 : Shape := ⟨3, ![1, 4096, 512]⟩
abbrev S1024x512 : Shape := ⟨2, ![1024, 512]⟩
abbrev S1x1x512 : Shape := ⟨3, ![1, 1, 512]⟩
abbrev S4096x512 : Shape := ⟨2, ![4096, 512]⟩
abbrev S1x512 : Shape := ⟨2, ![1, 512]⟩

abbrev nBuf : Space → Nat
  | .hbm => 5
  | .vmem => 11
  | .smem => 0
  | _ => 0

abbrev bufTy : (tb : Table) → Fin (tcTables nBuf tb) → BufTy
  | .hbm, ⟨0, _⟩ => ⟨S16384x4096, .bf16⟩
  | .hbm, ⟨1, _⟩ => ⟨S2x4096x4096, .bf16⟩
  | .hbm, ⟨2, _⟩ => ⟨S16384x4096, .f32⟩
  | .hbm, ⟨3, _⟩ => ⟨S8x1x24576, .f32⟩
  | .hbm, ⟨4, _⟩ => ⟨S16384x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1024x512, .f32⟩
  | .local _ .vmem, ⟨5, _⟩ => ⟨S1024x512, .f32⟩
  | .local _ .vmem, ⟨6, _⟩ => ⟨S1x1x512, .f32⟩
  | .local _ .vmem, ⟨7, _⟩ => ⟨S1x1x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![16, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32 : BitVec 32 := 16#32
  let v17 : BitVec 32 := Scalar.addi c16_i32 arg1
  let c0_i32_4 : BitVec 32 := 0#32
  let c0_i32_5 : BitVec 32 := 0#32
  ![v16.toNat, c0_i32_4.toNat, v17.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== OutRefIdeal.lean ====
abbrev S16384x4096 : Shape := ⟨2, ![16384, 4096]⟩
abbrev S2x4096x4096 : Shape := ⟨3, ![2, 4096, 4096]⟩
abbrev S8x1x24576 : Shape := ⟨3, ![8, 1, 24576]⟩
abbrev S8x1x4096 : Shape := ⟨3, ![8, 1, 4096]⟩
abbrev S8x2048x4096 : Shape := ⟨3, ![8, 2048, 4096]⟩
abbrev S1x4096x4096 : Shape := ⟨3, ![1, 4096, 4096]⟩
abbrev S4096x4096 : Shape := ⟨2, ![4096, 4096]⟩

abbrev nBuf : Space → Nat
  | .hbm => 21
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S2x4096x4096, .bf16⟩
  | .hbm, ⟨2, _⟩ => ⟨S16384x4096, .f32⟩
  | .hbm, ⟨3, _⟩ => ⟨S8x1x24576, .f32⟩
  | .hbm, ⟨4, _⟩ => ⟨S8x1x4096, .f32⟩
  | .hbm, ⟨5, _⟩ => ⟨S8x1x4096, .f32⟩
  | .hbm, ⟨6, _⟩ => ⟨S8x1x4096, .f32⟩
  | .hbm, ⟨7, _⟩ => ⟨S8x1x4096, .f32⟩
  | .hbm, ⟨8, _⟩ => ⟨S8x1x4096, .f32⟩
  | .hbm, ⟨9, _⟩ => ⟨S8x1x4096, .f32⟩
  | .hbm, ⟨10, _⟩ => ⟨S16384x4096, .f32⟩
  | .hbm, ⟨11, _⟩ => ⟨S8x2048x4096, .f32⟩
  | .hbm, ⟨12, _⟩ => ⟨S1x4096x4096, .bf16⟩
  | .hbm, ⟨13, _⟩ => ⟨S4096x4096, .bf16⟩
  | .hbm, ⟨14, _⟩ => ⟨S4096x4096, .f32⟩
  | .hbm, ⟨15, _⟩ => ⟨S8x2048x4096, .f32⟩
  | .hbm, ⟨16, _⟩ => ⟨S8x2048x4096, .f32⟩
  | .hbm, ⟨17, _⟩ => ⟨S8x2048x4096, .f32⟩
  | .hbm, ⟨18, _⟩ => ⟨S8x2048x4096, .f32⟩
  | .hbm, ⟨19, _⟩ => ⟨S8x2048x4096, .f32⟩
  | .hbm, ⟨20, _⟩ => ⟨S16384x4096, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩

abbrev nD : Nat := 1
abbrev τ : Topo := Topo.v7x

variable {F : FTy → Type} [FloatOps F]
-- ==== Down.lean ====
abbrev S16384x11008 : Shape := ⟨2, ![16384, 11008]⟩
abbrev S1x11008x4096 : Shape := ⟨3, ![1, 11008, 4096]⟩
abbrev S16384x4096 : Shape := ⟨2, ![16384, 4096]⟩
abbrev S8x1x24576 : Shape := ⟨3, ![8, 1, 24576]⟩
abbrev S1024x5504 : Shape := ⟨2, ![1024, 5504]⟩
abbrev S1x5504x512 : Shape := ⟨3, ![1, 5504, 512]⟩
abbrev S1024x512 : Shape := ⟨2, ![1024, 512]⟩
abbrev S1x1x512 : Shape := ⟨3, ![1, 1, 512]⟩
abbrev S5504x512 : Shape := ⟨2, ![5504, 512]⟩
abbrev S1x512 : Shape := ⟨2, ![1, 512]⟩

abbrev nBuf : Space → Nat
  | .hbm => 5
  | .vmem => 11
  | .smem => 0
  | _ => 0

abbrev bufTy : (tb : Table) → Fin (tcTables nBuf tb) → BufTy
  | .hbm, ⟨0, _⟩ => ⟨S16384x11008, .bf16⟩
  | .hbm, ⟨1, _⟩ => ⟨S1x11008x4096, .bf16⟩
  | .hbm, ⟨2, _⟩ => ⟨S16384x4096, .f32⟩
  | .hbm, ⟨3, _⟩ => ⟨S8x1x24576, .f32⟩
  | .hbm, ⟨4, _⟩ => ⟨S16384x4096, .f32⟩
  | .local _ .vmem, ⟨0, _⟩ => ⟨S1024x5504, .bf16⟩
  | .local _ .vmem, ⟨1, _⟩ => ⟨S1024x5504, .bf16⟩
  | .local _ .vmem, ⟨2, _⟩ => ⟨S1x5504x512, .bf16⟩
  | .local _ .vmem, ⟨3, _⟩ => ⟨S1x5504x512, .bf16⟩
  | .local _ .vmem, ⟨4, _⟩ => ⟨S1024x512, .f32⟩
  | .local _ .vmem, ⟨5, _⟩ => ⟨S1024x512, .f32⟩
  | .local _ .vmem, ⟨6, _⟩ => ⟨S1x1x512, .f32⟩
  | .local _ .vmem, ⟨7, _⟩ => ⟨S1x1x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | _, _ => ⟨S16384x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![16, 8, 2], ![false, false, false]⟩

def k0_cond3 (i : grid0.Coords) : BitVec 1 :=
  let arg2 : BitVec 32 := BitVec.ofNat 32 (i 2).val
  let c1_i32_7 : BitVec 32 := 1#32
  let v12 : BitVec 1 := Scalar.cmpi .eq arg2 c1_i32_7
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c40_i32 : BitVec 32 := 40#32
  let v17 : BitVec 32 := Scalar.addi c40_i32 arg1
  let c0_i32_4 : BitVec 32 := 0#32
  let c0_i32_5 : BitVec 32 := 0#32
  ![v16.toNat, c0_i32_4.toNat, v17.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x5504 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x5504x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== DownRefIdeal.lean ====
abbrev S16384x11008 : Shape := ⟨2, ![16384, 11008]⟩
abbrev S1x11008x4096 : Shape := ⟨3, ![1, 11008, 4096]⟩
abbrev S16384x4096 : Shape := ⟨2, ![16384, 4096]⟩
abbrev S8x1x24576 : Shape := ⟨3, ![8, 1, 24576]⟩
abbrev S8x1x4096 : Shape := ⟨3, ![8, 1, 4096]⟩
abbrev S8x2048x11008 : Shape := ⟨3, ![8, 2048, 11008]⟩
abbrev S11008x4096 : Shape := ⟨2, ![11008, 4096]⟩
abbrev S8x2048x4096 : Shape := ⟨3, ![8, 2048, 4096]⟩

abbrev nBuf : Space → Nat
  | .hbm => 20
  | .vmem => 0
  | .smem => 0
  | _ => 0

abbrev bufTy : (tb : Table) → Fin (tcTables nBuf tb) → BufTy
  | .hbm, ⟨0, _⟩ => ⟨S16384x11008, .bf16⟩
  | .hbm, ⟨1, _⟩ => ⟨S1x11008x4096, .bf16⟩
  | .hbm, ⟨2, _⟩ => ⟨S16384x4096, .f32⟩
  | .hbm, ⟨3, _⟩ => ⟨S8x1x24576, .f32⟩
  | .hbm, ⟨4, _⟩ => ⟨S8x1x4096, .f32⟩
  | .hbm, ⟨5, _⟩ => ⟨S8x1x4096, .f32⟩
  | .hbm, ⟨6, _⟩ => ⟨S8x1x4096, .f32⟩
  | .hbm, ⟨7, _⟩ => ⟨S8x1x4096, .f32⟩
  | .hbm, ⟨8, _⟩ => ⟨S8x1x4096, .f32⟩
  | .hbm, ⟨9, _⟩ => ⟨S8x1x4096, .f32⟩
  | .hbm, ⟨10, _⟩ => ⟨S16384x11008, .f32⟩
  | .hbm, ⟨11, _⟩ => ⟨S8x2048x11008, .f32⟩
  | .hbm, ⟨12, _⟩ => ⟨S11008x4096, .bf16⟩
  | .hbm, ⟨13, _⟩ => ⟨S11008x4096, .f32⟩
  | .hbm, ⟨14, _⟩ => ⟨S8x2048x4096, .f32⟩
  | .hbm, ⟨15, _⟩ => ⟨S8x2048x4096, .f32⟩
  | .hbm, ⟨16, _⟩ => ⟨S8x2048x4096, .f32⟩
  | .hbm, ⟨17, _⟩ => ⟨S8x2048x4096, .f32⟩
  | .hbm, ⟨18, _⟩ => ⟨S8x2048x4096, .f32⟩
  | .hbm, ⟨19, _⟩ => ⟨S16384x4096, .f32⟩
  | _, _ => ⟨S16384x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩

abbrev nD : Nat := 1
abbrev τ : Topo := Topo.v7x

variable {F : FTy → Type} [FloatOps F]
-- ==== Merge.lean ====
abbrev S16384x1024 : Shape := ⟨2, ![16384, 1024]⟩
abbrev S16384x1536 : Shape := ⟨2, ![16384, 1536]⟩
abbrev S2x1024x4096 : Shape := ⟨3, ![2, 1024, 4096]⟩
abbrev S2x1536x4096 : Shape := ⟨3, ![2, 1536, 4096]⟩
abbrev S16384x24064 : Shape := ⟨2, ![16384, 24064]⟩
abbrev S16384x4096 : Shape := ⟨2, ![16384, 4096]⟩
abbrev S1024x1024 : Shape := ⟨2, ![1024, 1024]⟩
abbrev S1024x1536 : Shape := ⟨2, ![1024, 1536]⟩
abbrev S1x1024x512 : Shape := ⟨3, ![1, 1024, 512]⟩
abbrev S1x1536x512 : Shape := ⟨3, ![1, 1536, 512]⟩
abbrev S1024x512 : Shape := ⟨2, ![1024, 512]⟩
abbrev S1536x512 : Shape := ⟨2, ![1536, 512]⟩

abbrev nBuf : Space → Nat
  | .hbm => 8
  | .vmem => 20
  | .smem => 0
  | _ => 0

abbrev bufTy : (tb : Table) → Fin (tcTables nBuf tb) → BufTy
  | .hbm, ⟨0, _⟩ => ⟨S16384x1024, .bf16⟩
  | .hbm, ⟨1, _⟩ => ⟨S16384x1536, .bf16⟩
  | .hbm, ⟨2, _⟩ => ⟨S16384x1536, .bf16⟩
  | .hbm, ⟨3, _⟩ => ⟨S2x1024x4096, .bf16⟩
  | .hbm, ⟨4, _⟩ => ⟨S2x1536x4096, .bf16⟩
  | .hbm, ⟨5, _⟩ => ⟨S2x1536x4096, .bf16⟩
  | .hbm, ⟨6, _⟩ => ⟨S16384x24064, .bf16⟩
  | .hbm, ⟨7, _⟩ => ⟨S16384x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1536, .bf16⟩
  | .local _ .vmem, ⟨5, _⟩ => ⟨S1024x1536, .bf16⟩
  | .local _ .vmem, ⟨6, _⟩ => ⟨S1x1024x512, .bf16⟩
  | .local _ .vmem, ⟨7, _⟩ => ⟨S1x1024x512, .bf16⟩
  | .local _ .vmem, ⟨8, _⟩ => ⟨S1x1536x512, .bf16⟩
  | .local _ .vmem, ⟨9, _⟩ => ⟨S1x1536x512, .bf16⟩
  | .local _ .vmem, ⟨10, _⟩ => ⟨S1x1536x512, .bf16⟩
  | .local _ .vmem, ⟨11, _⟩ => ⟨S1x1536x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_6 (i : grid0.Coords) : Fin 2 → Nat :=
  let arg0 : BitVec 32 := BitVec.ofNat 32 (i 0).val
  let arg1 : BitVec 32 := BitVec.ofNat 32 (i 1).val
  let c23_i32 : BitVec 32 := 23#32
  let v0 : BitVec 32 := Scalar.addi c23_i32 arg1
  let c0_i32 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.addi c31_i32 arg1
  let c0_i32 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let c39_i32 : BitVec 32 := 39#32
  let v0 : BitVec 32 := Scalar.addi c39_i32 arg1
  let c0_i32 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1536x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1536x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== MergeRefIdeal.lean ====
abbrev S16384x1024 : Shape := ⟨2, ![16384, 1024]⟩
abbrev S16384x1536 : Shape := ⟨2, ![16384, 1536]⟩
abbrev S2x1024x4096 : Shape := ⟨3, ![2, 1024, 4096]⟩
abbrev S2x1536x4096 : Shape := ⟨3, ![2, 1536, 4096]⟩
abbrev S16384x24064 : Shape := ⟨2, ![16384, 24064]⟩
abbrev S1x1024x4096 : Shape := ⟨3, ![1, 1024, 4096]⟩
abbrev S1024x4096 : Shape := ⟨2, ![1024, 4096]⟩
abbrev S1x1536x4096 : Shape := ⟨3, ![1, 1536, 4096]⟩
abbrev S1536x4096 : Shape := ⟨2, ![1536, 4096]⟩
abbrev S16384x12288 : Shape := ⟨2, ![16384, 12288]⟩
abbrev S16384x3x4096 : Shape := ⟨3, ![16384, 3, 4096]⟩
abbrev S_ : Shape := ⟨0, ![]⟩
abbrev S16384x1x4096 : Shape := ⟨3, ![16384, 1, 4096]⟩
abbrev S16384x4096 : Shape := ⟨2, ![16384, 4096]⟩

abbrev nBuf : Space → Nat
  | .hbm => 45
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1536, .bf16⟩
  | .hbm, ⟨2, _⟩ => ⟨S16384x1536, .bf16⟩
  | .hbm, ⟨3, _⟩ => ⟨S2x1024x4096, .bf16⟩
  | .hbm, ⟨4, _⟩ => ⟨S2x1536x4096, .bf16⟩
  | .hbm, ⟨5, _⟩ => ⟨S2x1536x4096, .bf16⟩
  | .hbm, ⟨6, _⟩ => ⟨S16384x24064, .bf16⟩
  | .hbm, ⟨7, _⟩ => ⟨S16384x1024, .f32⟩
  | .hbm, ⟨8, _⟩ => ⟨S16384x1536, .f32⟩
  | .hbm, ⟨9, _⟩ => ⟨S16384x1536, .f32⟩
  | .hbm, ⟨10, _⟩ => ⟨S1x1024x4096, .bf16⟩
  | .hbm, ⟨11, _⟩ => ⟨S1024x4096, .bf16⟩
  | .hbm, ⟨12, _⟩ => ⟨S1024x4096, .f32⟩
  | .hbm, ⟨13, _⟩ => ⟨S1x1536x4096, .bf16⟩
  | .hbm, ⟨14, _⟩ => ⟨S1536x4096, .bf16⟩
  | .hbm, ⟨15, _⟩ => ⟨S1536x4096, .f32⟩
  | .hbm, ⟨16, _⟩ => ⟨S1x1536x4096, .bf16⟩
  | .hbm, ⟨17, _⟩ => ⟨S1536x4096, .bf16⟩
  | .hbm, ⟨18, _⟩ => ⟨S1536x4096, .f32⟩
  | .hbm, ⟨19, _⟩ => ⟨S16384x24064, .f32⟩
  | .hbm, ⟨20, _⟩ => ⟨S16384x12288, .f32⟩
  | .hbm, ⟨21, _⟩ => ⟨S16384x3x4096, .f32⟩
  | .hbm, ⟨22, _⟩ => ⟨S16384x3x4096, .f32⟩
  | .hbm, ⟨23, _⟩ => ⟨S16384x3x4096, .f32⟩
  | .hbm, ⟨24, _⟩ => ⟨S_, .f32⟩
  | .hbm, ⟨25, _⟩ => ⟨S16384x3x4096, .f32⟩
  | .hbm, ⟨26, _⟩ => ⟨S16384x3x4096, .f32⟩
  | .hbm, ⟨27, _⟩ => ⟨S_, .f32⟩
  | .hbm, ⟨28, _⟩ => ⟨S16384x3x4096, .f32⟩
  | .hbm, ⟨29, _⟩ => ⟨S16384x3x4096, .f32⟩
  | .hbm, ⟨30, _⟩ => ⟨S16384x1x4096, .f32⟩
  | .hbm, ⟨31, _⟩ => ⟨S16384x4096, .f32⟩
  | .hbm, ⟨32, _⟩ => ⟨S16384x4096, .f32⟩
  | .hbm, ⟨33, _⟩ => ⟨S16384x4096, .f32⟩
  | .hbm, ⟨34, _⟩ => ⟨S16384x1x4096, .f32⟩
  | .hbm, ⟨35, _⟩ => ⟨S16384x4096, .f32⟩
  | .hbm, ⟨36, _⟩ => ⟨S16384x4096, .f32⟩
  | .hbm, ⟨37, _⟩ => ⟨S16384x4096, .f32⟩
  | .hbm, ⟨38, _⟩ => ⟨S16384x4096, .f32⟩
  | .hbm, ⟨39, _⟩ => ⟨S16384x1x4096, .f32⟩
  | .hbm, ⟨40, _⟩ => ⟨S16384x4096, .f32⟩
  | .hbm, ⟨41, _⟩ => ⟨S16384x4096, .f32⟩
  | .hbm, ⟨42, _⟩ => ⟨S16384x4096, .f32⟩
  | .hbm, ⟨43, _⟩ => ⟨S16384x4096, .f32⟩
  | .hbm, ⟨44, _⟩ => ⟨S16384x4096, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_v17 : Ref sig .tc := ⟨.hbm, 25, rfl⟩
abbrev main_v18 : Ref sig .tc := ⟨.hbm, 26, rfl⟩
abbrev main_cst_0 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩

abbrev nD : Nat := 1
abbrev τ : Topo := Topo.v7x

variable {F : FTy → Type} [FloatOps F]
-- ==== MoeDown.lean ====
abbrev S36864x3072 : Shape := ⟨2, ![36864, 3072]⟩
abbrev S8x3072x4096 : Shape := ⟨3, ![8, 3072, 4096]⟩
abbrev S72 : Shape := ⟨1, ![72]⟩
abbrev S1 : Shape := ⟨1, ![1]⟩
abbrev S36864x32x128 : Shape := ⟨3, ![36864, 32, 128]⟩
abbrev S512x3072 : Shape := ⟨2, ![512, 3072]⟩
abbrev S1x3072x1024 : Shape := ⟨3, ![1, 3072, 1024]⟩
abbrev S512x8x128 : Shape := ⟨3, ![512, 8, 128]⟩
abbrev S4096x128 : Shape := ⟨2, ![4096, 128]⟩
abbrev S3072x1024 : Shape := ⟨2, ![3072, 1024]⟩
abbrev S512x1024 : Shape := ⟨2, ![512, 1024]⟩
abbrev S512x128 : Shape := ⟨2, ![512, 128]⟩

abbrev nBuf : Space → Nat
  | .hbm => 3
  | .vmem => 7
  | .smem => 2
  | _ => 0

abbrev bufTy : (tb : Table) → Fin (tcTables nBuf tb) → BufTy
  | .hbm, ⟨0, _⟩ => ⟨S36864x3072, .bf16⟩
  | .hbm, ⟨1, _⟩ => ⟨S8x3072x4096, .bf16⟩
  | .hbm, ⟨2, _⟩ => ⟨S36864x32x128, .f32⟩
  | .local _ .vmem, ⟨0, _⟩ => ⟨S512x3072, .bf16⟩
  | .local _ .vmem, ⟨1, _⟩ => ⟨S512x3072, .bf16⟩
  | .local _ .vmem, ⟨2, _⟩ => ⟨S1x3072x1024, .bf16⟩
  | .local _ .vmem, ⟨3, _⟩ => ⟨S1x3072x1024, .bf16⟩
  | .local _ .vmem, ⟨4, _⟩ => ⟨S512x8x128, .f32⟩
  | .local _ .vmem, ⟨5, _⟩ => ⟨S512x8x128, .f32⟩
  | .local _ .vmem, ⟨6, _⟩ => ⟨S4096x128, .f32⟩
  | .local _ .smem, ⟨0, _⟩ => ⟨S72, .i32⟩
  | .local _ .smem, ⟨1, _⟩ => ⟨S1, .i32⟩
  | _, _ => ⟨S36864x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev main_arg3 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![72, 4], ![false, false]⟩

abbrev pre0 : Pipeline.Prefetch sig := ⟨2, ![main_arg2.idx, main_arg3.idx], fun | 0 => main_arg2.names | 1 => main_arg3.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v0 : BitVec 32) : BitVec 1 :=
  let arg0 : BitVec 32 := BitVec.ofNat 32 (i 0).val
  let v1 : BitVec 1 := Scalar.cmpi .slt arg0 v0
  let v_true : BitVec 1 := 1#1
  let v4 : BitVec 1 := Scalar.xori v1 v_true
  let v5 : BitVec 32 := Scalar.extui v4
  let c0_i32_0 : BitVec 32 := 0#32
  let v6 : BitVec 1 := Scalar.cmpi .ne v5 c0_i32_0
  v6

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S72.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c3_i32 : BitVec 32 := 3#32
  let v4 : BitVec 32 := Scalar.select v3 arg1 c3_i32
  let c0_i32 : BitVec 32 := 0#32
  let c0_i32_0 : BitVec 32 := 0#32
  ![v1.toNat, c0_i32.toNat, v4.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x3072x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MoeDownRefIdeal.lean ====
abbrev S36864x3072 : Shape := ⟨2, ![36864, 3072]⟩
abbrev S8x3072x4096 : Shape := ⟨3, ![8, 3072, 4096]⟩
abbrev S72 : Shape := ⟨1, ![72]⟩
abbrev S1 : Shape := ⟨1, ![1]⟩
abbrev S72x512x3072 : Shape := ⟨3, ![72, 512, 3072]⟩
abbrev S_ : Shape := ⟨0, ![]⟩
abbrev S72x1 : Shape := ⟨2, ![72, 1]⟩
abbrev S72x3072x4096 : Shape := ⟨3, ![72, 3072, 4096]⟩
abbrev S72x512x4096 : Shape := ⟨3, ![72, 512, 4096]⟩
abbrev S72x1x1 : Shape := ⟨3, ![72, 1, 1]⟩
abbrev S36864x32x128 : Shape := ⟨3, ![36864, 32, 128]⟩

abbrev nBuf : Space → Nat
  | .hbm => 28
  | .vmem => 0
  | .smem => 0
  | _ => 0

abbrev bufTy : (tb : Table) → Fin (tcTables nBuf tb) → BufTy
  | .hbm, ⟨0, _⟩ => ⟨S36864x3072, .bf16⟩
  | .hbm, ⟨1, _⟩ => ⟨S8x3072x4096, .bf16⟩
  | .hbm, ⟨2, _⟩ => ⟨S72, .i32⟩
  | .hbm, ⟨3, _⟩ => ⟨S1, .i32⟩
  | .hbm, ⟨4, _⟩ => ⟨S36864x3072, .f32⟩
  | .hbm, ⟨5, _⟩ => ⟨S72x512x3072, .f32⟩
  | .hbm, ⟨6, _⟩ => ⟨S8x3072x4096, .f32⟩
  | .hbm, ⟨7, _⟩ => ⟨S_, .i32⟩
  | .hbm, ⟨8, _⟩ => ⟨S72, .i32⟩
  | .hbm, ⟨9, _⟩ => ⟨S72, .i1⟩
  | .hbm, ⟨10, _⟩ => ⟨S_, .i32⟩
  | .hbm, ⟨11, _⟩ => ⟨S72, .i32⟩
  | .hbm, ⟨12, _⟩ => ⟨S72, .i32⟩
  | .hbm, ⟨13, _⟩ => ⟨S72, .i32⟩
  | .hbm, ⟨14, _⟩ => ⟨S72x1, .i32⟩
  | .hbm, ⟨15, _⟩ => ⟨S72x3072x4096, .f32⟩
  | .hbm, ⟨16, _⟩ => ⟨S72x512x4096, .f32⟩
  | .hbm, ⟨17, _⟩ => ⟨S72, .i32⟩
  | .hbm, ⟨18, _⟩ => ⟨S_, .i32⟩
  | .hbm, ⟨19, _⟩ => ⟨S72, .i32⟩
  | .hbm, ⟨20, _⟩ => ⟨S72, .i1⟩
  | .hbm, ⟨21, _⟩ => ⟨S72x1x1, .i1⟩
  | .hbm, ⟨22, _⟩ => ⟨S_, .f32⟩
  | .hbm, ⟨23, _⟩ => ⟨S_, .f32⟩
  | .hbm, ⟨24, _⟩ => ⟨S72x512x4096, .i1⟩
  | .hbm, ⟨25, _⟩ => ⟨S72x512x4096, .f32⟩
  | .hbm, ⟨26, _⟩ => ⟨S72x512x4096, .f32⟩
  | .hbm, ⟨27, _⟩ => ⟨S36864x32x128, .f32⟩
  | _, _ => ⟨S36864x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v16 : Ref sig .tc := ⟨.hbm, 26, rfl⟩
abbrev main_v17 : Ref sig .tc := ⟨.hbm, 27, rfl⟩

abbrev nD : Nat := 1
abbrev τ : Topo := Topo.v7x

variable {F : FTy → Type} [FloatOps F]
-- ==== MoeUp.lean ====
abbrev S16384x40x128 : Shape := ⟨3, ![16384, 40, 128]⟩
abbrev S36864 : Shape := ⟨1, ![36864]⟩
abbrev S8x4096x3072 : Shape := ⟨3, ![8, 4096, 3072]⟩
abbrev S72 : Shape := ⟨1, ![72]⟩
abbrev S1 : Shape := ⟨1, ![1]⟩
abbrev S36864x3072 : Shape := ⟨2, ![36864, 3072]⟩
abbrev S1x4096x512 : Shape := ⟨3, ![1, 4096, 512]⟩
abbrev S512x512 : Shape := ⟨2, ![512, 512]⟩
abbrev S2x20480x128 : Shape := ⟨3, ![2, 20480, 128]⟩
abbrev S512x4096 : Shape := ⟨2, ![512, 4096]⟩
abbrev S2 : Shape := ⟨1, ![2]⟩
abbrev S_ : Shape := ⟨0, ![]⟩
abbrev S1x32x128 : Shape := ⟨3, ![1, 32, 128]⟩
abbrev S32x128 : Shape := ⟨2, ![32, 128]⟩
abbrev S1x512x128 : Shape := ⟨3, ![1, 512, 128]⟩
abbrev S512x128 : Shape := ⟨2, ![512, 128]⟩
abbrev S4096x512 : Shape := ⟨2, ![4096, 512]⟩

abbrev nBuf : Space → Nat
  | .hbm => 4
  | .vmem => 8
  | .smem => 3
  | _ => 0

abbrev bufTy : (tb : Table) → Fin (tcTables nBuf tb) → BufTy
  | .hbm, ⟨0, _⟩ => ⟨S16384x40x128, .f32⟩
  | .hbm, ⟨1, _⟩ => ⟨S8x4096x3072, .bf16⟩
  | .hbm, ⟨2, _⟩ => ⟨S8x4096x3072, .bf16⟩
  | .hbm, ⟨3, _⟩ => ⟨S36864x3072, .bf16⟩
  | .local _ .vmem, ⟨0, _⟩ => ⟨S1x4096x512, .bf16⟩
  | .local _ .vmem, ⟨1, _⟩ => ⟨S1x4096x512, .bf16⟩
  | .local _ .vmem, ⟨2, _⟩ => ⟨S1x4096x512, .bf16⟩
  | .local _ .vmem, ⟨3, _⟩ => ⟨S1x4096x512, .bf16⟩
  | .local _ .vmem, ⟨4, _⟩ => ⟨S512x512, .bf16⟩
  | .local _ .vmem, ⟨5, _⟩ => ⟨S512x512, .bf16⟩
  | .local _ .vmem, ⟨6, _⟩ => ⟨S2x20480x128, .f32⟩
  | .local _ .vmem, ⟨7, _⟩ => ⟨S512x4096, .bf16⟩
  | .local _ .smem, ⟨0, _⟩ => ⟨S72, .i32⟩
  | .local _ .smem, ⟨1, _⟩ => ⟨S1, .i32⟩
  | .local _ .smem, ⟨2, _⟩ => ⟨S36864, .i32⟩
  | _, _ => ⟨S16384x40x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_v0 : Ref sig .tc := ⟨.hbm, 3, rfl⟩
abbrev main_arg4 : Ref sig .tc := ⟨.smem, 0, rfl⟩
abbrev main_arg5 : Ref sig .tc := ⟨.smem, 1, rfl⟩
abbrev main_arg1 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![72, 6], ![false, false]⟩

abbrev pre0 : Pipeline.Prefetch sig := ⟨3, ![main_arg4.idx, main_arg5.idx, main_arg1.idx], fun | 0 => main_arg4.names | 1 => main_arg5.names | 2 => main_arg1.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg1 : BitVec 32 := BitVec.ofNat 32 (i 1).val
  let c0_i32 : BitVec 32 := 0#32
  let v2 : BitVec 1 := Scalar.cmpi .eq arg1 c0_i32
  let v3 : BitVec 32 := Scalar.extui v2
  let c0_i32_0 : BitVec 32 := 0#32
  let v4 : BitVec 1 := Scalar.cmpi .ne v3 c0_i32_0
  v4

def k0_cond2 (i : grid0.Coords) : BitVec 1 :=
  let arg0 : BitVec 32 := BitVec.ofNat 32 (i 0).val
  let c0_i32_4 : BitVec 32 := 0#32
  let v15 : BitVec 1 := Scalar.cmpi .eq arg0 c0_i32_4
  let v16 : BitVec 32 := Scalar.extui v15
  let c0_i32_5 : BitVec 32 := 0#32
  let v17 : BitVec 1 := Scalar.cmpi .ne v16 c0_i32_5
  v17

@[reducible] def k0_t1_loop : Scf.Loop 32 :=
  let c0_i32_7 : BitVec 32 := 0#32
  let c512_i32 : BitVec 32 := 512#32
  let v21 : BitVec 32 := Scalar.addi c0_i32_7 c512_i32
  let c1_i32_8 : BitVec 32 := 1#32
  ⟨c0_i32_7, v21, c1_i32_8⟩
def k0_mult1 (k0_t1 : Fin k0_t1_loop.trips) : BitVec 32 :=
  let c0_i32_7 : BitVec 32 := 0#32
  let c1_i32_8 : BitVec 32 := 1#32
  let arg12 : BitVec 32 := Scf.iv c0_i32_7 c1_i32_8 k0_t1
  let c40_i32 : BitVec 32 := 40#32
  let v22 : BitVec 32 := Scalar.muli arg12 c40_i32
  v22
def k0_off2 (k0_t1 : Fin k0_t1_loop.trips) : Fin 1 → Nat :=
  let c0_i32_10 : BitVec 32 := 0#32
  let c0_i32_7 : BitVec 32 := 0#32
  let c1_i32_8 : BitVec 32 := 1#32
  let arg12 : BitVec 32 := Scf.iv c0_i32_7 c1_i32_8 k0_t1
  let v24 : BitVec 32 := Scalar.addi c0_i32_10 arg12
  let v25 : Index := Scalar.indexCast v24
  ![v25.toNat]
def k0_off3 (k0_t1 : Fin k0_t1_loop.trips) : Fin 3 → Nat :=
  let c0_i32_11 : BitVec 32 := 0#32
  let c0_i32_7 : BitVec 32 := 0#32
  let c1_i32_8 : BitVec 32 := 1#32
  let arg12 : BitVec 32 := Scf.iv c0_i32_7 c1_i32_8 k0_t1
  let c40_i32 : BitVec 32 := 40#32
  let v22 : BitVec 32 := Scalar.muli arg12 c40_i32
  let v23 : BitVec 32 := v22
  let c0_i32_13 : BitVec 32 := 0#32
  ![0, v23.toNat, 0]
def k0_off4 (v26 : BitVec 32) : Fin 3 → Nat :=
  let c0_i32_14 : BitVec 32 := 0#32
  let c0_i32_15 : BitVec 32 := 0#32
  ![v26.toNat, 0, 0]

def k0_chk1 (i : grid0.Coords) (v26 : BitVec 32) : Prop :=
  (∀ (k0_h1 : k0_cond1 i = 1#1), ∀ (k0_h2 : k0_cond2 i = 1#1), ∀ a, (k0_off4 v26) a + S1x32x128.size a ≤ S16384x40x128.size a)
theorem k0_off4_inb : ∀ (i : grid0.Coords) (v26 : BitVec 32) (k0_hw1 : k0_chk1 i v26), ∀ (k0_h1 : k0_cond1 i = 1#1), ∀ (k0_h2 : k0_cond2 i = 1#1), ∀ a, (k0_off4 v26) a + S1x32x128.size a ≤ S16384x40x128.size a := fun i v26 k0_hw1 k0_h1 k0_h2 => k0_hw1 k0_h1 k0_h2

@[reducible] def k0_t2_loop : Scf.Loop 32 :=
  let c0_i32_7 : BitVec 32 := 0#32
  let c512_i32 : BitVec 32 := 512#32
  let v21 : BitVec 32 := Scalar.addi c0_i32_7 c512_i32
  let c1_i32_8 : BitVec 32 := 1#32
  ⟨c0_i32_7, v21, c1_i32_8⟩
def k0_mult2 (k0_t2 : Fin k0_t2_loop.trips) : BitVec 32 :=
  let c0_i32_7 : BitVec 32 := 0#32
  let c1_i32_8 : BitVec 32 := 1#32
  let arg12 : BitVec 32 := Scf.iv c0_i32_7 c1_i32_8 k0_t2
  let c40_i32 : BitVec 32 := 40#32
  let v246 : BitVec 32 := Scalar.muli arg12 c40_i32
  v246
def k0_off5 (i : grid0.Coords) (k0_t2 : Fin k0_t2_loop.trips) : Fin 1 → Nat :=
  let arg0 : BitVec 32 := BitVec.ofNat 32 (i 0).val
  let c512_i32_76 : BitVec 32 := 512#32
  let v248 : BitVec 32 := Scalar.muli arg0 c512_i32_76
  let c0_i32_7 : BitVec 32 := 0#32
  let c1_i32_8 : BitVec 32 := 1#32
  let arg12 : BitVec 32 := Scf.iv c0_i32_7 c1_i32_8 k0_t2
  let v249 : BitVec 32 := Scalar.addi v248 arg12
  let v250 : Index := Scalar.indexCast v249
  ![v250.toNat]
def k0_off6 (i : grid0.Coords) : Fin 1 → Nat :=
  let arg0 : BitVec 32 := BitVec.ofNat 32 (i 0).val
  let c2_i32 : BitVec 32 := 2#32
  let v1 : BitVec 32 := Scalar.remsi arg0 c2_i32
  ![v1.toNat]
def k0_off7 (i : grid0.Coords) (k0_t2 : Fin k0_t2_loop.trips) : Fin 3 → Nat :=
  let arg0 : BitVec 32 := BitVec.ofNat 32 (i 0).val
  let c2_i32 : BitVec 32 := 2#32
  let v1 : BitVec 32 := Scalar.remsi arg0 c2_i32
  let c0_i32_7 : BitVec 32 := 0#32
  let c1_i32_8 : BitVec 32 := 1#32
  let arg12 : BitVec 32 := Scf.iv c0_i32_7 c1_i32_8 k0_t2
  let c40_i32 : BitVec 32 := 40#32
  let v246 : BitVec 32 := Scalar.muli arg12 c40_i32
  let v247 : BitVec 32 := v246
  let c0_i32_77 : BitVec 32 := 0#32
  ![v1.toNat, v247.toNat, 0]
def k0_off8 (v251 : BitVec 32) : Fin 3 → Nat :=
  let c0_i32_78 : BitVec 32 := 0#32
  let c0_i32_79 : BitVec 32 := 0#32
  ![v251.toNat, 0, 0]
def k0_cond3 (i : grid0.Coords) (v0 : BitVec 32) : BitVec 1 :=
  let arg0 : BitVec 32 := BitVec.ofNat 32 (i 0).val
  let v18 : BitVec 1 := Scalar.cmpi .slt arg0 v0
  let v19 : BitVec 32 := Scalar.extui v18
  let c0_i32_6 : BitVec 32 := 0#32
  let v20 : BitVec 1 := Scalar.cmpi .ne v19 c0_i32_6
  v20

def k0_chk2 (i : grid0.Coords) (v0 : BitVec 32) (v251 : BitVec 32) : Prop :=
  (∀ (k0_h1 : k0_cond1 i = 1#1), ∀ (k0_h3 : k0_cond3 i v0 = 1#1), ∀ a, (k0_off8 v251) a + S1x32x128.size a ≤ S16384x40x128.size a)
theorem k0_off8_inb : ∀ (i : grid0.Coords) (v0 : BitVec 32) (v251 : BitVec 32) (k0_hw2 : k0_chk2 i v0 v251), ∀ (k0_h1 : k0_cond1 i = 1#1), ∀ (k0_h3 : k0_cond3 i v0 = 1#1), ∀ a, (k0_off8 v251) a + S1x32x128.size a ≤ S16384x40x128.size a := fun i v0 v251 k0_hw2 k0_h1 k0_h3 => k0_hw2 k0_h1 k0_h3

def k0_off9 (i : grid0.Coords) : Fin 3 → Nat :=
  let arg0 : BitVec 32 := BitVec.ofNat 32 (i 0).val
  let c2_i32 : BitVec 32 := 2#32
  let v1 : BitVec 32 := Scalar.remsi arg0 c2_i32
  let v22 : Index := Scalar.indexCast v1
  let c0_10 : Index := 0#32
  let c0_11 : Index := 0#32
  ![v22.toNat, 0, 0]
def k0_off10 (i : grid0.Coords) : Fin 3 → Nat :=
  let arg0 : BitVec 32 := BitVec.ofNat 32 (i 0).val
  let c2_i32 : BitVec 32 := 2#32
  let v1 : BitVec 32 := Scalar.remsi arg0 c2_i32
  let v29 : Index := Scalar.indexCast v1
  let c1 : Index := 1#32
  let c0_14 : Index := 0#32
  ![v29.toNat, 1, 0]
def k0_off11 (i : grid0.Coords) : Fin 3 → Nat :=
  let arg0 : BitVec 32 := BitVec.ofNat 32 (i 0).val
  let c2_i32 : BitVec 32 := 2#32
  let v1 : BitVec 32 := Scalar.remsi arg0 c2_i32
  let v36 : Index := Scalar.indexCast v1
  let c2 : Index := 2#32
  let c0_16 : Index := 0#32
  ![v36.toNat, 2, 0]
def k0_off12 (i : grid0.Coords) : Fin 3 → Nat :=
  let arg0 : BitVec 32 := BitVec.ofNat 32 (i 0).val
  let c2_i32 : BitVec 32 := 2#32
  let v1 : BitVec 32 := Scalar.remsi arg0 c2_i32
  let v43 : Index := Scalar.indexCast v1
  let c3 : Index := 3#32
  let c0_18 : Index := 0#32
  ![v43.toNat, 3, 0]
def k0_off13 (i : grid0.Coords) : Fin 3 → Nat :=
  let arg0 : BitVec 32 := BitVec.ofNat 32 (i 0).val
  let c2_i32 : BitVec 32 := 2#32
  let v1 : BitVec 32 := Scalar.remsi arg0 c2_i32
  let v50 : Index := Scalar.indexCast v1
  let c4 : Index := 4#32
  let c0_20 : Index := 0#32
  ![v50.toNat, 4, 0]
def k0_off14 (i : grid0.Coords) : Fin 3 → Nat :=
  let arg0 : BitVec 32 := BitVec.ofNat 32 (i 0).val
  let c2_i32 : BitVec 32 := 2#32
  let v1 : BitVec 32 := Scalar.remsi arg0 c2_i32
  let v57 : Index := Scalar.indexCast v1
  let c5 : Index := 5#32
  let c0_22 : Index := 0#32
  ![v57.toNat, 5, 0]
def k0_off15 (i : grid0.Coords) : Fin 3 → Nat :=
  let arg0 : BitVec 32 := BitVec.ofNat 32 (i 0).val
  let c2_i32 : BitVec 32 := 2#32
  let v1 : BitVec 32 := Scalar.remsi arg0 c2_i32
  let v64 : Index := Scalar.indexCast v1
  let c6 : Index := 6#32
  let c0_24 : Index := 0#32
  ![v64.toNat, 6, 0]
def k0_off16 (i : grid0.Coords) : Fin 3 → Nat :=
  let arg0 : BitVec 32 := BitVec.ofNat 32 (i 0).val
  let c2_i32 : BitVec 32 := 2#32
  let v1 : BitVec 32 := Scalar.remsi arg0 c2_i32
  let v71 : Index := Scalar.indexCast v1
  let c7 : Index := 7#32
  let c0_26 : Index := 0#32
  ![v71.toNat, 7, 0]
def k0_off17 (i : grid0.Coords) : Fin 3 → Nat :=
  let arg0 : BitVec 32 := BitVec.ofNat 32 (i 0).val
  let c2_i32 : BitVec 32 := 2#32
  let v1 : BitVec 32 := Scalar.remsi arg0 c2_i32
  let v78 : Index := Scalar.indexCast v1
  let c8 : Index := 8#32
  let c0_28 : Index := 0#32
  ![v78.toNat, 8, 0]
def k0_off18 (i : grid0.Coords) : Fin 3 → Nat :=
  let arg0 : BitVec 32 := BitVec.ofNat 32 (i 0).val
  let c2_i32 : BitVec 32 := 2#32
  let v1 : BitVec 32 := Scalar.remsi arg0 c2_i32
  let v85 : Index := Scalar.indexCast v1
  let c9 : Index := 9#32
  let c0_30 : Index := 0#32
  ![v85.toNat, 9, 0]
def k0_off19 (i : grid0.Coords) : Fin 3 → Nat :=
  let arg0 : BitVec 32 := BitVec.ofNat 32 (i 0).val
  let c2_i32 : BitVec 32 := 2#32
  let v1 : BitVec 32 := Scalar.remsi arg0 c2_i32
  let v92 : Index := Scalar.indexCast v1
  let c10 : Index := 10#32
  let c0_32 : Index := 0#32
  ![v92.toNat, 10, 0]
def k0_off20 (i : grid0.Coords) : Fin 3 → Nat :=
  let arg0 : BitVec 32 := BitVec.ofNat 32 (i 0).val
  let c2_i32 : BitVec 32 := 2#32
  let v1 : BitVec 32 := Scalar.remsi arg0 c2_i32
  let v99 : Index := Scalar.indexCast v1
  let c11 : Index := 11#32
  let c0_34 : Index := 0#32
  ![v99.toNat, 11, 0]
def k0_off21 (i : grid0.Coords) : Fin 3 → Nat :=
  let arg0 : BitVec 32 := BitVec.ofNat 32 (i 0).val
  let c2_i32 : BitVec 32 := 2#32
  let v1 : BitVec 32 := Scalar.remsi arg0 c2_i32
  let v106 : Index := Scalar.indexCast v1
  let c12 : Index := 12#32
  let c0_36 : Index := 0#32
  ![v106.toNat, 12, 0]
def k0_off22 (i : grid0.Coords) : Fin 3 → Nat :=
  let arg0 : BitVec 32 := BitVec.ofNat 32 (i 0).val
  let c2_i32 : BitVec 32 := 2#32
  let v1 : BitVec 32 := Scalar.remsi arg0 c2_i32
  let v113 : Index := Scalar.indexCast v1
  let c13 : Index := 13#32
  let c0_38 : Index := 0#32
  ![v113.toNat, 13, 0]
def k0_off23 (i : grid0.Coords) : Fin 3 → Nat :=
  let arg0 : BitVec 32 := BitVec.ofNat 32 (i 0).val
  let c2_i32 : BitVec 32 := 2#32
  let v1 : BitVec 32 := Scalar.remsi arg0 c2_i32
  let v120 : Index := Scalar.indexCast v1
  let c14 : Index := 14#32
  let c0_40 : Index := 0#32
  ![v120.toNat, 14, 0]
def k0_off24 (i : grid0.Coords) : Fin 3 → Nat :=
  let arg0 : BitVec 32 := BitVec.ofNat 32 (i 0).val
  let c2_i32 : BitVec 32 := 2#32
  let v1 : BitVec 32 := Scalar.remsi arg0 c2_i32
  let v127 : Index := Scalar.indexCast v1
  let c15 : Index := 15#32
  let c0_42 : Index := 0#32
  ![v127.toNat, 15, 0]
def k0_off25 (i : grid0.Coords) : Fin 3 → Nat :=
  let arg0 : BitVec 32 := BitVec.ofNat 32 (i 0).val
  let c2_i32 : BitVec 32 := 2#32
  let v1 : BitVec 32 := Scalar.remsi arg0 c2_i32
  let v134 : Index := Scalar.indexCast v1
  let c16 : Index := 16#32
  let c0_44 : Index := 0#32
  ![v134.toNat, 16, 0]
def k0_off26 (i : grid0.Coords) : Fin 3 → Nat :=
  let arg0 : BitVec 32 := BitVec.ofNat 32 (i 0).val
  let c2_i32 : BitVec 32 := 2#32
  let v1 : BitVec 32 := Scalar.remsi arg0 c2_i32
  let v141 : Index := Scalar.indexCast v1
  let c17 : Index := 17#32
  let c0_46 : Index := 0#32
  ![v141.toNat, 17, 0]
def k0_off27 (i : grid0.Coords) : Fin 3 → Nat :=
  let arg0 : BitVec 32 := BitVec.ofNat 32 (i 0).val
  let c2_i32 : BitVec 32 := 2#32
  let v1 : BitVec 32 := Scalar.remsi arg0 c2_i32
  let v148 : Index := Scalar.indexCast v1
  let c18 : Index := 18#32
  let c0_48 : Index := 0#32
  ![v148.toNat, 18, 0]
def k0_off28 (i : grid0.Coords) : Fin 3 → Nat :=
  let arg0 : BitVec 32 := BitVec.ofNat 32 (i 0).val
  let c2_i32 : BitVec 32 := 2#32
  let v1 : BitVec 32 := Scalar.remsi arg0 c2_i32
  let v155 : Index := Scalar.indexCast v1
  let c19 : Index := 19#32
  let c0_50 : Index := 0#32
  ![v155.toNat, 19, 0]
def k0_off29 (i : grid0.Coords) : Fin 3 → Nat :=
  let arg0 : BitVec 32 := BitVec.ofNat 32 (i 0).val
  let c2_i32 : BitVec 32 := 2#32
  let v1 : BitVec 32 := Scalar.remsi arg0 c2_i32
  let v162 : Index := Scalar.indexCast v1
  let c20 : Index := 20#32
  let c0_52 : Index := 0#32
  ![v162.toNat, 20, 0]
def k0_off30 (i : grid0.Coords) : Fin 3 → Nat :=
  let arg0 : BitVec 32 := BitVec.ofNat 32 (i 0).val
  let c2_i32 : BitVec 32 := 2#32
  let v1 : BitVec 32 := Scalar.remsi arg0 c2_i32
  let v169 : Index := Scalar.indexCast v1
  let c21 : Index := 21#32
  let c0_54 : Index := 0#32
  ![v169.toNat, 21, 0]
def k0_off31 (i : grid0.Coords) : Fin 3 → Nat :=
  let arg0 : BitVec 32 := BitVec.ofNat 32 (i 0).val
  let c2_i32 : BitVec 32 := 2#32
  let v1 : BitVec 32 := Scalar.remsi arg0 c2_i32
  let v176 : Index := Scalar.indexCast v1
  let c22 : Index := 22#32
  let c0_56 : Index := 0#32
  ![v176.toNat, 22, 0]
def k0_off32 (i : grid0.Coords) : Fin 3 → Nat :=
  let arg0 : BitVec 32 := BitVec.ofNat 32 (i 0).val
  let c2_i32 : BitVec 32 := 2#32
  let v1 : BitVec 32 := Scalar.remsi arg0 c2_i32
  let v183 : Index := Scalar.indexCast v1
  let c23 : Index := 23#32
  let c0_58 : Index := 0#32
  ![v183.toNat, 23, 0]
def k0_off33 (i : grid0.Coords) : Fin 3 → Nat :=
  let arg0 : BitVec 32 := BitVec.ofNat 32 (i 0).val
  let c2_i32 : BitVec 32 := 2#32
  let v1 : BitVec 32 := Scalar.remsi arg0 c2_i32
  let v190 : Index := Scalar.indexCast v1
  let c24 : Index := 24#32
  let c0_60 : Index := 0#32
  ![v190.toNat, 24, 0]
def k0_off34 (i : grid0.Coords) : Fin 3 → Nat :=
  let arg0 : BitVec 32 := BitVec.ofNat 32 (i 0).val
  let c2_i32 : BitVec 32 := 2#32
  let v1 : BitVec 32 := Scalar.remsi arg0 c2_i32
  let v197 : Index := Scalar.indexCast v1
  let c25 : Index := 25#32
  let c0_62 : Index := 0#32
  ![v197.toNat, 25, 0]
def k0_off35 (i : grid0.Coords) : Fin 3 → Nat :=
  let arg0 : BitVec 32 := BitVec.ofNat 32 (i 0).val
  let c2_i32 : BitVec 32 := 2#32
  let v1 : BitVec 32 := Scalar.remsi arg0 c2_i32
  let v204 : Index := Scalar.indexCast v1
  let c26 : Index := 26#32
  let c0_64 : Index := 0#32
  ![v204.toNat, 26, 0]
def k0_off36 (i : grid0.Coords) : Fin 3 → Nat :=
  let arg0 : BitVec 32 := BitVec.ofNat 32 (i 0).val
  let c2_i32 : BitVec 32 := 2#32
  let v1 : BitVec 32 := Scalar.remsi arg0 c2_i32
  let v211 : Index := Scalar.indexCast v1
  let c27 : Index := 27#32
  let c0_66 : Index := 0#32
  ![v211.toNat, 27, 0]
def k0_off37 (i : grid0.Coords) : Fin 3 → Nat :=
  let arg0 : BitVec 32 := BitVec.ofNat 32 (i 0).val
  let c2_i32 : BitVec 32 := 2#32
  let v1 : BitVec 32 := Scalar.remsi arg0 c2_i32
  let v218 : Index := Scalar.indexCast v1
  let c28 : Index := 28#32
  let c0_68 : Index := 0#32
  ![v218.toNat, 28, 0]
def k0_off38 (i : grid0.Coords) : Fin 3 → Nat :=
  let arg0 : BitVec 32 := BitVec.ofNat 32 (i 0).val
  let c2_i32 : BitVec 32 := 2#32
  let v1 : BitVec 32 := Scalar.remsi arg0 c2_i32
  let v225 : Index := Scalar.indexCast v1
  let c29 : Index := 29#32
  let c0_70 : Index := 0#32
  ![v225.toNat, 29, 0]
def k0_off39 (i : grid0.Coords) : Fin 3 → Nat :=
  let arg0 : BitVec 32 := BitVec.ofNat 32 (i 0).val
  let c2_i32 : BitVec 32 := 2#32
  let v1 : BitVec 32 := Scalar.remsi arg0 c2_i32
  let v232 : Index := Scalar.indexCast v1
  let c30 : Index := 30#32
  let c0_72 : Index := 0#32
  ![v232.toNat, 30, 0]
def k0_off40 (i : grid0.Coords) : Fin 3 → Nat :=
  let arg0 : BitVec 32 := BitVec.ofNat 32 (i 0).val
  let c2_i32 : BitVec 32 := 2#32
  let v1 : BitVec 32 := Scalar.remsi arg0 c2_i32
  let v239 : Index := Scalar.indexCast v1
  let c31 : Index := 31#32
  let c0_74 : Index := 0#32
  ![v239.toNat, 31, 0]
@[reducible] def k0_t3_loop (i : grid0.Coords) : Scf.Loop 32 :=
  let arg1 : BitVec 32 := BitVec.ofNat 32 (i 1).val
  let c86_i32 : BitVec 32 := 86#32
  let v17 : BitVec 32 := Scalar.muli arg1 c86_i32
  let c512_i32 : BitVec 32 := 512#32
  let v18 : BitVec 32 := Scalar.minsi v17 c512_i32
  let c1_i32_6 : BitVec 32 := 1#32
  let v19 : BitVec 32 := Scalar.addi arg1 c1_i32_6
  let c86_i32_7 : BitVec 32 := 86#32
  let v20 : BitVec 32 := Scalar.muli v19 c86_i32_7
  let c512_i32_8 : BitVec 32 := 512#32
  let v21 : BitVec 32 := Scalar.minsi v20 c512_i32_8
  let v22 : BitVec 32 := Scalar.subi v21 v18
  let c1_i32_10 : BitVec 32 := 1#32
  let v24 : BitVec 32 := Scalar.divsi v22 c1_i32_10
  let v25 : BitVec 32 := Scalar.muli v24 c1_i32_10
  let v26 : BitVec 32 := Scalar.addi v18 v25
  let c1_i32_11 : BitVec 32 := 1#32
  ⟨v18, v26, c1_i32_11⟩
def k0_mult3 (i : grid0.Coords) (k0_t3 : Fin (k0_t3_loop i).trips) : BitVec 32 :=
  let arg1 : BitVec 32 := BitVec.ofNat 32 (i 1).val
  let c86_i32 : BitVec 32 := 86#32
  let v17 : BitVec 32 := Scalar.muli arg1 c86_i32
  let c512_i32 : BitVec 32 := 512#32
  let v18 : BitVec 32 := Scalar.minsi v17 c512_i32
  let c1_i32_11 : BitVec 32 := 1#32
  let arg12 : BitVec 32 := Scf.iv v18 c1_i32_11 k0_t3
  let c40_i32 : BitVec 32 := 40#32
  let v27 : BitVec 32 := Scalar.muli arg12 c40_i32
  v27
def k0_off41 (i : grid0.Coords) (k0_t3 : Fin (k0_t3_loop i).trips) : Fin 1 → Nat :=
  let arg0 : BitVec 32 := BitVec.ofNat 32 (i 0).val
  let c1_i32_4 : BitVec 32 := 1#32
  let v15 : BitVec 32 := Scalar.addi arg0 c1_i32_4
  let c512_i32_13 : BitVec 32 := 512#32
  let v29 : BitVec 32 := Scalar.muli v15 c512_i32_13
  let arg1 : BitVec 32 := BitVec.ofNat 32 (i 1).val
  let c86_i32 : BitVec 32 := 86#32
  let v17 : BitVec 32 := Scalar.muli arg1 c86_i32
  let c512_i32 : BitVec 32 := 512#32
  let v18 : BitVec 32 := Scalar.minsi v17 c512_i32
  let c1_i32_11 : BitVec 32 := 1#32
  let arg12 : BitVec 32 := Scf.iv v18 c1_i32_11 k0_t3
  let v30 : BitVec 32 := Scalar.addi v29 arg12
  let v31 : Index := Scalar.indexCast v30
  ![v31.toNat]
def k0_cond4 (i : grid0.Coords) (v0 : BitVec 32) : BitVec 1 :=
  let arg0 : BitVec 32 := BitVec.ofNat 32 (i 0).val
  let c1_i32 : BitVec 32 := 1#32
  let v5 : BitVec 32 := Scalar.addi arg0 c1_i32
  let v6 : BitVec 1 := Scalar.cmpi .slt v5 v0
  let v7 : BitVec 32 := Scalar.extui v6
  let c0_i32_1 : BitVec 32 := 0#32
  let v8 : BitVec 1 := Scalar.cmpi .ne v7 c0_i32_1
  v8

def k0_chk3 (i : grid0.Coords) (v0 : BitVec 32) : Prop :=
  (∀ k0_t3 : Fin (k0_t3_loop i).trips, ∀ (k0_h4 : k0_cond4 i v0 = 1#1), ∀ a, (k0_off41 i k0_t3) a + S1.size a ≤ S36864.size a)
theorem k0_off41_inb : ∀ (i : grid0.Coords) (v0 : BitVec 32) (k0_hw3 : k0_chk3 i v0) (k0_t3 : Fin (k0_t3_loop i).trips), ∀ (k0_h4 : k0_cond4 i v0 = 1#1), ∀ a, (k0_off41 i k0_t3) a + S1.size a ≤ S36864.size a := fun i v0 k0_hw3 k0_t3 k0_h4 => k0_hw3 k0_t3 k0_h4

def k0_off42 (i : grid0.Coords) : Fin 1 → Nat :=
  let c1_i32_5 : BitVec 32 := 1#32
  let arg0 : BitVec 32 := BitVec.ofNat 32 (i 0).val
  let c2_i32 : BitVec 32 := 2#32
  let v1 : BitVec 32 := Scalar.remsi arg0 c2_i32
  let v16 : BitVec 32 := Scalar.subi c1_i32_5 v1
  ![v16.toNat]
def k0_off43 (i : grid0.Coords) (k0_t3 : Fin (k0_t3_loop i).trips) : Fin 3 → Nat :=
  let c1_i32_5 : BitVec 32 := 1#32
  let arg0 : BitVec 32 := BitVec.ofNat 32 (i 0).val
  let c2_i32 : BitVec 32 := 2#32
  let v1 : BitVec 32 := Scalar.remsi arg0 c2_i32
  let v16 : BitVec 32 := Scalar.subi c1_i32_5 v1
  let arg1 : BitVec 32 := BitVec.ofNat 32 (i 1).val
  let c86_i32 : BitVec 32 := 86#32
  let v17 : BitVec 32 := Scalar.muli arg1 c86_i32
  let c512_i32 : BitVec 32 := 512#32
  let v18 : BitVec 32 := Scalar.minsi v17 c512_i32
  let c1_i32_11 : BitVec 32 := 1#32
  let arg12 : BitVec 32 := Scf.iv v18 c1_i32_11 k0_t3
  let c40_i32 : BitVec 32 := 40#32
  let v27 : BitVec 32 := Scalar.muli arg12 c40_i32
  let v28 : BitVec 32 := v27
  let c0_i32_14 : BitVec 32 := 0#32
  ![v16.toNat, v28.toNat, 0]
def k0_off44 (v32 : BitVec 32) : Fin 3 → Nat :=
  let c0_i32_15 : BitVec 32 := 0#32
  let c0_i32_16 : BitVec 32 := 0#32
  ![v32.toNat, 0, 0]

def k0_chk4 (i : grid0.Coords) (v0 : BitVec 32) (v32 : BitVec 32) : Prop :=
  (∀ (k0_h4 : k0_cond4 i v0 = 1#1), ∀ a, (k0_off44 v32) a + S1x32x128.size a ≤ S16384x40x128.size a)
theorem k0_off44_inb : ∀ (i : grid0.Coords) (v0 : BitVec 32) (v32 : BitVec 32) (k0_hw4 : k0_chk4 i v0 v32), ∀ (k0_h4 : k0_cond4 i v0 = 1#1), ∀ a, (k0_off44 v32) a + S1x32x128.size a ≤ S16384x40x128.size a := fun i v0 v32 k0_hw4 k0_h4 => k0_hw4 k0_h4

@[reducible] def k0_t4_loop (i : grid0.Coords) : Scf.Loop 32 :=
  let arg1 : BitVec 32 := BitVec.ofNat 32 (i 1).val
  let c86_i32 : BitVec 32 := 86#32
  let v17 : BitVec 32 := Scalar.muli arg1 c86_i32
  let c512_i32 : BitVec 32 := 512#32
  let v18 : BitVec 32 := Scalar.minsi v17 c512_i32
  let c1_i32_6 : BitVec 32 := 1#32
  let v19 : BitVec 32 := Scalar.addi arg1 c1_i32_6
  let c86_i32_7 : BitVec 32 := 86#32
  let v20 : BitVec 32 := Scalar.muli v19 c86_i32_7
  let c512_i32_8 : BitVec 32 := 512#32
  let v21 : BitVec 32 := Scalar.minsi v20 c512_i32_8
  let v22 : BitVec 32 := Scalar.subi v21 v18
  let c1_i32_10 : BitVec 32 := 1#32
  let v24 : BitVec 32 := Scalar.divsi v22 c1_i32_10
  let v25 : BitVec 32 := Scalar.muli v24 c1_i32_10
  let v26 : BitVec 32 := Scalar.addi v18 v25
  let v23 : BitVec 32 := Scalar.addi v18 v22
  let c1_i32_12 : BitVec 32 := 1#32
  ⟨v26, v23, c1_i32_12⟩
def k0_mult4 (i : grid0.Coords) (k0_t4 : Fin (k0_t4_loop i).trips) : BitVec 32 :=
  let arg1 : BitVec 32 := BitVec.ofNat 32 (i 1).val
  let c86_i32 : BitVec 32 := 86#32
  let v17 : BitVec 32 := Scalar.muli arg1 c86_i32
  let c512_i32 : BitVec 32 := 512#32
  let v18 : BitVec 32 := Scalar.minsi v17 c512_i32
  let c1_i32_6 : BitVec 32 := 1#32
  let v19 : BitVec 32 := Scalar.addi arg1 c1_i32_6
  let c86_i32_7 : BitVec 32 := 86#32
  let v20 : BitVec 32 := Scalar.muli v19 c86_i32_7
  let c512_i32_8 : BitVec 32 := 512#32
  let v21 : BitVec 32 := Scalar.minsi v20 c512_i32_8
  let v22 : BitVec 32 := Scalar.subi v21 v18
  let c1_i32_10 : BitVec 32 := 1#32
  let v24 : BitVec 32 := Scalar.divsi v22 c1_i32_10
  let v25 : BitVec 32 := Scalar.muli v24 c1_i32_10
  let v26 : BitVec 32 := Scalar.addi v18 v25
  let c1_i32_12 : BitVec 32 := 1#32
  let arg12 : BitVec 32 := Scf.iv v26 c1_i32_12 k0_t4
  let c40_i32 : BitVec 32 := 40#32
  let v27 : BitVec 32 := Scalar.muli arg12 c40_i32
  v27
def k0_off45 (i : grid0.Coords) (k0_t4 : Fin (k0_t4_loop i).trips) : Fin 1 → Nat :=
  let arg0 : BitVec 32 := BitVec.ofNat 32 (i 0).val
  let c1_i32_4 : BitVec 32 := 1#32
  let v15 : BitVec 32 := Scalar.addi arg0 c1_i32_4
  let c512_i32_13 : BitVec 32 := 512#32
  let v29 : BitVec 32 := Scalar.muli v15 c512_i32_13
  let arg1 : BitVec 32 := BitVec.ofNat 32 (i 1).val
  let c86_i32 : BitVec 32 := 86#32
  let v17 : BitVec 32 := Scalar.muli arg1 c86_i32
  let c512_i32 : BitVec 32 := 512#32
  let v18 : BitVec 32 := Scalar.minsi v17 c512_i32
  let c1_i32_6 : BitVec 32 := 1#32
  let v19 : BitVec 32 := Scalar.addi arg1 c1_i32_6
  let c86_i32_7 : BitVec 32 := 86#32
  let v20 : BitVec 32 := Scalar.muli v19 c86_i32_7
  let c512_i32_8 : BitVec 32 := 512#32
  let v21 : BitVec 32 := Scalar.minsi v20 c512_i32_8
  let v22 : BitVec 32 := Scalar.subi v21 v18
  let c1_i32_10 : BitVec 32 := 1#32
  let v24 : BitVec 32 := Scalar.divsi v22 c1_i32_10
  let v25 : BitVec 32 := Scalar.muli v24 c1_i32_10
  let v26 : BitVec 32 := Scalar.addi v18 v25
  let c1_i32_12 : BitVec 32 := 1#32
  let arg12 : BitVec 32 := Scf.iv v26 c1_i32_12 k0_t4
  let v30 : BitVec 32 := Scalar.addi v29 arg12
  let v31 : Index := Scalar.indexCast v30
  ![v31.toNat]
def k0_off46 (i : grid0.Coords) : Fin 1 → Nat :=
  let c1_i32_5 : BitVec 32 := 1#32
  let arg0 : BitVec 32 := BitVec.ofNat 32 (i 0).val
  let c2_i32 : BitVec 32 := 2#32
  let v1 : BitVec 32 := Scalar.remsi arg0 c2_i32
  let v16 : BitVec 32 := Scalar.subi c1_i32_5 v1
  ![v16.toNat]
def k0_off47 (i : grid0.Coords) (k0_t4 : Fin (k0_t4_loop i).trips) : Fin 3 → Nat :=
  let c1_i32_5 : BitVec 32 := 1#32
  let arg0 : BitVec 32 := BitVec.ofNat 32 (i 0).val
  let c2_i32 : BitVec 32 := 2#32
  let v1 : BitVec 32 := Scalar.remsi arg0 c2_i32
  let v16 : BitVec 32 := Scalar.subi c1_i32_5 v1
  let arg1 : BitVec 32 := BitVec.ofNat 32 (i 1).val
  let c86_i32 : BitVec 32 := 86#32
  let v17 : BitVec 32 := Scalar.muli arg1 c86_i32
  let c512_i32 : BitVec 32 := 512#32
  let v18 : BitVec 32 := Scalar.minsi v17 c512_i32
  let c1_i32_6 : BitVec 32 := 1#32
  let v19 : BitVec 32 := Scalar.addi arg1 c1_i32_6
  let c86_i32_7 : BitVec 32 := 86#32
  let v20 : BitVec 32 := Scalar.muli v19 c86_i32_7
  let c512_i32_8 : BitVec 32 := 512#32
  let v21 : BitVec 32 := Scalar.minsi v20 c512_i32_8
  let v22 : BitVec 32 := Scalar.subi v21 v18
  let c1_i32_10 : BitVec 32 := 1#32
  let v24 : BitVec 32 := Scalar.divsi v22 c1_i32_10
  let v25 : BitVec 32 := Scalar.muli v24 c1_i32_10
  let v26 : BitVec 32 := Scalar.addi v18 v25
  let c1_i32_12 : BitVec 32 := 1#32
  let arg12 : BitVec 32 := Scf.iv v26 c1_i32_12 k0_t4
  let c40_i32 : BitVec 32 := 40#32
  let v27 : BitVec 32 := Scalar.muli arg12 c40_i32
  let v28 : BitVec 32 := v27
  let c0_i32_14 : BitVec 32 := 0#32
  ![v16.toNat, v28.toNat, 0]
def k0_off48 (v32 : BitVec 32) : Fin 3 → Nat :=
  let c0_i32_15 : BitVec 32 := 0#32
  let c0_i32_16 : BitVec 32 := 0#32
  ![v32.toNat, 0, 0]

def k0_chk5 (i : grid0.Coords) (v0 : BitVec 32) (k0_t4 : Fin (k0_t4_loop i).trips) (v32 : BitVec 32) : Prop :=
  (∀ (k0_h4 : k0_cond4 i v0 = 1#1), ∀ a, (k0_off48 v32) a + S1x32x128.size a ≤ S16384x40x128.size a)
theorem k0_off48_inb : ∀ (i : grid0.Coords) (v0 : BitVec 32) (k0_t4 : Fin (k0_t4_loop i).trips) (v32 : BitVec 32) (k0_hw5 : k0_chk5 i v0 k0_t4 v32), ∀ (k0_h4 : k0_cond4 i v0 = 1#1), ∀ a, (k0_off48 v32) a + S1x32x128.size a ≤ S16384x40x128.size a := fun i v0 k0_t4 v32 k0_hw5 k0_h4 => k0_hw5 k0_h4

def k0_cond5 (i : grid0.Coords) (v0 : BitVec 32) : BitVec 1 :=
  let arg0 : BitVec 32 := BitVec.ofNat 32 (i 0).val
  let v9 : BitVec 1 := Scalar.cmpi .slt arg0 v0
  let v10 : BitVec 32 := Scalar.extui v9
  let c0_i32_2 : BitVec 32 := 0#32
  let v11 : BitVec 1 := Scalar.cmpi .ne v10 c0_i32_2
  v11

def k0_cond6 (i : grid0.Coords) (v0 : BitVec 32) : BitVec 1 :=
  let arg0 : BitVec 32 := BitVec.ofNat 32 (i 0).val
  let v12 : BitVec 1 := Scalar.cmpi .sge arg0 v0
  let v13 : BitVec 32 := Scalar.extui v12
  let c0_i32_3 : BitVec 32 := 0#32
  let v14 : BitVec 1 := Scalar.cmpi .ne v13 c0_i32_3
  v14

def cc0_transform_1 (k0_off1_inb : ∀ i : grid0.Coords, ∀ a, (k0_off1 i) a + S1.size a ≤ S72.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c5_i32 : BitVec 32 := 5#32
  let v4 : BitVec 32 := Scalar.select v3 arg1 c5_i32
  let c0_i32 : BitVec 32 := 0#32
  let c0_i32_0 : BitVec 32 := 0#32
  ![v1.toNat, c0_i32.toNat, v4.toNat]

def cc0_transform_2 (k0_off1_inb : ∀ i : grid0.Coords, ∀ a, (k0_off1 i) a + S1.size a ≤ S72.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c5_i32 : BitVec 32 := 5#32
  let v4 : BitVec 32 := Scalar.select v3 arg1 c5_i32
  let c0_i32 : BitVec 32 := 0#32
  let c0_i32_0 : BitVec 32 := 0#32
  ![v1.toNat, c0_i32.toNat, v4.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MoeUpRefIdeal.lean ====
abbrev S16384x40x128 : Shape := ⟨3, ![16384, 40, 128]⟩
abbrev S36864 : Shape := ⟨1, ![36864]⟩
abbrev S8x4096x3072 : Shape := ⟨3, ![8, 4096, 3072]⟩
abbrev S72 : Shape := ⟨1, ![72]⟩
abbrev S1 : Shape := ⟨1, ![1]⟩
abbrev S16384x32x128 : Shape := ⟨3, ![16384, 32, 128]⟩
abbrev S16384x4096 : Shape := ⟨2, ![16384, 4096]⟩
abbrev S_ : Shape := ⟨0, ![]⟩
abbrev S36864x1 : Shape := ⟨2, ![36864, 1]⟩
abbrev S36864x4096 : Shape := ⟨2, ![36864, 4096]⟩
abbrev S72x512x4096 : Shape := ⟨3, ![72, 512, 4096]⟩
abbrev S72x1 : Shape := ⟨2, ![72, 1]⟩
abbrev S72x4096x3072 : Shape := ⟨3, ![72, 4096, 3072]⟩
abbrev S72x512x3072 : Shape := ⟨3, ![72, 512, 3072]⟩
abbrev S72x1x1 : Shape := ⟨3, ![72, 1, 1]⟩
abbrev S36864x3072 : Shape := ⟨2, ![36864, 3072]⟩

abbrev nBuf : Space → Nat
  | .hbm => 62
  | .vmem => 0
  | .smem => 0
  | _ => 0

abbrev bufTy : (tb : Table) → Fin (tcTables nBuf tb) → BufTy
  | .hbm, ⟨0, _⟩ => ⟨S16384x40x128, .f32⟩
  | .hbm, ⟨1, _⟩ => ⟨S36864, .i32⟩
  | .hbm, ⟨2, _⟩ => ⟨S8x4096x3072, .bf16⟩
  | .hbm, ⟨3, _⟩ => ⟨S8x4096x3072, .bf16⟩
  | .hbm, ⟨4, _⟩ => ⟨S72, .i32⟩
  | .hbm, ⟨5, _⟩ => ⟨S1, .i32⟩
  | .hbm, ⟨6, _⟩ => ⟨S16384x32x128, .f32⟩
  | .hbm, ⟨7, _⟩ => ⟨S16384x4096, .f32⟩
  | .hbm, ⟨8, _⟩ => ⟨S_, .i32⟩
  | .hbm, ⟨9, _⟩ => ⟨S36864, .i32⟩
  | .hbm, ⟨10, _⟩ => ⟨S36864, .i1⟩
  | .hbm, ⟨11, _⟩ => ⟨S_, .i32⟩
  | .hbm, ⟨12, _⟩ => ⟨S36864, .i32⟩
  | .hbm, ⟨13, _⟩ => ⟨S36864, .i32⟩
  | .hbm, ⟨14, _⟩ => ⟨S36864, .i32⟩
  | .hbm, ⟨15, _⟩ => ⟨S36864x1, .i32⟩
  | .hbm, ⟨16, _⟩ => ⟨S36864x4096, .f32⟩
  | .hbm, ⟨17, _⟩ => ⟨S72x512x4096, .f32⟩
  | .hbm, ⟨18, _⟩ => ⟨S8x4096x3072, .f32⟩
  | .hbm, ⟨19, _⟩ => ⟨S_, .i32⟩
  | .hbm, ⟨20, _⟩ => ⟨S72, .i32⟩
  | .hbm, ⟨21, _⟩ => ⟨S72, .i1⟩
  | .hbm, ⟨22, _⟩ => ⟨S_, .i32⟩
  | .hbm, ⟨23, _⟩ => ⟨S72, .i32⟩
  | .hbm, ⟨24, _⟩ => ⟨S72, .i32⟩
  | .hbm, ⟨25, _⟩ => ⟨S72, .i32⟩
  | .hbm, ⟨26, _⟩ => ⟨S72x1, .i32⟩
  | .hbm, ⟨27, _⟩ => ⟨S72x4096x3072, .f32⟩
  | .hbm, ⟨28, _⟩ => ⟨S8x4096x3072, .f32⟩
  | .hbm, ⟨29, _⟩ => ⟨S_, .i32⟩
  | .hbm, ⟨30, _⟩ => ⟨S72, .i32⟩
  | .hbm, ⟨31, _⟩ => ⟨S72, .i1⟩
  | .hbm, ⟨32, _⟩ => ⟨S_, .i32⟩
  | .hbm, ⟨33, _⟩ => ⟨S72, .i32⟩
  | .hbm, ⟨34, _⟩ => ⟨S72, .i32⟩
  | .hbm, ⟨35, _⟩ => ⟨S72, .i32⟩
  | .hbm, ⟨36, _⟩ => ⟨S72x1, .i32⟩
  | .hbm, ⟨37, _⟩ => ⟨S72x4096x3072, .f32⟩
  | .hbm, ⟨38, _⟩ => ⟨S72x512x3072, .f32⟩
  | .hbm, ⟨39, _⟩ => ⟨S72x512x3072, .f32⟩
  | .hbm, ⟨40, _⟩ => ⟨S72x512x3072, .f32⟩
  | .hbm, ⟨41, _⟩ => ⟨S_, .f32⟩
  | .hbm, ⟨42, _⟩ => ⟨S72x512x3072, .f32⟩
  | .hbm, ⟨43, _⟩ => ⟨S72x512x3072, .f32⟩
  | .hbm, ⟨44, _⟩ => ⟨S_, .f32⟩
  | .hbm, ⟨45, _⟩ => ⟨S72x512x3072, .f32⟩
  | .hbm, ⟨46, _⟩ => ⟨S72x512x3072, .f32⟩
  | .hbm, ⟨47, _⟩ => ⟨S72x512x3072, .f32⟩
  | .hbm, ⟨48, _⟩ => ⟨S72x512x3072, .f32⟩
  | .hbm, ⟨49, _⟩ => ⟨S72x512x3072, .f32⟩
  | .hbm, ⟨50, _⟩ => ⟨S72, .i32⟩
  | .hbm, ⟨51, _⟩ => ⟨S_, .i32⟩
  | .hbm, ⟨52, _⟩ => ⟨S72, .i32⟩
  | .hbm, ⟨53, _⟩ => ⟨S72, .i1⟩
  | .hbm, ⟨54, _⟩ => ⟨S72x1x1, .i1⟩
  | .hbm, ⟨55, _⟩ => ⟨S_, .f32⟩
  | .hbm, ⟨56, _⟩ => ⟨S_, .f32⟩
  | .hbm, ⟨57, _⟩ => ⟨S72x512x3072, .i1⟩
  | .hbm, ⟨58, _⟩ => ⟨S72x512x3072, .f32⟩
  | .hbm, ⟨59, _⟩ => ⟨S72x512x3072, .f32⟩
  | .hbm, ⟨60, _⟩ => ⟨S36864x3072, .f32⟩
  | .hbm, ⟨61, _⟩ => ⟨S36864x3072, .bf16⟩
  | _, _ => ⟨S16384x40x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_3 : Ref sig .tc := ⟨.hbm, 29, rfl⟩
abbrev main_v19 : Ref sig .tc := ⟨.hbm, 30, rfl⟩
abbrev main_v20 : Ref sig .tc := ⟨.hbm, 31, rfl⟩
abbrev main_c_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩

abbrev nD : Nat := 1
abbrev τ : Topo := Topo.v7x

variable {F : FTy → Type} [FloatOps F]
-- ==== Ada.lean ====
abbrev S8x4096 : Shape := ⟨2, ![8, 4096]⟩
abbrev S2x4096x24576 : Shape := ⟨3, ![2, 4096, 24576]⟩
abbrev S2x24576 : Shape := ⟨2, ![2, 24576]⟩
abbrev S2x1x24576 : Shape := ⟨3, ![2, 1, 24576]⟩
abbrev S2x8x24576 : Shape := ⟨3, ![2, 8, 24576]⟩
abbrev S1x4096x1024 : Shape := ⟨3, ![1, 4096, 1024]⟩
abbrev S1x1x1024 : Shape := ⟨3, ![1, 1, 1024]⟩
abbrev S1x8x1024 : Shape := ⟨3, ![1, 8, 1024]⟩
abbrev S4096x1024 : Shape := ⟨2, ![4096, 1024]⟩
abbrev S8x1024 : Shape := ⟨2, ![8, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8x4096, .f32⟩
  | .hbm, ⟨1, _⟩ => ⟨S2x4096x24576, .f32⟩
  | .hbm, ⟨2, _⟩ => ⟨S2x24576, .f32⟩
  | .hbm, ⟨3, _⟩ => ⟨S2x1x24576, .f32⟩
  | .hbm, ⟨4, _⟩ => ⟨S2x8x24576, .f32⟩
  | .local _ .vmem, ⟨0, _⟩ => ⟨S8x4096, .f32⟩
  | .local _ .vmem, ⟨1, _⟩ => ⟨S1x4096x1024, .f32⟩
  | .local _ .vmem, ⟨2, _⟩ => ⟨S1x4096x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | _, _ => ⟨S8x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 24], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x4096x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AdaRefIdeal.lean ====
abbrev S8x4096 : Shape := ⟨2, ![8, 4096]⟩
abbrev S2x4096x24576 : Shape := ⟨3, ![2, 4096, 24576]⟩
abbrev S2x24576 : Shape := ⟨2, ![2, 24576]⟩
abbrev S_ : Shape := ⟨0, ![]⟩
abbrev S8x2x24576 : Shape := ⟨3, ![8, 2, 24576]⟩
abbrev S2x8x24576 : Shape := ⟨3, ![2, 8, 24576]⟩
abbrev S2x1x24576 : Shape := ⟨3, ![2, 1, 24576]⟩

abbrev nBuf : Space → Nat
  | .hbm => 17
  | .vmem => 0
  | .smem => 0
  | _ => 0

abbrev bufTy : (tb : Table) → Fin (tcTables nBuf tb) → BufTy
  | .hbm, ⟨0, _⟩ => ⟨S8x4096, .f32⟩
  | .hbm, ⟨1, _⟩ => ⟨S2x4096x24576, .f32⟩
  | .hbm, ⟨2, _⟩ => ⟨S2x24576, .f32⟩
  | .hbm, ⟨3, _⟩ => ⟨S8x4096, .f32⟩
  | .hbm, ⟨4, _⟩ => ⟨S8x4096, .f32⟩
  | .hbm, ⟨5, _⟩ => ⟨S_, .f32⟩
  | .hbm, ⟨6, _⟩ => ⟨S8x4096, .f32⟩
  | .hbm, ⟨7, _⟩ => ⟨S8x4096, .f32⟩
  | .hbm, ⟨8, _⟩ => ⟨S_, .f32⟩
  | .hbm, ⟨9, _⟩ => ⟨S8x4096, .f32⟩
  | .hbm, ⟨10, _⟩ => ⟨S8x4096, .f32⟩
  | .hbm, ⟨11, _⟩ => ⟨S8x4096, .f32⟩
  | .hbm, ⟨12, _⟩ => ⟨S8x2x24576, .f32⟩
  | .hbm, ⟨13, _⟩ => ⟨S2x8x24576, .f32⟩
  | .hbm, ⟨14, _⟩ => ⟨S2x1x24576, .f32⟩
  | .hbm, ⟨15, _⟩ => ⟨S2x8x24576, .f32⟩
  | .hbm, ⟨16, _⟩ => ⟨S2x8x24576, .f32⟩
  | _, _ => ⟨S8x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Norm.lean ====
abbrev S16384x4096 : Shape := ⟨2, ![16384, 4096]⟩
abbrev S4096 : Shape := ⟨1, ![4096]⟩
abbrev S8x1x24576 : Shape := ⟨3, ![8, 1, 24576]⟩
abbrev S1x4096 : Shape := ⟨2, ![1, 4096]⟩
abbrev S256x4096 : Shape := ⟨2, ![256, 4096]⟩
abbrev S1x1x4096 : Shape := ⟨3, ![1, 1, 4096]⟩
abbrev S256 : Shape := ⟨1, ![256]⟩
abbrev S256x1 : Shape := ⟨2, ![256, 1]⟩

abbrev nBuf : Space → Nat
  | .hbm => 5
  | .vmem => 9
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S8x1x24576, .f32⟩
  | .hbm, ⟨3, _⟩ => ⟨S1x4096, .f32⟩
  | .hbm, ⟨4, _⟩ => ⟨S16384x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x1x4096, .f32⟩
  | .local _ .vmem, ⟨7, _⟩ => ⟨S256x4096, .bf16⟩
  | .local _ .vmem, ⟨8, _⟩ => ⟨S256x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c1_i32_5 : BitVec 32 := 1#32
  let c0_i32_6 : BitVec 32 := 0#32
  ![v16.toNat, c0_i32_4.toNat, c1_i32_5.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormRefIdeal.lean ====
abbrev S16384x4096 : Shape := ⟨2, ![16384, 4096]⟩
abbrev S4096 : Shape := ⟨1, ![4096]⟩
abbrev S8x1x24576 : Shape := ⟨3, ![8, 1, 24576]⟩
abbrev S8x2048x4096 : Shape := ⟨3, ![8, 2048, 4096]⟩
abbrev S8x1x4096 : Shape := ⟨3, ![8, 1, 4096]⟩
abbrev S_ : Shape := ⟨0, ![]⟩
abbrev S8x2048 : Shape := ⟨2, ![8, 2048]⟩
abbrev S8x2048x1 : Shape := ⟨3, ![8, 2048, 1]⟩
abbrev S1x1x4096 : Shape := ⟨3, ![1, 1, 4096]⟩

abbrev nBuf : Space → Nat
  | .hbm => 35
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S8x1x24576, .f32⟩
  | .hbm, ⟨3, _⟩ => ⟨S8x2048x4096, .f32⟩
  | .hbm, ⟨4, _⟩ => ⟨S8x1x4096, .f32⟩
  | .hbm, ⟨5, _⟩ => ⟨S8x1x4096, .f32⟩
  | .hbm, ⟨6, _⟩ => ⟨S8x1x4096, .f32⟩
  | .hbm, ⟨7, _⟩ => ⟨S8x1x4096, .f32⟩
  | .hbm, ⟨8, _⟩ => ⟨S8x1x4096, .f32⟩
  | .hbm, ⟨9, _⟩ => ⟨S8x1x4096, .f32⟩
  | .hbm, ⟨10, _⟩ => ⟨S8x2048x4096, .f32⟩
  | .hbm, ⟨11, _⟩ => ⟨S_, .f32⟩
  | .hbm, ⟨12, _⟩ => ⟨S8x2048, .f32⟩
  | .hbm, ⟨13, _⟩ => ⟨S8x2048x1, .f32⟩
  | .hbm, ⟨14, _⟩ => ⟨S_, .f32⟩
  | .hbm, ⟨15, _⟩ => ⟨S8x2048x1, .f32⟩
  | .hbm, ⟨16, _⟩ => ⟨S8x2048x1, .f32⟩
  | .hbm, ⟨17, _⟩ => ⟨S_, .f32⟩
  | .hbm, ⟨18, _⟩ => ⟨S8x2048x1, .f32⟩
  | .hbm, ⟨19, _⟩ => ⟨S8x2048x1, .f32⟩
  | .hbm, ⟨20, _⟩ => ⟨S8x2048x1, .f32⟩
  | .hbm, ⟨21, _⟩ => ⟨S8x2048x4096, .f32⟩
  | .hbm, ⟨22, _⟩ => ⟨S8x2048x4096, .f32⟩
  | .hbm, ⟨23, _⟩ => ⟨S1x1x4096, .f32⟩
  | .hbm, ⟨24, _⟩ => ⟨S8x2048x4096, .f32⟩
  | .hbm, ⟨25, _⟩ => ⟨S8x2048x4096, .f32⟩
  | .hbm, ⟨26, _⟩ => ⟨S_, .f32⟩
  | .hbm, ⟨27, _⟩ => ⟨S8x1x4096, .f32⟩
  | .hbm, ⟨28, _⟩ => ⟨S8x1x4096, .f32⟩
  | .hbm, ⟨29, _⟩ => ⟨S8x2048x4096, .f32⟩
  | .hbm, ⟨30, _⟩ => ⟨S8x2048x4096, .f32⟩
  | .hbm, ⟨31, _⟩ => ⟨S8x2048x4096, .f32⟩
  | .hbm, ⟨32, _⟩ => ⟨S8x2048x4096, .f32⟩
  | .hbm, ⟨33, _⟩ => ⟨S16384x4096, .f32⟩
  | .hbm, ⟨34, _⟩ => ⟨S16384x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩

abbrev nD : Nat := 1
abbrev τ : Topo := Topo.v7x

variable {F : FTy → Type} [FloatOps F]
-- ==== Proof.Common.lean ====
/-
  Facts shared by the calls: a matrix product from a zero accumulator read at an entry, zero offsets, and an equality of
  functions of finite indices by values.
-/
module

public import Idealize.ShloMosaic.Lib.MatmulPlain
public import Idealize.ShloMosaic.Lib.Pipeline.Value
public import Idealize.ShloMosaic.Lib.IdealHost

@[expose] public section

noncomputable section

namespace Cert.Common

open Idealize.ShloMosaic Idealize.ShloMosaic.ValueIdx

/-- Two indices of a matrix agree when their coordinates do. -/
theorem idx2_ext {A B : ℕ} {x y : (⟨2, ![A, B]⟩ : Shape).Idx} (h0 : (x 0).val = (y 0).val) (h1 : (x 1).val = (y 1).val) : x = y := by
  funext a; apply Fin.ext
  match a with
  | ⟨0, _⟩ => exact h0
  | ⟨1, _⟩ => exact h1

/-- Two indices of an array of three axes agree when their coordinates do. -/
theorem idx3_ext {A B C : ℕ} {x y : (⟨3, ![A, B, C]⟩ : Shape).Idx} (h0 : (x 0).val = (y 0).val) (h1 : (x 1).val = (y 1).val)
    (h2 : (x 2).val = (y 2).val) : x = y := by
  funext a; apply Fin.ext
  match a with
  | ⟨0, _⟩ => exact h0
  | ⟨1, _⟩ => exact h1
  | ⟨2, _⟩ => exact h2

/-- An entry of the zero splat is zero. -/
theorem zero_apply (s : Shape) (i : s.Idx) : constant (F := Ideal) s .f32 0x00000000#32 i = (0 : EReal) := Ideal.ofBits_zero_f32

/-- An entry of a matrix product into zeros: the row times the column. -/
theorem matmul_zero_apply {M K N : ℕ} {φ₁ φ₂ : FTy} (a : FVec Ideal ⟨2, ![M, K]⟩ φ₁) (w : FVec Ideal ⟨2, ![K, N]⟩ φ₂)
    (r : Fin M) (q : Fin N) :
    FloatOps.matmul (DotDims.plain M K N) none a w (constant _ .f32 0x00000000#32) (ix2 r q)
      = ∑ k : Fin K, (a (ix2 r k) : EReal) * (w (ix2 k q) : EReal) := by
  rw [Ideal.matmul_plain_apply, zero_apply, zero_add]

/-- An entry of a matrix product into zeros whose right factor carries a leading axis of one row. -/
theorem matmul_dropUnit_apply {M K N : ℕ} {φ₁ φ₂ : FTy} (a : FVec Ideal ⟨2, ![M, K]⟩ φ₁) (w : FVec Ideal ⟨3, ![1, K, N]⟩ φ₂)
    (h : (⟨3, ![1, K, N]⟩ : Shape).ShapeCasts ⟨2, ![K, N]⟩) (r : Fin M) (q : Fin N) :
    FloatOps.matmul (φ₂ := φ₂) (DotDims.plain M K N) none a (shapeCast ⟨2, ![K, N]⟩ w h) (constant _ .f32 0x00000000#32) (ix2 r q)
      = ∑ k : Fin K, (a (ix2 r k) : EReal) * (w (ix3 (0 : Fin 1) k q) : EReal) := by
  rw [matmul_zero_apply]
  refine Finset.sum_congr rfl fun k _ => congrArg ((a (ix2 r k) : EReal) * ·) ?_
  exact (shapeCast_dropUnit_apply ![K, N] w h (ix2 k q)).trans (congrArg w (idx3_ext rfl rfl rfl))

/-- Offsets that are all zero, on two axes. -/
theorem zero2 : (![0, 0] : Fin 2 → Nat) = fun _ => 0 := funext fun a => by fin_cases a <;> rfl

/-- Offsets that are all zero, on three axes. -/
theorem zero3 : (![0, 0, 0] : Fin 3 → Nat) = fun _ => 0 := funext fun a => by fin_cases a <;> rfl

/-- The logistic function. -/
def sigmoid (x : EReal) : EReal := FloatOps.logistic (F := Ideal) (φ := .f32) x

/-- The host's quotient of one by one plus the exponential of the negated argument is the logistic function. -/
theorem host_sigmoid (x : EReal) :
    FloatOps.hostDivf (F := Ideal) (φ := .f32) (FloatOps.ofBits .f32 0x3F800000#32)
      (FloatOps.addf (F := Ideal) (φ := .f32) (FloatOps.ofBits .f32 0x3F800000#32)
        (FloatOps.hostUnary (F := Ideal) (φ := .f32) .exp (FloatOps.hostNegf (F := Ideal) (φ := .f32) x))) = sigmoid x := by
  show Ideal.div (Ideal.ofBits .f32 0x3F800000#32) (Ideal.ofBits .f32 0x3F800000#32 + Ideal.exp (-x)) = Ideal.div 1 (1 + Ideal.exp (-x))
  rw [Ideal.ofBits_one_f32]

/-- One row carrying a leading axis, spread over all rows of a matrix: every entry is the row's at its column. -/
theorem row_spread_apply {M N : ℕ} (hN : N ≠ 1) (g : FVec Ideal ⟨3, ![1, 1, N]⟩ .f32) (h : (⟨3, ![1, 1, N]⟩ : Shape).ShapeCasts ⟨2, ![1, N]⟩)
    (hb : (⟨2, ![1, N]⟩ : Shape).Broadcasts ⟨2, ![M, N]⟩) (r : Fin M) (q : Fin N) :
    broadcastTo ⟨2, ![M, N]⟩ (shapeCast ⟨2, ![1, N]⟩ g h) hb (ix2 r q) = g (ix3 (0 : Fin 1) (0 : Fin 1) q) := by
  refine (broadcastTo_apply _ hb (ix2 r q) (ix2 (0 : Fin 1) q) ?_).trans
    ((shapeCast_dropUnit_apply ![1, N] g h (ix2 (0 : Fin 1) q)).trans (congrArg g (idx3_ext rfl rfl rfl)))
  intro a
  match a with
  | ⟨0, _⟩ => rfl
  | ⟨1, _⟩ => exact (if_neg hN).symm

/-- The gated residual: `x + g · p`. -/
def resid (x g p : EReal) : EReal := x + g * p

/-- Gated residuals of equal values are equal. -/
theorem resid_congr {x x' g g' p p' : EReal} (hx : x = x') (hg : g = g') (hp : p = p') : resid x g p = resid x' g' p' := by
  rw [hx, hg, hp]

end Cert.Common

end
-- ==== Proof.SbTile.lean ====
/- The stick-breaking kernel's tiles named: one head's step over a key tile below the diagonal and over the diagonal tile, and
   the block the kernel stores as the fold of those steps. -/
module

public import proofs.«01_k».proof.Proof.Gen.SbIdeal.Value
public import proofs.«01_k».proof.Proof.Common
public import Idealize.ShloMosaic.Lib.Pipeline.ValueKit.Tiles

@[expose] public section

set_option maxRecDepth 16384

noncomputable section

namespace Cert.SbIdeal.Tile

open Cert.SbIdeal Cert.SbIdeal.Gen Idealize.ShloMosaic Idealize.ShloMosaic.ValueIdx Idealize.ShloMosaic.TcCoe Idealize.ShloMosaic.Tactic

variable {F : FTy → Type} [FloatOps F]

/-- The scaled scores of a query tile against a key tile. -/
def scores (q k : Vec F S256x128 .bf16) : FVec F S256x256 .f32 :=
  mulf (matmul dot_S256x128_S256x128_S256x256_1_1_0_0_n_n none q k (constant S256x256 .f32 0x00000000#32))
    (broadcast S256x256 (Scalar.ofBits .f32 0x3DB504F3#32))

/-- The logarithm of the sigmoid, as the kernel computes it. -/
def logBeta (z : FVec F S256x256 .f32) : FVec F S256x256 .f32 :=
  subf (minimumf z (broadcast S256x256 (Scalar.ofBits .f32 0x00000000#32)))
    (log (addf (broadcast S256x256 (Scalar.ofBits .f32 0x3F800000#32))
      (exp (subf (broadcast S256x256 (Scalar.ofBits .f32 0x00000000#32)) (absf z)))))

/-- The logarithm of what a key leaves of the stick. -/
def logKeep (z : FVec F S256x256 .f32) : FVec F S256x256 .f32 := subf (logBeta z) z

/-- … on the diagonal tile, where only keys strictly below the diagonal count. -/
def maskedKeep (below : IVec S256x256 1) (z : FVec F S256x256 .f32) : FVec F S256x256 .f32 :=
  select below (logKeep z) (broadcast S256x256 (Scalar.ofBits .f32 0x00000000#32))

/-- What the keys later than each key leave of the stick: those of the tile, by products of the two halves with the strict
    triangle, and those of the tiles before, by the carry. -/
def after (later : FVec F S256x256 .bf16) (lk : FVec F S256x256 .f32) (car : FVec F S256x1 .f32) : FVec F S256x256 .f32 :=
  addf (addf
      (matmul dot_S256x256_S256x256_S256x256_1_0_0_1_n_n none (truncf .bf16 lk bitsLt_bf16_f32) later
        (constant S256x256 .f32 0x00000000#32))
      (matmul dot_S256x256_S256x256_S256x256_1_0_0_1_n_n none
        (truncf .bf16 (subf lk (extf .f32 (truncf .bf16 lk bitsLt_bf16_f32) bitsLt_bf16_f32)) bitsLt_bf16_f32) later
        (constant S256x256 .f32 0x00000000#32)))
    (broadcastTo S256x256 car broadcasts_S256x1_S256x256)

/-- The carry with a tile's row sums added. -/
def carry (car : FVec F S256x1 .f32) (lk : FVec F S256x256 .f32) : FVec F S256x1 .f32 :=
  addf car (shapeCast S256x1 (multiReduction .add [1] S256 lk 0x00000000#32 reduces_S256x256_S256 (.inl rfl) rfl)
    shapeCasts_S256_S256x1)

/-- The accumulator with a tile's weighted values added. -/
def gather (acc : FVec F S256x128 .f32) (w : FVec F S256x256 .f32) (v : Vec F S256x128 .bf16) : FVec F S256x128 .f32 :=
  addf acc (matmul dot_S256x256_S256x128_S256x128_1_0_0_1_n_n none (truncf .bf16 w bitsLt_bf16_f32) v
    (constant S256x128 .f32 0x00000000#32))

/-- The weights of a tile below the diagonal. -/
def weights (later : FVec F S256x256 .bf16) (z : FVec F S256x256 .f32) (car : FVec F S256x1 .f32) : FVec F S256x256 .f32 :=
  exp (addf (logBeta z) (after later (logKeep z) car))

/-- The weights of the diagonal tile. -/
def maskedWeights (later : FVec F S256x256 .bf16) (below : IVec S256x256 1) (z : FVec F S256x256 .f32)
    (car : FVec F S256x1 .f32) : FVec F S256x256 .f32 :=
  select below (exp (addf (logBeta z) (after later (maskedKeep below z) car)))
    (broadcast S256x256 (Scalar.ofBits .f32 0x00000000#32))

/-- One head's state: the accumulated values and the carry. -/
abbrev Head (F : FTy → Type) [FloatOps F] := FVec F S256x128 .f32 × FVec F S256x1 .f32

/-- One head's step over a tile below the diagonal. -/
def step (later : FVec F S256x256 .bf16) (q k v : Vec F S256x128 .bf16) (s : Head F) : Head F :=
  (gather s.1 (weights later (scores q k) s.2) v, carry s.2 (logKeep (scores q k)))

/-- One head's step over the diagonal tile, from nothing. -/
def first (later : FVec F S256x256 .bf16) (below : IVec S256x256 1) (q k v : Vec F S256x128 .bf16) : Head F :=
  (gather (k0_pay73 (F := F)) (maskedWeights later below (scores q k) (k0_pay74 (F := F))) v,
    carry (k0_pay74 (F := F)) (maskedKeep below (scores q k)))

/-- The four heads' states side by side, as the kernel's loop carries them. -/
abbrev pack (a b c d : Head F) : FVec F S256x128 .f32 × FVec F S256x1 .f32 × FVec F S256x128 .f32 × FVec F S256x1 .f32 ×
    FVec F S256x128 .f32 × FVec F S256x1 .f32 × FVec F S256x128 .f32 × FVec F S256x1 .f32 :=
  (a.1, a.2, b.1, b.2, c.1, c.2, d.1, d.2)

/-- The main loop makes one trip per key tile before the diagonal one. -/
theorem trips_main (i : grid0.Coords) : (k0_t1_loop i).trips = (i 2).val :=
  (by decide +kernel : ∀ q : Fin 8, Scf.trips (1#32)
    (Scalar.addi 1#32 (Scalar.muli (Scalar.divsi (Scalar.subi (Scalar.addi (BitVec.ofNat 32 q.val) 1#32) 1#32) 1#32) 1#32)) 1#32 = q.val) (i 2)

/-- The loop of leftover trips makes none. -/
theorem trips_rest (i : grid0.Coords) : (k0_t2_loop i).trips = 0 :=
  (by decide +kernel : ∀ q : Fin 8, Scf.trips
    (Scalar.addi 1#32 (Scalar.muli (Scalar.divsi (Scalar.subi (Scalar.addi (BitVec.ofNat 32 q.val) 1#32) 1#32) 1#32) 1#32))
    (Scalar.addi 1#32 (Scalar.subi (Scalar.addi (BitVec.ofNat 32 q.val) 1#32) 1#32)) 1#32 = 0) (i 2)

/-- The row a trip's key tile starts at. -/
theorem row_main : ∀ (q k : Fin 8), k < q →
    (Scalar.indexCast (Scalar.muli (Scalar.subi (BitVec.ofNat 32 q.val) (Scf.iv 1#32 1#32 k.val)) 256#32)).toNat
      = 256 * (q.val - (k.val + 1)) := by decide +kernel

/-- The row the diagonal tile starts at. -/
theorem row_diag : ∀ q : Fin 8, (Scalar.indexCast (Scalar.muli (BitVec.ofNat 32 q.val) 256#32)).toNat = 256 * q.val := by
  decide +kernel

/-- Key tile `j` of head `h` of a staged block of four heads. -/
def tileAt (x : Vec F S2048x512 .bf16) (h : Fin 4) (j : ℕ) : Vec F S256x128 .bf16 := fun y =>
  x (ix2 (⟨(256 * j + (y 0).val) % 2048, Nat.mod_lt _ (by decide)⟩ : Fin 2048)
    (⟨128 * h.val + (y 1).val, by have := h.isLt; have : (y 1).val < 128 := (y 1).isLt; omega⟩ : Fin 512))

/-- Head `h` of a staged query block of four heads. -/
def queryAt (x : Vec F S256x512 .bf16) (h : Fin 4) : Vec F S256x128 .bf16 := fun y =>
  x (ix2 (⟨(y 0).val, (y 0).isLt⟩ : Fin 256)
    (⟨128 * h.val + (y 1).val, by have := h.isLt; have : (y 1).val < 128 := (y 1).isLt; omega⟩ : Fin 512))

/-- A load at a tile's first row and a head's first column reads the head's tile. -/
theorem load_tile (x : Vec F S2048x512 .bf16) (off : Fin 2 → ℕ) (inb : ∀ a, off a + S256x128.size a ≤ S2048x512.size a)
    (h : Fin 4) (j : ℕ) (h0 : off 0 = 256 * j) (h1 : off 1 = 128 * h.val) :
    View.ld x (Rect.unit (s := S2048x512) off S256x128.size inb) = tileAt x h j := by
  funext y
  refine View.ld_unit_apply_of x off S256x128.size inb y _ fun a => ?_
  have b0 : off 0 + 256 ≤ 2048 := inb 0
  have y0 : (y 0).val < 256 := (y 0).isLt
  match a with
  | ⟨0, _⟩ => show (256 * j + (y 0).val) % 2048 = off 0 + (y 0).val; rw [Nat.mod_eq_of_lt (by omega), h0]
  | ⟨1, _⟩ => show 128 * h.val + (y 1).val = off 1 + (y 1).val; rw [h1]

/-- A load at a head's first column of the query block reads the head's queries. -/
theorem load_query (x : Vec F S256x512 .bf16) (off : Fin 2 → ℕ) (inb : ∀ a, off a + S256x128.size a ≤ S256x512.size a)
    (h : Fin 4) (h0 : off 0 = 0) (h1 : off 1 = 128 * h.val) :
    View.ld x (Rect.unit (s := S256x512) off S256x128.size inb) = queryAt x h := by
  funext y
  refine View.ld_unit_apply_of x off S256x128.size inb y _ fun a => ?_
  match a with
  | ⟨0, _⟩ => show (y 0).val = off 0 + (y 0).val; rw [h0, Nat.zero_add]
  | ⟨1, _⟩ => show 128 * h.val + (y 1).val = off 1 + (y 1).val; rw [h1]

/-- One head's state after the diagonal tile and `n` tiles before it, at query tile `qi`. -/
def headRun (x0 : Vec F S256x512 .bf16) (x1 x2 : Vec F S2048x512 .bf16) (h : Fin 4) (qi : ℕ) : ℕ → Head F
  | 0 => first (k0_pay71 (F := F)) k0_pay72 (queryAt x0 h) (tileAt x1 h qi) (tileAt x2 h qi)
  | n + 1 => step (k0_pay71 (F := F)) (queryAt x0 h) (tileAt x1 h (qi - (n + 1))) (tileAt x2 h (qi - (n + 1)))
      (headRun x0 x1 x2 h qi n)

/-- What a load of a tile of a whole staging buffer reads. -/
abbrev tileLoad (x : Vec F S2048x512 .bf16) (off : Fin 2 → ℕ) (inb : ∀ a, off a + S256x128.size a ≤ S2048x512.size a) :
    Vec F S256x128 .bf16 := View.ld x (Rect.unit (s := S2048x512) off S256x128.size inb)

/-- What a load of one head's columns of the query block reads. -/
abbrev queryLoad (x : Vec F S256x512 .bf16) (off : Fin 2 → ℕ) (inb : ∀ a, off a + S256x128.size a ≤ S256x512.size a) :
    Vec F S256x128 .bf16 := View.ld x (Rect.unit (s := S256x512) off S256x128.size inb)

/-- One trip of the loop steps each of the four heads. -/
theorem trip_eq (𝒱 : Variants) (c : Dev nD) (bd : Option 𝒱.V) (i : grid0.Coords) (arg3 : Memref sig .tc .vmem S256x512 .bf16)
    (harg3 : arg3.IsWhole) (arg4 : Memref sig .tc .vmem S2048x512 .bf16) (harg4 : arg4.IsWhole)
    (arg5 : Memref sig .tc .vmem S2048x512 .bf16) (harg5 : arg5.IsWhole) (arg6 : Memref sig .tc .vmem S256x512 .bf16)
    (harg6 : arg6.IsWhole) (arg2 : BitVec 32) (v5 : FVec F S256x256 .bf16) (v7 v8 v9 v10 : Vec F S256x128 .bf16)
    (one : BitVec 32) (X4 : BufTy.Contents (Elt F) arg4.view.ty) (X5 : BufTy.Contents (Elt F) arg5.view.ty)
    (k : Fin (k0_t1_loop i).trips) (a b d e : Head F) :
    tripR_k0_t1 (F := F) 𝒱 c bd i arg3 harg3 arg4 harg4 arg5 harg5 arg6 harg6 arg2 v5 v7 v8 v9 v10 one X4 X5 k (pack a b d e)
      = pack
        (step v5 v7 (tileLoad (arg4.view.read (Elt F) X4) (k0_off5 i k) (k0_off5_inb i k))
          (tileLoad (arg5.view.read (Elt F) X5) (k0_off5 i k) (k0_off5_inb i k)) a)
        (step v5 v8 (tileLoad (arg4.view.read (Elt F) X4) (k0_off6 i k) (k0_off6_inb i k))
          (tileLoad (arg5.view.read (Elt F) X5) (k0_off6 i k) (k0_off6_inb i k)) b)
        (step v5 v9 (tileLoad (arg4.view.read (Elt F) X4) (k0_off7 i k) (k0_off7_inb i k))
          (tileLoad (arg5.view.read (Elt F) X5) (k0_off7 i k) (k0_off7_inb i k)) d)
        (step v5 v10 (tileLoad (arg4.view.read (Elt F) X4) (k0_off8 i k) (k0_off8_inb i k))
          (tileLoad (arg5.view.read (Elt F) X5) (k0_off8 i k) (k0_off8_inb i k)) e) := by
  unfold tripR_k0_t1
  unfold trip_k0_t1
  rfl

section block

variable (c : Dev nD) (i : grid0.Coords) (arg3 : Memref sig .tc .vmem S256x512 .bf16)
    (harg3 : arg3.IsWhole) (arg4 : Memref sig .tc .vmem S2048x512 .bf16) (harg4 : arg4.IsWhole)
    (arg5 : Memref sig .tc .vmem S2048x512 .bf16) (harg5 : arg5.IsWhole) (arg6 : Memref sig .tc .vmem S256x512 .bf16)
    (harg6 : arg6.IsWhole) (x0 : Vec F S256x512 .bf16) (x1 x2 : Vec F S2048x512 .bf16)

/-- The four heads' states over the diagonal tile. -/
def initial :=
  pack
    (first (k0_pay71 (F := F)) k0_pay72 (queryLoad x0 ![0, 0] inb_S256x512_S256x128_0_0)
      (tileLoad x1 (k0_off1 i) (k0_off1_inb i)) (tileLoad x2 (k0_off1 i) (k0_off1_inb i)))
    (first (k0_pay71 (F := F)) k0_pay72 (queryLoad x0 ![0, 128] inb_S256x512_S256x128_0_128)
      (tileLoad x1 (k0_off2 i) (k0_off2_inb i)) (tileLoad x2 (k0_off2 i) (k0_off2_inb i)))
    (first (k0_pay71 (F := F)) k0_pay72 (queryLoad x0 ![0, 256] inb_S256x512_S256x128_0_256)
      (tileLoad x1 (k0_off3 i) (k0_off3_inb i)) (tileLoad x2 (k0_off3 i) (k0_off3_inb i)))
    (first (k0_pay71 (F := F)) k0_pay72 (queryLoad x0 ![0, 384] inb_S256x512_S256x128_0_384)
      (tileLoad x1 (k0_off4 i) (k0_off4_inb i)) (tileLoad x2 (k0_off4 i) (k0_off4_inb i)))

/-- The four heads' states before trip `n` of the loop. -/
def before (n : ℕ) :=
  st_k0_t1 Variants.none c none i arg3 harg3 arg4 harg4 arg5 harg5 arg6 harg6 (BitVec.ofNat 32 (i 2).val) (k0_pay71 (F := F))
    (queryLoad x0 ![0, 0] inb_S256x512_S256x128_0_0) (queryLoad x0 ![0, 128] inb_S256x512_S256x128_0_128)
    (queryLoad x0 ![0, 256] inb_S256x512_S256x128_0_256) (queryLoad x0 ![0, 384] inb_S256x512_S256x128_0_384)
    1#32 (harg4.unread x1) (harg5.unread x2) (initial i x0 x1 x2) n

/-- The values the four heads enter the loop with, and what the block holds at the end, by the generated run. -/
theorem out_eq :
    out0_A_3 c i arg3 harg3 arg4 harg4 arg5 harg5 arg6 harg6 x0 x1 x2
      = View.canon (Val := Elt F) [
        ⟨Rect.unit (s := S256x512) ![0, 384] S256x128.size inb_S256x512_S256x128_0_384,
          k0_pay8 (before c i arg3 harg3 arg4 harg4 arg5 harg5 arg6 harg6 x0 x1 x2 (k0_t1_loop i).trips).2.2.2.2.2.2.1⟩,
        ⟨Rect.unit (s := S256x512) ![0, 256] S256x128.size inb_S256x512_S256x128_0_256,
          k0_pay7 (before c i arg3 harg3 arg4 harg4 arg5 harg5 arg6 harg6 x0 x1 x2 (k0_t1_loop i).trips).2.2.2.2.1⟩,
        ⟨Rect.unit (s := S256x512) ![0, 128] S256x128.size inb_S256x512_S256x128_0_128,
          k0_pay6 (before c i arg3 harg3 arg4 harg4 arg5 harg5 arg6 harg6 x0 x1 x2 (k0_t1_loop i).trips).2.2.1⟩,
        ⟨Rect.unit (s := S256x512) ![0, 0] S256x128.size inb_S256x512_S256x128_0_0,
          k0_pay5 (before c i arg3 harg3 arg4 harg4 arg5 harg5 arg6 harg6 x0 x1 x2 (k0_t1_loop i).trips).1⟩] := by
  have hno : ∀ X q0 q1 q2 q3 v s, st_k0_t2 (F := F) Variants.none c none i arg3 harg3 arg4 harg4 arg5 harg5 arg6 harg6
      (BitVec.ofNat 32 (i 2).val) (k0_pay71 (F := F)) q0 q1 q2 q3 v (harg4.unread x1) (harg5.unread x2) X s = X :=
    fun X q0 q1 q2 q3 v s => by
      induction s with
      | zero => rfl
      | succ s ih =>
        show st_k0_t2Step Variants.none c none i arg3 harg3 arg4 harg4 arg5 harg5 arg6 harg6 _ _ _ _ _ _ _ _ _ X s _ = X
        rw [ih]
        unfold st_k0_t2Step
        rw [dif_neg (by rw [trips_rest]; exact Nat.not_lt_zero s)]
  have hb : ∀ n, before c i arg3 harg3 arg4 harg4 arg5 harg5 arg6 harg6 x0 x1 x2 n =
     st_k0_t1 Variants.none c none i arg3 harg3 arg4 harg4 arg5 harg5 arg6 harg6 (BitVec.ofNat 32 (i 2).val) (k0_pay71 (F := F))
    (View.readAt (Elt F) arg3.view (Rect.unit (s := S256x512) ![0, 0] S256x128.size inb_S256x512_S256x128_0_0).toLoadRect (harg3.unread x0))
    (View.readAt (Elt F) arg3.view (Rect.unit (s := S256x512) ![0, 128] S256x128.size inb_S256x512_S256x128_0_128).toLoadRect (harg3.unread x0))
    (View.readAt (Elt F) arg3.view (Rect.unit (s := S256x512) ![0, 256] S256x128.size inb_S256x512_S256x128_0_256).toLoadRect (harg3.unread x0))
    (View.readAt (Elt F) arg3.view (Rect.unit (s := S256x512) ![0, 384] S256x128.size inb_S256x512_S256x128_0_384).toLoadRect (harg3.unread x0))
    1#32 (harg4.unread x1) (harg5.unread x2) (initial i (arg3.view.read (Elt F) (harg3.unread x0)) (arg4.view.read (Elt F) (harg4.unread x1)) (arg5.view.read (Elt F) (harg5.unread x2))) n := by
    intro n
    simp only [View.readAt_eq_ld, harg3.read_unread, harg4.read_unread, harg5.read_unread]
    rfl
  simp only [hb]
  unfold out0_A_3
  rw [View.read_writes_junk_eq_canon]
  unfold kernelRun0_A
  dsimp only
  sl_unfold_words
  simp only [hno]
  rfl

/-- The loop's carried value is the four heads' states. -/
theorem before_eq (n : ℕ) (hn : n ≤ (i 2).val) :
    before c i arg3 harg3 arg4 harg4 arg5 harg5 arg6 harg6 x0 x1 x2 n
      = pack (headRun x0 x1 x2 0 (i 2).val n) (headRun x0 x1 x2 1 (i 2).val n) (headRun x0 x1 x2 2 (i 2).val n)
        (headRun x0 x1 x2 3 (i 2).val n) := by
  have q0 := load_query x0 ![0, 0] inb_S256x512_S256x128_0_0 0 rfl rfl
  have q1 := load_query x0 ![0, 128] inb_S256x512_S256x128_0_128 1 rfl rfl
  have q2 := load_query x0 ![0, 256] inb_S256x512_S256x128_0_256 2 rfl rfl
  have q3 := load_query x0 ![0, 384] inb_S256x512_S256x128_0_384 3 rfl rfl
  induction n with
  | zero =>
    have d0 := fun x : Vec F S2048x512 .bf16 => load_tile x (k0_off1 i) (k0_off1_inb i) 0 (i 2).val (row_diag (i 2)) rfl
    have d1 := fun x : Vec F S2048x512 .bf16 => load_tile x (k0_off2 i) (k0_off2_inb i) 1 (i 2).val (row_diag (i 2)) rfl
    have d2 := fun x : Vec F S2048x512 .bf16 => load_tile x (k0_off3 i) (k0_off3_inb i) 2 (i 2).val (row_diag (i 2)) rfl
    have d3 := fun x : Vec F S2048x512 .bf16 => load_tile x (k0_off4 i) (k0_off4_inb i) 3 (i 2).val (row_diag (i 2)) rfl
    show initial i x0 x1 x2 = _
    unfold initial tileLoad queryLoad
    rw [q0, q1, q2, q3]
    simp only [d0, d1, d2, d3]
    rfl
  | succ n ih =>
    have hk : n < (k0_t1_loop i).trips := by rw [trips_main]; exact hn
    have hr := row_main (i 2) ⟨n, lt_of_lt_of_le hn (Nat.le_of_lt_succ (lt_trans (i 2).isLt (by decide)))⟩ hn
    have o0 := fun x : Vec F S2048x512 .bf16 => load_tile x (k0_off5 i ⟨n, hk⟩) (k0_off5_inb i ⟨n, hk⟩) 0 ((i 2).val - (n + 1)) hr rfl
    have o1 := fun x : Vec F S2048x512 .bf16 => load_tile x (k0_off6 i ⟨n, hk⟩) (k0_off6_inb i ⟨n, hk⟩) 1 ((i 2).val - (n + 1)) hr rfl
    have o2 := fun x : Vec F S2048x512 .bf16 => load_tile x (k0_off7 i ⟨n, hk⟩) (k0_off7_inb i ⟨n, hk⟩) 2 ((i 2).val - (n + 1)) hr rfl
    have o3 := fun x : Vec F S2048x512 .bf16 => load_tile x (k0_off8 i ⟨n, hk⟩) (k0_off8_inb i ⟨n, hk⟩) 3 ((i 2).val - (n + 1)) hr rfl
    refine (st_k0_t1_succ Variants.none c none i arg3 harg3 arg4 harg4 arg5 harg5 arg6 harg6 _ _ _ _ _ _ _ _ _ _ ⟨n, hk⟩).trans ?_
    refine (congrArg _ (ih (Nat.le_of_succ_le hn))).trans ?_
    refine (trip_eq Variants.none c none i arg3 harg3 arg4 harg4 arg5 harg5 arg6 harg6 _ _ _ _ _ _ _ _ _ ⟨n, hk⟩ _ _ _ _).trans ?_
    unfold tileLoad queryLoad
    simp only [harg4.read_unread, harg5.read_unread, q0, q1, q2, q3, o0, o1, o2, o3]
    rfl

/-- An index of the stored block falls in exactly one head's store, whose value there is the head's final accumulator. -/
theorem out_apply (y : S256x512.Idx) (h : Fin 4) (d : Fin 128) (hy : (y 1).val = 128 * h.val + d.val) :
    out0_A_3 c i arg3 harg3 arg4 harg4 arg5 harg5 arg6 harg6 x0 x1 x2 y
      = (truncf .bf16 (headRun x0 x1 x2 h (i 2).val (i 2).val).1 bitsLt_bf16_f32 : FVec F S256x128 .bf16)
        (ix2 (⟨(y 0).val, (y 0).isLt⟩ : Fin 256) d) := by
  rw [out_eq, trips_main, before_eq c i arg3 harg3 arg4 harg4 arg5 harg5 arg6 harg6 x0 x1 x2 _ le_rfl]
  have hcell : ∀ (g : Fin 4) (off : Fin 2 → ℕ), off 0 = 0 → off 1 = 128 * g.val →
      View.TileAt (Val := Elt F) (S := S256x512) (e := .bf16) y off S256x128.size
        (truncf .bf16 (headRun x0 x1 x2 g (i 2).val (i 2).val).1 bitsLt_bf16_f32 : FVec F S256x128 .bf16)
        ((truncf .bf16 (headRun x0 x1 x2 h (i 2).val (i 2).val).1 bitsLt_bf16_f32 : FVec F S256x128 .bf16)
          (ix2 (⟨(y 0).val, (y 0).isLt⟩ : Fin 256) d)) := by
    intro g off h0 h1 x hx
    have e0 : (y 0).val = off 0 + (x 0).val := hx 0
    have e1 : (y 1).val = off 1 + (x 1).val := hx 1
    have x1lt : (x 1).val < 128 := (x 1).isLt
    have dlt := d.isLt
    have hg : g = h := Fin.ext (by omega)
    subst hg
    refine congrArg _ (Common.idx2_ext ?_ ?_)
    · show (x 0).val = (y 0).val; omega
    · show (x 1).val = d.val; omega
  refine View.canon_eq_of_allAt _ y _ (View.cover_of_tiled_head _ _ _ rfl y) ?_
  exact View.allAt_cons_unit _ _ _ _ _ (hcell 3 ![0, 384] rfl rfl)
    (View.allAt_cons_unit _ _ _ _ _ (hcell 2 ![0, 256] rfl rfl)
      (View.allAt_cons_unit _ _ _ _ _ (hcell 1 ![0, 128] rfl rfl)
        (View.allAt_cons_unit _ _ _ _ _ (hcell 0 ![0, 0] rfl rfl) (View.allAt_nil _ _))))

end block

end Cert.SbIdeal.Tile

end
-- ==== Proof.SbSum.lean ====
/- The stick-breaking weights over the reals: the logarithm of the sigmoid as the kernel and the host compute it, what a key leaves
   of the stick, the weight of a key, and sums over a tile's keys as sums over a range of keys. -/
module

public import proofs.«01_k».proof.Proof.Common

@[expose] public section

noncomputable section

namespace Cert.SbIdeal.Stick

open Idealize.ShloMosaic Idealize.ShloMosaic.ValueIdx

/-- The logarithm of the sigmoid of a real. -/
def lsig (r : ℝ) : ℝ := min r 0 - Real.log (1 + Real.exp (-max r (-r)))

/-- The larger of two reals, embedded. -/
theorem coe_max (a b : ℝ) : ((max a b : ℝ) : EReal) = max (a : EReal) (b : EReal) := EReal.coe_strictMono.monotone.map_max

/-- The smaller of two reals, embedded. -/
theorem coe_min (a b : ℝ) : ((min a b : ℝ) : EReal) = min (a : EReal) (b : EReal) := EReal.coe_strictMono.monotone.map_min

/-- The logarithm of one plus an exponential of a real is that of the real. -/
theorem log_one_add_exp (r : ℝ) : Ideal.log (1 + Ideal.exp (r : EReal)) = ((Real.log (1 + Real.exp r) : ℝ) : EReal) := by
  have hp : 0 < 1 + Real.exp r := by positivity
  have e : (1 : EReal) + Ideal.exp (r : EReal) = ((1 + Real.exp r : ℝ) : EReal) := by
    rw [Ideal.exp_coe, EReal.coe_add, EReal.coe_one]
  rw [e, Ideal.log_coe, if_neg (not_le.2 hp)]

/-- The logarithm of the sigmoid as the kernel computes it, at a real. -/
theorem kernel_lsig (r : ℝ) :
    min (r : EReal) 0 - Ideal.log (1 + Ideal.exp (0 - max (r : EReal) (-(r : EReal)))) = ((lsig r : ℝ) : EReal) := by
  have e : (0 : EReal) - max (r : EReal) (-(r : EReal)) = ((-max r (-r) : ℝ) : EReal) := by
    rw [zero_sub, EReal.coe_neg, coe_max, EReal.coe_neg]
  have e0 : min (r : EReal) 0 = ((min r 0 : ℝ) : EReal) := by rw [coe_min, EReal.coe_zero]
  rw [e, log_one_add_exp, e0, ← EReal.coe_sub]
  rfl

/-- The logarithm of the sigmoid as the host computes it, at a real: the negated softplus of the negated argument. -/
theorem host_lsig (r : ℝ) :
    -(max (-(r : EReal)) 0 + Ideal.log1p (Ideal.exp (-max (-(r : EReal) - 0) (-(-(r : EReal) - 0))))) = ((lsig r : ℝ) : EReal) := by
  have e : -max (-(r : EReal) - 0) (-(-(r : EReal) - 0)) = ((-max r (-r) : ℝ) : EReal) := by
    rw [sub_zero, neg_neg, max_comm, EReal.coe_neg, coe_max, EReal.coe_neg]
  have e0 : max (-(r : EReal)) 0 = ((max (-r) 0 : ℝ) : EReal) := by rw [coe_max, EReal.coe_zero, EReal.coe_neg]
  show -(max (-(r : EReal)) 0 + Ideal.log (1 + Ideal.exp _)) = _
  rw [e, log_one_add_exp, e0, ← EReal.coe_add, ← EReal.coe_neg]
  refine congrArg _ ?_
  have hm : max (-r) 0 = -min r 0 := by rw [← neg_zero, max_neg_neg, neg_zero]
  rw [hm, lsig]
  ring

/-- The logarithm of the sigmoid of a negated real is that of the real less the real. -/
theorem lsig_neg (r : ℝ) : lsig (-r) = lsig r - r := by
  have hm : min (-r) 0 = min r 0 - r := by
    rcases le_total r 0 with h | h
    · rw [min_eq_right (by linarith), min_eq_left h, sub_self]
    · rw [min_eq_left (by linarith), min_eq_right h, zero_sub]
  rw [lsig, lsig, hm, neg_neg, max_comm (-r) r]
  ring

/-- The logarithm of what key `j` leaves of query `t`'s stick; a key from `t` on takes nothing. -/
def keep (z : ℕ → ℝ) (t j : ℕ) : ℝ := if j < t then lsig (z j) - z j else 0

/-- Keys from `t` on add nothing to a sum of `keep`. -/
theorem keep_sum (z : ℕ → ℝ) {t E : ℕ} (a : ℕ) (h : t ≤ E) :
    ∑ j ∈ Finset.Ico a E, keep z t j = ∑ j ∈ Finset.Ico a t, keep z t j := by
  refine (Finset.sum_subset (Finset.Ico_subset_Ico_right h) fun j hj hn => ?_).symm
  rw [Finset.mem_Ico] at hj hn
  exact if_neg fun hlt => hn ⟨hj.1, hlt⟩

/-- The weight of key `s` for query `t`: its sigmoid times what the keys between leave of the stick. -/
def weight (z : ℕ → ℝ) (t s : ℕ) : ℝ := if s < t then Real.exp (lsig (z s) + ∑ j ∈ Finset.Ico (s + 1) t, keep z t j) else 0

/-- A sum of reals embedded is the embedded sum. -/
theorem coe_sum {ι : Type} (s : Finset ι) (f : ι → ℝ) : ∑ i ∈ s, (f i : EReal) = ((∑ i ∈ s, f i : ℝ) : EReal) := by
  classical
  induction s using Finset.induction_on with
  | empty => rw [Finset.sum_empty, Finset.sum_empty, EReal.coe_zero]
  | insert a s ha ih => rw [Finset.sum_insert ha, Finset.sum_insert ha, ih, EReal.coe_add]

/-- A sum over the positions of a tile is the sum over the tile's keys. -/
theorem sum_tile {M : Type} [AddCommMonoid M] (n base : ℕ) (f : ℕ → M) :
    ∑ c : Fin n, f (base + c.val) = ∑ s ∈ Finset.Ico base (base + n), f s := by
  rw [Fin.sum_univ_eq_sum_range (fun c => f (base + c)) n, Finset.sum_Ico_eq_sum_range, Nat.add_sub_cancel_left]

/-- A sum over the later positions of a tile is the sum over the tile's later keys. -/
theorem sum_later {M : Type} [AddCommMonoid M] (n base c : ℕ) (f : ℕ → M) :
    ∑ j : Fin n, (if c < j.val then f (base + j.val) else 0) = ∑ s ∈ Finset.Ico (base + (c + 1)) (base + n), f s := by
  rw [Fin.sum_univ_eq_sum_range (fun j => if c < j then f (base + j) else 0) n, ← Finset.sum_filter]
  have e : (Finset.range n).filter (fun j => c < j) = Finset.Ico (c + 1) n := by
    ext j
    rw [Finset.mem_filter, Finset.mem_range, Finset.mem_Ico]
    omega
  rw [e, add_comm base, add_comm base, ← Finset.sum_Ico_add]

/-- A real's product with one or zero keeps it or drops it. -/
theorem mul_ite_one (x : EReal) (p : Prop) [Decidable p] : x * (if p then 1 else 0) = if p then x else 0 := by
  split
  · exact mul_one x
  · exact mul_zero x

end Cert.SbIdeal.Stick

end
-- ==== Proof.SbRow.lean ====
/- The stick-breaking kernel's tiles read at an entry over exact reals, and one head's state after any number of tiles: the carry is
   the sum of what the tiles' keys leave of the stick, the accumulator the weighted sum of their values. -/
module

public import proofs.«01_k».proof.Proof.SbTile
public import proofs.«01_k».proof.Proof.SbSum
public import Idealize.ShloMosaic.Lib.WordCmp
public import Idealize.ShloMosaic.PureOps.Ideal.Laws

@[expose] public section

noncomputable section

namespace Cert.SbIdeal.Row

open Cert.SbIdeal Cert.SbIdeal.Gen Cert.SbIdeal.Tile Cert.SbIdeal.Stick Idealize.ShloMosaic Idealize.ShloMosaic.ValueIdx

/-- The factor of the scores: the word of `128 ^ -1/2`. -/
def scale : EReal := Ideal.ofBits .f32 0x3DB504F3#32

/-- A dot product of a query row and a key row, scaled. -/
def score (q k : Fin 128 → EReal) : EReal := (∑ d : Fin 128, q d * k d) * scale

/-- The diagonal tile's mask holds strictly below the diagonal. -/
theorem below_apply (r c : Fin 256) : k0_pay72 (ix2 r c) = BitVec.ofBool (decide (c.val < r.val)) := by
  have hr := r.isLt
  have hc := c.isLt
  show IntOp.cmpi .slt (BitVec.ofNat 32 (0 * 256 + c.val)) (BitVec.ofNat 32 (0 * 256 + r.val)) = _
  rw [Nat.zero_mul, Nat.zero_add, Nat.zero_add]
  exact WordCmp.cmpi_slt_ofNat (by show c.val < 2147483648; omega) (by show r.val < 2147483648; omega)

/-- The strict triangle: one where the row is the later key. -/
theorem later_apply (j c : Fin 256) : (k0_pay71 (F := Ideal) (ix2 j c) : EReal) = if c.val < j.val then 1 else 0 := by
  have hj := j.isLt
  have hc := c.isLt
  have e : IntOp.cmpi .sgt (BitVec.ofNat 32 (0 * 256 + j.val)) (BitVec.ofNat 32 (0 * 256 + c.val)) = BitVec.ofBool (decide (c.val < j.val)) := by
    rw [Nat.zero_mul, Nat.zero_add, Nat.zero_add]
    exact WordCmp.cmpi_slt_ofNat (by show c.val < 2147483648; omega) (by show j.val < 2147483648; omega)
  show FloatOps.sitofp (F := Ideal) .f32 ((IntOp.cmpi .sgt (BitVec.ofNat 32 (0 * 256 + j.val)) (BitVec.ofNat 32 (0 * 256 + c.val))).setWidth 32) = _
  rw [e]
  by_cases h : c.val < j.val
  · rw [if_pos h, decide_eq_true h]
    show ((((BitVec.ofBool true).setWidth 32).toInt : ℝ) : EReal) = 1
    rw [show ((BitVec.ofBool true).setWidth 32).toInt = 1 by decide, Int.cast_one, EReal.coe_one]
  · rw [if_neg h, decide_eq_false h]
    show ((((BitVec.ofBool false).setWidth 32).toInt : ℝ) : EReal) = 0
    rw [show ((BitVec.ofBool false).setWidth 32).toInt = 0 by decide, Int.cast_zero, EReal.coe_zero]

/-- A score of a tile. -/
theorem scores_apply (q k : Vec Ideal S256x128 .bf16) (r c : Fin 256) :
    scores q k (ix2 r c) = score (fun d => q (ix2 r d)) (fun d => k (ix2 c d)) := by
  refine congrArg (· * scale) ?_
  refine (Ideal.matmul_transposedRhs_apply (φ₁ := .bf16) (φ₂ := .bf16) none q k _ r c).trans ?_
  rw [Common.zero_apply, zero_add]

/-- The logarithm of the sigmoid of a tile's score that is a real. -/
theorem logBeta_apply (z : FVec Ideal S256x256 .f32) (i : S256x256.Idx) (x : ℝ) (h : z i = (x : EReal)) :
    logBeta z i = ((lsig x : ℝ) : EReal) := by
  show min (z i) (Ideal.ofBits .f32 0x00000000#32)
    - Ideal.log (Ideal.ofBits .f32 0x3F800000#32 + Ideal.exp (Ideal.ofBits .f32 0x00000000#32 - max (z i) (-(z i)))) = _
  rw [Ideal.ofBits_zero_f32, Ideal.ofBits_one_f32, h]
  exact kernel_lsig x

/-- What a key of a tile leaves of the stick, its score a real. -/
theorem logKeep_apply (z : FVec Ideal S256x256 .f32) (i : S256x256.Idx) (x : ℝ) (h : z i = (x : EReal)) :
    logKeep z i = ((lsig x - x : ℝ) : EReal) := by
  show logBeta z i - z i = _
  rw [logBeta_apply z i x h, h, EReal.coe_sub]

/-- A selection by the diagonal tile's mask. -/
theorem select_below (x y : FVec Ideal S256x256 .f32) (r c : Fin 256) :
    select k0_pay72 x y (ix2 r c) = if c.val < r.val then x (ix2 r c) else y (ix2 r c) := by
  show Scalar.select (k0_pay72 (ix2 r c)) _ _ = _
  rw [below_apply]
  by_cases h : c.val < r.val
  · rw [if_pos h, decide_eq_true h]; rfl
  · rw [if_neg h, decide_eq_false h]; rfl

/-- The zero a selection falls back on. -/
theorem zeros_apply (s : Shape) (i : s.Idx) : (broadcast s (Scalar.ofBits (F := Ideal) .f32 0x00000000#32) : FVec Ideal s .f32) i = (0 : EReal) :=
  Ideal.ofBits_zero_f32

/-- What a key of the diagonal tile leaves of the stick: nothing is taken on and above the diagonal. -/
theorem maskedKeep_apply (zt : FVec Ideal S256x256 .f32) (z : ℕ → ℝ) (base : ℕ) (r : Fin 256)
    (hz : ∀ j : Fin 256, zt (ix2 r j) = ((z (base + j.val) : ℝ) : EReal)) (j : Fin 256) :
    maskedKeep k0_pay72 zt (ix2 r j) = ((keep z (base + r.val) (base + j.val) : ℝ) : EReal) := by
  unfold maskedKeep
  rw [select_below, zeros_apply, logKeep_apply zt _ _ (hz j), keep]
  by_cases h : j.val < r.val
  · rw [if_pos h, if_pos (show base + j.val < base + r.val by omega)]
  · rw [if_neg h, if_neg (show ¬base + j.val < base + r.val by omega), EReal.coe_zero]

/-- A product of a tile with another from zeros. -/
theorem product_apply (a w : FVec Ideal S256x256 .bf16) (r c : Fin 256) :
    matmul dot_S256x256_S256x256_S256x256_1_0_0_1_n_n none a w (constant S256x256 .f32 0x00000000#32) (ix2 r c)
      = ∑ j : Fin 256, (a (ix2 r j) : EReal) * (w (ix2 j c) : EReal) :=
  Common.matmul_zero_apply (φ₁ := .bf16) (φ₂ := .bf16) a w r c

/-- What the later keys leave of the stick at a key of a tile that starts at key `base`, what each leaves a real. -/
theorem after_apply (lk : FVec Ideal S256x256 .f32) (car : FVec Ideal S256x1 .f32) (κ : ℕ → ℝ) (C : ℝ) (base : ℕ) (r c : Fin 256)
    (hlk : ∀ j : Fin 256, lk (ix2 r j) = ((κ (base + j.val) : ℝ) : EReal)) (hcar : car (ix2 r (0 : Fin 1)) = (C : EReal)) :
    after (k0_pay71 (F := Ideal)) lk car (ix2 r c)
      = ((∑ j ∈ Finset.Ico (base + (c.val + 1)) (base + 256), κ j + C : ℝ) : EReal) := by
  have e1 : matmul dot_S256x256_S256x256_S256x256_1_0_0_1_n_n none (truncf .bf16 lk bitsLt_bf16_f32) (k0_pay71 (F := Ideal))
      (constant S256x256 .f32 0x00000000#32) (ix2 r c) = ((∑ j ∈ Finset.Ico (base + (c.val + 1)) (base + 256), κ j : ℝ) : EReal) := by
    rw [product_apply, ← coe_sum, ← sum_later 256 base c.val (fun s => ((κ s : ℝ) : EReal))]
    refine Finset.sum_congr rfl fun j _ => ?_
    show (lk (ix2 r j) : EReal) * _ = _
    rw [hlk, later_apply, mul_ite_one]
  have e2 : matmul dot_S256x256_S256x256_S256x256_1_0_0_1_n_n none
      (truncf .bf16 (subf lk (extf .f32 (truncf .bf16 lk bitsLt_bf16_f32) bitsLt_bf16_f32)) bitsLt_bf16_f32) (k0_pay71 (F := Ideal))
      (constant S256x256 .f32 0x00000000#32) (ix2 r c) = (0 : EReal) := by
    rw [product_apply]
    refine Finset.sum_eq_zero fun j _ => ?_
    show ((lk (ix2 r j) : EReal) - lk (ix2 r j)) * _ = 0
    rw [hlk, ← EReal.coe_sub, sub_self, EReal.coe_zero, zero_mul]
  have e3 : broadcastTo S256x256 car broadcasts_S256x1_S256x256 (ix2 r c) = (C : EReal) := by
    refine (broadcastTo_apply _ broadcasts_S256x1_S256x256 (ix2 r c) (ix2 r (0 : Fin 1)) ?_).trans hcar
    intro a
    match a with
    | ⟨0, _⟩ => rfl
    | ⟨1, _⟩ => rfl
  show matmul _ none _ _ _ (ix2 r c) + matmul _ none _ _ _ (ix2 r c) + broadcastTo _ _ _ (ix2 r c) = _
  rw [e1, e2, e3, add_zero, EReal.coe_add]

/-- The carry after a tile that starts at key `base`. -/
theorem carry_apply (lk : FVec Ideal S256x256 .f32) (car : FVec Ideal S256x1 .f32) (κ : ℕ → ℝ) (C : ℝ) (base : ℕ) (r : Fin 256)
    (hlk : ∀ j : Fin 256, lk (ix2 r j) = ((κ (base + j.val) : ℝ) : EReal)) (hcar : car (ix2 r (0 : Fin 1)) = (C : EReal)) :
    carry car lk (ix2 r (0 : Fin 1)) = ((∑ j ∈ Finset.Ico base (base + 256), κ j + C : ℝ) : EReal) := by
  have e : shapeCast S256x1 (multiReduction .add [1] S256 lk 0x00000000#32 reduces_S256x256_S256 (.inl rfl) rfl)
      shapeCasts_S256_S256x1 (ix2 r (0 : Fin 1)) = ((∑ j ∈ Finset.Ico base (base + 256), κ j : ℝ) : EReal) := by
    refine (shapeCast_apply _ shapeCasts_S256_S256x1 (ix2 r (0 : Fin 1)) (ix1 r) ?_).trans ?_
    · rw [Shape.rowMajor_val_one, Shape.rowMajor_val_two]; show r.val = r.val * 1 + 0; omega
    · refine (Ideal.multiReduction_add_single (a := 1) lk 0x00000000#32 reduces_S256x256_S256 (.inl rfl) rfl (ix1 r)).trans ?_
      rw [← coe_sum, ← sum_tile 256 base (fun s => ((κ s : ℝ) : EReal))]
      refine Finset.sum_congr rfl fun j _ => ?_
      have e : reduces_S256x256_S256.lift (ix1 r) j = (ix2 (n0 := 256) (n1 := 256) r j : S256x256.Idx) := Common.idx2_ext (A := 256) (B := 256) rfl rfl
      exact (congrArg lk e).trans (hlk j)
  show car (ix2 r (0 : Fin 1)) + shapeCast _ _ _ (ix2 r (0 : Fin 1)) = _
  rw [e, hcar, add_comm, EReal.coe_add]

/-- The accumulator after a tile that starts at key `base`. -/
theorem gather_apply (acc : FVec Ideal S256x128 .f32) (w : FVec Ideal S256x256 .f32) (v : Vec Ideal S256x128 .bf16) (α : ℕ → ℝ)
    (V : ℕ → EReal) (base : ℕ) (r : Fin 256) (d : Fin 128)
    (hw : ∀ c : Fin 256, w (ix2 r c) = ((α (base + c.val) : ℝ) : EReal)) (hv : ∀ c : Fin 256, v (ix2 c d) = V (base + c.val)) :
    gather acc w v (ix2 r d) = (acc (ix2 r d) : EReal) + ∑ s ∈ Finset.Ico base (base + 256), ((α s : ℝ) : EReal) * V s := by
  refine congrArg ((acc (ix2 r d) : EReal) + ·) ?_
  refine (Common.matmul_zero_apply (φ₁ := .bf16) (φ₂ := .bf16) (truncf .bf16 w bitsLt_bf16_f32) v r d).trans ?_
  rw [← sum_tile 256 base (fun s => ((α s : ℝ) : EReal) * V s)]
  refine Finset.sum_congr rfl fun c _ => ?_
  show (w (ix2 r c) : EReal) * _ = _
  rw [hw, hv]

/-- The carry starts at zero. -/
theorem carry_zero (r : Fin 256) : k0_pay74 (F := Ideal) (ix2 r (0 : Fin 1)) = ((0 : ℝ) : EReal) :=
  (zeros_apply S256x1 (ix2 r (0 : Fin 1))).trans EReal.coe_zero.symm

/-- The weights of a tile below the diagonal, that starts at key `base`. -/
theorem weights_apply (zt : FVec Ideal S256x256 .f32) (car : FVec Ideal S256x1 .f32) (z : ℕ → ℝ) (t E base : ℕ) (r c : Fin 256)
    (hE : t ≤ E) (hb : base + 256 ≤ t) (hz : ∀ j : Fin 256, zt (ix2 r j) = ((z (base + j.val) : ℝ) : EReal))
    (hcar : car (ix2 r (0 : Fin 1)) = ((∑ j ∈ Finset.Ico (base + 256) E, keep z t j : ℝ) : EReal)) :
    weights (k0_pay71 (F := Ideal)) zt car (ix2 r c) = ((weight z t (base + c.val) : ℝ) : EReal) := by
  have hc := c.isLt
  have hk : ∀ j : Fin 256, logKeep zt (ix2 r j) = ((keep z t (base + j.val) : ℝ) : EReal) := fun j => by
    have hj := j.isLt
    rw [logKeep_apply zt _ _ (hz j), keep, if_pos (show base + j.val < t by omega)]
  show Ideal.exp ((logBeta zt (ix2 r c) : EReal) + (after (F := Ideal) _ _ _ (ix2 r c) : EReal)) = _
  rw [logBeta_apply zt _ _ (hz c), after_apply _ car (keep z t) _ base r c hk hcar,
    Finset.sum_Ico_consecutive _ (by omega) (by omega), keep_sum z _ hE, ← EReal.coe_add, Ideal.exp_coe, weight,
    if_pos (show base + c.val < t by omega), Nat.add_assoc]

/-- The weights of the diagonal tile, that starts at key `base`; the query is its row `r`. -/
theorem maskedWeights_apply (zt : FVec Ideal S256x256 .f32) (z : ℕ → ℝ) (base : ℕ) (r c : Fin 256)
    (hz : ∀ j : Fin 256, zt (ix2 r j) = ((z (base + j.val) : ℝ) : EReal)) :
    maskedWeights (k0_pay71 (F := Ideal)) k0_pay72 zt (k0_pay74 (F := Ideal)) (ix2 r c)
      = ((weight z (base + r.val) (base + c.val) : ℝ) : EReal) := by
  have hr := r.isLt
  unfold maskedWeights
  rw [select_below, zeros_apply, weight]
  by_cases h : c.val < r.val
  · rw [if_pos h, if_pos (show base + c.val < base + r.val by omega)]
    show Ideal.exp ((logBeta zt (ix2 r c) : EReal) + (after (F := Ideal) _ _ _ (ix2 r c) : EReal)) = _
    rw [logBeta_apply zt _ _ (hz c), after_apply _ (k0_pay74 (F := Ideal)) (keep z (base + r.val)) 0 base r c
      (maskedKeep_apply zt z base r hz) (carry_zero r), add_zero,
      keep_sum z _ (show base + r.val ≤ base + 256 by omega), ← EReal.coe_add, Ideal.exp_coe, Nat.add_assoc]
  · rw [if_neg h, if_neg (show ¬base + c.val < base + r.val by omega), EReal.coe_zero]

section run

variable (x0 : Vec Ideal S256x512 .bf16) (x1 x2 : Vec Ideal S2048x512 .bf16) (h : Fin 4) (qi : ℕ) (r : Fin 256) (d : Fin 128)

/-- A column of head `h` in a staged block of four heads. -/
def col (h : Fin 4) (d : Fin 128) : Fin 512 := ⟨128 * h.val + d.val, by have := h.isLt; have := d.isLt; omega⟩

/-- The value of key `s`, at column `d` of head `h`. -/
def keyAt (x : Vec Ideal S2048x512 .bf16) (h : Fin 4) (s : ℕ) (d : Fin 128) : EReal :=
  x (ix2 (⟨s % 2048, Nat.mod_lt _ (by decide)⟩ : Fin 2048) (col h d))

/-- The query of row `r`, at column `d` of head `h`. -/
def queryRow (x : Vec Ideal S256x512 .bf16) (h : Fin 4) (r : Fin 256) (d : Fin 128) : EReal := x (ix2 r (col h d))

/-- A score of a tile of a head's keys. -/
theorem tile_scores (z : ℕ → ℝ) (hz : ∀ s, score (queryRow x0 h r) (keyAt x1 h s) = ((z s : ℝ) : EReal)) (j : ℕ) (c : Fin 256) :
    scores (queryAt x0 h) (tileAt x1 h j) (ix2 r c) = ((z (256 * j + c.val) : ℝ) : EReal) :=
  (scores_apply _ _ r c).trans (hz (256 * j + c.val))

/-- One head's state after the diagonal tile and `n` tiles before it: the carry, and the accumulator at a column. -/
theorem headRun_apply (z : ℕ → ℝ) (hz : ∀ s, score (queryRow x0 h r) (keyAt x1 h s) = ((z s : ℝ) : EReal)) (n : ℕ) (hn : n ≤ qi) :
    (headRun x0 x1 x2 h qi n).2 (ix2 r (0 : Fin 1))
        = ((∑ j ∈ Finset.Ico (256 * (qi - n)) (256 * qi + 256), keep z (256 * qi + r.val) j : ℝ) : EReal)
      ∧ (headRun x0 x1 x2 h qi n).1 (ix2 r d)
        = ∑ s ∈ Finset.Ico (256 * (qi - n)) (256 * qi + 256), ((weight z (256 * qi + r.val) s : ℝ) : EReal) * keyAt x2 h s d := by
  have hr := r.isLt
  induction n with
  | zero =>
    have hs := tile_scores x0 x1 h r z hz qi
    constructor
    · refine (carry_apply _ (k0_pay74 (F := Ideal)) (keep z (256 * qi + r.val)) 0 (256 * qi) r (maskedKeep_apply _ z _ r hs)
        (carry_zero r)).trans ?_
      rw [add_zero, Nat.sub_zero]
    · refine (gather_apply (k0_pay73 (F := Ideal)) _ _ (weight z (256 * qi + r.val)) (fun s => keyAt x2 h s d) (256 * qi) r d
        (fun c => maskedWeights_apply _ z _ r c hs) (fun _ => rfl)).trans ?_
      rw [Nat.sub_zero, show (k0_pay73 (F := Ideal)) (ix2 r d) = (0 : EReal) from zeros_apply S256x128 (ix2 r d), zero_add]
  | succ n ih =>
    obtain ⟨ic, ia⟩ := ih (by omega)
    have hs := tile_scores x0 x1 h r z hz (qi - (n + 1))
    have hd : 256 * (qi - n) = 256 * (qi - (n + 1)) + 256 := by omega
    rw [hd] at ic ia
    have hk : ∀ j : Fin 256, logKeep (scores (queryAt x0 h) (tileAt x1 h (qi - (n + 1)))) (ix2 r j)
        = ((keep z (256 * qi + r.val) (256 * (qi - (n + 1)) + j.val) : ℝ) : EReal) := fun j => by
      have hj := j.isLt
      rw [logKeep_apply _ _ _ (hs j), keep, if_pos (by omega)]
    constructor
    · refine (carry_apply _ _ (keep z (256 * qi + r.val)) _ (256 * (qi - (n + 1))) r hk ic).trans ?_
      rw [Finset.sum_Ico_consecutive _ (by omega) (by omega)]
    · refine (gather_apply _ _ _ (weight z (256 * qi + r.val)) (fun s => keyAt x2 h s d) (256 * (qi - (n + 1))) r d
        (fun c => weights_apply _ _ z (256 * qi + r.val) (256 * qi + 256) _ r c (by omega) (by omega) hs ic) (fun _ => rfl)).trans ?_
      rw [ia, add_comm, Finset.sum_Ico_consecutive _ (by omega) (by omega)]

/-- One head's accumulator after all its tiles: the weighted sum of the values of every key of the sequence. -/
theorem headRun_all (hq : qi < 8) (z : ℕ → ℝ) (hz : ∀ s, score (queryRow x0 h r) (keyAt x1 h s) = ((z s : ℝ) : EReal)) :
    (headRun x0 x1 x2 h qi qi).1 (ix2 r d)
      = ∑ s : Fin 2048, ((weight z (256 * qi + r.val) s.val : ℝ) : EReal) * keyAt x2 h s.val d := by
  have hr := r.isLt
  rw [(headRun_apply x0 x1 x2 h qi r d z hz qi le_rfl).2,
    Fin.sum_univ_eq_sum_range (fun s => ((weight z (256 * qi + r.val) s : ℝ) : EReal) * keyAt x2 h s d) 2048,
    Nat.sub_self, Nat.mul_zero, Finset.range_eq_Ico]
  refine Finset.sum_subset (Finset.Ico_subset_Ico_right (by omega)) fun s hs hn => ?_
  rw [Finset.mem_Ico] at hs hn
  rw [weight, if_neg (by omega), EReal.coe_zero, zero_mul]

end run

end Cert.SbIdeal.Row

end
-- ==== Proof.SbRef.lean ====
/- The stick-breaking reference read at an entry: the scores, the two logarithms, the sum of what later keys leave of the stick, the
   weights, and the weighted sum of the values; and what the precondition says of the queries and keys. -/
module

public import proofs.«01_k».proof.Defs
public import proofs.«01_k».proof.Proof.Gen.SbRefIdeal.Read
public import proofs.«01_k».proof.Proof.SbRow
public import Idealize.ShloMosaic.Lib.ReduceAll

@[expose] public section

noncomputable section

namespace Cert.SbRefIdeal.Row

open Cert.SbRefIdeal Cert.SbRefIdeal.Gen Cert.SbRefIdeal.Read Cert.SbIdeal.Row Cert.SbIdeal.Stick Idealize.ShloMosaic Idealize.ShloMosaic.ValueIdx

/-- Two indices of an array of four axes agree when their coordinates do. -/
theorem idx4_ext {A B C D : ℕ} {x y : (⟨4, ![A, B, C, D]⟩ : Shape).Idx} (h0 : (x 0).val = (y 0).val) (h1 : (x 1).val = (y 1).val)
    (h2 : (x 2).val = (y 2).val) (h3 : (x 3).val = (y 3).val) : x = y := by
  funext a; apply Fin.ext
  match a with
  | ⟨0, _⟩ => exact h0
  | ⟨1, _⟩ => exact h1
  | ⟨2, _⟩ => exact h2
  | ⟨3, _⟩ => exact h3

/-- A fold that adds a value per member is the start plus the sum of the values. -/
theorem fold_add {ι : Type} (g : ι → EReal) (l : List ι) (a : EReal) : l.foldl (fun r n => r + g n) a = a + (l.map g).sum := by
  induction l generalizing a with
  | nil => rw [List.foldl_nil, List.map_nil, List.sum_nil, add_zero]
  | cons n l ih => rw [List.foldl_cons, ih, List.map_cons, List.sum_cons, add_assoc]

/-- The positions of a window that spans the last of four axes. -/
def windowPos (N : ℕ) : (⟨4, ![1, 1, 1, N]⟩ : Shape).Idx ≃ Fin N where
  toFun w := w 3
  invFun k := ix4 (0 : Fin 1) (0 : Fin 1) (0 : Fin 1) k
  left_inv w := idx4_ext (by have := (w 0).isLt; show 0 = (w 0).val; have : (w 0).val < 1 := (w 0).isLt; omega)
    (by show 0 = (w 1).val; have : (w 1).val < 1 := (w 1).isLt; omega)
    (by show 0 = (w 2).val; have : (w 2).val < 1 := (w 2).isLt; omega) rfl
  right_inv _ := rfl

/-- A running sum from the end of the last of four axes, read at an entry. -/
theorem suffix_window {A B C N : ℕ} (hi : Fin 4 → ℕ)
    (hw : (⟨4, ![A, B, C, N]⟩ : Shape).ReduceWindows ![1, 1, 1, N] ![1, 1, 1, 1] ![0, 0, 0, 0] hi ⟨4, ![A, B, C, N]⟩)
    (x : (⟨4, ![A, B, C, N]⟩ : Shape).Idx → EReal) (a : Fin A) (b : Fin B) (c : Fin C) (s : Fin N) :
    Ideal.hostReduceWindowAdd (s := ⟨4, ![A, B, C, N]⟩) ![1, 1, 1, N] ![1, 1, 1, 1] ![0, 0, 0, 0] hi hw x 0 (ix4 a b c s)
      = ∑ k : Fin N, if h : s.val + k.val < N then x (ix4 a b c ⟨s.val + k.val, h⟩) else 0 := by
  refine (fold_add _ _ _).trans ?_
  rw [zero_add, ← Fin.sum_univ_def, ← Equiv.sum_comp (Shape.rowMajor ⟨4, ![1, 1, 1, N]⟩), ← Equiv.sum_comp (windowPos N).symm]
  refine Finset.sum_congr rfl fun k _ => ?_
  simp only [Equiv.symm_apply_apply]
  by_cases h : s.val + k.val < N
  · rw [dif_pos h, dif_pos]
    · exact congrArg x (idx4_ext (by show a.val * 1 + 0 - 0 = a.val; omega) (by show b.val * 1 + 0 - 0 = b.val; omega)
        (by show c.val * 1 + 0 - 0 = c.val; omega) (by show s.val * 1 + k.val - 0 = s.val + k.val; omega))
    · intro e
      match e with
      | ⟨0, _⟩ => exact ⟨Nat.zero_le _, by have := a.isLt; show a.val * 1 + 0 - 0 < A; omega⟩
      | ⟨1, _⟩ => exact ⟨Nat.zero_le _, by have := b.isLt; show b.val * 1 + 0 - 0 < B; omega⟩
      | ⟨2, _⟩ => exact ⟨Nat.zero_le _, by have := c.isLt; show c.val * 1 + 0 - 0 < C; omega⟩
      | ⟨3, _⟩ => exact ⟨Nat.zero_le _, by show s.val * 1 + k.val - 0 < N; omega⟩
  · rw [dif_neg h, dif_neg]
    intro he
    have h3 : s.val * 1 + k.val - 0 < N := (he 3).2
    omega

/-- A row of the projection: batch `b`, token `t`. -/
def rowOf (b : Fin 8) (t : Fin 2048) : Fin 16384 := ⟨b.val * 2048 + t.val, by have := b.isLt; have := t.isLt; omega⟩

/-- A column of the projection: part `p` of queries, keys and values, head `h`, column `d` of it. -/
def colOf (p : Fin 3) (h : Fin 12) (d : Fin 128) : Fin 24064 :=
  ⟨1024 + p.val * 1536 + (h.val * 128 + d.val), by have := p.isLt; have := h.isLt; have := d.isLt; omega⟩

/-- An entry of the queries, keys or values. -/
def entry (x : Vec Ideal S16384x24064 .bf16) (p : Fin 3) (b : Fin 8) (h : Fin 12) (t : Fin 2048) (d : Fin 128) : EReal :=
  x (ix2 (rowOf b t) (colOf p h d))

variable (x : Vec Ideal S16384x24064 .bf16) (b : Fin 8) (h : Fin 12)

/-- The projection split into sequences. -/
theorem split_apply (t : Fin 2048) (c : Fin 24064) : val_main_v1 (F := Ideal) x (ix3 b t c) = x (ix2 (rowOf b t) c) := by
  rw [val_main_v1_apply, val_main_v0_apply]
  have ht := t.isLt
  have hc := c.isLt
  refine congrArg x (Common.idx2_ext ?_ ?_)
  · show ((b.val * 2048 + t.val) * 24064 + c.val) / 24064 = b.val * 2048 + t.val; omega
  · show ((b.val * 2048 + t.val) * 24064 + c.val) % 24064 = c.val; omega

/-- An entry of the queries by heads. -/
theorem query_apply (t : Fin 2048) (d : Fin 128) : val_main_v8 (F := Ideal) x (ix4 b h t d) = entry x 0 b h t d := by
  have hb := b.isLt; have ht := t.isLt; have hh := h.isLt; have hd := d.isLt
  rw [val_main_v8_apply, val_main_v7_apply, val_main_v3_apply]
  refine Eq.trans (congrArg (val_main_v1 (F := Ideal) x) (Common.idx3_ext ?_ ?_ ?_)) (split_apply x b t (colOf 0 h d))
  · show (((b.val * 2048 + t.val) * 12 + h.val) * 128 + d.val) / 3145728 = b.val; omega
  · show (((b.val * 2048 + t.val) * 12 + h.val) * 128 + d.val) / 1536 % 2048 = t.val; omega
  · show 1024 + (((b.val * 2048 + t.val) * 12 + h.val) * 128 + d.val) % 1536 = 1024 + 0 * 1536 + (h.val * 128 + d.val); omega

/-- An entry of the keys by heads. -/
theorem key_apply (t : Fin 2048) (d : Fin 128) : val_main_v10 (F := Ideal) x (ix4 b h t d) = entry x 1 b h t d := by
  have hb := b.isLt; have ht := t.isLt; have hh := h.isLt; have hd := d.isLt
  rw [val_main_v10_apply, val_main_v9_apply, val_main_v4_apply]
  refine Eq.trans (congrArg (val_main_v1 (F := Ideal) x) (Common.idx3_ext ?_ ?_ ?_)) (split_apply x b t (colOf 1 h d))
  · show (((b.val * 2048 + t.val) * 12 + h.val) * 128 + d.val) / 3145728 = b.val; omega
  · show (((b.val * 2048 + t.val) * 12 + h.val) * 128 + d.val) / 1536 % 2048 = t.val; omega
  · show 2560 + (((b.val * 2048 + t.val) * 12 + h.val) * 128 + d.val) % 1536 = 1024 + 1 * 1536 + (h.val * 128 + d.val); omega

/-- An entry of the values by heads. -/
theorem value_apply (t : Fin 2048) (d : Fin 128) : val_main_v12 (F := Ideal) x (ix4 b h t d) = entry x 2 b h t d := by
  have hb := b.isLt; have ht := t.isLt; have hh := h.isLt; have hd := d.isLt
  rw [val_main_v12_apply, val_main_v11_apply, val_main_v5_apply]
  refine Eq.trans (congrArg (val_main_v1 (F := Ideal) x) (Common.idx3_ext ?_ ?_ ?_)) (split_apply x b t (colOf 2 h d))
  · show (((b.val * 2048 + t.val) * 12 + h.val) * 128 + d.val) / 3145728 = b.val; omega
  · show (((b.val * 2048 + t.val) * 12 + h.val) * 128 + d.val) / 1536 % 2048 = t.val; omega
  · show 4096 + (((b.val * 2048 + t.val) * 12 + h.val) * 128 + d.val) % 1536 = 1024 + 2 * 1536 + (h.val * 128 + d.val); omega

/-- A score. -/
theorem score_apply (t s : Fin 2048) : val_main_v15 (F := Ideal) x (ix4 b h t s) = score (entry x 0 b h t) (entry x 1 b h s) := by
  rw [val_main_v15_apply, val_main_v14_apply, val_main_cst_apply, val_main_v13_apply]
  refine congrArg (· * scale) (Finset.sum_congr rfl fun d _ => ?_)
  exact congrArg₂ (fun u v : EReal => u * v)
    ((congrArg (val_main_v8 (F := Ideal) x) (idx4_ext rfl rfl rfl rfl)).trans (query_apply x b h t d))
    ((congrArg (val_main_v10 (F := Ideal) x) (idx4_ext rfl rfl rfl rfl)).trans (key_apply x b h s d))

/-- The host's logarithm of the sigmoid. -/
def hostLog (z : EReal) : EReal :=
  -(Scalar.select (Ideal.cmp .une (-z - Ideal.ofBits .f32 0x00000000#32) (-z - Ideal.ofBits .f32 0x00000000#32))
    (-z + Ideal.ofBits .f32 0x00000000#32)
    (max (-z) (Ideal.ofBits .f32 0x00000000#32) + Ideal.log1p (Ideal.exp (-max (-z - Ideal.ofBits .f32 0x00000000#32)
      (-(-z - Ideal.ofBits .f32 0x00000000#32))))))

/-- … at a real. -/
theorem hostLog_coe (r : ℝ) : hostLog (r : EReal) = ((lsig r : ℝ) : EReal) := by
  have e : ∀ y : EReal, Ideal.cmp .une y y = 0#1 := fun y => by
    show BitVec.ofBool (decide (y ≠ y)) = 0#1
    rw [decide_eq_false (fun hy => hy rfl)]; rfl
  unfold hostLog
  rw [e, Ideal.ofBits_zero_f32]
  exact host_lsig r

/-- The logarithm of the sigmoid of the scores. -/
theorem log_beta_apply (i : S8x12x2048x2048.Idx) : val_main_v23 (F := Ideal) x i = hostLog (val_main_v15 (F := Ideal) x i) := rfl

/-- … of the negated scores. -/
theorem log_rest_apply (i : S8x12x2048x2048.Idx) : val_main_v25 (F := Ideal) x i = hostLog (-(val_main_v15 (F := Ideal) x i : EReal)) := rfl

/-- The mask over queries and keys holds where the key is earlier. -/
theorem mask_apply (t s : Fin 2048) : val_main_v22 (F := Ideal) (ix2 t s) = BitVec.ofBool (decide (s.val < t.val)) := by
  have ht := t.isLt
  have hs := s.isLt
  rw [val_main_v22_apply, val_main_v20_apply, val_main_v21_apply, val_main_v17_apply, val_main_v19_apply, val_main_v16_apply,
    val_main_v18_apply]
  exact WordCmp.cmpi_slt_ofNat (by show s.val < 2147483648; omega) (by show t.val < 2147483648; omega)

/-- A selection by the mask spread over batches and heads, zero elsewhere. -/
theorem select_mask (t s : Fin 2048) (m : BitVec 1) (y w : EReal) (hm : m = val_main_v22 (F := Ideal) (ix2 t s)) (hw : w = 0) :
    Scalar.select m y w = if s.val < t.val then y else 0 := by
  rw [hm, mask_apply, hw]
  by_cases h : s.val < t.val
  · rw [if_pos h, decide_eq_true h]; rfl
  · rw [if_neg h, decide_eq_false h]; rfl

/-- Where the mask does not hold, nothing is left of the stick's logarithm. -/
theorem fallback2_apply (i : S8x12x2048x2048.Idx) : val_main_call2_v2 (F := Ideal) i = (0 : EReal) := by
  rw [val_main_call2_v2_apply, val_main_call2_v0_apply]
  exact Ideal.ofBits_zero_f32

/-- Where the mask does not hold, the weight is zero. -/
theorem fallback4_apply (i : S8x12x2048x2048.Idx) : val_main_call4_v2 (F := Ideal) i = (0 : EReal) := by
  rw [val_main_call4_v2_apply, val_main_call4_v0_apply]
  exact Ideal.ofBits_zero_f32

/-- A column of the result: head `h`, column `d` of it. -/
theorem column_apply (t : Fin 2048) (d : Fin 128) (q : Fin 1536) (hq : q.val = h.val * 128 + d.val) :
    val_main_v35 (F := Ideal) x (ix2 (rowOf b t) q) = val_main_v32 (F := Ideal) x (ix4 b h t d) := by
  have hb := b.isLt; have ht := t.isLt; have hh := h.isLt; have hd := d.isLt
  rw [val_main_v35_apply, val_main_v34_apply, val_main_v33_apply]
  refine congrArg (val_main_v32 (F := Ideal) x) (idx4_ext ?_ ?_ ?_ ?_)
  · show ((b.val * 2048 + t.val) * 1536 + q.val) / 3145728 = b.val; omega
  · show ((b.val * 2048 + t.val) * 1536 + q.val) / 128 % 12 = h.val; omega
  · show ((b.val * 2048 + t.val) * 1536 + q.val) / 1536 % 2048 = t.val; omega
  · show ((b.val * 2048 + t.val) * 1536 + q.val) % 128 = d.val; omega

section scores

variable (t : Fin 2048) (z : ℕ → ℝ) (hz : ∀ s : Fin 2048, val_main_v15 (F := Ideal) x (ix4 b h t s) = ((z s.val : ℝ) : EReal))

include hz

/-- What a key leaves of the stick. -/
theorem keep_apply (s : Fin 2048) : val_main_v26 (F := Ideal) x (ix4 b h t s) = ((keep z t.val s.val : ℝ) : EReal) := by
  rw [val_main_v26_apply]
  refine (select_mask t s _ _ _ ((val_main_call2_v1_apply _).trans (congrArg _ (Common.idx2_ext rfl rfl)))
    (fallback2_apply _)).trans ?_
  rw [log_rest_apply, hz, ← EReal.coe_neg, hostLog_coe, lsig_neg, keep]
  by_cases hs : s.val < t.val
  · rw [if_pos hs, if_pos hs]
  · rw [if_neg hs, if_neg hs, EReal.coe_zero]

/-- What a key and the later ones leave of the stick. -/
theorem rest_apply (s : Fin 2048) :
    val_main_v27 (F := Ideal) x (ix4 b h t s) = ((∑ j ∈ Finset.Ico s.val t.val, keep z t.val j : ℝ) : EReal) := by
  have ht := t.isLt
  have hs := s.isLt
  have e0 : val_main_call3_v0 (F := Ideal) (Shape.Idx.first h_S_) = (0 : EReal) :=
    (val_main_call3_v0_apply _).trans Ideal.ofBits_zero_f32
  have e : val_main_v27 (F := Ideal) x (ix4 b h t s) = Ideal.hostReduceWindowAdd (s := ⟨4, ![8, 12, 2048, 2048]⟩) ![1, 1, 1, 2048]
      ![1, 1, 1, 1] ![0, 0, 0, 0] ![0, 0, 0, 2047]
      reduceWindows_S8x12x2048x2048_S8x12x2048x2048_w1s1p0_0_w1s1p0_0_w1s1p0_0_w2048s1p0_2047 (val_main_v26 (F := Ideal) x) 0
      (ix4 b h t s) := by
    rw [← e0, ← Ideal.hostReduceWindowAdd_def (φ := .f32) (sched := .single)]
    rfl
  rw [e, suffix_window, ← keep_sum z s.val (show t.val ≤ s.val + 2048 by omega), ← coe_sum,
    ← sum_tile 2048 s.val (fun j => ((keep z t.val j : ℝ) : EReal))]
  refine Finset.sum_congr rfl fun k _ => ?_
  by_cases hk : s.val + k.val < 2048
  · rw [dif_pos hk, keep_apply x b h t z hz]
  · rw [dif_neg hk, keep, if_neg (by omega), EReal.coe_zero]

/-- A weight. -/
theorem weight_apply (s : Fin 2048) : val_main_v31 (F := Ideal) x (ix4 b h t s) = ((weight z t.val s.val : ℝ) : EReal) := by
  rw [val_main_v31_apply]
  refine (select_mask t s _ _ _ ((val_main_call4_v1_apply _).trans (congrArg _ (Common.idx2_ext rfl rfl)))
    (fallback4_apply _)).trans ?_
  rw [weight]
  by_cases hs : s.val < t.val
  · rw [if_pos hs, if_pos hs]
    show Ideal.exp ((val_main_v23 (F := Ideal) x (ix4 b h t s) : EReal)
      + ((val_main_v27 (F := Ideal) x (ix4 b h t s) : EReal) - val_main_v26 (F := Ideal) x (ix4 b h t s))) = _
    rw [log_beta_apply, hz, hostLog_coe, rest_apply x b h t z hz, keep_apply x b h t z hz, ← EReal.coe_sub, ← EReal.coe_add,
      Ideal.exp_coe, Finset.sum_eq_sum_Ico_succ_bot hs, add_sub_cancel_left]
  · rw [if_neg hs, if_neg hs, EReal.coe_zero]

/-- An entry of the result: the weighted sum of the values of every key. -/
theorem result_apply (d : Fin 128) (q : Fin 1536) (hq : q.val = h.val * 128 + d.val) :
    val_main_v35 (F := Ideal) x (ix2 (rowOf b t) q) = ∑ s : Fin 2048, ((weight z t.val s.val : ℝ) : EReal) * entry x 2 b h s d := by
  rw [column_apply x b h t d q hq, val_main_v32_apply]
  refine Finset.sum_congr rfl fun s _ => ?_
  have e1 : lidx_main_v32 (ix4 b h t d) s = ix4 b h t s := idx4_ext rfl rfl rfl rfl
  have e2 : ridx_main_v32 (ix4 b h t d) s = ix4 b h s d := idx4_ext rfl rfl rfl rfl
  rw [e1, e2, weight_apply x b h t z hz s, value_apply x b h s d]

end scores

/-- The factor of the scores is a real. -/
theorem scale_real : ∃ w : ℝ, scale = (w : EReal) := by
  have e : scale = Ideal.ieee 8 23 0x3DB504F3#32 := rfl
  rw [e]
  unfold Ideal.ieee
  dsimp only
  rw [if_neg (by decide), if_neg (by decide)]
  exact ⟨_, rfl⟩

/-- A score of real queries and keys is a real. -/
theorem score_real (q k : Fin 128 → EReal) (hq : ∀ d, ∃ u : ℝ, q d = (u : EReal)) (hk : ∀ d, ∃ u : ℝ, k d = (u : EReal)) :
    ∃ u : ℝ, score q k = (u : EReal) := by
  choose q' hq using hq
  choose k' hk using hk
  obtain ⟨w, hw⟩ := scale_real
  refine ⟨(∑ d : Fin 128, q' d * k' d) * w, ?_⟩
  rw [score, hw, EReal.coe_mul, ← coe_sum]
  exact congrArg (· * (w : EReal)) (Finset.sum_congr rfl fun d _ => by rw [hq, hk, EReal.coe_mul])

/-- An extended real whose absolute value is below infinity is a real. -/
theorem real_of_abs_lt (y : EReal) (hy : max y (-y) < ⊤) : ∃ u : ℝ, y = (u : EReal) := by
  induction y with
  | bot => exact absurd hy (by simp)
  | top => exact absurd hy (by simp)
  | coe u => exact ⟨u, rfl⟩

/-- The word of infinity. -/
theorem inf_word : Ideal.ofBits .f32 0x7F800000#32 = ⊤ := by
  have e : Ideal.ofBits .f32 0x7F800000#32 = Ideal.ieee 8 23 0x7F800000#32 := rfl
  rw [e]
  unfold Ideal.ieee
  dsimp only
  rw [if_pos (by decide), if_pos (by decide), if_neg (by decide)]

/-- Under the precondition every entry of the queries and keys is a real. -/
theorem entry_real [Cert.Pre_finite_qk.Facts] (hp : Cert.Pre_finite_qk.fn (F := Ideal) x = fun _ => 1#1) (p : Fin 3) (hp2 : p.val < 2)
    (t : Fin 2048) (d : Fin 128) : ∃ u : ℝ, entry x p b h t d = (u : EReal) := by
  have hh := h.isLt; have hd := d.isLt
  have hs : Subsingleton (Shape.Idx ⟨0, ![]⟩) := ⟨fun u v => funext fun a => a.elim0⟩
  have hi := congrFun hp (fun a => a.elim0)
  have ho := Host.reduce_andi_all _ _ _ _ _ hi
    (ix2 (rowOf b t) (⟨p.val * 1536 + (h.val * 128 + d.val), by omega⟩ : Fin 3072))
  refine real_of_abs_lt _ ?_
  have hlt : ∀ y : EReal, Ideal.cmp .olt y (Ideal.ofBits .f32 0x7F800000#32) = 1#1 → y < ⊤ := fun y hy => by
    rw [inf_word] at hy
    exact of_decide_eq_true ((WordCmp.ofBool_eq_one_iff _).1 hy)
  refine hlt _ (Eq.trans (congrArg₂ (fun u v : EReal => Ideal.cmp .olt (max u (-u)) v) ?_ ?_) ho)
  · refine (extractStridedSlice_apply ![0, 1024] x Cert.Pre_finite_qk.Facts.slices_S16384x24064_S16384x3072_0_1024 _ (ix2 (rowOf b t) (colOf p h d)) fun a => ?_).symm
    match a with
    | ⟨0, _⟩ => show b.val * 2048 + t.val = 0 + (b.val * 2048 + t.val); omega
    | ⟨1, _⟩ => show 1024 + p.val * 1536 + (h.val * 128 + d.val) = 1024 + (p.val * 1536 + (h.val * 128 + d.val)); omega
  · exact (broadcastInDim_apply ![] Cert.Pre_finite_qk.Facts.bcast_S_S16384x3072
      (constant (F := Ideal) ⟨0, ![]⟩ .f32 0x7F800000#32) _ (fun a => a.elim0) (fun a => a.elim0)).symm

end Cert.SbRefIdeal.Row

end
-- ==== Proof.SbValue.lean ====
/-
  The stick-breaking attention: what the kernel writes back, block by block, is the reference's weighted sum of the values.
-/
module

public import proofs.«01_k».proof.Defs
public import proofs.«01_k».proof.Proof.Gen.SbIdeal.Value
public import proofs.«01_k».proof.Proof.Gen.SbRefIdeal.Run
public import proofs.«01_k».proof.Proof.Gen.SbRefIdeal.Read
public import proofs.«01_k».proof.Proof.SbRef

@[expose] public section

set_option maxRecDepth 16384

noncomputable section

namespace Cert.SbIdeal.Value

open Cert Cert.SbIdeal Cert.SbIdeal.Gen Idealize.ShloMosaic Idealize.ShloMosaic.TcCoe Idealize.SL.Sem
open Idealize.ShloMosaic.ValueIdx
open Idealize.ShloMosaic.Pipeline (Dat)

section block

variable [Cert.Pre_finite_qk.Facts] (x : Vec Ideal S16384x24064 .bf16) (x0 : Vec Ideal S256x512 .bf16)
  (x1 x2 : Vec Ideal S2048x512 .bf16) (b : Fin 8) (g : Fin 3) (qi : Fin 8)

/-- The row of the projection that row `r` of query block `qi` of batch `b` is. -/
def queryToken (qi : Fin 8) (r : Fin 256) : Fin 2048 := ⟨256 * qi.val + r.val, by have := qi.isLt; have := r.isLt; omega⟩

/-- The head that head `h` of group `g` is. -/
def headOf (g : Fin 3) (h : Fin 4) : Fin 12 := ⟨g.val * 4 + h.val, by have := g.isLt; have := h.isLt; omega⟩

/-- One head's accumulator over blocks of the projection is the reference's entry. -/
theorem block_eq (hp : Cert.Pre_finite_qk.fn (F := Ideal) x = fun _ => 1#1)
    (h0 : ∀ (h : Fin 4) (r : Fin 256) (d : Fin 128), x0 (ix2 r (Row.col h d)) = Cert.SbRefIdeal.Row.entry x 0 b (headOf g h) (queryToken qi r) d)
    (h1 : ∀ (h : Fin 4) (s : Fin 2048) (d : Fin 128), x1 (ix2 s (Row.col h d)) = Cert.SbRefIdeal.Row.entry x 1 b (headOf g h) s d)
    (h2 : ∀ (h : Fin 4) (s : Fin 2048) (d : Fin 128), x2 (ix2 s (Row.col h d)) = Cert.SbRefIdeal.Row.entry x 2 b (headOf g h) s d)
    (h : Fin 4) (r : Fin 256) (d : Fin 128) (q : Fin 1536) (hq : q.val = (headOf g h).val * 128 + d.val) :
    (Tile.headRun x0 x1 x2 h qi.val qi.val).1 (ix2 r d)
      = Cert.SbRefIdeal.Read.val_main_v35 (F := Ideal) x (ix2 (Cert.SbRefIdeal.Row.rowOf b (queryToken qi r)) q) := by
  have hreal : ∀ s : ℕ, ∃ u : ℝ, Row.score (Row.queryRow x0 h r) (Row.keyAt x1 h s) = (u : EReal) := fun s =>
    Cert.SbRefIdeal.Row.score_real _ _
      (fun d => by
        obtain ⟨u, hu⟩ := Cert.SbRefIdeal.Row.entry_real x b (headOf g h) hp 0 (by decide) (queryToken qi r) d
        exact ⟨u, (h0 h r d).trans hu⟩)
      (fun d => by
        obtain ⟨u, hu⟩ := Cert.SbRefIdeal.Row.entry_real x b (headOf g h) hp 1 (by decide) ⟨s % 2048, Nat.mod_lt _ (by decide)⟩ d
        exact ⟨u, (h1 h _ d).trans hu⟩)
  choose z hz using hreal
  have hkey : ∀ s : Fin 2048, (⟨s.val % 2048, Nat.mod_lt _ (by decide)⟩ : Fin 2048) = s := fun s => Fin.ext (Nat.mod_eq_of_lt s.isLt)
  rw [Row.headRun_all x0 x1 x2 h qi.val r d qi.isLt z hz,
    Cert.SbRefIdeal.Row.result_apply x b (headOf g h) (queryToken qi r) z ?_ d q hq]
  · refine Finset.sum_congr rfl fun s _ => ?_
    refine congrArg (((Stick.weight z (256 * qi.val + r.val) s.val : ℝ) : EReal) * ·) ?_
    rw [Row.keyAt, hkey, h2]
  · intro s
    rw [Cert.SbRefIdeal.Row.score_apply, ← hz s.val]
    refine congrArg₂ Row.score (funext fun d => (h0 h r d).symm) (funext fun d => ?_)
    rw [Row.keyAt, hkey, h1]

end block

variable (m : (ℓ : Loc nD τ sig) → Buf (Elt Ideal) ℓ)

/-- The block indices of the four windows at grid point `t`: batch `t / 24`, head group `t / 8 % 3`, query block `t % 8`. -/
theorem index_eq : ∀ t : Fin grid0.N, win0_0.index t 0 = t.val / 24 * 8 + t.val % 8 ∧ win0_0.index t 1 = 2 + t.val / 8 % 3
    ∧ win0_1.index t 0 = t.val / 24 ∧ win0_1.index t 1 = 5 + t.val / 8 % 3
    ∧ win0_2.index t 0 = t.val / 24 ∧ win0_2.index t 1 = 8 + t.val / 8 % 3
    ∧ win0_3.index t 0 = t.val / 24 * 8 + t.val % 8 ∧ win0_3.index t 1 = t.val / 8 % 3
    ∧ (grid0.coords t 2).val = t.val % 8 := by decide +kernel

/-- The result of the reference at the kernel's argument. -/
abbrev goal (c : Dev nD) : Buf (Elt Ideal) ((c : Thread nD τ).loc main_v0) :=
  Cert.SbRefIdeal.Read.val_main_v35 (F := Ideal) (m ((c : Thread nD τ).loc main_arg0))

/-- What each grid point writes back is the reference's block there. -/
theorem flushed_eq [Cert.Pre_finite_qk.Facts] (hpre : Cert.Pre_SbIdeal_finite_qk m) (c : Dev nD) (t : Fin cfg0.N) :
    (dats m 0 c).flushed 3 t = (win0_3.blk t).view.read (Elt Ideal) (goal m c) := by
  rw [flushed3_A]
  funext y
  obtain ⟨r, q, rfl⟩ : ∃ (r : Fin 256) (q : Fin 512), y = ix2 r q := ⟨y 0, y 1, eq_ix2 y⟩
  obtain ⟨e00, e01, e10, e11, e20, e21, e30, e31, e2⟩ := index_eq t
  have ht : t.val < 192 := t.isLt
  have hr := r.isLt
  have hq := q.isLt
  obtain ⟨b, hb⟩ : ∃ b : Fin 8, b.val = t.val / 24 := ⟨⟨t.val / 24, by omega⟩, rfl⟩
  obtain ⟨g, hg⟩ : ∃ g : Fin 3, g.val = t.val / 8 % 3 := ⟨⟨t.val / 8 % 3, by omega⟩, rfl⟩
  obtain ⟨h, hh⟩ : ∃ h : Fin 4, h.val = q.val / 128 := ⟨⟨q.val / 128, by omega⟩, rfl⟩
  obtain ⟨d, hd⟩ : ∃ d : Fin 128, d.val = q.val % 128 := ⟨⟨q.val % 128, by omega⟩, rfl⟩
  have hqi : (grid0.coords t 2).val = t.val % 8 := e2
  have hQ : t.val / 8 % 3 * 512 + q.val < 1536 := by omega
  refine (Tile.out_apply c (grid0.coords t) (ms0_0 t) (hs0_0 t) (ms0_1 t) (hs0_1 t) (ms0_2 t) (hs0_2 t) (ms0_3 t) (hs0_3 t)
    (iblk m c 0 t) (iblk m c 1 t) (iblk m c 2 t) (ix2 r q) h d (by show q.val = 128 * h.val + d.val; omega)).trans ?_
  refine (block_eq (m ((c : Thread nD τ).loc main_arg0)) (iblk m c 0 t) (iblk m c 1 t) (iblk m c 2 t) b g (grid0.coords t 2)
    (hpre c) ?_ ?_ ?_ h r d ⟨_, hQ⟩ (by show t.val / 8 % 3 * 512 + q.val = (g.val * 4 + h.val) * 128 + d.val; omega)).trans ?_
  · intro h r d
    refine congrArg (m ((c : Thread nD τ).loc main_arg0)) (Common.idx2_ext ?_ ?_)
    · refine (win0_0.rect_emb_val t (ix2 r (Row.col h d)) 0).trans ?_
      rw [e00]
      show (t.val / 24 * 8 + t.val % 8) * 256 + r.val = b.val * 2048 + (256 * (grid0.coords t 2).val + r.val)
      omega
    · refine (win0_0.rect_emb_val t (ix2 r (Row.col h d)) 1).trans ?_
      rw [e01]
      show (2 + t.val / 8 % 3) * 512 + (128 * h.val + d.val) = 1024 + 0 * 1536 + ((g.val * 4 + h.val) * 128 + d.val)
      omega
  · intro h s d
    refine congrArg (m ((c : Thread nD τ).loc main_arg0)) (Common.idx2_ext ?_ ?_)
    · refine (win0_1.rect_emb_val t (ix2 s (Row.col h d)) 0).trans ?_
      rw [e10]
      show t.val / 24 * 2048 + s.val = b.val * 2048 + s.val
      omega
    · refine (win0_1.rect_emb_val t (ix2 s (Row.col h d)) 1).trans ?_
      rw [e11]
      show (5 + t.val / 8 % 3) * 512 + (128 * h.val + d.val) = 1024 + 1 * 1536 + ((g.val * 4 + h.val) * 128 + d.val)
      omega
  · intro h s d
    refine congrArg (m ((c : Thread nD τ).loc main_arg0)) (Common.idx2_ext ?_ ?_)
    · refine (win0_2.rect_emb_val t (ix2 s (Row.col h d)) 0).trans ?_
      rw [e20]
      show t.val / 24 * 2048 + s.val = b.val * 2048 + s.val
      omega
    · refine (win0_2.rect_emb_val t (ix2 s (Row.col h d)) 1).trans ?_
      rw [e21]
      show (8 + t.val / 8 % 3) * 512 + (128 * h.val + d.val) = 1024 + 2 * 1536 + ((g.val * 4 + h.val) * 128 + d.val)
      omega
  · refine congrArg (goal m c) (Common.idx2_ext ?_ ?_)
    · refine Eq.trans ?_ (win0_3.rect_emb_val t (ix2 r q) 0).symm
      rw [e30]
      show b.val * 2048 + (256 * (grid0.coords t 2).val + r.val) = (t.val / 24 * 8 + t.val % 8) * 256 + r.val
      omega
    · exact ((win0_3.rect_emb_val t (ix2 r q) 1).trans (by rw [e31]; rfl)).symm

/-- Every entry of the result lies in some point's block. -/
theorem cover (i : S16384x1536.Idx) :
    ∃ t : Fin cfg0.N, (cfg0.win 3).flush t = true ∧ i ∈ ((cfg0.win 3).blk t).view.set := by
  have h0 : (i 0 : Nat) < 16384 := (i 0).isLt
  have h1 : (i 1 : Nat) < 1536 := (i 1).isLt
  obtain ⟨t, ht⟩ : ∃ t : Fin cfg0.N, t.val = (i 0 : Nat) / 2048 * 24 + (i 1 : Nat) / 512 * 8 + (i 0 : Nat) / 256 % 8 :=
    ⟨⟨_, (by omega : (i 0 : Nat) / 2048 * 24 + (i 1 : Nat) / 512 * 8 + (i 0 : Nat) / 256 % 8 < 192)⟩, rfl⟩
  refine ⟨t, flush0_3 _, ?_⟩
  show i ∈ ((View.whole main_v0).slice (win0_3.rect t)).set
  rw [View.set_slice_whole, Rect.mem_set_unit]
  obtain ⟨-, -, -, -, -, -, e0, e1, -⟩ := index_eq t
  intro a
  match a with
  | ⟨0, _⟩ =>
    show win0_3.index t 0 * 256 ≤ (i 0 : Nat) ∧ (i 0 : Nat) < win0_3.index t 0 * 256 + 256
    rw [e0, ht]; omega
  | ⟨1, _⟩ =>
    show win0_3.index t 1 * 512 ≤ (i 1 : Nat) ∧ (i 1 : Nat) < win0_3.index t 1 * 512 + 512
    rw [e1, ht]; omega

/-- The kernel's result array is the reference's. -/
theorem final [Cert.Pre_finite_qk.Facts] (hpre : Cert.Pre_SbIdeal_finite_qk m) (c : Dev nD) :
    (dats m 0 c).arrAt 3 cfg0.N = goal m c :=
  (dats m 0 c).arrAt_eq_of_cover 3 (goal m c) (fun t _ => flushed_eq m hpre c t) cover

/-- The kernel and the reference, from equal arguments whose queries and keys are finite, end with equal results and unchanged
    arguments. -/
theorem algebraic [Cert.Pre_finite_qk.Facts] : Cert.algebraic_SbIdeal_SbRefIdeal_pre_finite_qk := by
  intro m g m' g' hpre hargs
  refine ⟨fun c => goal m c, ?_, ?_⟩
  · exact (θ_run defs _ _).mono (fun r h c => ⟨(h c).1.trans (final m hpre c), (h c).2⟩) (run_blocks m g)
  · refine (θ_run _ _ _).mono (fun r h c => ⟨(h c).1.trans ?_, (h c).2⟩) (Cert.SbRefIdeal.Value.run (F := Ideal) m' g')
    rw [Cert.SbRefIdeal.Read.val_main_v35_eq m' c, hargs c]

end Cert.SbIdeal.Value

end
-- ==== Proof.ProjValue.lean ====
/-
  The input projection: what the kernel writes back, block by block, is the reference's product.
-/
module

public import proofs.«01_k».proof.Defs
public import proofs.«01_k».proof.Proof.Gen.ProjIdeal.Value
public import proofs.«01_k».proof.Proof.Gen.ProjRefIdeal.Run
public import proofs.«01_k».proof.Proof.Gen.ProjRefIdeal.Read
public import proofs.«01_k».proof.Proof.Common

@[expose] public section

set_option maxRecDepth 16384

noncomputable section

namespace Cert.ProjIdeal.Value

open Cert Cert.ProjIdeal Cert.ProjIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- An entry of the body's product: the row of the activations times the column of the weights. -/
theorem pay_apply (a : Vec Ideal S2048x4096 .bf16) (w : Vec Ideal S1x4096x512 .f32) (r : Fin 2048) (q : Fin 512) :
    k0_pay1 (F := Ideal) a w (ix2 r q) = (∑ k : Fin 4096, (a (ix2 r k) : EReal) * (w (ix3 (0 : Fin 1) k q) : EReal) : EReal) :=
  Common.matmul_dropUnit_apply (φ₁ := .bf16) (φ₂ := .f32) a w _ r q

/-- An entry of the reference: the row of the activations times the column of layer 0's weights. -/
theorem ref_apply (x0 : Vec Ideal S16384x4096 .bf16) (x1 : Vec Ideal S2x4096x24064 .f32) (r : Fin 16384) (q : Fin 24064) :
    Cert.ProjRefIdeal.Read.val_main_v4 (F := Ideal) x0 x1 (ix2 r q)
      = (∑ k : Fin 4096, (x0 (ix2 r k) : EReal) * (x1 (ix3 (0 : Fin 2) k q) : EReal) : EReal) := by
  refine (Cert.ProjRefIdeal.Read.val_main_v3_apply _ _ _).trans (Finset.sum_congr rfl fun k _ => ?_)
  rw [Cert.ProjRefIdeal.Read.val_main_v2_apply, Cert.ProjRefIdeal.Read.val_main_v1_apply]
  have hk := k.isLt
  have hq := q.isLt
  refine congrArg₂ (· * ·) (congrArg x0 (Common.idx2_ext rfl rfl)) (congrArg x1 (Common.idx3_ext rfl ?_ ?_))
  · show (k.val * 24064 + q.val) / 24064 % 4096 = k.val; omega
  · show (k.val * 24064 + q.val) % 24064 = q.val; omega

/-- The block indices of the three windows at grid point `t`: row block `t / 47`, column block `t % 47`. -/
theorem index_eq : ∀ t : Fin grid0.N, win0_0.index t 0 = t.val / 47 ∧ win0_0.index t 1 = 0
    ∧ win0_1.index t 0 = 0 ∧ win0_1.index t 1 = 0 ∧ win0_1.index t 2 = t.val % 47
    ∧ win0_2.index t 0 = t.val / 47 ∧ win0_2.index t 1 = t.val % 47 := by decide +kernel

/-- The result of the reference at the kernel's arguments. -/
abbrev goal (c : Dev nD) : Buf (Elt Ideal) ((c : Thread nD τ).loc main_v0) :=
  Cert.ProjRefIdeal.Read.val_main_v4 (F := Ideal) (m ((c : Thread nD τ).loc main_arg0)) (m ((c : Thread nD τ).loc main_arg1))

/-- What each grid point writes back is the reference's block there. -/
theorem flushed_eq (c : Dev nD) (t : Fin cfg0.N) :
    (dats m 0 c).flushed 2 t = (win0_2.blk t).view.read (Elt Ideal) (goal m c) := by
  rw [flushed2]
  funext y
  obtain ⟨r, q, rfl⟩ : ∃ (r : Fin 2048) (q : Fin 512), y = ix2 r q := ⟨y 0, y 1, eq_ix2 y⟩
  unfold out0_2
  rw [View.canon_unit_zero Common.zero2, View.ld_unit_zero Common.zero2, View.ld_unit_zero Common.zero3]
  obtain ⟨e00, e01, e10, e11, e12, e20, e21⟩ := index_eq t
  have ht : t.val < 376 := t.isLt
  have hr := r.isLt
  have hq := q.isLt
  have hR : t.val / 47 * 2048 + r.val < 16384 := by omega
  have hQ : t.val % 47 * 512 + q.val < 24064 := by omega
  refine (pay_apply _ _ r q).trans (Eq.trans ?_ ((ref_apply (m ((c : Thread nD τ).loc main_arg0)) (m ((c : Thread nD τ).loc main_arg1)) ⟨_, hR⟩ ⟨_, hQ⟩).symm.trans ?_))
  · refine Finset.sum_congr rfl fun k _ => congrArg₂ (· * ·) ?_ ?_
    · refine congrArg (m ((c : Thread nD τ).loc main_arg0)) (Common.idx2_ext ?_ ?_)
      · exact (win0_0.rect_emb_val t (ix2 r k) 0).trans (by rw [e00]; rfl)
      · exact (win0_0.rect_emb_val t (ix2 r k) 1).trans (by rw [e01, Nat.zero_mul, Nat.zero_add]; rfl)
    · refine congrArg (m ((c : Thread nD τ).loc main_arg1)) (Common.idx3_ext ?_ ?_ ?_)
      · exact (win0_1.rect_emb_val t (ix3 (0 : Fin 1) k q) 0).trans (by rw [e10, Nat.zero_mul, Nat.zero_add]; rfl)
      · exact (win0_1.rect_emb_val t (ix3 (0 : Fin 1) k q) 1).trans (by rw [e11, Nat.zero_mul, Nat.zero_add]; rfl)
      · exact (win0_1.rect_emb_val t (ix3 (0 : Fin 1) k q) 2).trans (by rw [e12]; rfl)
  · refine congrArg (goal m c) (Common.idx2_ext ?_ ?_)
    · exact ((win0_2.rect_emb_val t (ix2 r q) 0).trans (by rw [e20]; rfl)).symm
    · exact ((win0_2.rect_emb_val t (ix2 r q) 1).trans (by rw [e21]; rfl)).symm

/-- Every entry of the result lies in some point's block. -/
theorem cover (i : S16384x24064.Idx) :
    ∃ t : Fin cfg0.N, (cfg0.win 2).flush t = true ∧ i ∈ ((cfg0.win 2).blk t).view.set := by
  have h0 : (i 0 : Nat) < 16384 := (i 0).isLt
  have h1 : (i 1 : Nat) < 24064 := (i 1).isLt
  obtain ⟨t, ht⟩ : ∃ t : Fin cfg0.N, t.val = (i 0 : Nat) / 2048 * 47 + (i 1 : Nat) / 512 :=
    ⟨⟨_, (by omega : (i 0 : Nat) / 2048 * 47 + (i 1 : Nat) / 512 < 376)⟩, rfl⟩
  refine ⟨t, flush0_2 _, ?_⟩
  show i ∈ ((View.whole main_v0).slice (win0_2.rect t)).set
  rw [View.set_slice_whole, Rect.mem_set_unit]
  obtain ⟨-, -, -, -, -, e0, e1⟩ := index_eq t
  intro a
  match a with
  | ⟨0, _⟩ =>
    show win0_2.index t 0 * 2048 ≤ (i 0 : Nat) ∧ (i 0 : Nat) < win0_2.index t 0 * 2048 + 2048
    rw [e0, ht]; omega
  | ⟨1, _⟩ =>
    show win0_2.index t 1 * 512 ≤ (i 1 : Nat) ∧ (i 1 : Nat) < win0_2.index t 1 * 512 + 512
    rw [e1, ht]; omega

/-- The kernel's result array is the reference's. -/
theorem final (c : Dev nD) : (dats m 0 c).arrAt 2 cfg0.N = goal m c :=
  (dats m 0 c).arrAt_eq_of_cover 2 (goal m c) (fun t _ => flushed_eq m c t) cover

/-- The kernel and the reference, from equal arguments, end with equal results and unchanged arguments. -/
theorem algebraic : Cert.algebraic_ProjIdeal_ProjRefIdeal := by
  intro m g m' g' _ hargs
  refine ⟨fun c => goal m c, ?_, ?_⟩
  · exact (θ_run defs _ _).mono (fun r h c => ⟨(h c).1.trans (final m c), (h c).2⟩) (run_blocks m g)
  · refine (θ_run _ _ _).mono (fun r h c => ⟨(h c).1.trans ?_, (h c).2⟩) (Cert.ProjRefIdeal.Value.run (F := Ideal) m' g')
    rw [(hargs c).1, (hargs c).2]
    rfl

end Cert.ProjIdeal.Value

end
-- ==== Proof.SwigluValue.lean ====
/-
  The feed-forward's gate: what the kernel writes back, block by block, is silu of one product times another.
-/
module

public import proofs.«01_k».proof.Defs
public import proofs.«01_k».proof.Proof.Gen.SwigluIdeal.Value
public import proofs.«01_k».proof.Proof.Gen.SwigluRefIdeal.Run
public import proofs.«01_k».proof.Proof.Gen.SwigluRefIdeal.Read
public import proofs.«01_k».proof.Proof.Common

@[expose] public section

set_option maxRecDepth 16384

noncomputable section

namespace Cert.SwigluIdeal.Value

open Cert Cert.SwigluIdeal Cert.SwigluIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- Silu of the first product, times the second. -/
def gate (s g : EReal) : EReal := s * Common.sigmoid s * g

/-- An entry of the body: the gate of the row's two products. -/
theorem pay_apply (a : Vec Ideal S2048x4096 .bf16) (w3 w1 : Vec Ideal S1x4096x256 .f32) (r : Fin 2048) (q : Fin 256) :
    k0_pay1 (F := Ideal) a w3 w1 (ix2 r q)
      = gate (∑ k : Fin 4096, (a (ix2 r k) : EReal) * (w1 (ix3 (0 : Fin 1) k q) : EReal) : EReal)
          (∑ k : Fin 4096, (a (ix2 r k) : EReal) * (w3 (ix3 (0 : Fin 1) k q) : EReal) : EReal) :=
  congrArg₂ gate (Common.matmul_dropUnit_apply (φ₁ := .bf16) (φ₂ := .bf16) a w1 _ r q)
    (Common.matmul_dropUnit_apply (φ₁ := .bf16) (φ₂ := .bf16) a w3 _ r q)

/-- An entry of the reference's first product. -/
theorem prod1_apply (x0 : Vec Ideal S16384x4096 .bf16) (x1 : Vec Ideal S1x4096x11008 .f32) (r : Fin 16384) (q : Fin 11008) :
    Cert.SwigluRefIdeal.Read.val_main_v2 (F := Ideal) x0 x1 (ix2 r q)
      = (∑ k : Fin 4096, (x0 (ix2 r k) : EReal) * (x1 (ix3 (0 : Fin 1) k q) : EReal) : EReal) := by
  refine (Cert.SwigluRefIdeal.Read.val_main_v2_apply _ _ _).trans (Finset.sum_congr rfl fun k _ => ?_)
  rw [Cert.SwigluRefIdeal.Read.val_main_v1_apply]
  have hk := k.isLt
  have hq := q.isLt
  refine congrArg₂ (· * ·) (congrArg x0 (Common.idx2_ext rfl rfl)) (congrArg x1 (Common.idx3_ext rfl ?_ ?_))
  · show (k.val * 11008 + q.val) / 11008 % 4096 = k.val; omega
  · show (k.val * 11008 + q.val) % 11008 = q.val; omega

/-- An entry of the reference: the gate of the row's two products. -/
theorem ref_apply (x0 : Vec Ideal S16384x4096 .bf16) (x1 x2 : Vec Ideal S1x4096x11008 .f32) (r : Fin 16384) (q : Fin 11008) :
    Cert.SwigluRefIdeal.Read.val_main_v7 (F := Ideal) x0 x1 x2 (ix2 r q)
      = gate (∑ k : Fin 4096, (x0 (ix2 r k) : EReal) * (x1 (ix3 (0 : Fin 1) k q) : EReal) : EReal)
          (∑ k : Fin 4096, (x0 (ix2 r k) : EReal) * (x2 (ix3 (0 : Fin 1) k q) : EReal) : EReal) := by
  rw [← prod1_apply x0 x1 r q, ← prod1_apply x0 x2 r q]
  have e : Cert.SwigluRefIdeal.Read.val_main_call0_v5 (F := Ideal) x0 x1 (ix2 r q)
      = Common.sigmoid (Cert.SwigluRefIdeal.Read.val_main_v2 (F := Ideal) x0 x1 (ix2 r q)) := by
    rw [Cert.SwigluRefIdeal.Read.val_main_call0_v5_apply, Cert.SwigluRefIdeal.Read.val_main_call0_v4_apply,
      Cert.SwigluRefIdeal.Read.val_main_call0_v3_apply, Cert.SwigluRefIdeal.Read.val_main_call0_v2_apply]
    exact Common.host_sigmoid _
  exact congrArg₂ (fun s g : EReal => Cert.SwigluRefIdeal.Read.val_main_v2 (F := Ideal) x0 x1 (ix2 r q) * s * g) e rfl

/-- The block indices of the windows at grid point `t`: row block `t / 43`, column block `t % 43`. -/
theorem index_eq : ∀ t : Fin grid0.N, win0_0.index t 0 = t.val / 43 ∧ win0_0.index t 1 = 0
    ∧ win0_1.index t 0 = 0 ∧ win0_1.index t 1 = 0 ∧ win0_1.index t 2 = t.val % 43
    ∧ win0_2.index t 0 = 0 ∧ win0_2.index t 1 = 0 ∧ win0_2.index t 2 = t.val % 43
    ∧ win0_3.index t 0 = t.val / 43 ∧ win0_3.index t 1 = t.val % 43 := by decide +kernel

/-- The result of the reference at the kernel's arguments. -/
abbrev goal (c : Dev nD) : Buf (Elt Ideal) ((c : Thread nD τ).loc main_v0) :=
  Cert.SwigluRefIdeal.Read.val_main_v7 (F := Ideal) (m ((c : Thread nD τ).loc main_arg0)) (m ((c : Thread nD τ).loc main_arg1))
    (m ((c : Thread nD τ).loc main_arg2))

/-- What each grid point writes back is the reference's block there. -/
theorem flushed_eq (c : Dev nD) (t : Fin cfg0.N) :
    (dats m 0 c).flushed 3 t = (win0_3.blk t).view.read (Elt Ideal) (goal m c) := by
  rw [flushed3]
  funext y
  obtain ⟨r, q, rfl⟩ : ∃ (r : Fin 2048) (q : Fin 256), y = ix2 r q := ⟨y 0, y 1, eq_ix2 y⟩
  unfold out0_3
  rw [View.canon_unit_zero Common.zero2, View.ld_unit_zero Common.zero2, View.ld_unit_zero Common.zero3,
    View.ld_unit_zero Common.zero3]
  obtain ⟨e00, e01, e10, e11, e12, e20, e21, e22, e30, e31⟩ := index_eq t
  have ht : t.val < 344 := t.isLt
  have hr := r.isLt
  have hq := q.isLt
  have hR : t.val / 43 * 2048 + r.val < 16384 := by omega
  have hQ : t.val % 43 * 256 + q.val < 11008 := by omega
  have ea : ∀ k : Fin 4096, iblk m c 0 t (ix2 r k) = m ((c : Thread nD τ).loc main_arg0) (ix2 ⟨_, hR⟩ k) := fun k => by
    refine congrArg (m ((c : Thread nD τ).loc main_arg0)) (Common.idx2_ext ?_ ?_)
    · exact (win0_0.rect_emb_val t (ix2 r k) 0).trans (by rw [e00]; rfl)
    · exact (win0_0.rect_emb_val t (ix2 r k) 1).trans (by rw [e01, Nat.zero_mul, Nat.zero_add]; rfl)
  refine (pay_apply _ _ _ r q).trans (Eq.trans ?_ ((ref_apply (m ((c : Thread nD τ).loc main_arg0))
    (m ((c : Thread nD τ).loc main_arg1)) (m ((c : Thread nD τ).loc main_arg2)) ⟨_, hR⟩ ⟨_, hQ⟩).symm.trans ?_))
  · refine congrArg₂ gate (Finset.sum_congr rfl fun k _ => congrArg₂ (· * ·) (ea k) ?_)
      (Finset.sum_congr rfl fun k _ => congrArg₂ (· * ·) (ea k) ?_)
    · refine congrArg (m ((c : Thread nD τ).loc main_arg1)) (Common.idx3_ext ?_ ?_ ?_)
      · exact (win0_1.rect_emb_val t (ix3 (0 : Fin 1) k q) 0).trans (by rw [e10, Nat.zero_mul, Nat.zero_add]; rfl)
      · exact (win0_1.rect_emb_val t (ix3 (0 : Fin 1) k q) 1).trans (by rw [e11, Nat.zero_mul, Nat.zero_add]; rfl)
      · exact (win0_1.rect_emb_val t (ix3 (0 : Fin 1) k q) 2).trans (by rw [e12]; rfl)
    · refine congrArg (m ((c : Thread nD τ).loc main_arg2)) (Common.idx3_ext ?_ ?_ ?_)
      · exact (win0_2.rect_emb_val t (ix3 (0 : Fin 1) k q) 0).trans (by rw [e20, Nat.zero_mul, Nat.zero_add]; rfl)
      · exact (win0_2.rect_emb_val t (ix3 (0 : Fin 1) k q) 1).trans (by rw [e21, Nat.zero_mul, Nat.zero_add]; rfl)
      · exact (win0_2.rect_emb_val t (ix3 (0 : Fin 1) k q) 2).trans (by rw [e22]; rfl)
  · refine congrArg (goal m c) (Common.idx2_ext ?_ ?_)
    · exact ((win0_3.rect_emb_val t (ix2 r q) 0).trans (by rw [e30]; rfl)).symm
    · exact ((win0_3.rect_emb_val t (ix2 r q) 1).trans (by rw [e31]; rfl)).symm

/-- Every entry of the result lies in some point's block. -/
theorem cover (i : S16384x11008.Idx) :
    ∃ t : Fin cfg0.N, (cfg0.win 3).flush t = true ∧ i ∈ ((cfg0.win 3).blk t).view.set := by
  have h0 : (i 0 : Nat) < 16384 := (i 0).isLt
  have h1 : (i 1 : Nat) < 11008 := (i 1).isLt
  obtain ⟨t, ht⟩ : ∃ t : Fin cfg0.N, t.val = (i 0 : Nat) / 2048 * 43 + (i 1 : Nat) / 256 :=
    ⟨⟨_, (by omega : (i 0 : Nat) / 2048 * 43 + (i 1 : Nat) / 256 < 344)⟩, rfl⟩
  refine ⟨t, flush0_3 _, ?_⟩
  show i ∈ ((View.whole main_v0).slice (win0_3.rect t)).set
  rw [View.set_slice_whole, Rect.mem_set_unit]
  obtain ⟨-, -, -, -, -, -, -, -, e0, e1⟩ := index_eq t
  intro a
  match a with
  | ⟨0, _⟩ =>
    show win0_3.index t 0 * 2048 ≤ (i 0 : Nat) ∧ (i 0 : Nat) < win0_3.index t 0 * 2048 + 2048
    rw [e0, ht]; omega
  | ⟨1, _⟩ =>
    show win0_3.index t 1 * 256 ≤ (i 1 : Nat) ∧ (i 1 : Nat) < win0_3.index t 1 * 256 + 256
    rw [e1, ht]; omega

/-- The kernel's result array is the reference's. -/
theorem final (c : Dev nD) : (dats m 0 c).arrAt 3 cfg0.N = goal m c :=
  (dats m 0 c).arrAt_eq_of_cover 3 (goal m c) (fun t _ => flushed_eq m c t) cover

/-- The kernel and the reference, from equal arguments, end with equal results and unchanged arguments. -/
theorem algebraic : Cert.algebraic_SwigluIdeal_SwigluRefIdeal := by
  intro m g m' g' _ hargs
  refine ⟨fun c => goal m c, ?_, ?_⟩
  · exact (θ_run defs _ _).mono (fun r h c => ⟨(h c).1.trans (final m c), (h c).2⟩) (run_blocks m g)
  · refine (θ_run _ _ _).mono (fun r h c => ⟨(h c).1.trans ?_, (h c).2⟩) (Cert.SwigluRefIdeal.Value.run (F := Ideal) m' g')
    rw [(hargs c).1, (hargs c).2.1, (hargs c).2.2]
    rfl

end Cert.SwigluIdeal.Value

end
-- ==== Proof.OutValue.lean ====
/-
  The output projection: what the kernel writes back, block by block, is the gated residual of the product.
-/
module

public import proofs.«01_k».proof.Defs
public import proofs.«01_k».proof.Proof.Gen.OutIdeal.Value
public import proofs.«01_k».proof.Proof.Gen.OutRefIdeal.Run
public import proofs.«01_k».proof.Proof.Gen.OutRefIdeal.Read
public import proofs.«01_k».proof.Proof.Common

@[expose] public section

set_option maxRecDepth 16384

noncomputable section

namespace Cert.OutIdeal.Value

open Cert Cert.OutIdeal Cert.OutIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- An entry of the reference: the residual plus the gate times the row's product with layer 0's weights. -/
theorem ref_apply (x0 : Vec Ideal S16384x4096 .bf16) (x1 : Vec Ideal S2x4096x4096 .bf16) (x2 : Vec Ideal S16384x4096 .f32)
    (x3 : Vec Ideal S8x1x24576 .f32) (r : Fin 16384) (q : Fin 4096) (hb : r.val / 2048 < 8) (hg : 8192 + q.val < 24576) :
    Cert.OutRefIdeal.Read.val_main_v16 (F := Ideal) x0 x1 x2 x3 (ix2 r q)
      = Common.resid (x2 (ix2 r q)) (x3 (ix3 ⟨r.val / 2048, hb⟩ (0 : Fin 1) ⟨8192 + q.val, hg⟩))
          (∑ k : Fin 4096, (x0 (ix2 r k) : EReal) * (x1 (ix3 (0 : Fin 2) k q) : EReal) : EReal) := by
  have hr := r.isLt
  have hq := q.isLt
  rw [Cert.OutRefIdeal.Read.val_main_v16_apply]
  have e : Cert.OutRefIdeal.Read.idx_main_v16 (ix2 r q)
      = ix3 ⟨r.val / 2048, hb⟩ ⟨r.val % 2048, Nat.mod_lt _ (by omega)⟩ q := by
    refine Common.idx3_ext ?_ ?_ ?_
    · show (r.val * 4096 + q.val) / 8388608 = r.val / 2048; omega
    · show (r.val * 4096 + q.val) / 4096 % 2048 = r.val % 2048; omega
    · show (r.val * 4096 + q.val) % 4096 = q.val; omega
  rw [e]
  refine Common.resid_congr ?_ ?_ ?_
  · rw [Cert.OutRefIdeal.Read.val_main_v12_apply]
    refine congrArg x2 (Common.idx2_ext ?_ ?_)
    · show ((r.val / 2048 * 2048 + r.val % 2048) * 4096 + q.val) / 4096 = r.val; omega
    · show ((r.val / 2048 * 2048 + r.val % 2048) * 4096 + q.val) % 4096 = q.val; omega
  · rw [Cert.OutRefIdeal.Read.val_main_v13_apply, Cert.OutRefIdeal.Read.val_main_v2_apply]
    exact congrArg x3 (Common.idx3_ext rfl rfl rfl)
  · refine (Cert.OutRefIdeal.Read.val_main_v11_apply _ _ _).trans (Finset.sum_congr rfl fun k _ => ?_)
    have hk := k.isLt
    rw [Cert.OutRefIdeal.Read.val_main_v7_apply, Cert.OutRefIdeal.Read.val_main_v6_apply, Cert.OutRefIdeal.Read.val_main_v10_apply, Cert.OutRefIdeal.Read.val_main_v9_apply, Cert.OutRefIdeal.Read.val_main_v8_apply]
    refine congrArg₂ (· * ·) (congrArg x0 (Common.idx2_ext ?_ ?_)) (congrArg x1 (Common.idx3_ext rfl ?_ ?_))
    · show ((r.val / 2048 * 2048 + r.val % 2048) * 4096 + k.val) / 4096 = r.val; omega
    · show ((r.val / 2048 * 2048 + r.val % 2048) * 4096 + k.val) % 4096 = k.val; omega
    · show (k.val * 4096 + q.val) / 4096 % 4096 = k.val; omega
    · show (k.val * 4096 + q.val) % 4096 = q.val; omega

/-- The result of the reference at the kernel's arguments. -/
abbrev goal (c : Dev nD) : Buf (Elt Ideal) ((c : Thread nD τ).loc main_v0) :=
  Cert.OutRefIdeal.Read.val_main_v16 (F := Ideal) (m ((c : Thread nD τ).loc main_arg0)) (m ((c : Thread nD τ).loc main_arg1))
    (m ((c : Thread nD τ).loc main_arg2)) (m ((c : Thread nD τ).loc main_arg3))

/-- What the body leaves in the output block: the payload of its one store. -/
theorem out_eq (c : Dev nD) (i : grid0.Coords) (a3 : Memref sig .tc .vmem S1024x4096 .bf16) (h3 : a3.IsWhole)
    (a4 : Memref sig .tc .vmem S1x4096x512 .bf16) (h4 : a4.IsWhole) (a5 : Memref sig .tc .vmem S1024x512 .f32) (h5 : a5.IsWhole)
    (a6 : Memref sig .tc .vmem S1x1x512 .f32) (h6 : a6.IsWhole) (a7 : Memref sig .tc .vmem S1024x512 .f32) (h7 : a7.IsWhole)
    (a8 : Memref sig .tc .vmem S1024x512 .f32) (h8 : a8.IsWhole)
    (x0 : Vec Ideal S1024x4096 .bf16) (x1 : Vec Ideal S1x4096x512 .bf16) (x2 : Vec Ideal S1024x512 .f32) (x3 : Vec Ideal S1x1x512 .f32) :
    out0_A_4 c i a3 h3 a4 h4 a5 h5 a6 h6 a7 h7 a8 h8 x0 x1 x2 x3 = k0_pay1 x0 x1 x2 x3 := by
  unfold out0_A_4
  rw [View.read_writes_junk_eq_canon]
  unfold kernelRun0_A
  dsimp only
  sl_unfold_words
  rw [View.canon_unit_zero Common.zero2]
  simp only [View.readAt_eq_ld, h3.read_unread, h4.read_unread, h5.read_unread, h6.read_unread,
    View.ld_unit_zero (S := S1024x4096) Common.zero2, View.ld_unit_zero (S := S1x4096x512) Common.zero3,
    View.ld_unit_zero (S := S1024x512) Common.zero2, View.ld_unit_zero (S := S1x1x512) Common.zero3]

/-- An entry of the payload. -/
theorem pay_apply (x0 : Vec Ideal S1024x4096 .bf16) (x1 : Vec Ideal S1x4096x512 .bf16) (x2 : Vec Ideal S1024x512 .f32)
    (x3 : Vec Ideal S1x1x512 .f32) (r : Fin 1024) (q : Fin 512) :
    k0_pay1 (F := Ideal) x0 x1 x2 x3 (ix2 r q) = Common.resid (x2 (ix2 r q)) (x3 (ix3 (0 : Fin 1) (0 : Fin 1) q))
      (∑ k : Fin 4096, (x0 (ix2 r k) : EReal) * (x1 (ix3 (0 : Fin 1) k q) : EReal) : EReal) :=
  Common.resid_congr rfl (Common.row_spread_apply (by decide) x3 _ _ r q)
    (Common.matmul_dropUnit_apply (φ₁ := .bf16) (φ₂ := .bf16) x0 x1 _ r q)

/-- The block indices of the windows at grid point `t`: row block `t / 8`, column block `t % 8`, gate row `t / 16`. -/
theorem index_eq : ∀ t : Fin grid0.N, (win0_0.index t 0 = t.val / 8 ∧ win0_0.index t 1 = 0)
    ∧ (win0_1.index t 0 = 0 ∧ win0_1.index t 1 = 0 ∧ win0_1.index t 2 = t.val % 8)
    ∧ (win0_2.index t 0 = t.val / 8 ∧ win0_2.index t 1 = t.val % 8)
    ∧ (win0_3.index t 0 = t.val / 16 ∧ win0_3.index t 1 = 0 ∧ win0_3.index t 2 = 16 + t.val % 8)
    ∧ win0_4.index t 0 = t.val / 8 ∧ win0_4.index t 1 = t.val % 8 := by decide +kernel

/-- What each grid point writes back is the reference's block there. -/
theorem flushed_eq (c : Dev nD) (t : Fin cfg0.N) :
    (dats m 0 c).flushed 4 t = (win0_4.blk t).view.read (Elt Ideal) (goal m c) := by
  rw [flushed4_A, out_eq]
  funext y
  obtain ⟨r, q, rfl⟩ : ∃ (r : Fin 1024) (q : Fin 512), y = ix2 r q := ⟨y 0, y 1, eq_ix2 y⟩
  obtain ⟨e0, e1, e2, e3, e4⟩ := index_eq t
  have ht : t.val < 128 := t.isLt
  have hr := r.isLt
  have hq := q.isLt
  have hR : t.val / 8 * 1024 + r.val < 16384 := by omega
  have hQ : t.val % 8 * 512 + q.val < 4096 := by omega
  refine Eq.trans (pay_apply (iblk m c 0 t) (iblk m c 1 t) (iblk m c 2 t) (iblk m c 3 t) r q) (Eq.trans ?_
    ((ref_apply (m ((c : Thread nD τ).loc main_arg0)) (m ((c : Thread nD τ).loc main_arg1)) (m ((c : Thread nD τ).loc main_arg2))
      (m ((c : Thread nD τ).loc main_arg3)) ⟨_, hR⟩ ⟨_, hQ⟩ (by dsimp only; omega) (by dsimp only; omega)).symm.trans ?_))
  · refine Common.resid_congr ?_ ?_ (Finset.sum_congr rfl fun k _ => congrArg₂ (· * ·) ?_ ?_)
    · refine congrArg (m ((c : Thread nD τ).loc main_arg2)) (Common.idx2_ext ?_ ?_)
      · exact (win0_2.rect_emb_val t (ix2 r q) 0).trans (by rw [e2.1]; rfl)
      · exact (win0_2.rect_emb_val t (ix2 r q) 1).trans (by rw [e2.2]; rfl)
    · refine congrArg (m ((c : Thread nD τ).loc main_arg3)) (Common.idx3_ext ?_ ?_ ?_)
      · refine (win0_3.rect_emb_val t (ix3 (0 : Fin 1) (0 : Fin 1) q) 0).trans ?_
        rw [e3.1]; show t.val / 16 * 1 + 0 = (t.val / 8 * 1024 + r.val) / 2048; omega
      · exact (win0_3.rect_emb_val t (ix3 (0 : Fin 1) (0 : Fin 1) q) 1).trans (by rw [e3.2.1, Nat.zero_mul, Nat.zero_add]; rfl)
      · refine (win0_3.rect_emb_val t (ix3 (0 : Fin 1) (0 : Fin 1) q) 2).trans ?_
        rw [e3.2.2]; show (16 + t.val % 8) * 512 + q.val = 8192 + (t.val % 8 * 512 + q.val); omega
    · refine congrArg (m ((c : Thread nD τ).loc main_arg0)) (Common.idx2_ext ?_ ?_)
      · exact (win0_0.rect_emb_val t (ix2 r k) 0).trans (by rw [e0.1]; rfl)
      · exact (win0_0.rect_emb_val t (ix2 r k) 1).trans (by rw [e0.2, Nat.zero_mul, Nat.zero_add]; rfl)
    · refine congrArg (m ((c : Thread nD τ).loc main_arg1)) (Common.idx3_ext ?_ ?_ ?_)
      · exact (win0_1.rect_emb_val t (ix3 (0 : Fin 1) k q) 0).trans (by rw [e1.1, Nat.zero_mul, Nat.zero_add]; rfl)
      · exact (win0_1.rect_emb_val t (ix3 (0 : Fin 1) k q) 1).trans (by rw [e1.2.1, Nat.zero_mul, Nat.zero_add]; rfl)
      · exact (win0_1.rect_emb_val t (ix3 (0 : Fin 1) k q) 2).trans (by rw [e1.2.2]; rfl)
  · refine congrArg (goal m c) (Common.idx2_ext ?_ ?_)
    · exact ((win0_4.rect_emb_val t (ix2 r q) 0).trans (by rw [e4.1]; rfl)).symm
    · exact ((win0_4.rect_emb_val t (ix2 r q) 1).trans (by rw [e4.2]; rfl)).symm

/-- Every entry of the result lies in some point's block. -/
theorem cover (i : S16384x4096.Idx) :
    ∃ t : Fin cfg0.N, (cfg0.win 4).flush t = true ∧ i ∈ ((cfg0.win 4).blk t).view.set := by
  have h0 : (i 0 : Nat) < 16384 := (i 0).isLt
  have h1 : (i 1 : Nat) < 4096 := (i 1).isLt
  obtain ⟨t, ht⟩ : ∃ t : Fin cfg0.N, t.val = (i 0 : Nat) / 1024 * 8 + (i 1 : Nat) / 512 :=
    ⟨⟨_, (by omega : (i 0 : Nat) / 1024 * 8 + (i 1 : Nat) / 512 < 128)⟩, rfl⟩
  refine ⟨t, flush0_4 _, ?_⟩
  show i ∈ ((View.whole main_v0).slice (win0_4.rect t)).set
  rw [View.set_slice_whole, Rect.mem_set_unit]
  obtain ⟨-, -, -, -, e4⟩ := index_eq t
  intro a
  match a with
  | ⟨0, _⟩ =>
    show win0_4.index t 0 * 1024 ≤ (i 0 : Nat) ∧ (i 0 : Nat) < win0_4.index t 0 * 1024 + 1024
    rw [e4.1, ht]; omega
  | ⟨1, _⟩ =>
    show win0_4.index t 1 * 512 ≤ (i 1 : Nat) ∧ (i 1 : Nat) < win0_4.index t 1 * 512 + 512
    rw [e4.2, ht]; omega

/-- The kernel's result array is the reference's. -/
theorem final (c : Dev nD) : (dats m 0 c).arrAt 4 cfg0.N = goal m c :=
  (dats m 0 c).arrAt_eq_of_cover 4 (goal m c) (fun t _ => flushed_eq m c t) cover

/-- The kernel and the reference, from equal arguments, end with equal results and unchanged arguments. -/
theorem algebraic : Cert.algebraic_OutIdeal_OutRefIdeal := by
  intro m g m' g' _ hargs
  refine ⟨fun c => goal m c, ?_, ?_⟩
  · exact (θ_run defs _ _).mono (fun r h c => ⟨(h c).1.trans (final m c), (h c).2⟩) (run_blocks m g)
  · refine (θ_run _ _ _).mono (fun r h c => ⟨(h c).1.trans ?_, (h c).2⟩) (Cert.OutRefIdeal.Value.run (F := Ideal) m' g')
    rw [(hargs c).1, (hargs c).2.1, (hargs c).2.2.1, (hargs c).2.2.2]
    rfl

end Cert.OutIdeal.Value

end
-- ==== Proof.DownValue.lean ====
/-
  The feed-forward's second product: the kernel adds it up in two halves; what it writes back is the gated residual.
-/
module

public import proofs.«01_k».proof.Defs
public import proofs.«01_k».proof.Proof.Gen.DownIdeal.Value
public import proofs.«01_k».proof.Proof.Gen.DownRefIdeal.Run
public import proofs.«01_k».proof.Proof.Gen.DownRefIdeal.Read
public import proofs.«01_k».proof.Proof.Common

@[expose] public section

set_option maxRecDepth 16384

noncomputable section

namespace Cert.DownIdeal.Value

open Cert Cert.DownIdeal Cert.DownIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- An entry of the reference: the residual plus the gate times the row's product with layer 0's weights. -/
theorem ref_apply (x0 : Vec Ideal S16384x11008 .bf16) (x1 : Vec Ideal S1x11008x4096 .bf16) (x2 : Vec Ideal S16384x4096 .f32)
    (x3 : Vec Ideal S8x1x24576 .f32) (r : Fin 16384) (q : Fin 4096) (hb : r.val / 2048 < 8) (hg : 20480 + q.val < 24576) :
    Cert.DownRefIdeal.Read.val_main_v15 (F := Ideal) x0 x1 x2 x3 (ix2 r q)
      = Common.resid (x2 (ix2 r q)) (x3 (ix3 ⟨r.val / 2048, hb⟩ (0 : Fin 1) ⟨20480 + q.val, hg⟩))
          (∑ k : Fin 11008, (x0 (ix2 r k) : EReal) * (x1 (ix3 (0 : Fin 1) k q) : EReal) : EReal) := by
  have hr := r.isLt
  have hq := q.isLt
  rw [Cert.DownRefIdeal.Read.val_main_v15_apply]
  have e : Cert.DownRefIdeal.Read.idx_main_v15 (ix2 r q)
      = ix3 ⟨r.val / 2048, hb⟩ ⟨r.val % 2048, Nat.mod_lt _ (by omega)⟩ q := by
    refine Common.idx3_ext ?_ ?_ ?_
    · show (r.val * 4096 + q.val) / 8388608 = r.val / 2048; omega
    · show (r.val * 4096 + q.val) / 4096 % 2048 = r.val % 2048; omega
    · show (r.val * 4096 + q.val) % 4096 = q.val; omega
  rw [e]
  refine Common.resid_congr ?_ ?_ ?_
  · rw [Cert.DownRefIdeal.Read.val_main_v11_apply]
    refine congrArg x2 (Common.idx2_ext ?_ ?_)
    · show ((r.val / 2048 * 2048 + r.val % 2048) * 4096 + q.val) / 4096 = r.val; omega
    · show ((r.val / 2048 * 2048 + r.val % 2048) * 4096 + q.val) % 4096 = q.val; omega
  · rw [Cert.DownRefIdeal.Read.val_main_v12_apply, Cert.DownRefIdeal.Read.val_main_v5_apply]
    exact congrArg x3 (Common.idx3_ext rfl rfl rfl)
  · refine (Cert.DownRefIdeal.Read.val_main_v10_apply _ _ _).trans (Finset.sum_congr rfl fun k _ => ?_)
    have hk := k.isLt
    rw [Cert.DownRefIdeal.Read.val_main_v7_apply, Cert.DownRefIdeal.Read.val_main_v6_apply, Cert.DownRefIdeal.Read.val_main_v9_apply, Cert.DownRefIdeal.Read.val_main_v8_apply]
    refine congrArg₂ (· * ·) (congrArg x0 (Common.idx2_ext ?_ ?_)) (congrArg x1 (Common.idx3_ext rfl ?_ ?_))
    · show ((r.val / 2048 * 2048 + r.val % 2048) * 11008 + k.val) / 11008 = r.val; omega
    · show ((r.val / 2048 * 2048 + r.val % 2048) * 11008 + k.val) % 11008 = k.val; omega
    · show (k.val * 4096 + q.val) / 4096 % 11008 = k.val; omega
    · show (k.val * 4096 + q.val) % 4096 = q.val; omega

/-- The result of the reference at the kernel's arguments. -/
abbrev goal (c : Dev nD) : Buf (Elt Ideal) ((c : Thread nD τ).loc main_v0) :=
  Cert.DownRefIdeal.Read.val_main_v15 (F := Ideal) (m ((c : Thread nD τ).loc main_arg0)) (m ((c : Thread nD τ).loc main_arg1))
    (m ((c : Thread nD τ).loc main_arg2)) (m ((c : Thread nD τ).loc main_arg3))

/-- What the first half's body leaves in the accumulator: its product. -/
theorem acc_eq (c : Dev nD) (i : grid0.Coords) (a3 : Memref sig .tc .vmem S1024x5504 .bf16) (h3 : a3.IsWhole)
    (a4 : Memref sig .tc .vmem S1x5504x512 .bf16) (h4 : a4.IsWhole) (a5 : Memref sig .tc .vmem S1024x512 .f32) (h5 : a5.IsWhole)
    (a6 : Memref sig .tc .vmem S1x1x512 .f32) (h6 : a6.IsWhole) (a7 : Memref sig .tc .vmem S1024x512 .f32) (h7 : a7.IsWhole)
    (a8 : Memref sig .tc .vmem S1024x512 .f32) (h8 : a8.IsWhole) (c0 : cond0_0 i) (c1 : ¬cond0_1 i) (c2 : ¬cond0_2 i)
    (x0 : Vec Ideal S1024x5504 .bf16) (x1 : Vec Ideal S1x5504x512 .bf16) (x2 : Vec Ideal S1024x512 .f32) (x3 : Vec Ideal S1x1x512 .f32) :
    sout0_A_0 c i a3 h3 a4 h4 a5 h5 a6 h6 a7 h7 a8 h8 c0 c1 c2 x0 x1 x2 x3 = k0_pay1 x0 x1 := by
  unfold sout0_A_0
  rw [View.read_writes_eq_canon _ _ _ (scover0_A_0 c i a3 h3 a4 h4 a5 h5 a6 h6 a7 h7 a8 h8 c0 c1 c2 x0 x1 x2 x3)]
  unfold kernelRun0_A
  dsimp only
  sl_unfold_words
  rw [View.canon_unit_zero Common.zero2]
  unfold k0_pay2
  simp only [View.readAt_eq_ld, h3.read_unread, h4.read_unread, View.ld_unit_zero (S := S1024x5504) Common.zero2,
    View.ld_unit_zero (S := S1x5504x512) Common.zero3, shapeCast_self]

/-- What the second half's body leaves in the output block: the payload of its one store. -/
theorem out_eq (c : Dev nD) (i : grid0.Coords) (a3 : Memref sig .tc .vmem S1024x5504 .bf16) (h3 : a3.IsWhole)
    (a4 : Memref sig .tc .vmem S1x5504x512 .bf16) (h4 : a4.IsWhole) (a5 : Memref sig .tc .vmem S1024x512 .f32) (h5 : a5.IsWhole)
    (a6 : Memref sig .tc .vmem S1x1x512 .f32) (h6 : a6.IsWhole) (a7 : Memref sig .tc .vmem S1024x512 .f32) (h7 : a7.IsWhole)
    (a8 : Memref sig .tc .vmem S1024x512 .f32) (h8 : a8.IsWhole) (c0 : ¬cond0_0 i) (c1 : ¬cond0_1 i) (c2 : cond0_2 i)
    (x0 : Vec Ideal S1024x5504 .bf16) (x1 : Vec Ideal S1x5504x512 .bf16) (x2 : Vec Ideal S1024x512 .f32) (x3 : Vec Ideal S1x1x512 .f32)
    (acc : Vec Ideal S1024x512 .f32) :
    out0_B_4 c i a3 h3 a4 h4 a5 h5 a6 h6 a7 h7 a8 h8 c0 c1 c2 x0 x1 x2 x3 acc = k0_pay4 x0 x1 x2 x3 acc := by
  unfold out0_B_4
  rw [View.read_writes_junk_eq_canon]
  unfold kernelRun0_B
  dsimp only
  sl_unfold_words
  rw [View.canon_unit_zero Common.zero2]
  simp only [View.readAt_eq_ld, h3.read_unread, h4.read_unread, h5.read_unread, h6.read_unread, h8.read_unread,
    View.ld_unit_zero (S := S1024x5504) Common.zero2, View.ld_unit_zero (S := S1x5504x512) Common.zero3,
    View.ld_unit_zero (S := S1024x512) Common.zero2, View.ld_unit_zero (S := S1x1x512) Common.zero3]

/-- An entry of the second half's payload over the first half's product. -/
theorem pay_apply (y0 x0 : Vec Ideal S1024x5504 .bf16) (y1 x1 : Vec Ideal S1x5504x512 .bf16) (x2 : Vec Ideal S1024x512 .f32)
    (x3 : Vec Ideal S1x1x512 .f32) (r : Fin 1024) (q : Fin 512) :
    k0_pay4 (F := Ideal) x0 x1 x2 x3 (k0_pay1 y0 y1) (ix2 r q) = Common.resid (x2 (ix2 r q)) (x3 (ix3 (0 : Fin 1) (0 : Fin 1) q))
      ((∑ k : Fin 5504, (y0 (ix2 r k) : EReal) * (y1 (ix3 (0 : Fin 1) k q) : EReal) : EReal)
        + (∑ k : Fin 5504, (x0 (ix2 r k) : EReal) * (x1 (ix3 (0 : Fin 1) k q) : EReal) : EReal)) :=
  Common.resid_congr rfl (Common.row_spread_apply (by decide) x3 _ _ r q)
    (congrArg₂ (fun a b : EReal => a + b) (Common.matmul_dropUnit_apply (φ₁ := .bf16) (φ₂ := .bf16) y0 y1 _ r q)
      (Common.matmul_dropUnit_apply (φ₁ := .bf16) (φ₂ := .bf16) x0 x1 _ r q))

/-- The block indices of the windows at grid point `t`: row block `t / 16`, column block `t / 2 % 8`, half `t % 2`, gate
    row `t / 32`. -/
theorem index_eq : ∀ t : Fin grid0.N, (win0_0.index t 0 = t.val / 16 ∧ win0_0.index t 1 = t.val % 2)
    ∧ (win0_1.index t 0 = 0 ∧ win0_1.index t 1 = t.val % 2 ∧ win0_1.index t 2 = t.val / 2 % 8)
    ∧ (win0_2.index t 0 = t.val / 16 ∧ win0_2.index t 1 = t.val / 2 % 8)
    ∧ (win0_3.index t 0 = t.val / 32 ∧ win0_3.index t 1 = 0 ∧ win0_3.index t 2 = 40 + t.val / 2 % 8)
    ∧ win0_4.index t 0 = t.val / 16 ∧ win0_4.index t 1 = t.val / 2 % 8 := by decide +kernel

/-- A product of blocks at point `t`, as the terms of the whole product that the point's half holds. -/
theorem half_eq (c : Dev nD) (t : Fin cfg0.N) (r : Fin 1024) (q : Fin 512) (hR : t.val / 16 * 1024 + r.val < 16384)
    (hQ : t.val / 2 % 8 * 512 + q.val < 4096) (k : Fin 5504) (hk : t.val % 2 * 5504 + k.val < 11008) :
    (@HMul.hMul EReal EReal EReal _ (iblk m c 0 t (ix2 r k)) (iblk m c 1 t (ix3 (0 : Fin 1) k q)))
      = @HMul.hMul EReal EReal EReal _ (m ((c : Thread nD τ).loc main_arg0) (ix2 ⟨_, hR⟩ ⟨_, hk⟩))
          (m ((c : Thread nD τ).loc main_arg1) (ix3 (0 : Fin 1) ⟨_, hk⟩ ⟨_, hQ⟩)) := by
  obtain ⟨e0, e1, -⟩ := index_eq t
  refine congrArg₂ (fun a b : EReal => a * b) ?_ ?_
  · refine congrArg (m ((c : Thread nD τ).loc main_arg0)) (Common.idx2_ext ?_ ?_)
    · exact (win0_0.rect_emb_val t (ix2 r k) 0).trans (by rw [e0.1]; rfl)
    · exact (win0_0.rect_emb_val t (ix2 r k) 1).trans (by rw [e0.2]; rfl)
  · refine congrArg (m ((c : Thread nD τ).loc main_arg1)) (Common.idx3_ext ?_ ?_ ?_)
    · exact (win0_1.rect_emb_val t (ix3 (0 : Fin 1) k q) 0).trans (by rw [e1.1, Nat.zero_mul, Nat.zero_add]; rfl)
    · exact (win0_1.rect_emb_val t (ix3 (0 : Fin 1) k q) 1).trans (by rw [e1.2.1]; rfl)
    · exact (win0_1.rect_emb_val t (ix3 (0 : Fin 1) k q) 2).trans (by rw [e1.2.2]; rfl)

/-- A sum over the 11008 places, as its two halves. -/
theorem sum_halves (f : Fin 11008 → EReal) : ∑ k, f k
    = (∑ k : Fin 5504, f ⟨k.val, by omega⟩) + ∑ k : Fin 5504, f ⟨5504 + k.val, by omega⟩ :=
  Fin.sum_univ_add (a := 5504) (b := 5504) f

/-- What a point of the second half writes back is the reference's block there. -/
theorem flushed_eq (c : Dev nD) (t : Fin cfg0.N) (h1 : t.val % 2 = 1) :
    (dats m 0 c).flushed 4 t = (win0_4.blk t).view.read (Elt Ideal) (goal m c) := by
  have ht : t.val < 256 := t.isLt
  obtain ⟨s, hs⟩ : ∃ s : Fin cfg0.N, s.val = t.val - 1 := ⟨⟨t.val - 1, Nat.lt_of_le_of_lt (Nat.sub_le _ _) t.isLt⟩, rfl⟩
  have hacc : (outsAt0 m c (t.val - 1) (Nat.lt_of_le_of_lt (Nat.sub_le _ _) t.isLt)).2 = k0_pay1 (iblk m c 0 s) (iblk m c 1 s) := by
    have e := congrArg Prod.snd (outsAt0_A m c s (by omega) (by omega))
    dsimp only at e
    rw [acc_eq] at e
    rw [← e]
    simp only [hs]
  rw [flushed4_B m c t (by omega) h1, out_eq, hacc]
  funext y
  obtain ⟨r, q, rfl⟩ : ∃ (r : Fin 1024) (q : Fin 512), y = ix2 r q := ⟨y 0, y 1, eq_ix2 y⟩
  obtain ⟨-, -, e2, e3, e4⟩ := index_eq t
  have hr := r.isLt
  have hq := q.isLt
  have hR : t.val / 16 * 1024 + r.val < 16384 := by omega
  have hQ : t.val / 2 % 8 * 512 + q.val < 4096 := by omega
  refine Eq.trans (pay_apply (iblk m c 0 s) (iblk m c 0 t) (iblk m c 1 s) (iblk m c 1 t) (iblk m c 2 t) (iblk m c 3 t) r q) (Eq.trans ?_
    ((ref_apply (m ((c : Thread nD τ).loc main_arg0)) (m ((c : Thread nD τ).loc main_arg1)) (m ((c : Thread nD τ).loc main_arg2))
      (m ((c : Thread nD τ).loc main_arg3)) ⟨_, hR⟩ ⟨_, hQ⟩ (by dsimp only; omega) (by dsimp only; omega)).symm.trans ?_))
  · rw [sum_halves]
    refine Common.resid_congr ?_ ?_ (congrArg₂ (fun a b : EReal => a + b) (Finset.sum_congr rfl fun k _ => ?_)
      (Finset.sum_congr rfl fun k _ => ?_))
    · refine congrArg (m ((c : Thread nD τ).loc main_arg2)) (Common.idx2_ext ?_ ?_)
      · exact (win0_2.rect_emb_val t (ix2 r q) 0).trans (by rw [e2.1]; rfl)
      · exact (win0_2.rect_emb_val t (ix2 r q) 1).trans (by rw [e2.2]; rfl)
    · refine congrArg (m ((c : Thread nD τ).loc main_arg3)) (Common.idx3_ext ?_ ?_ ?_)
      · refine (win0_3.rect_emb_val t (ix3 (0 : Fin 1) (0 : Fin 1) q) 0).trans ?_
        rw [e3.1]; show t.val / 32 * 1 + 0 = (t.val / 16 * 1024 + r.val) / 2048; omega
      · exact (win0_3.rect_emb_val t (ix3 (0 : Fin 1) (0 : Fin 1) q) 1).trans (by rw [e3.2.1, Nat.zero_mul, Nat.zero_add]; rfl)
      · refine (win0_3.rect_emb_val t (ix3 (0 : Fin 1) (0 : Fin 1) q) 2).trans ?_
        rw [e3.2.2]; show (40 + t.val / 2 % 8) * 512 + q.val = 20480 + (t.val / 2 % 8 * 512 + q.val); omega
    · have hk := k.isLt
      refine (half_eq m c s r q (by omega) (by omega) k (by omega)).trans (congrArg₂ (fun a b : EReal => a * b) ?_ ?_)
      · exact congrArg (m ((c : Thread nD τ).loc main_arg0)) (Common.idx2_ext
          (by show s.val / 16 * 1024 + r.val = t.val / 16 * 1024 + r.val; omega) (by show s.val % 2 * 5504 + k.val = k.val; omega))
      · exact congrArg (m ((c : Thread nD τ).loc main_arg1)) (Common.idx3_ext rfl (by show s.val % 2 * 5504 + k.val = k.val; omega)
          (by show s.val / 2 % 8 * 512 + q.val = t.val / 2 % 8 * 512 + q.val; omega))
    · have hk := k.isLt
      refine (half_eq m c t r q (by omega) (by omega) k (by omega)).trans (congrArg₂ (fun a b : EReal => a * b) ?_ ?_)
      · exact congrArg (m ((c : Thread nD τ).loc main_arg0)) (Common.idx2_ext rfl (by show t.val % 2 * 5504 + k.val = 5504 + k.val; omega))
      · exact congrArg (m ((c : Thread nD τ).loc main_arg1)) (Common.idx3_ext rfl (by show t.val % 2 * 5504 + k.val = 5504 + k.val; omega) rfl)
  · refine congrArg (goal m c) (Common.idx2_ext ?_ ?_)
    · exact ((win0_4.rect_emb_val t (ix2 r q) 0).trans (by rw [e4.1]; rfl)).symm
    · exact ((win0_4.rect_emb_val t (ix2 r q) 1).trans (by rw [e4.2]; rfl)).symm

/-- Every entry of the result lies in the block of some point of the second half. -/
theorem cover (i : S16384x4096.Idx) :
    ∃ t : Fin cfg0.N, (cfg0.win 4).flush t = true ∧ i ∈ ((cfg0.win 4).blk t).view.set := by
  have h0 : (i 0 : Nat) < 16384 := (i 0).isLt
  have h1 : (i 1 : Nat) < 4096 := (i 1).isLt
  obtain ⟨t, ht⟩ : ∃ t : Fin cfg0.N, t.val = (i 0 : Nat) / 1024 * 16 + (i 1 : Nat) / 512 * 2 + 1 :=
    ⟨⟨_, (by omega : (i 0 : Nat) / 1024 * 16 + (i 1 : Nat) / 512 * 2 + 1 < 256)⟩, rfl⟩
  refine ⟨t, (flush0_4 t).mpr (by omega), ?_⟩
  show i ∈ ((View.whole main_v0).slice (win0_4.rect t)).set
  rw [View.set_slice_whole, Rect.mem_set_unit]
  obtain ⟨-, -, -, -, e4⟩ := index_eq t
  intro a
  match a with
  | ⟨0, _⟩ =>
    show win0_4.index t 0 * 1024 ≤ (i 0 : Nat) ∧ (i 0 : Nat) < win0_4.index t 0 * 1024 + 1024
    rw [e4.1]; omega
  | ⟨1, _⟩ =>
    show win0_4.index t 1 * 512 ≤ (i 1 : Nat) ∧ (i 1 : Nat) < win0_4.index t 1 * 512 + 512
    rw [e4.2]; omega

/-- The kernel's result array is the reference's. -/
theorem final (c : Dev nD) : (dats m 0 c).arrAt 4 cfg0.N = goal m c :=
  (dats m 0 c).arrAt_eq_of_cover 4 (goal m c) (fun t hf => flushed_eq m c t ((flush0_4 t).mp hf)) cover

/-- The kernel and the reference, from equal arguments, end with equal results and unchanged arguments. -/
theorem algebraic : Cert.algebraic_DownIdeal_DownRefIdeal := by
  intro m g m' g' _ hargs
  refine ⟨fun c => goal m c, ?_, ?_⟩
  · exact (θ_run defs _ _).mono (fun r h c => ⟨(h c).1.trans (final m c), (h c).2⟩) (run_blocks m g)
  · refine (θ_run _ _ _).mono (fun r h c => ⟨(h c).1.trans ?_, (h c).2⟩) (Cert.DownRefIdeal.Value.run (F := Ideal) m' g')
    rw [(hargs c).1, (hargs c).2.1, (hargs c).2.2.1, (hargs c).2.2.2]
    rfl

end Cert.DownIdeal.Value

end
-- ==== Proof.MergeValue.lean ====
/-
  The merge of the three branches: what the kernel writes back, block by block, is the sum of the gated projections.
-/
module

public import proofs.«01_k».proof.Defs
public import proofs.«01_k».proof.Proof.Gen.MergeIdeal.Value
public import proofs.«01_k».proof.Proof.Gen.MergeRefIdeal.Run
public import proofs.«01_k».proof.Proof.Gen.MergeRefIdeal.Read
public import proofs.«01_k».proof.Proof.Common

@[expose] public section

set_option maxRecDepth 16384

noncomputable section

namespace Cert.MergeIdeal.Value

open Cert Cert.MergeIdeal Cert.MergeIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- The sum of three gated values. -/
def merge (g0 p0 g1 p1 g2 p2 : EReal) : EReal := Common.sigmoid g0 * p0 + Common.sigmoid g1 * p1 + Common.sigmoid g2 * p2

/-- An entry of a branch times a projection of layer 0. -/
def prod {M K N L : ℕ} (a : Vec Ideal ⟨2, ![M, K]⟩ .bf16) (w : Vec Ideal ⟨3, ![L + 1, K, N]⟩ .bf16) (r : Fin M) (q : Fin N) : EReal :=
  ∑ k : Fin K, (a (ix2 r k) : EReal) * (w (ix3 (0 : Fin (L + 1)) k q) : EReal)

/-- An entry of the body: the sum of the three gated products of the row. -/
theorem pay_apply (g0 g1 g2 : Vec Ideal S1024x512 .bf16) (a0 : Vec Ideal S1024x1024 .bf16) (w0 : Vec Ideal S1x1024x512 .bf16)
    (a1 a2 : Vec Ideal S1024x1536 .bf16) (w1 w2 : Vec Ideal S1x1536x512 .bf16) (r : Fin 1024) (q : Fin 512) :
    k0_pay1 (F := Ideal) g0 a0 w0 g1 a1 w1 g2 a2 w2 (ix2 r q)
      = merge (g0 (ix2 r q)) (prod (L := 0) a0 w0 r q) (g1 (ix2 r q)) (prod (L := 0) a1 w1 r q) (g2 (ix2 r q)) (prod (L := 0) a2 w2 r q) :=
  congr (congr (congrArg (fun p0 p1 p2 => merge (g0 (ix2 r q)) p0 (g1 (ix2 r q)) p1 (g2 (ix2 r q)) p2)
    (Common.matmul_dropUnit_apply (φ₁ := .bf16) (φ₂ := .bf16) a0 w0 _ r q))
    (Common.matmul_dropUnit_apply (φ₁ := .bf16) (φ₂ := .bf16) a1 w1 _ r q))
    (Common.matmul_dropUnit_apply (φ₁ := .bf16) (φ₂ := .bf16) a2 w2 _ r q)

/-- An entry of what the body stores, from the blocks it is given. -/
theorem out_apply (a0 : Vec Ideal S1024x1024 .bf16) (a1 a2 : Vec Ideal S1024x1536 .bf16) (w0 : Vec Ideal S1x1024x512 .bf16)
    (w1 w2 : Vec Ideal S1x1536x512 .bf16) (g0 g1 g2 : Vec Ideal S1024x512 .bf16) (r : Fin 1024) (q : Fin 512) :
    out0_9 (F := Ideal) a0 a1 a2 w0 w1 w2 g0 g1 g2 (ix2 r q)
      = merge (g0 (ix2 r q)) (prod (L := 0) a0 w0 r q) (g1 (ix2 r q)) (prod (L := 0) a1 w1 r q) (g2 (ix2 r q)) (prod (L := 0) a2 w2 r q) := by
  unfold out0_9
  rw [View.canon_unit_zero Common.zero2]
  simp only [View.ld_unit_zero (S := S1024x512) Common.zero2, View.ld_unit_zero (S := S1024x1024) Common.zero2,
    View.ld_unit_zero (S := S1024x1536) Common.zero2, View.ld_unit_zero (S := S1x1024x512) Common.zero3,
    View.ld_unit_zero (S := S1x1536x512) Common.zero3]
  exact pay_apply g0 g1 g2 a0 w0 a1 a2 w1 w2 r q

/-- The sum of gated values from equal values. -/
theorem merge_congr {g0 p0 g1 p1 g2 p2 g0' p0' g1' p1' g2' p2' : EReal} (e0 : g0 = g0') (f0 : p0 = p0') (e1 : g1 = g1')
    (f1 : p1 = p1') (e2 : g2 = g2') (f2 : p2 = p2') : merge g0 p0 g1 p1 g2 p2 = merge g0' p0' g1' p1' g2' p2' := by
  rw [e0, f0, e1, f1, e2, f2]

/-- The gates of the reference, over rows, branches and columns: the logistic function of the projection's last columns. -/
theorem gates_apply (x6 : Vec Ideal S16384x24064 .bf16) (r : Fin 16384) (b : Fin 3) (q : Fin 4096) (hb : 11776 + b.val * 4096 + q.val < 24064) :
    Cert.MergeRefIdeal.Read.val_main_v20 (F := Ideal) x6 (ix3 r b q) = Common.sigmoid (x6 (ix2 r ⟨11776 + b.val * 4096 + q.val, hb⟩)) := by
  rw [Cert.MergeRefIdeal.Read.val_main_v20_apply, Cert.MergeRefIdeal.Read.val_main_v19_apply,
    Cert.MergeRefIdeal.Read.val_main_v18_apply, Cert.MergeRefIdeal.Read.val_main_v17_apply]
  refine (Common.host_sigmoid (Cert.MergeRefIdeal.Read.val_main_v14 (F := Ideal) x6 (ix3 r b q))).trans (congrArg Common.sigmoid ?_)
  rw [Cert.MergeRefIdeal.Read.val_main_v14_apply, Cert.MergeRefIdeal.Read.val_main_v13_apply]
  have hr := r.isLt
  have hB := b.isLt
  have hq := q.isLt
  refine congrArg x6 (Common.idx2_ext ?_ ?_)
  · show ((r.val * 3 + b.val) * 4096 + q.val) / 12288 = r.val; omega
  · show 11776 + ((r.val * 3 + b.val) * 4096 + q.val) % 12288 = 11776 + b.val * 4096 + q.val; omega

/-- An entry of the reference's projection of branch 0. -/
theorem prod0_apply (x : Vec Ideal S16384x1024 .bf16) (w : Vec Ideal S2x1024x4096 .bf16) (r : Fin 16384) (q : Fin 4096) :
    Cert.MergeRefIdeal.Read.val_main_v23 (F := Ideal) x w (ix2 r q) = prod (L := 1) x w r q := by
  refine (Cert.MergeRefIdeal.Read.val_main_v23_apply _ _ _).trans (Finset.sum_congr rfl fun k _ => ?_)
  rw [Cert.MergeRefIdeal.Read.val_main_v5_apply, Cert.MergeRefIdeal.Read.val_main_v4_apply, Cert.MergeRefIdeal.Read.val_main_v3_apply]
  have hk := k.isLt
  have hq := q.isLt
  refine congrArg₂ (· * ·) (congrArg x (Common.idx2_ext rfl rfl)) (congrArg w (Common.idx3_ext rfl ?_ ?_))
  · show (k.val * 4096 + q.val) / 4096 % 1024 = k.val; omega
  · show (k.val * 4096 + q.val) % 4096 = q.val; omega

/-- An entry of the reference's gate of branch 0. -/
theorem gate0_apply (x6 : Vec Ideal S16384x24064 .bf16) (r : Fin 16384) (q : Fin 4096) (hb : 11776 + q.val < 24064) :
    Cert.MergeRefIdeal.Read.val_main_v22 (F := Ideal) x6 (ix2 r q) = Common.sigmoid (x6 (ix2 r ⟨11776 + q.val, hb⟩)) := by
  rw [Cert.MergeRefIdeal.Read.val_main_v22_apply, Cert.MergeRefIdeal.Read.val_main_v21_apply]
  have hr := r.isLt
  have hq := q.isLt
  refine Eq.trans (congrArg (Cert.MergeRefIdeal.Read.val_main_v20 (F := Ideal) x6) (Common.idx3_ext ?_ ?_ ?_)) (gates_apply x6 r 0 q hb)
  · show (r.val * 4096 + q.val) / 4096 = r.val; omega
  · rfl
  · show (r.val * 4096 + q.val) % 4096 = q.val; omega

/-- An entry of the reference's projection of branch 1. -/
theorem prod1_apply (x : Vec Ideal S16384x1536 .bf16) (w : Vec Ideal S2x1536x4096 .bf16) (r : Fin 16384) (q : Fin 4096) :
    Cert.MergeRefIdeal.Read.val_main_v27 (F := Ideal) x w (ix2 r q) = prod (L := 1) x w r q := by
  refine (Cert.MergeRefIdeal.Read.val_main_v27_apply _ _ _).trans (Finset.sum_congr rfl fun k _ => ?_)
  rw [Cert.MergeRefIdeal.Read.val_main_v8_apply, Cert.MergeRefIdeal.Read.val_main_v7_apply, Cert.MergeRefIdeal.Read.val_main_v6_apply]
  have hk := k.isLt
  have hq := q.isLt
  refine congrArg₂ (· * ·) (congrArg x (Common.idx2_ext rfl rfl)) (congrArg w (Common.idx3_ext rfl ?_ ?_))
  · show (k.val * 4096 + q.val) / 4096 % 1536 = k.val; omega
  · show (k.val * 4096 + q.val) % 4096 = q.val; omega

/-- An entry of the reference's gate of branch 1. -/
theorem gate1_apply (x6 : Vec Ideal S16384x24064 .bf16) (r : Fin 16384) (q : Fin 4096) (hb : 15872 + q.val < 24064) :
    Cert.MergeRefIdeal.Read.val_main_v26 (F := Ideal) x6 (ix2 r q) = Common.sigmoid (x6 (ix2 r ⟨15872 + q.val, hb⟩)) := by
  rw [Cert.MergeRefIdeal.Read.val_main_v26_apply, Cert.MergeRefIdeal.Read.val_main_v25_apply]
  have hr := r.isLt
  have hq := q.isLt
  refine Eq.trans (congrArg (Cert.MergeRefIdeal.Read.val_main_v20 (F := Ideal) x6) (Common.idx3_ext ?_ ?_ ?_)) (gates_apply x6 r 1 q hb)
  · show (r.val * 4096 + q.val) / 4096 = r.val; omega
  · rfl
  · show (r.val * 4096 + q.val) % 4096 = q.val; omega

/-- An entry of the reference's projection of branch 2. -/
theorem prod2_apply (x : Vec Ideal S16384x1536 .bf16) (w : Vec Ideal S2x1536x4096 .bf16) (r : Fin 16384) (q : Fin 4096) :
    Cert.MergeRefIdeal.Read.val_main_v32 (F := Ideal) x w (ix2 r q) = prod (L := 1) x w r q := by
  refine (Cert.MergeRefIdeal.Read.val_main_v32_apply _ _ _).trans (Finset.sum_congr rfl fun k _ => ?_)
  rw [Cert.MergeRefIdeal.Read.val_main_v11_apply, Cert.MergeRefIdeal.Read.val_main_v10_apply, Cert.MergeRefIdeal.Read.val_main_v9_apply]
  have hk := k.isLt
  have hq := q.isLt
  refine congrArg₂ (· * ·) (congrArg x (Common.idx2_ext rfl rfl)) (congrArg w (Common.idx3_ext rfl ?_ ?_))
  · show (k.val * 4096 + q.val) / 4096 % 1536 = k.val; omega
  · show (k.val * 4096 + q.val) % 4096 = q.val; omega

/-- An entry of the reference's gate of branch 2. -/
theorem gate2_apply (x6 : Vec Ideal S16384x24064 .bf16) (r : Fin 16384) (q : Fin 4096) (hb : 19968 + q.val < 24064) :
    Cert.MergeRefIdeal.Read.val_main_v31 (F := Ideal) x6 (ix2 r q) = Common.sigmoid (x6 (ix2 r ⟨19968 + q.val, hb⟩)) := by
  rw [Cert.MergeRefIdeal.Read.val_main_v31_apply, Cert.MergeRefIdeal.Read.val_main_v30_apply]
  have hr := r.isLt
  have hq := q.isLt
  refine Eq.trans (congrArg (Cert.MergeRefIdeal.Read.val_main_v20 (F := Ideal) x6) (Common.idx3_ext ?_ ?_ ?_)) (gates_apply x6 r 2 q hb)
  · show (r.val * 4096 + q.val) / 4096 = r.val; omega
  · rfl
  · show (r.val * 4096 + q.val) % 4096 = q.val; omega

/-- An entry of the reference: the sum of the three gated projections of the row. -/
theorem ref_apply (x0 : Vec Ideal S16384x1024 .bf16) (x1 x2 : Vec Ideal S16384x1536 .bf16) (x3 : Vec Ideal S2x1024x4096 .bf16)
    (x4 x5 : Vec Ideal S2x1536x4096 .bf16) (x6 : Vec Ideal S16384x24064 .bf16) (r : Fin 16384) (q : Fin 4096)
    (h0 : 11776 + q.val < 24064) (h1 : 15872 + q.val < 24064) (h2 : 19968 + q.val < 24064) :
    Cert.MergeRefIdeal.Read.val_main_v35 (F := Ideal) x0 x1 x2 x3 x4 x5 x6 (ix2 r q)
      = merge (x6 (ix2 r ⟨11776 + q.val, h0⟩)) (prod (L := 1) x0 x3 r q) (x6 (ix2 r ⟨15872 + q.val, h1⟩)) (prod (L := 1) x1 x4 r q)
          (x6 (ix2 r ⟨19968 + q.val, h2⟩)) (prod (L := 1) x2 x5 r q) := by
  unfold merge
  rw [← prod0_apply, ← prod1_apply, ← prod2_apply, ← gate0_apply, ← gate1_apply, ← gate2_apply]
  rfl

/-- The block indices of the windows at grid point `t`: row block `t / 8`, column block `t % 8`. -/
theorem index_eq : ∀ t : Fin grid0.N, (win0_0.index t 0 = t.val / 8 ∧ win0_0.index t 1 = 0)
    ∧ (win0_1.index t 0 = t.val / 8 ∧ win0_1.index t 1 = 0) ∧ (win0_2.index t 0 = t.val / 8 ∧ win0_2.index t 1 = 0)
    ∧ (win0_3.index t 0 = 0 ∧ win0_3.index t 1 = 0 ∧ win0_3.index t 2 = t.val % 8)
    ∧ (win0_4.index t 0 = 0 ∧ win0_4.index t 1 = 0 ∧ win0_4.index t 2 = t.val % 8)
    ∧ (win0_5.index t 0 = 0 ∧ win0_5.index t 1 = 0 ∧ win0_5.index t 2 = t.val % 8)
    ∧ (win0_6.index t 0 = t.val / 8 ∧ win0_6.index t 1 = 23 + t.val % 8)
    ∧ (win0_7.index t 0 = t.val / 8 ∧ win0_7.index t 1 = 31 + t.val % 8)
    ∧ (win0_8.index t 0 = t.val / 8 ∧ win0_8.index t 1 = 39 + t.val % 8)
    ∧ win0_9.index t 0 = t.val / 8 ∧ win0_9.index t 1 = t.val % 8 := by decide +kernel

/-- The result of the reference at the kernel's arguments. -/
abbrev goal (c : Dev nD) : Buf (Elt Ideal) ((c : Thread nD τ).loc main_v0) :=
  Cert.MergeRefIdeal.Read.val_main_v35 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6))

/-- Branch 0's product over the blocks at point `t` is the product over the whole arrays at the block's place. -/
theorem prod_blk0 (c : Dev nD) (t : Fin cfg0.N) (r : Fin 1024) (q : Fin 512) (hR : t.val / 8 * 1024 + r.val < 16384)
    (hQ : t.val % 8 * 512 + q.val < 4096) :
    prod (L := 0) (iblk m c 0 t) (iblk m c 3 t) r q
      = prod (L := 1) (m ((c : Thread nD τ).loc main_arg0)) (m ((c : Thread nD τ).loc main_arg3)) ⟨_, hR⟩ ⟨_, hQ⟩ := by
  have e := index_eq t
  refine Finset.sum_congr rfl fun k _ => congrArg₂ (· * ·) ?_ ?_
  · refine congrArg (m ((c : Thread nD τ).loc main_arg0)) (Common.idx2_ext ?_ ?_)
    · exact (win0_0.rect_emb_val t (ix2 r k) 0).trans (by rw [e.1.1]; rfl)
    · exact (win0_0.rect_emb_val t (ix2 r k) 1).trans (by rw [e.1.2, Nat.zero_mul, Nat.zero_add]; rfl)
  · refine congrArg (m ((c : Thread nD τ).loc main_arg3)) (Common.idx3_ext ?_ ?_ ?_)
    · exact (win0_3.rect_emb_val t (ix3 (0 : Fin 1) k q) 0).trans (by rw [e.2.2.2.1.1, Nat.zero_mul, Nat.zero_add]; rfl)
    · exact (win0_3.rect_emb_val t (ix3 (0 : Fin 1) k q) 1).trans (by rw [e.2.2.2.1.2.1, Nat.zero_mul, Nat.zero_add]; rfl)
    · exact (win0_3.rect_emb_val t (ix3 (0 : Fin 1) k q) 2).trans (by rw [e.2.2.2.1.2.2]; rfl)

/-- Branch 0's gate block at point `t`, read from the whole projection. -/
theorem gate_blk0 (c : Dev nD) (t : Fin cfg0.N) (r : Fin 1024) (q : Fin 512) (hR : t.val / 8 * 1024 + r.val < 16384)
    (hQ : 11776 + (t.val % 8 * 512 + q.val) < 24064) :
    iblk m c 6 t (ix2 r q) = m ((c : Thread nD τ).loc main_arg6) (ix2 ⟨_, hR⟩ ⟨_, hQ⟩) := by
  have e := index_eq t
  refine congrArg (m ((c : Thread nD τ).loc main_arg6)) (Common.idx2_ext ?_ ?_)
  · exact (win0_6.rect_emb_val t (ix2 r q) 0).trans (by rw [e.2.2.2.2.2.2.1.1]; rfl)
  · refine (win0_6.rect_emb_val t (ix2 r q) 1).trans ?_
    rw [e.2.2.2.2.2.2.1.2]
    show (23 + t.val % 8) * 512 + q.val = 11776 + (t.val % 8 * 512 + q.val)
    omega

/-- Branch 1's product over the blocks at point `t` is the product over the whole arrays at the block's place. -/
theorem prod_blk1 (c : Dev nD) (t : Fin cfg0.N) (r : Fin 1024) (q : Fin 512) (hR : t.val / 8 * 1024 + r.val < 16384)
    (hQ : t.val % 8 * 512 + q.val < 4096) :
    prod (L := 0) (iblk m c 1 t) (iblk m c 4 t) r q
      = prod (L := 1) (m ((c : Thread nD τ).loc main_arg1)) (m ((c : Thread nD τ).loc main_arg4)) ⟨_, hR⟩ ⟨_, hQ⟩ := by
  have e := index_eq t
  refine Finset.sum_congr rfl fun k _ => congrArg₂ (· * ·) ?_ ?_
  · refine congrArg (m ((c : Thread nD τ).loc main_arg1)) (Common.idx2_ext ?_ ?_)
    · exact (win0_1.rect_emb_val t (ix2 r k) 0).trans (by rw [e.2.1.1]; rfl)
    · exact (win0_1.rect_emb_val t (ix2 r k) 1).trans (by rw [e.2.1.2, Nat.zero_mul, Nat.zero_add]; rfl)
  · refine congrArg (m ((c : Thread nD τ).loc main_arg4)) (Common.idx3_ext ?_ ?_ ?_)
    · exact (win0_4.rect_emb_val t (ix3 (0 : Fin 1) k q) 0).trans (by rw [e.2.2.2.2.1.1, Nat.zero_mul, Nat.zero_add]; rfl)
    · exact (win0_4.rect_emb_val t (ix3 (0 : Fin 1) k q) 1).trans (by rw [e.2.2.2.2.1.2.1, Nat.zero_mul, Nat.zero_add]; rfl)
    · exact (win0_4.rect_emb_val t (ix3 (0 : Fin 1) k q) 2).trans (by rw [e.2.2.2.2.1.2.2]; rfl)

/-- Branch 1's gate block at point `t`, read from the whole projection. -/
theorem gate_blk1 (c : Dev nD) (t : Fin cfg0.N) (r : Fin 1024) (q : Fin 512) (hR : t.val / 8 * 1024 + r.val < 16384)
    (hQ : 15872 + (t.val % 8 * 512 + q.val) < 24064) :
    iblk m c 7 t (ix2 r q) = m ((c : Thread nD τ).loc main_arg6) (ix2 ⟨_, hR⟩ ⟨_, hQ⟩) := by
  have e := index_eq t
  refine congrArg (m ((c : Thread nD τ).loc main_arg6)) (Common.idx2_ext ?_ ?_)
  · exact (win0_7.rect_emb_val t (ix2 r q) 0).trans (by rw [e.2.2.2.2.2.2.2.1.1]; rfl)
  · refine (win0_7.rect_emb_val t (ix2 r q) 1).trans ?_
    rw [e.2.2.2.2.2.2.2.1.2]
    show (31 + t.val % 8) * 512 + q.val = 15872 + (t.val % 8 * 512 + q.val)
    omega

/-- Branch 2's product over the blocks at point `t` is the product over the whole arrays at the block's place. -/
theorem prod_blk2 (c : Dev nD) (t : Fin cfg0.N) (r : Fin 1024) (q : Fin 512) (hR : t.val / 8 * 1024 + r.val < 16384)
    (hQ : t.val % 8 * 512 + q.val < 4096) :
    prod (L := 0) (iblk m c 2 t) (iblk m c 5 t) r q
      = prod (L := 1) (m ((c : Thread nD τ).loc main_arg2)) (m ((c : Thread nD τ).loc main_arg5)) ⟨_, hR⟩ ⟨_, hQ⟩ := by
  have e := index_eq t
  refine Finset.sum_congr rfl fun k _ => congrArg₂ (· * ·) ?_ ?_
  · refine congrArg (m ((c : Thread nD τ).loc main_arg2)) (Common.idx2_ext ?_ ?_)
    · exact (win0_2.rect_emb_val t (ix2 r k) 0).trans (by rw [e.2.2.1.1]; rfl)
    · exact (win0_2.rect_emb_val t (ix2 r k) 1).trans (by rw [e.2.2.1.2, Nat.zero_mul, Nat.zero_add]; rfl)
  · refine congrArg (m ((c : Thread nD τ).loc main_arg5)) (Common.idx3_ext ?_ ?_ ?_)
    · exact (win0_5.rect_emb_val t (ix3 (0 : Fin 1) k q) 0).trans (by rw [e.2.2.2.2.2.1.1, Nat.zero_mul, Nat.zero_add]; rfl)
    · exact (win0_5.rect_emb_val t (ix3 (0 : Fin 1) k q) 1).trans (by rw [e.2.2.2.2.2.1.2.1, Nat.zero_mul, Nat.zero_add]; rfl)
    · exact (win0_5.rect_emb_val t (ix3 (0 : Fin 1) k q) 2).trans (by rw [e.2.2.2.2.2.1.2.2]; rfl)

/-- Branch 2's gate block at point `t`, read from the whole projection. -/
theorem gate_blk2 (c : Dev nD) (t : Fin cfg0.N) (r : Fin 1024) (q : Fin 512) (hR : t.val / 8 * 1024 + r.val < 16384)
    (hQ : 19968 + (t.val % 8 * 512 + q.val) < 24064) :
    iblk m c 8 t (ix2 r q) = m ((c : Thread nD τ).loc main_arg6) (ix2 ⟨_, hR⟩ ⟨_, hQ⟩) := by
  have e := index_eq t
  refine congrArg (m ((c : Thread nD τ).loc main_arg6)) (Common.idx2_ext ?_ ?_)
  · exact (win0_8.rect_emb_val t (ix2 r q) 0).trans (by rw [e.2.2.2.2.2.2.2.2.1.1]; rfl)
  · refine (win0_8.rect_emb_val t (ix2 r q) 1).trans ?_
    rw [e.2.2.2.2.2.2.2.2.1.2]
    show (39 + t.val % 8) * 512 + q.val = 19968 + (t.val % 8 * 512 + q.val)
    omega

/-- What each grid point writes back is the reference's block there. -/
theorem flushed_eq (c : Dev nD) (t : Fin cfg0.N) :
    (dats m 0 c).flushed 9 t = (win0_9.blk t).view.read (Elt Ideal) (goal m c) := by
  rw [flushed9]
  funext y
  obtain ⟨r, q, rfl⟩ : ∃ (r : Fin 1024) (q : Fin 512), y = ix2 r q := ⟨y 0, y 1, eq_ix2 y⟩
  have e := index_eq t
  have ht : t.val < 128 := t.isLt
  have hr := r.isLt
  have hq := q.isLt
  have hR : t.val / 8 * 1024 + r.val < 16384 := by omega
  have hQ : t.val % 8 * 512 + q.val < 4096 := by omega
  have h0 : 11776 + (t.val % 8 * 512 + q.val) < 24064 := by omega
  have h1 : 15872 + (t.val % 8 * 512 + q.val) < 24064 := by omega
  have h2 : 19968 + (t.val % 8 * 512 + q.val) < 24064 := by omega
  refine Eq.trans (out_apply (iblk m c 0 t) (iblk m c 1 t) (iblk m c 2 t) (iblk m c 3 t) (iblk m c 4 t) (iblk m c 5 t)
    (iblk m c 6 t) (iblk m c 7 t) (iblk m c 8 t) r q) (Eq.trans ?_ ((ref_apply (m ((c : Thread nD τ).loc main_arg0))
    (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))
    ⟨_, hR⟩ ⟨_, hQ⟩ h0 h1 h2).symm.trans ?_))
  · exact merge_congr (gate_blk0 m c t r q hR h0) (prod_blk0 m c t r q hR hQ) (gate_blk1 m c t r q hR h1)
      (prod_blk1 m c t r q hR hQ) (gate_blk2 m c t r q hR h2) (prod_blk2 m c t r q hR hQ)
  · refine congrArg (goal m c) (Common.idx2_ext ?_ ?_)
    · exact ((win0_9.rect_emb_val t (ix2 r q) 0).trans (by rw [e.2.2.2.2.2.2.2.2.2.1]; rfl)).symm
    · exact ((win0_9.rect_emb_val t (ix2 r q) 1).trans (by rw [e.2.2.2.2.2.2.2.2.2.2]; rfl)).symm

/-- Every entry of the result lies in some point's block. -/
theorem cover (i : S16384x4096.Idx) :
    ∃ t : Fin cfg0.N, (cfg0.win 9).flush t = true ∧ i ∈ ((cfg0.win 9).blk t).view.set := by
  have h0 : (i 0 : Nat) < 16384 := (i 0).isLt
  have h1 : (i 1 : Nat) < 4096 := (i 1).isLt
  obtain ⟨t, ht⟩ : ∃ t : Fin cfg0.N, t.val = (i 0 : Nat) / 1024 * 8 + (i 1 : Nat) / 512 :=
    ⟨⟨_, (by omega : (i 0 : Nat) / 1024 * 8 + (i 1 : Nat) / 512 < 128)⟩, rfl⟩
  refine ⟨t, flush0_9 _, ?_⟩
  show i ∈ ((View.whole main_v0).slice (win0_9.rect t)).set
  rw [View.set_slice_whole, Rect.mem_set_unit]
  have e := index_eq t
  intro a
  match a with
  | ⟨0, _⟩ =>
    show win0_9.index t 0 * 1024 ≤ (i 0 : Nat) ∧ (i 0 : Nat) < win0_9.index t 0 * 1024 + 1024
    rw [e.2.2.2.2.2.2.2.2.2.1, ht]; omega
  | ⟨1, _⟩ =>
    show win0_9.index t 1 * 512 ≤ (i 1 : Nat) ∧ (i 1 : Nat) < win0_9.index t 1 * 512 + 512
    rw [e.2.2.2.2.2.2.2.2.2.2, ht]; omega

/-- The kernel's result array is the reference's. -/
theorem final (c : Dev nD) : (dats m 0 c).arrAt 9 cfg0.N = goal m c :=
  (dats m 0 c).arrAt_eq_of_cover 9 (goal m c) (fun t _ => flushed_eq m c t) cover

/-- The kernel and the reference, from equal arguments, end with equal results and unchanged arguments. -/
theorem algebraic : Cert.algebraic_MergeIdeal_MergeRefIdeal := by
  intro m g m' g' _ hargs
  refine ⟨fun c => goal m c, ?_, ?_⟩
  · exact (θ_run defs _ _).mono (fun r h c => ⟨(h c).1.trans (final m c), (h c).2⟩) (run_blocks m g)
  · refine (θ_run _ _ _).mono (fun r h c => ⟨(h c).1.trans ?_, (h c).2⟩) (Cert.MergeRefIdeal.Value.run (F := Ideal) m' g')
    rw [(hargs c).1, (hargs c).2.1, (hargs c).2.2.1, (hargs c).2.2.2.1, (hargs c).2.2.2.2.1, (hargs c).2.2.2.2.2.1,
      (hargs c).2.2.2.2.2.2]
    rfl

end Cert.MergeIdeal.Value

end
-- ==== Proof.MoeDownBody.lean ====
/-
  The experts' second product: what the body leaves at one point. The product's eight groups of 128 columns are stored row by
  row with stride eight, so the scratch holds the product laid out by lanes.
-/
module

public import proofs.«01_k».proof.Proof.Gen.MoeDownIdeal.Launch
public import proofs.«01_k».proof.Proof.Gen.MoeDownIdeal.Skeleton
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp
public import Idealize.ShloMosaic.Lib.MatmulPlain
public import Idealize.ShloMosaic.Lib.VecWindow
public import Idealize.ShloMosaic.Lib.Pipeline.ReadBack
public import Idealize.ShloMosaic.Lib.Pipeline.Value

@[expose] public section

set_option maxRecDepth 16384

noncomputable section

namespace Cert.MoeDownBody

open Cert.MoeDownIdeal Cert.MoeDownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The number of tiles as a memref. -/
abbrev countMem : Memref sig .tc .smem S1 .i32 := Memref.whole main_arg3
/-- The experts of the tiles as a memref. -/
abbrev expertMem : Memref sig .tc .smem S72 .i32 := Memref.whole main_arg2

/-- A table's buffer held at half the full share. -/
abbrev tablePt (c : Dev nD) {S : Shape} {e : EltTy} (M : Memref sig .tc .smem S e)
    (f : Buf (Elt F) (M.view.loc (c : Thread nD τ))) : sProp 𝕄 :=
  M.view.loc (c : Thread nD τ) ↦{fullShare.right} f

/-- A scratch buffer held whole. -/
abbrev scratchPt (c : Dev nD) {S : Shape} {e : EltTy} (M : Memref sig .tc .vmem S e)
    (f : Buf (Elt F) (M.view.loc (c : Thread nD τ))) : sProp 𝕄 :=
  M.view.loc (c : Thread nD τ) ↦{fullShare} f

/-! ## The scratch after the eight strided stores -/

/-- The rows of the scratch that lane block `k` is stored to: every eighth row from row `k`. -/
def laneRect (k : Fin 8) : Rect S4096x128 where
  off := ![k.val, 0]
  size := S512x128.size
  stride := ![8, 1]
  inb := by
    revert k
    decide +kernel
  stride_pos := spos_8_1

/-- The scratch when the eight lane blocks of `M` have been stored: row `8 r + k` holds lane block `k` of row `r`. -/
def lanes (M : FVec F S512x1024 .f32) : Vec F S4096x128 .f32 := fun y =>
  M (ix2 ⟨(y 0).val / 8, by have := (y 0).isLt; change _ < 4096 at this; omega⟩
    ⟨128 * ((y 0).val % 8) + (y 1).val, by have := (y 1).isLt; change _ < 128 at this; omega⟩)

/-- Every lane block lies inside the 512 by 1024 product. -/
theorem lane_slices : ∀ k : Fin 8, S512x1024.Slices ![0, 128 * k.val] S512x128 := by
  decide +kernel

/-- A lane block of `M`, sliced out and reshaped to its own shape, is what `lanes` holds at its rows. -/
theorem lane_piece (M : FVec F S512x1024 .f32) (k : Fin 8) (x : S512x128.Idx) :
    shapeCast S512x128 (extractStridedSlice S512x128 ![0, 128 * k.val] M (lane_slices k)) shapeCasts_S512x128_S512x128 x
      = lanes M ((laneRect k).emb x) := by
  rw [shapeCast_self]
  have h0 := (x 0).isLt
  have h1 := (x 1).isLt
  change _ < 512 at h0
  change _ < 128 at h1
  have hk := k.isLt
  have e0 : ((laneRect k).emb x 0).val = k.val + 8 * (x 0).val := rfl
  have e1 : ((laneRect k).emb x 1).val = 0 + 1 * (x 1).val := rfl
  refine extractStridedSlice_apply _ _ _ _ _ fun a => ?_
  match a with
  | ⟨0, _⟩ => show ((laneRect k).emb x 0).val / 8 = 0 + (x 0).val; omega
  | ⟨1, _⟩ => show 128 * (((laneRect k).emb x 0).val % 8) + ((laneRect k).emb x 1).val = 128 * k.val + (x 1).val; omega

/-- Every row of the scratch is in the rows of one lane block. -/
theorem lane_cover (y : S4096x128.Idx) : ∃ k, y ∈ (laneRect k).set := by
  have h0 := (y 0).isLt
  have h1 := (y 1).isLt
  change _ < 4096 at h0
  change _ < 128 at h1
  refine ⟨⟨(y 0).val % 8, by omega⟩, (laneRect _).toLoadRect.mem_set.mpr fun a => ?_⟩
  match a with
  | ⟨0, _⟩ => exact ⟨(y 0).val / 8, by show _ < 512; omega, by show (y 0).val = (y 0).val % 8 + 8 * _; omega⟩
  | ⟨1, _⟩ => exact ⟨(y 1).val, by show _ < 128; omega, by show (y 1).val = 0 + 1 * _; omega⟩

/-- Stores of the eight lane blocks of `M`, over any contents, leave `lanes M`. -/
theorem read_lanes {sp : Space} (v : View sig .tc sp S4096x128 .f32) (f : v.ty.Contents (Elt F)) (M : FVec F S512x1024 .f32)
    (L : List (View.Piece (Elt F) S4096x128 .f32)) (hL : L.map (·.1) = [7, 6, 5, 4, 3, 2, 1, 0].map laneRect)
    (hM : View.PiecesOf (lanes M) L) : v.read (Elt F) (v.writes (Elt F) f L) = lanes M := by
  funext y
  have hc : ∃ p ∈ L, y ∈ p.1.set := by
    obtain ⟨k, hk⟩ := lane_cover y
    have hm : laneRect k ∈ L.map (·.1) := by
      rw [hL]
      exact List.mem_map_of_mem (by clear hk; revert k; decide)
    obtain ⟨p, hp, e⟩ := List.mem_map.mp hm
    exact ⟨p, hp, e ▸ hk⟩
  rw [View.read_writes_apply_eq_canon v f y L hc, ← List.append_nil L]
  exact View.canon_append_of_piecesOf (lanes M) [] L hM y hc

/-- What the body leaves in the output's buffer: the products of its rows, regrouped by lane blocks, at a tile the
    count includes, and zeros at any other. -/
def bodyOut (i : grid0.Coords) (n : BitVec 32) (x0 : Vec F S512x3072 .bf16) (x1 : Vec F S1x3072x1024 .bf16) : Vec F S512x8x128 .f32 :=
  if k0_cond1 i n = 1#1 then k0_pay2 (lanes (k0_pay4 x0 x1)) else k0_pay3

/-- The two conditions of the body exclude each other, and one of them holds. -/
theorem cond2_eq (i : grid0.Coords) (n : BitVec 32) : (k0_cond2 i n = 1#1) ↔ ¬ (k0_cond1 i n = 1#1) := by
  unfold k0_cond1 k0_cond2
  dsimp only
  generalize (Scalar.cmpi .slt (BitVec.ofNat 32 (i 0).val) n : BitVec 1) = b
  revert b
  decide

set_option maxHeartbeats 1000000 in
theorem sound_kernel (c : Dev nD) (E : Set ℕ) (i : grid0.Coords)
    (arg4 : Memref sig .tc .vmem S512x3072 .bf16) (harg4 : arg4.IsWhole)
    (arg5 : Memref sig .tc .vmem S1x3072x1024 .bf16) (harg5 : arg5.IsWhole)
    (arg6 : Memref sig .tc .vmem S512x8x128 .f32) (harg6 : arg6.IsWhole)
    (x0 : Vec F S512x3072 .bf16) (x1 : Vec F S1x3072x1024 .bf16)
    (pf : pre0.Contents (Elt F))
    (K : PUnit → sProp 𝕄) :
    iprop(owns (c : Thread nD τ) arg4 fullShare x0 ∗ owns (c : Thread nD τ) arg5 fullShare x1 ∗ (∃ d, owns (c : Thread nD τ) arg6 fullShare d)
        ∗ tablePt c expertMem (pf 0) ∗ tablePt c countMem (pf 1) ∗ (∃ f, scratchPt c (Memref.whole cc0_scratch0) f)
        ∗ (iprop(owns (c : Thread nD τ) arg4 fullShare x0 ∗ owns (c : Thread nD τ) arg5 fullShare x1
            ∗ owns (c : Thread nD τ) arg6 fullShare (bodyOut i (pf.atD 1 ![0]) x0 x1)
            ∗ tablePt c expertMem (pf 0) ∗ tablePt c countMem (pf 1) ∗ (∃ f, scratchPt c (Memref.whole cc0_scratch0) f)) -∗ K ⟨⟩))
      ⊢ wp frame (wpE (defs₀ (F := F)) Variants.none c none) E
          (cc0_moe_down i (Memref.whole main_arg2) (Memref.isWhole_whole _) (Memref.whole main_arg3) (Memref.isWhole_whole _) arg4 harg4 arg5 harg5 arg6 harg6 (Memref.whole cc0_scratch0) (Memref.isWhole_whole _)) K := by
  simp only [cc0_moe_down_eq_skeleton]; unfold cc0_moe_down_skel
  simp only [k0_part1_eq_skeleton]
  unfold owns
  iintro ⟨⟨%f0, %hf0, H0⟩, ⟨%f1, %hf1, H1⟩, ⟨%d2, %g2, -, H2⟩, T2, T3, ⟨%s, S⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    have hr : sound_kernel.sl.r pf = pf.atD 1 ![0] := by
      unfold sound_kernel.sl.r Pipeline.Prefetch.Contents.atD
      rw [dif_pos (by decide)]
      exact congrArg (pf 1) (funext fun a => match a with | ⟨0, _⟩ => Subsingleton.elim (α := Fin 1) _ _)
    have hv : sound_kernel.sl.v43 c arg4 arg5 f0 f1 s
        = lanes (k0_pay4 (View.read (Elt F) arg4.view f0) (View.read (Elt F) arg5.view f1)) := by
      unfold sound_kernel.sl.v43
      refine (View.readAt_full _ _ _).trans ?_
      refine read_lanes _ _ _ _ rfl ?_
      unfold sound_kernel.sl.S_8 sound_kernel.sl.r_1
      rw [View.readAt_full, View.readAt_full]
      exact ⟨lane_piece _ 7, lane_piece _ 6, lane_piece _ 5, lane_piece _ 4,
        lane_piece _ 3, lane_piece _ 2, lane_piece _ 1, lane_piece _ 0, trivial⟩
    rw [hr, hv]
    unfold bodyOut
    by_cases h : k0_cond1 i (pf.atD 1 ![0]) = 1#1
    · rw [dif_neg (fun h2 => (cond2_eq _ _).mp h2 h), dif_pos h, if_pos h]
      exact View.read_writes_full _ _ _ _ _
    · rw [dif_pos ((cond2_eq _ _).mpr h), if_neg h]
      exact View.read_writes_full _ _ _ _ _
  isplitl [T2]; · iexact T2
  isplitl [T3]; · iexact T3
  iexists _; iexact S

end Cert.MoeDownBody

end
-- ==== Proof.MoeDownRun.lean ====
/-
  The experts' second product: the run of the whole call from its body, the tables read once at the start.
-/
module

public import proofs.«01_k».proof.Proof.MoeDownBody

@[expose] public section

set_option maxRecDepth 16384

noncomputable section

namespace Cert.MoeDownBody

open Cert.MoeDownIdeal Cert.MoeDownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The launch memory and the tables -/

/-- A core's buffers when the call begins: as launched. -/
abbrev V (c : Dev nD) (b : Ref sig .tc) : Buf (Elt F) ((c : Thread nD τ).loc b) := m ((c : Thread nD τ).loc b)

/-- The program up to its call: the call alone. -/
theorem hmain (𝒱₀ : Variants) :
    Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The contents of the two tables: the tiles' experts, and the number of tiles. -/
def tbl : pre0.Contents (Elt F) := fun j => V m (0 : Dev nD) (pre0.ref j)

/-- There is one device, so every device's tables hold these contents. -/
theorem V_pre (c : Dev nD) (j : Fin 2) : V m c (pre0.ref j) = tbl m j := by
  obtain rfl : c = 0 := Subsingleton.elim _ _
  rfl

/-- The blocks the tables choose lie inside their arrays. -/
abbrev Ok : Prop := ok0 (F := F) (tbl m)

abbrev adm (hO : Ok m) : (pcfg0 (F := F)).Adm := ⟨tbl m, hO⟩
/-- The pipeline at these tables. -/
abbrev cfgM (hO : Ok m) : Pipeline.Cfg sig Λ₀ := cfg0 (adm m hO)

/-- The tables as the body holds them. -/
theorem PhiT_eq (c : Dev nD) :
    (Pipeline.ΦT pre0 (tbl m) c : sProp 𝕄) = iprop(tablePt c expertMem (tbl m 0) ∗ tablePt c countMem (tbl m 1)) := by
  unfold Pipeline.ΦT Pipeline.prefHeld
  rw [show (Finset.univ : Finset (Fin 2)) = insert 0 {1} from by decide, bigSep_insert (by decide), bigSep_singleton]
  rfl

/-! ## The windows' blocks -/

/-- Window `w`'s block at point `t`, read off its array as launched. -/
def iblk (hO : Ok m) (c : Dev nD) (w : Fin 3) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

/-- What the body leaves in the output's buffer at point `t`. -/
def outBlk (hO : Ok m) (c : Dev nD) (t : Fin (cfgM m hO).N) : Vec F S512x8x128 .f32 :=
  bodyOut (grid0.coords t) ((tbl m).atD 1 ![0]) (iblk m hO c 0 t) (iblk m hO c 1 t)

/-- The pipeline's proof data: the arrays as launched, the inputs' buffers at their blocks and the output's as the body
    leaves it. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => outBlk m hO c t
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]
theorem after_0 (hO : Ok m) (c : Dev nD) (t : Fin (cfgM m hO).N) : (dats m hO 0 c).after 0 t = iblk m hO c 0 t := by
  dsimp only [dats]; rfl
theorem after_1 (hO : Ok m) (c : Dev nD) (t : Fin (cfgM m hO).N) : (dats m hO 0 c).after 1 t = iblk m hO c 1 t := by
  dsimp only [dats]; rfl
theorem after_2 (hO : Ok m) (c : Dev nD) (t : Fin (cfgM m hO).N) : (dats m hO 0 c).after 2 t = outBlk m hO c t := by
  dsimp only [dats]; rfl

/-- The rows' buffer holds its block at every point. -/
theorem before_0 (hO : Ok m) (c : Dev nD) (t : Fin (cfgM m hO).N) (d) : (dats m hO 0 c).before 0 t d = iblk m hO c 0 t :=
  ((dats m hO 0 c).before_in_eq_fetched 0 rfl (fun _ => rfl) (fun _ _ _ => rfl)
      (fun t => by rw [after_0]; unfold Dat.blockOf iblk; rw [A_eq]; rfl) t d).trans
    (by unfold Dat.fetched Dat.blockOf iblk; rw [A_eq]; rfl)
/-- The weights' buffer holds its block at every point. -/
theorem before_1 (hO : Ok m) (c : Dev nD) (t : Fin (cfgM m hO).N) (d) : (dats m hO 0 c).before 1 t d = iblk m hO c 1 t :=
  ((dats m hO 0 c).before_in_eq_fetched 1 rfl (fun _ => rfl) (fun _ _ _ => rfl)
      (fun t => by rw [after_1]; unfold Dat.blockOf iblk; rw [A_eq]; rfl) t d).trans
    (by unfold Dat.fetched Dat.blockOf iblk; rw [A_eq]; rfl)

/-- The body stores its output at every point. -/
theorem idle_2 (hO : Ok m) (i : grid0.Coords) : (cfgM m hO).idle 2 i = false := by
  show (!(k0_cond1 i ((tbl m).atD 1 ![0]) == 1#1) && !(k0_cond2 i ((tbl m).atD 1 ![0]) == 1#1)) = false
  have h := cond2_eq i ((tbl m).atD 1 ![0])
  by_cases h1 : k0_cond1 i ((tbl m).atD 1 ![0]) = 1#1
  · rw [h1]; rfl
  · rw [h.mpr h1]
    exact Bool.and_false _

/-! ## The body at a point -/

abbrev st_0 (hO : Ok m) (t : Fin (cfgM m hO).N) := ((cfgM m hO).win 0).stage ((cfgM m hO).slots t 0)
abbrev st_1 (hO : Ok m) (t : Fin (cfgM m hO).N) := ((cfgM m hO).win 1).stage ((cfgM m hO).slots t 1)
abbrev st_2 (hO : Ok m) (t : Fin (cfgM m hO).N) := ((cfgM m hO).win 2).stage ((cfgM m hO).slots t 2)

/-- The body as the pipeline calls it at point `t`. -/
abbrev bodyAt (hO : Ok m) (t : Fin (cfgM m hO).N) : Prog (TpuEff nD τ sig (Elt F) Λ₀ .tc) PUnit :=
  cc0_moe_down (grid0.coords t) (Memref.whole main_arg2) (Memref.isWhole_whole _) (Memref.whole main_arg3) (Memref.isWhole_whole _)
    (spec0_0.stage ((cfgM m hO).slots t 0)) (hstage0_0 (((cfgM m hO).slots t 0).cast nbuf0_0))
    (spec0_1.stage ((cfgM m hO).slots t 1)) (hstage0_1 (((cfgM m hO).slots t 1).cast nbuf0_1))
    (spec0_2.stage ((cfgM m hO).slots t 2)) (hstage0_2 (((cfgM m hO).slots t 2).cast nbuf0_2))
    (Memref.whole cc0_scratch0) (Memref.isWhole_whole _)

/-- What the body is called with at point `t`, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (st_0 m hO t) fullShare ((dats m hO 0 c).before 0 t d))
    ∗ (∃ d, owns (c : Thread nD τ) (st_1 m hO t) fullShare ((dats m hO 0 c).before 1 t d))
    ∗ (∃ d, owns (c : Thread nD τ) (st_2 m hO t) fullShare ((dats m hO 0 c).before 2 t d)))

/-- and what it gives back. -/
def bodyPost (hO : Ok m) (c : Dev nD) (t : Fin (cfgM m hO).N) : sProp 𝕄 :=
  iprop((dats m hO 0 c).Φ t.succ ∗ (dats m hO 0 c).owesAt () t.succ
    ∗ owns (c : Thread nD τ) (st_0 m hO t) fullShare ((dats m hO 0 c).after 0 t)
    ∗ owns (c : Thread nD τ) (st_1 m hO t) fullShare ((dats m hO 0 c).after 1 t)
    ∗ owns (c : Thread nD τ) (st_2 m hO t) fullShare ((dats m hO 0 c).after 2 t))

theorem sound_body (hO : Ok m) (c : Dev nD) (t : Fin (cfgM m hO).N) :
    bodyPre m hO c t ⊢ wp frame (wpE (defs₀ (F := F)) Variants.none c none) Set.univ (bodyAt m hO t) (fun _ => bodyPost m hO c t) := by
  unfold bodyPre bodyPost
  simp only [before_0, before_1]
  rw [show (dats m hO 0 c).Φ t.succ = iprop(Pipeline.ΦA spec0 c ∗ Pipeline.ΦT pre0 (tbl m) c) from rfl,
    show (dats m hO 0 c).Φ t.castSucc = iprop(Pipeline.ΦA spec0 c ∗ Pipeline.ΦT pre0 (tbl m) c) from rfl,
    show (dats m hO 0 c).owesAt () t.succ = (dats m hO 0 c).owesAt () t.castSucc from rfl,
    after_0, after_1, after_2]
  unfold Pipeline.ΦA
  rw [PhiT_eq, scopedRest0_eq]
  iintro ⟨⟨⟨Hs, Hp⟩, T2, T3⟩, Ho, ⟨%d0, H0⟩, ⟨%d1, H1⟩, ⟨%d2, H2⟩⟩
  iapply (sound_kernel c Set.univ (grid0.coords t) _ _ _ _ _ _ (iblk m hO c 0 t) (iblk m hO c 1 t) (tbl m) _)
  isplitl [H0]; · iexact H0
  isplitl [H1]; · iexact H1
  isplitl [H2]; · iexists _; iexact H2
  isplitl [T2]; · iexact T2
  isplitl [T3]; · iexact T3
  isplitl [Hs]; · iexact Hs
  iintro ⟨H0, H1, H2, T2, T3, Hs⟩
  isplitl [Hs Hp T2 T3]
  · isplitl [Hs Hp]
    · isplitl [Hs]; · iexact Hs
      iexact Hp
    isplitl [T2]; · iexact T2
    iexact T3
  isplitl [Ho]; · iexact Ho
  isplitl [H0]; · iexact H0
  isplitl [H1]; · iexact H1
  iexact H2

/-- The body's row at point `t`. -/
theorem defs₀_row (hO : Ok m) (t : Fin (cfgM m hO).N) :
    defs₀ (F := F) .tc (cfgM m hO).body ((cfgM m hO).bodyArgs t ((cfgM m hO).slots t)) = bodyAt m hO t := by
  unfold defs₀
  rw [Defs.onTc_tc]

/-- What is owed where a window may be idle is, where it is not, what the body leaves. -/
theorem live_of (b : Bool) (hb : b = false) (P Q : sProp 𝕄) :
    P ⊢ (match (generalizing := false) b with
      | true => Q
      | false => P) := by
  subst hb
  exact Entails.rfl

theorem body_obligation (hO : Ok m) (c : Dev nD) :
    BodyObligation (dats (F := F) m hO 0 c) (defs₀ (F := F)) Variants.none () Set.univ := fun t => by
  rw [bigSep_W0, bigSep_W0, defs₀_row]
  refine triple_restated (sound_body m hO c t) rfl .rfl fun _ => sep_mono .rfl (sep_mono .rfl (sep_mono .rfl (sep_mono .rfl ?_)))
  exact live_of (F := F) ((cfgM m hO).idle 2 ((cfgM m hO).grid.coords t)) (idle_2 m hO (grid0.coords t))
    (owns (c : Thread nD τ) (st_2 m hO t) fullShare ((dats m hO 0 c).after 2 t))
    (match ((cfgM m hO).win 2).flush t with
      | false => iprop(∃ d, owns (c : Thread nD τ) (st_2 m hO t) fullShare ((dats m hO 0 c).before 2 t d))
      | true => owns (c : Thread nD τ) (st_2 m hO t) fullShare ((dats m hO 0 c).after 2 t))

/-! ## The run -/

set_option backward.isDefEq.respectTransparency.types false in
set_option maxHeartbeats 800000 in
/-- The run of the program: every array of the pipeline ends as the proof data gives it, every other buffer as launched,
    and every semaphore counter at zero. -/
theorem run_main_quiescent (hO : Ok m) : θ_run defs (onTc (τ := τ) (main (F := F))) (s₀ m ρ)
    (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m) (hΦ := fun _ _ => rfl)

end Cert.MoeDownBody

end
-- ==== Proof.MoeDownFrame.lean ====
/-
  The experts' second product: tables of experts that exist and a count of at least one choose blocks inside their arrays, so
  the call runs, over ideal floats and over bit patterns.
-/
module

public import proofs.«01_k».proof.Proof.MoeDownRun
public import proofs.«01_k».proof.Defs
public import proofs.«01_k».proof.Proof.Gen.MoeDown
public import proofs.«01_k».proof.Proof.Gen.Pre_routed
public import Idealize.ShloMosaic.Lib.ReduceAll
public import Idealize.ShloMosaic.Lib.WordArith

@[expose] public section

set_option maxRecDepth 16384

noncomputable section

namespace Cert.MoeDownBody

open Cert.MoeDownIdeal Cert.MoeDownIdeal.Gen
open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ) (ρ : Dev nD → PrngReg)

/-! ## What the precondition says of the tables -/

/-- A word between 0 and `b` in the signed order is below `b`. -/
theorem toNat_lt_of_signed (x : BitVec 32) (b : ℕ) (hb : b < 2 ^ 31) (h0 : IntOp.cmpi .sge x 0#32 = 1#1)
    (h1 : IntOp.cmpi .slt x (BitVec.ofNat 32 b) = 1#1) : x.toNat < b := by
  rw [WordCmp.cmpi_sge_zero, WordCmp.ofBool_eq_one_iff, decide_eq_true_eq] at h0
  rw [WordCmp.cmpi_slt_eq, WordCmp.ofBool_eq_one_iff, decide_eq_true_eq, WordCmp.toInt_eq_toNat_of_lt_half h0] at h1
  have hb' : (BitVec.ofNat 32 b).toNat = b := by
    rw [BitVec.toNat_ofNat]
    exact Nat.mod_eq_of_lt (by omega)
  rw [WordCmp.toInt_eq_toNat_of_lt_half (by rw [hb']; exact hb), hb'] at h1
  omega

/-- Under the precondition every tile's expert is one of the eight, and there is at least one tile. -/
theorem routed_words (a : FVec F S36864x3072 .bf16) (b : FVec F S8x3072x4096 .bf16) (te : IVec S72 32) (n : IVec S1 32)
    (h : Cert.Pre_routed.fn (F := F) a b te n = fun _ => 1#1) :
    (∀ t, (te t).toNat < 8) ∧ ∀ t, 1 ≤ (n t).toNat ∧ (n t).toNat < 2 ^ 31 := by
  have h' := congrFun h (Shape.Idx.first (by decide))
  unfold Cert.Pre_routed.fn at h'
  dsimp only at h'
  obtain ⟨hall, hn⟩ := IntOp.andi_eq_one.mp h'
  refine ⟨fun t => ?_, fun t => ?_⟩
  · have ht := Host.reduce_andi_all _ _ _ _ _ hall t
    obtain ⟨h0, h1⟩ := IntOp.andi_eq_one.mp ht
    exact toNat_lt_of_signed (te t) 8 (by norm_num) h0 h1
  · have e : shapeCast Cert.Pre_routed.S_ n Cert.Pre_routed.Facts.shapeCasts_S1_S_ (Shape.Idx.first (by decide)) = n t := by
      unfold shapeCast
      exact congrArg n (funext fun a => match a with | ⟨0, _⟩ => Subsingleton.elim (α := Fin 1) _ _)
    have hn' : IntOp.cmpi .sge (n t) 1#32 = 1#1 := by
      rw [← e]
      exact hn
    rw [WordCmp.cmpi_sge_eq, WordCmp.ofBool_eq_one_iff, decide_eq_true_eq] at hn'
    have h1 : (1#32 : BitVec 32).toInt = 1 := by decide
    rw [h1] at hn'
    have hlt : (n t).toNat < 2 ^ 31 := (WordCmp.toInt_nonneg_iff_lt_half (n t)).mp (by omega)
    rw [WordCmp.toInt_eq_toNat_of_lt_half hlt] at hn'
    exact ⟨by omega, hlt⟩

/-- A coordinate of the grid as a word. -/
theorem coord_toNat {n : ℕ} (hn : n ≤ 2 ^ 31) (x : Fin n) : (BitVec.ofNat 32 x.val).toNat = x.val := by
  rw [BitVec.toNat_ofNat]
  exact Nat.mod_eq_of_lt (by have := x.isLt; omega)

/-- The row block of a tile: the tile's own, or the last one's past the count. -/
theorem row_index (n i : BitVec 32) (hi : i.toNat < 72) (h1 : 1 ≤ n.toNat) (h2 : n.toNat < 2 ^ 31) :
    (Scalar.minsi i (Scalar.subi n 1#32)).toNat = min i.toNat (n.toNat - 1) := by
  have hs : (IntOp.subi n 1#32).toNat = n.toNat - 1 := by
    show (n - 1#32).toNat = _
    rw [BitVec.toNat_sub_of_le (by rw [BitVec.le_def]; exact h1)]
    rfl
  show (IntOp.minsi i (IntOp.subi n 1#32)).toNat = _
  rw [WordArith.toNat_minsi_of_lt i _ (by omega) (by omega), hs]

/-- That row block lies inside the 72 there are. -/
theorem row_inside (n i : BitVec 32) (hi : i.toNat < 72) (h1 : 1 ≤ n.toNat) (h2 : n.toNat < 2 ^ 31) :
    ((Scalar.minsi i (Scalar.subi n 1#32)).toNat + 1) * 512 ≤ 36864 := by
  rw [row_index n i hi h1 h2]
  omega

/-- An expert's weights lie inside the eight there are. -/
theorem expert_inside (e : BitVec 32) (h : e.toNat < 8) : (e.toNat + 1) * 1 ≤ 8 := by
  omega

/-- The column block is one of the four there are. -/
theorem col_inside (b : BitVec 1) (j : BitVec 32) (h : j.toNat < 4) : ((Scalar.select b j 3#32 : BitVec 32).toNat + 1) * 1024 ≤ 4096 := by
  unfold Scalar.select
  split
  · omega
  · decide

/-- Under the precondition's reading, the blocks the tables choose lie inside their arrays, on whole words. -/
theorem ok_of (pf : pre0.Contents (Elt F)) (hte : ∀ t : S72.Idx, (pf 0 t : BitVec 32).toNat < 8)
    (hn : ∀ t : S1.Idx, 1 ≤ (pf 1 t : BitVec 32).toNat ∧ (pf 1 t : BitVec 32).toNat < 2 ^ 31) : ok0 pf := by
  have hi0 : ∀ i : grid0.Coords, (BitVec.ofNat 32 (i 0).val).toNat < 72 := fun i => by
    rw [coord_toNat (n := 72) (by norm_num) (i 0)]
    exact (i 0).isLt
  have hi1 : ∀ i : grid0.Coords, (BitVec.ofNat 32 (i 1).val).toNat < 4 := fun i => by
    rw [coord_toNat (n := 4) (by norm_num) (i 1)]
    exact (i 1).isLt
  refine ⟨fun i => ⟨fun a => ?_, ?_⟩, fun i => ⟨fun a => ?_, ?_⟩⟩
  · match a with
    | ⟨0, _⟩ => exact row_inside _ _ (hi0 i) (hn _).1 (hn _).2
    | ⟨1, _⟩ => exact (by decide : (0 + 1) * 3072 ≤ 3072)
  · refine Or.inr (Or.inl (Or.inr ⟨by decide, rfl, Or.inl ⟨?_, ?_⟩⟩))
    · exact Dvd.dvd.mul_left (by decide : 2 ∣ 512) _
    · exact (by decide : 2 ∣ 512)
  · match a with
    | ⟨0, _⟩ => exact expert_inside _ (hte _)
    | ⟨1, _⟩ => exact (by decide : (0 + 1) * 3072 ≤ 3072)
    | ⟨2, _⟩ => exact col_inside _ _ (hi1 i)
  · refine Or.inr (Or.inl (Or.inr ⟨by decide, rfl, Or.inl ⟨?_, ?_⟩⟩))
    · exact Dvd.dvd.mul_left (by decide : 2 ∣ 3072) _
    · exact (by decide : 2 ∣ 3072)

/-- The tables the precondition admits are tables the pipeline runs on. -/
theorem ok_of_routed (h : Cert.Pre_routed.fn (F := F) (V m 0 main_arg0) (V m 0 main_arg1) (V m 0 main_arg2) (V m 0 main_arg3) = fun _ => 1#1) :
    Ok m :=
  ok_of (tbl m) (routed_words _ _ _ _ h).1 (routed_words _ _ _ _ h).2

/-- Under the precondition the program runs to the end, leaves its arguments as they were and every semaphore at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
      ⟨((h.1 c).1 (0 : Fin 3)).trans (((dats m hO 0 c).arrAt_in (0 : Fin 3) rfl _).trans (A_eq m hO c 0)),
        ((h.1 c).1 (1 : Fin 3)).trans (((dats m hO 0 c).arrAt_in (1 : Fin 3) rfl _).trans (A_eq m hO c 1)),
        (h.1 c).2 main_arg2 (Pipeline.mem_restRefs_of main_arg2 rfl (by decide : ∀ w : Fin 3, (spec0 w).arr.view.ref ≠ main_arg2)),
        (h.1 c).2 main_arg3 (Pipeline.mem_restRefs_of main_arg3 rfl (by decide : ∀ w : Fin 3, (spec0 w).arr.view.ref ≠ main_arg3))⟩, h.2⟩) (run_main_quiescent m ρ hO)

end Cert.MoeDownBody

namespace Cert.Proof

open Idealize.ShloMosaic Idealize.SL.Sem

/-- The MoeDown kernel over ideal floats runs to the end, leaves its arguments as they were and every semaphore at zero. -/
theorem quiescent_MoeDownIdeal : Cert.quiescent_MoeDownIdeal := fun m ρ h =>
  Cert.MoeDownBody.frame m ρ (Cert.MoeDownBody.ok_of_routed m (h 0))

/-- The kernel's body is the same program text in both modules, read at bit patterns. -/
theorem kernel_eq (i : Cert.MoeDown.grid0.Coords) (arg2 : Memref Cert.MoeDown.sig .tc .smem Cert.MoeDown.S72 .i32) (harg2 : arg2.IsWhole) (arg3 : Memref Cert.MoeDown.sig .tc .smem Cert.MoeDown.S1 .i32) (harg3 : arg3.IsWhole) (arg4 : Memref Cert.MoeDown.sig .tc .vmem Cert.MoeDown.S512x3072 .bf16) (harg4 : arg4.IsWhole) (arg5 : Memref Cert.MoeDown.sig .tc .vmem Cert.MoeDown.S1x3072x1024 .bf16) (harg5 : arg5.IsWhole) (arg6 : Memref Cert.MoeDown.sig .tc .vmem Cert.MoeDown.S512x8x128 .f32) (harg6 : arg6.IsWhole) (arg7 : Memref Cert.MoeDown.sig .tc .vmem Cert.MoeDown.S4096x128 .f32) (harg7 : arg7.IsWhole) :
    Cert.MoeDown.cc0_moe_down (F := Bits) i arg2 harg2 arg3 harg3 arg4 harg4 arg5 harg5 arg6 harg6 arg7 harg7 = Cert.MoeDownIdeal.cc0_moe_down (F := Bits) i arg2 harg2 arg3 harg3 arg4 harg4 arg5 harg5 arg6 harg6 arg7 harg7 := rfl

/-- So are the body tables of its labels. -/
theorem defs₀_eq : @Cert.MoeDown.defs₀ Bits _ _ = @Cert.MoeDownIdeal.defs₀ Bits _ _  := by
  refine congrArg Defs.onTc ?_
  funext x y
  match x with
  | 0 => exact kernel_eq _ _ _ _ _ _ _ _ _ _ _ _ _
  | ⟨n + 1, h⟩ => exact absurd h (Nat.not_lt.2 (Nat.le_add_left _ _))

/-- And the body tables of the whole program. -/
theorem defs_eq : @Cert.MoeDown.defs Bits _ _ = @Cert.MoeDownIdeal.defs Bits _ _ :=
  congrArg (Pipeline.defs (Cert.MoeDown.pcfgs (F := Bits))) defs₀_eq

/-- The MoeDown kernel runs to the end, leaves its arguments as they were and every semaphore at zero: its text is that
    of the kernel over ideal floats, read at bit patterns. -/
theorem quiescent_MoeDown : Cert.quiescent_MoeDown := fun m ρ h => by
  rw [defs_eq]
  exact Cert.MoeDownBody.frame (F := Bits) m ρ (Cert.MoeDownBody.ok_of_routed (F := Bits) m (h 0))

end Cert.Proof

end
-- ==== Proof.MoeDownRef.lean ====
/-
  The reference of the experts' second product, read at an entry: a tile below the count is the product of its rows with its
  expert's weights, any other tile is zero.
-/
module

public import proofs.«01_k».proof.Defs
public import proofs.«01_k».proof.Proof.Gen.MoeDownRefIdeal.Run
public import proofs.«01_k».proof.Proof.Gen.MoeDownRefIdeal.Read
public import proofs.«01_k».proof.Proof.Common
public import Idealize.ShloMosaic.Lib.WordArith
public import Idealize.ShloMosaic.Lib.WordCmp

@[expose] public section

set_option maxRecDepth 16384

noncomputable section

namespace Cert.MoeDownRef

open Cert Cert.MoeDownRefIdeal Cert.MoeDownRefIdeal.Gen Cert.MoeDownRefIdeal.Read Idealize.ShloMosaic
open Idealize.ShloMosaic.ValueIdx

/-- The weights gathered for a tile: those of the expert its word names, held inside the eight there are. -/
theorem gather_apply {α : Type} (x : S8x3072x4096.Idx → α) (idx : IVec S72x1 32) (t : Fin 72) (k : Fin 3072) (q : Fin 4096) :
    Host.gather gather_S8x3072x4096_S72x1_S72x3072x4096_12_0_n_n_0_1_130724096 x idx (ix3 t k q)
      = x (ix3 ⟨min (idx (ix2 t (0 : Fin 1))).toInt.toNat 7, by omega⟩ k q) := by
  generalize hd : gather_S8x3072x4096_S72x1_S72x3072x4096_12_0_n_n_0_1_130724096 = d
  have hb : ∀ a, a ∉ d.operandBatchingDims := by subst hd; exact fun a => List.not_mem_nil
  unfold Host.gather
  refine congrArg x (funext fun a => Fin.ext ?_)
  show d.start (ix3 t k q) idx a + d.batchCoord (ix3 t k q) a + d.offCoord (ix3 t k q) a = _
  rw [d.batchCoord_eq_zero _ _ (hb a), Nat.add_zero]
  subst hd
  have ha : a = (0 : Fin 3) ∨ a = (1 : Fin 3) ∨ a = (2 : Fin 3) := by
    match a with
    | ⟨0, _⟩ => exact Or.inl rfl
    | ⟨1, _⟩ => exact Or.inr (Or.inl rfl)
    | ⟨2, _⟩ => exact Or.inr (Or.inr rfl)
  unfold GatherDims.start GatherDims.offCoord
  rcases ha with rfl | rfl | rfl
  · rw [dif_pos (by decide), dif_neg (by decide), Nat.add_zero]
    refine congrArg (fun z => min (idx z).toInt.toNat 7) (funext fun b => Fin.ext ?_)
    match b with
    | ⟨0, _⟩ => rfl
    | ⟨1, _⟩ => rfl
  · rw [dif_neg (by decide), dif_pos (by decide), Nat.zero_add]
    rfl
  · rw [dif_neg (by decide), dif_pos (by decide), Nat.zero_add]
    rfl

/-- A word below eight names itself: it is not negative, and it is already inside. -/
theorem expert_word (e : BitVec 32) (h : e.toNat < 8) :
    min (Scalar.select (IntOp.cmpi .slt e 0#32) (IntOp.addi e 8#32) e : BitVec 32).toInt.toNat 7 = e.toNat := by
  have hs : (Scalar.select (IntOp.cmpi .slt e 0#32) (IntOp.addi e 8#32) e : BitVec 32) = e := by
    refine if_neg ?_
    rw [WordCmp.cmpi_slt_eq, WordCmp.ofBool_eq_one_iff', decide_eq_true_eq, WordCmp.toInt_eq_toNat_of_lt_half (by omega)]
    show ¬ ((e.toNat : Int) < 0)
    omega
  rw [hs, WordCmp.toInt_eq_toNat_of_lt_half (by omega)]
  omega

/-- The word the gather reads for a tile is the table's, where the table names an expert. -/
theorem gathered_word (x2 : IVec S72 32) (t : Fin 72) (h : (x2 (ix1 t) : BitVec 32).toNat < 8) :
    min (val_main_v8 (F := Ideal) x2 (ix2 t (0 : Fin 1)) : BitVec 32).toInt.toNat 7 = (x2 (ix1 t) : BitVec 32).toNat := by
  have ei : idx_main_v8 (ix2 t (0 : Fin 1)) = ix1 t := funext fun a => by match a with | ⟨0, _⟩ => rfl
  rw [val_main_v8_apply, val_main_v7_apply, val_main_v4_apply, val_main_v6_apply, val_main_v3_apply, val_main_v5_apply, ei]
  exact expert_word _ h

/-- An entry of the weights gathered for a tile. -/
theorem gathered (x1 : Vec Ideal S8x3072x4096 .bf16) (x2 : IVec S72 32) (t : Fin 72) (k : Fin 3072) (q : Fin 4096) (e : Fin 8)
    (he : e.val = (x2 (ix1 t) : BitVec 32).toNat) :
    val_main_v9 (F := Ideal) x1 x2 (ix3 t k q) = x1 (ix3 e k q) := by
  have e9 := gather_apply (val_main_v2 (F := Ideal) x1) (val_main_v8 (F := Ideal) x2) t k q
  have ew : (⟨min (val_main_v8 (F := Ideal) x2 (ix2 t (0 : Fin 1)) : BitVec 32).toInt.toNat 7, by omega⟩ : Fin 8) = e :=
    Fin.ext ((gathered_word x2 t (by omega)).trans he.symm)
  exact e9.trans ((congrArg (fun z => val_main_v2 (F := Ideal) x1 (ix3 z k q)) ew).trans (val_main_v2_apply x1 _))

/-- An entry of the tiles' products before those past the count are zeroed. -/
theorem product (x0 : Vec Ideal S36864x3072 .bf16) (x1 : Vec Ideal S8x3072x4096 .bf16) (x2 : IVec S72 32) (t : Fin 72) (r : Fin 512)
    (q : Fin 4096) (R : Fin 36864) (hR : R.val = t.val * 512 + r.val) (e : Fin 8) (he : e.val = (x2 (ix1 t) : BitVec 32).toNat) :
    val_main_v10 (F := Ideal) x0 x1 x2 (ix3 t r q)
      = (∑ k : Fin 3072, (x0 (ix2 R k) : EReal) * (x1 (ix3 e k q) : EReal) : EReal) := by
  refine (val_main_v10_apply x0 x1 x2 (ix3 t r q)).trans (Finset.sum_congr rfl fun k _ => ?_)
  have el : lidx_main_v10 (ix3 t r q) k = ix3 t r k := Common.idx3_ext rfl rfl rfl
  have er : ridx_main_v10 (ix3 t r q) k = ix3 t k q := Common.idx3_ext rfl rfl rfl
  have e1 : idx_main_v1 (ix3 t r k) = ix2 R k := by
    have hk := k.isLt
    refine Common.idx2_ext ?_ ?_
    · show ((t.val * 512 + r.val) * 3072 + k.val) / 3072 = R.val; omega
    · show ((t.val * 512 + r.val) * 3072 + k.val) % 3072 = k.val; omega
  rw [el, er, gathered x1 x2 t k q e he, val_main_v1_apply, e1, val_main_v0_apply]
  rfl

/-- An entry of the reference: where tile `R / 512` is below the count, row `R`'s product with its expert's column
    `128 * s + l`; elsewhere zero. -/
theorem ref_apply (x0 : Vec Ideal S36864x3072 .bf16) (x1 : Vec Ideal S8x3072x4096 .bf16) (x2 : IVec S72 32) (x3 : IVec S1 32)
    (R : Fin 36864) (s : Fin 32) (l : Fin 128) (t : Fin 72) (ht : t.val = R.val / 512) (q : Fin 4096)
    (hq : q.val = 128 * s.val + l.val) (e : Fin 8) (he : e.val = (x2 (ix1 t) : BitVec 32).toNat) :
    val_main_v17 (F := Ideal) x0 x1 x2 x3 (ix3 R s l)
      = Scalar.select (IntOp.cmpi .slt (BitVec.ofNat 32 t.val) (x3 (ix1 (0 : Fin 1))))
          (∑ k : Fin 3072, (x0 (ix2 R k) : EReal) * (x1 (ix3 e k q) : EReal) : EReal) (0 : EReal) := by
  have hR := R.isLt
  have hs := s.isLt
  have hl := l.isLt
  have e17 : idx_main_v17 (ix3 R s l) = ix3 t ⟨R.val % 512, Nat.mod_lt _ (by omega)⟩ q := by
    refine Common.idx3_ext ?_ ?_ ?_
    · show ((R.val * 32 + s.val) * 128 + l.val) / 2097152 = t.val; omega
    · show ((R.val * 32 + s.val) * 128 + l.val) / 4096 % 512 = R.val % 512; omega
    · show ((R.val * 32 + s.val) * 128 + l.val) % 4096 = q.val; omega
  rw [val_main_v17_apply, e17, val_main_v16_apply]
  have hc : val_main_call0_v1 (F := Ideal) x3 (ix3 t ⟨R.val % 512, Nat.mod_lt _ (by omega)⟩ q)
      = IntOp.cmpi .slt (BitVec.ofNat 32 t.val) (x3 (ix1 (0 : Fin 1))) := by
    rw [val_main_call0_v1_apply, val_main_v15_apply, val_main_v14_apply, val_main_v13_apply]
    refine congrArg₂ (IntOp.cmpi .slt) rfl ?_
    unfold val_main_v12
    show x3 _ = x3 _
    refine congrArg x3 (funext fun a => ?_)
    match a with
    | ⟨0, _⟩ => exact Subsingleton.elim (α := Fin 1) _ _
  have hz : val_main_call0_v2 (F := Ideal) (ix3 t ⟨R.val % 512, Nat.mod_lt _ (by omega)⟩ q) = (0 : EReal) := by
    rw [val_main_call0_v2_apply]
    exact Ideal.ofBits_zero_f32
  rw [hc, hz, product x0 x1 x2 t ⟨R.val % 512, Nat.mod_lt _ (by omega)⟩ q R (by dsimp only; omega) e he]

end Cert.MoeDownRef

end
-- ==== Proof.MoeDownValue.lean ====
/-
  The experts' second product: every tile of 512 rows below the count is multiplied with its expert's weights, the tiles past
  it are zero; the kernel's result is the reference's.
-/
module

public import proofs.«01_k».proof.Defs
public import proofs.«01_k».proof.Proof.MoeDownFrame
public import proofs.«01_k».proof.Proof.MoeDownRef
public import proofs.«01_k».proof.Proof.Common

@[expose] public section

set_option maxRecDepth 16384

noncomputable section

namespace Cert.MoeDownIdeal.Value

open Cert Cert.MoeDownIdeal Cert.MoeDownIdeal.Gen Cert.MoeDownBody Idealize.ShloMosaic Idealize.ShloMosaic.TcCoe Idealize.SL.Sem
open Idealize.ShloMosaic.ValueIdx
open Idealize.ShloMosaic.Pipeline (Dat)

/-! ## The body's block at an entry -/

/-- The first condition of the body is its comparison. -/
theorem cond1_eq (i : grid0.Coords) (n : BitVec 32) :
    (k0_cond1 i n = 1#1) ↔ (IntOp.cmpi .slt (BitVec.ofNat 32 (i 0).val) n : BitVec 1) = 1#1 := by
  unfold k0_cond1
  dsimp only
  show (Scalar.cmpi .ne (Scalar.extui (IntOp.cmpi .slt (BitVec.ofNat 32 (i 0).val) n : BitVec 1)) 0#32 : BitVec 1) = 1#1 ↔ _
  generalize (IntOp.cmpi .slt (BitVec.ofNat 32 (i 0).val) n : BitVec 1) = b
  revert b
  decide

/-- The product's columns, laid out by lanes and read as eight rows of 128 lanes for each of the block's rows. -/
theorem lanes_apply (M : FVec Ideal S512x1024 .f32) (r : Fin 512) (s : Fin 8) (l : Fin 128) (q : Fin 1024)
    (hq : q.val = 128 * s.val + l.val) : k0_pay2 (F := Ideal) (lanes M) (ix3 r s l) = M (ix2 r q) := by
  have hr := r.isLt
  have hs := s.isLt
  have hl := l.isLt
  have e : k0_pay2 (F := Ideal) (lanes M) (ix3 r s l) = lanes M (ix2 (⟨8 * r.val + s.val, by omega⟩ : Fin 4096) l) := by
    unfold k0_pay2
    refine shapeCast_apply (lanes M) shapeCasts_S4096x128_S512x8x128 (ix3 r s l) (ix2 (⟨8 * r.val + s.val, by omega⟩ : Fin 4096) l) ?_
    rw [Shape.rowMajor_val_two, Shape.rowMajor_val_three]
    show (8 * r.val + s.val) * 128 + l.val = (r.val * 8 + s.val) * 128 + l.val
    omega
  rw [e]
  unfold lanes
  refine congrArg M (Common.idx2_ext ?_ ?_)
  · show (8 * r.val + s.val) / 8 = r.val; omega
  · show 128 * ((8 * r.val + s.val) % 8) + l.val = q.val; omega

/-- An entry of the body's block: the row's product with the column, or zero past the count. -/
theorem body_apply (i : grid0.Coords) (n : BitVec 32) (x0 : Vec Ideal S512x3072 .bf16) (x1 : Vec Ideal S1x3072x1024 .bf16)
    (r : Fin 512) (s : Fin 8) (l : Fin 128) (q : Fin 1024) (hq : q.val = 128 * s.val + l.val) :
    bodyOut (F := Ideal) i n x0 x1 (ix3 r s l) = Scalar.select (IntOp.cmpi .slt (BitVec.ofNat 32 (i 0).val) n)
      (∑ k : Fin 3072, (x0 (ix2 r k) : EReal) * (x1 (ix3 (0 : Fin 1) k q) : EReal) : EReal) (0 : EReal) := by
  unfold bodyOut
  by_cases h : k0_cond1 i n = 1#1
  · rw [if_pos h, (cond1_eq i n).mp h]
    refine (lanes_apply (k0_pay4 (F := Ideal) x0 x1) r s l q hq).trans ?_
    exact (Common.matmul_dropUnit_apply (φ₁ := .bf16) (φ₂ := .bf16) x0 x1 _ r q)
  · rw [if_neg h]
    have h' : ¬ (IntOp.cmpi .slt (BitVec.ofNat 32 (i 0).val) n : BitVec 1) = 1#1 := fun e => h ((cond1_eq i n).mpr e)
    exact (Ideal.ofBits_zero_f32).trans (if_neg h').symm

/-! ## The windows' blocks -/

/-- The grid's coordinates at point `t`: tile `t / 4`, column block `t % 4`. -/
theorem coords_eq : ∀ t : Fin grid0.N, (grid0.coords t 0).val = t.val / 4 ∧ (grid0.coords t 1).val = t.val % 4 := by
  decide +kernel

/-- The output's block index at point `t`. -/
theorem out_index : ∀ t : Fin grid0.N, cc0_transform_2 (grid0.coords t) 0 = t.val / 4
    ∧ cc0_transform_2 (grid0.coords t) 1 = t.val % 4 ∧ cc0_transform_2 (grid0.coords t) 2 = 0 := by
  decide +kernel

/-- A tile below the count reads its own rows. -/
theorem row_live (i n : BitVec 32) (hi : i.toNat < 72) (h1 : 1 ≤ n.toNat) (h2 : n.toNat < 2 ^ 31)
    (h : (IntOp.cmpi .slt i n : BitVec 1) = 1#1) : (Scalar.minsi i (Scalar.subi n 1#32)).toNat = i.toNat := by
  rw [row_index n i hi h1 h2]
  rw [WordCmp.cmpi_slt_eq, WordCmp.ofBool_eq_one_iff, decide_eq_true_eq, WordCmp.toInt_eq_toNat_of_lt_half (by omega),
    WordCmp.toInt_eq_toNat_of_lt_half (by omega)] at h
  omega

/-- A tile below the count reads the column block of its point. -/
theorem col_live (b : BitVec 1) (j : BitVec 32) (h : b = 1#1) : (Scalar.select b j 3#32 : BitVec 32).toNat = j.toNat := by
  subst h
  rfl

variable (m : (ℓ : Loc nD τ sig) → Buf (Elt Ideal) ℓ)

/-- The table of experts and the count, as the words of the precondition. -/
abbrev teW : IVec S72 32 := m ((0 : Dev nD).tc.loc main_arg2)
abbrev ntW : IVec S1 32 := m ((0 : Dev nD).tc.loc main_arg3)

/-- Every index of the count's one word is the same. -/
theorem ntW_eq (z : S1.Idx) : ntW m z = ntW m (ix1 (0 : Fin 1)) := by
  refine congrArg (ntW m) (funext fun a => ?_)
  match a with
  | ⟨0, _⟩ => exact Subsingleton.elim (α := Fin 1) _ _

/-- The count as the body reads it. -/
theorem count_eq : (tbl m).atD 1 ![0] = ntW m (ix1 (0 : Fin 1)) := by
  refine Eq.trans ?_ (ntW_eq m (ix1 (0 : Fin 1)))
  exact ntW_eq m _

/-- The output is written back after every point. -/
theorem flush_2 (hO : Ok m) (t : Fin (cfgM m hO).N) : ((cfgM m hO).win 2).flush t = true := by
  have ht : t.val < 288 := t.isLt
  unfold Pipeline.Window.flush
  rw [Bool.and_eq_true]
  refine ⟨rfl, ?_⟩
  rw [Bool.or_eq_true]
  by_cases h : t.val + 1 = 288
  · exact Or.inl (decide_eq_true h)
  · refine Or.inr (decide_eq_true ⟨(by omega : t.val + 1 < 288), fun e => ?_⟩)
    obtain ⟨a0, a1, -⟩ := out_index ⟨t.val + 1, (by omega : t.val + 1 < 288)⟩
    obtain ⟨b0, b1, -⟩ := out_index t
    have e0 : cc0_transform_2 (grid0.coords ⟨t.val + 1, (by omega : t.val + 1 < 288)⟩) 0 = cc0_transform_2 (grid0.coords t) 0 := congrFun e (0 : Fin 3)
    have e1 : cc0_transform_2 (grid0.coords ⟨t.val + 1, (by omega : t.val + 1 < 288)⟩) 1 = cc0_transform_2 (grid0.coords t) 1 := congrFun e (1 : Fin 3)
    rw [a0, b0] at e0
    rw [a1, b1] at e1
    dsimp only at e0 e1
    omega

section live

variable (hO : Ok m) (t : Fin (cfgM m hO).N) (hte : ∀ z, (teW m z : BitVec 32).toNat < 8)
  (hn : ∀ z, 1 ≤ (ntW m z : BitVec 32).toNat ∧ (ntW m z : BitVec 32).toNat < 2 ^ 31)
  (h : (IntOp.cmpi .slt (BitVec.ofNat 32 (grid0.coords t 0).val) (ntW m (ix1 (0 : Fin 1))) : BitVec 1) = 1#1)

include hn h

/-- The rows a tile below the count reads: its own. -/
theorem rows_index : ((cfgM m hO).win 0).index t (0 : Fin 2) = (grid0.coords t 0).val ∧ ((cfgM m hO).win 0).index t (1 : Fin 2) = 0 := by
  have hi : (BitVec.ofNat 32 (grid0.coords t 0).val).toNat = (grid0.coords t 0).val := coord_toNat (n := 72) (by norm_num) (grid0.coords t 0)
  have hlt : (grid0.coords t 0).val < 72 := (grid0.coords t 0).isLt
  have hz : ∀ z, (IntOp.cmpi .slt (BitVec.ofNat 32 (grid0.coords t 0).val) (ntW m z) : BitVec 1) = 1#1 := fun z => by rw [ntW_eq m z]; exact h
  exact ⟨(row_live _ _ (by omega) (hn _).1 (hn _).2 (hz _)).trans hi, rfl⟩

omit hn in
/-- The weights it reads: its expert's, at the column block of its point. -/
theorem weights_index (hT : (grid0.coords t 0).val < 72) : ((cfgM m hO).win 1).index t (0 : Fin 3) = (teW m (ix1 ⟨(grid0.coords t 0).val, hT⟩) : BitVec 32).toNat
    ∧ ((cfgM m hO).win 1).index t (1 : Fin 3) = 0 ∧ ((cfgM m hO).win 1).index t (2 : Fin 3) = (grid0.coords t 1).val := by
  have hj : (BitVec.ofNat 32 (grid0.coords t 1).val).toNat = (grid0.coords t 1).val := coord_toNat (n := 4) (by norm_num) (grid0.coords t 1)
  have hz : ∀ z, (IntOp.cmpi .slt (BitVec.ofNat 32 (grid0.coords t 0).val) (ntW m z) : BitVec 1) = 1#1 := fun z => by rw [ntW_eq m z]; exact h
  refine ⟨?_, rfl, (col_live _ _ (hz _)).trans hj⟩
  refine congrArg (fun z => (teW m z : BitVec 32).toNat) (funext fun a => Fin.ext ?_)
  match a with
  | ⟨0, _⟩ =>
    show (BitVec.ofNat 32 (grid0.coords t 0).val).toNat + 1 * 0 = (grid0.coords t 0).val
    rw [coord_toNat (n := 72) (by norm_num) (grid0.coords t 0)]
    omega

end live

/-- The result of the reference at the kernel's arguments. -/
abbrev goal (c : Dev nD) : Buf (Elt Ideal) ((c : Thread nD τ).loc main_v0) :=
  Cert.MoeDownRefIdeal.Read.val_main_v17 (F := Ideal) (m ((c : Thread nD τ).loc main_arg0)) (m ((c : Thread nD τ).loc main_arg1))
    (m ((c : Thread nD τ).loc main_arg2)) (m ((c : Thread nD τ).loc main_arg3))

/-- A term of the product of a live tile's blocks, as the reference's term. -/
theorem term_eq (hO : Ok m) (c : Dev nD) (t : Fin (cfgM m hO).N)
    (hn : ∀ z, 1 ≤ (ntW m z : BitVec 32).toNat ∧ (ntW m z : BitVec 32).toNat < 2 ^ 31)
    (h : (IntOp.cmpi .slt (BitVec.ofNat 32 (grid0.coords t 0).val) (ntW m (ix1 (0 : Fin 1))) : BitVec 1) = 1#1)
    (r : Fin 512) (q : Fin 1024) (k : Fin 3072) (T : Fin 72) (hT : T.val = (grid0.coords t 0).val) (R : Fin 36864)
    (hR : R.val = T.val * 512 + r.val) (Q : Fin 4096) (hQ : Q.val = (grid0.coords t 1).val * 1024 + q.val) (e : Fin 8)
    (he : e.val = (teW m (ix1 T) : BitVec 32).toNat) :
    (@HMul.hMul EReal EReal EReal _ (iblk m hO c 0 t (ix2 r k)) (iblk m hO c 1 t (ix3 (0 : Fin 1) k q)))
      = @HMul.hMul EReal EReal EReal _ (m ((c : Thread nD τ).loc main_arg0) (ix2 R k)) (m ((c : Thread nD τ).loc main_arg1) (ix3 e k Q)) := by
  obtain rfl : T = grid0.coords t 0 := Fin.ext hT
  obtain ⟨a0, a1⟩ := rows_index m hO t hn h
  obtain ⟨b0, b1, b2⟩ := weights_index m hO t h (grid0.coords t 0).isLt
  refine congrArg₂ (fun a b : EReal => a * b) ?_ ?_
  · refine congrArg (m ((c : Thread nD τ).loc main_arg0)) (Common.idx2_ext ?_ ?_)
    · exact (((cfgM m hO).win 0).rect_emb_val t (ix2 r k) (0 : Fin 2)).trans (by rw [a0, hR]; rfl)
    · exact (((cfgM m hO).win 0).rect_emb_val t (ix2 r k) (1 : Fin 2)).trans (by rw [a1, Nat.zero_mul, Nat.zero_add])
  · refine congrArg (m ((c : Thread nD τ).loc main_arg1)) (Common.idx3_ext ?_ ?_ ?_)
    · refine (((cfgM m hO).win 1).rect_emb_val t (ix3 (0 : Fin 1) k q) (0 : Fin 3)).trans ?_
      rw [b0]
      exact (Nat.mul_one _).trans he.symm
    · exact (((cfgM m hO).win 1).rect_emb_val t (ix3 (0 : Fin 1) k q) (1 : Fin 3)).trans (by rw [b1, Nat.zero_mul, Nat.zero_add])
    · exact (((cfgM m hO).win 1).rect_emb_val t (ix3 (0 : Fin 1) k q) (2 : Fin 3)).trans (by rw [b2, hQ]; rfl)

/-- What a point writes back is the reference's block there. -/
theorem flushed_eq (hO : Ok m) (hte : ∀ z, (teW m z : BitVec 32).toNat < 8)
    (hn : ∀ z, 1 ≤ (ntW m z : BitVec 32).toNat ∧ (ntW m z : BitVec 32).toNat < 2 ^ 31) (c : Dev nD) (t : Fin (cfgM m hO).N) :
    (dats m hO 0 c).flushed 2 t = (((cfgM m hO).win 2).blk t).view.read (Elt Ideal) (goal m c) := by
  obtain rfl : c = 0 := Subsingleton.elim _ _
  show ((cfgM m hO).win 2).cut (grid0.coords t) ((dats m hO 0 0).after 2 t) = _
  rw [after_2]
  funext y
  obtain ⟨r, s, l, rfl⟩ : ∃ (r : Fin 512) (s : Fin 8) (l : Fin 128), y = ix3 r s l := ⟨y (0 : Fin 3), y (1 : Fin 3), y (2 : Fin 3), eq_ix3 y⟩
  have hr := r.isLt
  have hs := s.isLt
  have hl := l.isLt
  have ht : t.val < 288 := t.isLt
  obtain ⟨c0, c1⟩ := coords_eq t
  obtain ⟨o0, o1, o2⟩ := out_index t
  have hR : (grid0.coords t 0).val * 512 + r.val < 36864 := by omega
  have hS : (grid0.coords t 1).val * 8 + s.val < 32 := by omega
  have hq : 128 * s.val + l.val < 1024 := by omega
  have hQ : (grid0.coords t 1).val * 1024 + (128 * s.val + l.val) < 4096 := by omega
  refine Eq.trans (body_apply (grid0.coords t) ((tbl m).atD 1 ![0]) (iblk m hO 0 0 t) (iblk m hO 0 1 t) r s l ⟨_, hq⟩ rfl) (Eq.trans ?_
    ((Cert.MoeDownRef.ref_apply (m (((0 : Dev nD) : Thread nD τ).loc main_arg0)) (m (((0 : Dev nD) : Thread nD τ).loc main_arg1))
      (teW m) (ntW m) ⟨_, hR⟩ ⟨_, hS⟩ l (grid0.coords t 0) (by dsimp only; omega) ⟨_, hQ⟩ (by dsimp only; omega)
      ⟨_, hte (ix1 (grid0.coords t 0))⟩ rfl).symm.trans ?_))
  · rw [count_eq]
    by_cases h : (IntOp.cmpi .slt (BitVec.ofNat 32 (grid0.coords t 0).val) (ntW m (ix1 (0 : Fin 1))) : BitVec 1) = 1#1
    · refine congrArg (fun z : EReal => Scalar.select (IntOp.cmpi .slt (BitVec.ofNat 32 (grid0.coords t 0).val) (ntW m (ix1 (0 : Fin 1)))) z (0 : EReal))
        (Finset.sum_congr rfl fun k _ => ?_)
      exact term_eq m hO 0 t hn h r ⟨_, hq⟩ k (grid0.coords t 0) rfl ⟨_, hR⟩ rfl ⟨_, hQ⟩ rfl _ rfl
    · exact (if_neg h).trans (if_neg h).symm
  · refine congrArg (goal m 0) (Common.idx3_ext ?_ ?_ ?_)
    · exact ((((cfgM m hO).win 2).rect_emb_val t (ix3 r s l) (0 : Fin 3)).trans
        ((congrArg (· * 512 + r.val) o0).trans (by dsimp only; omega))).symm
    · exact ((((cfgM m hO).win 2).rect_emb_val t (ix3 r s l) (1 : Fin 3)).trans
        ((congrArg (· * 8 + s.val) o1).trans (by dsimp only; omega))).symm
    · exact ((((cfgM m hO).win 2).rect_emb_val t (ix3 r s l) (2 : Fin 3)).trans
        ((congrArg (· * 128 + l.val) o2).trans (by show 0 * 128 + l.val = l.val; omega))).symm

/-- Every entry of the result lies in the block of some point. -/
theorem cover (hO : Ok m) (i : S36864x32x128.Idx) :
    ∃ t : Fin (cfgM m hO).N, ((cfgM m hO).win 2).flush t = true ∧ i ∈ (((cfgM m hO).win 2).blk t).view.set := by
  have h0 : (i 0 : Nat) < 36864 := (i 0).isLt
  have h1 : (i 1 : Nat) < 32 := (i 1).isLt
  have h2 : (i 2 : Nat) < 128 := (i 2).isLt
  obtain ⟨t, ht⟩ : ∃ t : Fin (cfgM m hO).N, t.val = (i 0 : Nat) / 512 * 4 + (i 1 : Nat) / 8 :=
    ⟨⟨_, (by omega : (i 0 : Nat) / 512 * 4 + (i 1 : Nat) / 8 < 288)⟩, rfl⟩
  refine ⟨t, flush_2 m hO t, ?_⟩
  have hset : (((cfgM m hO).win 2).blk t).view.set = (((cfgM m hO).win 2).rect t).set := View.set_slice_whole main_v0 _
  rw [hset]
  refine (((cfgM m hO).win 2).mem_rect_iff t i).mpr fun a => ?_
  obtain ⟨e0, e1, e2⟩ := out_index t
  match a with
  | ⟨0, _⟩ =>
    show cc0_transform_2 (grid0.coords t) 0 * 512 ≤ (i 0 : Nat) ∧ (i 0 : Nat) < cc0_transform_2 (grid0.coords t) 0 * 512 + 512
    rw [e0]; omega
  | ⟨1, _⟩ =>
    show cc0_transform_2 (grid0.coords t) 1 * 8 ≤ (i 1 : Nat) ∧ (i 1 : Nat) < cc0_transform_2 (grid0.coords t) 1 * 8 + 8
    rw [e1]; omega
  | ⟨2, _⟩ =>
    show cc0_transform_2 (grid0.coords t) 2 * 128 ≤ (i 2 : Nat) ∧ (i 2 : Nat) < cc0_transform_2 (grid0.coords t) 2 * 128 + 128
    rw [e2]; omega

/-- The kernel's result array is the reference's. -/
theorem final (hO : Ok m) (hte : ∀ z, (teW m z : BitVec 32).toNat < 8)
    (hn : ∀ z, 1 ≤ (ntW m z : BitVec 32).toNat ∧ (ntW m z : BitVec 32).toNat < 2 ^ 31) (c : Dev nD) :
    (dats m hO 0 c).arrAt 2 (cfgM m hO).N = goal m c :=
  (dats m hO 0 c).arrAt_eq_of_cover 2 (goal m c) (fun t _ => flushed_eq m hO hte hn c t) (cover m hO)

/-- The kernel and the reference, from equal arguments routed to experts that exist, end with equal results and unchanged
    arguments. -/
theorem algebraic : Cert.algebraic_MoeDownIdeal_MoeDownRefIdeal := by
  intro m g m' g' hpre hargs
  have hO : Ok m := ok_of_routed m (hpre 0)
  obtain ⟨hte, hn⟩ := routed_words _ _ _ _ (hpre 0)
  refine ⟨fun c => goal m c, ?_, ?_⟩
  · exact (θ_run defs _ _).mono (fun r h c =>
      ⟨((h.1 c).1 (2 : Fin 3)).trans (final m hO hte hn c),
        ((h.1 c).1 (0 : Fin 3)).trans (((dats m hO 0 c).arrAt_in (0 : Fin 3) rfl _).trans (A_eq m hO c 0)),
        ((h.1 c).1 (1 : Fin 3)).trans (((dats m hO 0 c).arrAt_in (1 : Fin 3) rfl _).trans (A_eq m hO c 1)),
        (h.1 c).2 main_arg2 (Pipeline.mem_restRefs_of main_arg2 rfl (by decide : ∀ w : Fin 3, (spec0 w).arr.view.ref ≠ main_arg2)),
        (h.1 c).2 main_arg3 (Pipeline.mem_restRefs_of main_arg3 rfl (by decide : ∀ w : Fin 3, (spec0 w).arr.view.ref ≠ main_arg3))⟩)
      (run_main_quiescent m g hO)
  · refine (θ_run _ _ _).mono (fun r h c => ⟨(h c).1.trans ?_, (h c).2⟩) (Cert.MoeDownRefIdeal.Value.run (F := Ideal) m' g')
    rw [(hargs c).1, (hargs c).2.1, (hargs c).2.2.1, (hargs c).2.2.2]
    rfl

end Cert.MoeDownIdeal.Value

end
-- ==== Proof.MoeUpWords.lean ====
/-
  The experts' first products: the closed forms of the words the kernel computes — its conditions, its loops' bounds and the
  offsets of its copies.
-/
module

public import proofs.«01_k».proof.Proof.Gen.MoeUpIdeal.Skeleton
public import Idealize.ShloMosaic.Lib.Pipeline.Kit
public import Idealize.ShloMosaic.Lib.WordArith
public import Idealize.ShloMosaic.Lib.LoopRemainder

@[expose] public section

set_option maxRecDepth 16384

noncomputable section

namespace Cert.MoeUpBody

open Cert.MoeUpIdeal Cert.MoeUpIdeal.Gen
open Idealize.ShloMosaic

/-- The tile's number is below 72. -/
theorem tile_lt (i : grid0.Coords) : (i 0).val < 72 := (i 0).isLt
/-- The column step's number is below 6. -/
theorem step_lt (i : grid0.Coords) : (i 1).val < 6 := (i 1).isLt

/-- The first condition says the column step is the first. -/
theorem cond1_iff (i : grid0.Coords) : k0_cond1 i = 1#1 ↔ (i 1).val = 0 := by
  have h : ∀ b : Fin 6, (Scalar.cmpi .ne (Scalar.extui (Scalar.cmpi .eq (BitVec.ofNat 32 b.val) 0#32)) 0#32 : BitVec 1) = 1#1 ↔ b.val = 0 := by
    decide +kernel
  exact h (i 1)

/-- The second condition says the tile is the first. -/
theorem cond2_iff (i : grid0.Coords) : k0_cond2 i = 1#1 ↔ (i 0).val = 0 := by
  have h : ∀ b : Fin 72, (Scalar.cmpi .ne (Scalar.extui (Scalar.cmpi .eq (BitVec.ofNat 32 b.val) 0#32)) 0#32 : BitVec 1) = 1#1 ↔ b.val = 0 := by
    decide +kernel
  exact h (i 0)

/-- Of a count of at most 72, the third condition says the tile is below it. -/
theorem cond3_iff (i : grid0.Coords) (v : BitVec 32) (hv : v.toNat < 73) : k0_cond3 i v = 1#1 ↔ (i 0).val < v.toNat := by
  have h : ∀ (a : Fin 72) (n : Fin 73), (Scalar.cmpi .ne (Scalar.extui (Scalar.cmpi .slt (BitVec.ofNat 32 a.val) (BitVec.ofNat 32 n.val))) 0#32 : BitVec 1) = 1#1
      ↔ a.val < n.val := by
    decide +kernel
  have := h (i 0) ⟨v.toNat, hv⟩
  simp only [BitVec.ofNat_toNat, BitVec.setWidth_eq] at this
  exact this

/-- The fifth condition is the third. -/
theorem cond5_eq (i : grid0.Coords) (v : BitVec 32) : k0_cond5 i v = k0_cond3 i v := rfl

/-- Of a count of at most 72, the fourth condition says the next tile is below it. -/
theorem cond4_iff (i : grid0.Coords) (v : BitVec 32) (hv : v.toNat < 73) : k0_cond4 i v = 1#1 ↔ (i 0).val + 1 < v.toNat := by
  have h : ∀ (a : Fin 72) (n : Fin 73), (Scalar.cmpi .ne (Scalar.extui (Scalar.cmpi .slt (Scalar.addi (BitVec.ofNat 32 a.val) 1#32) (BitVec.ofNat 32 n.val))) 0#32 : BitVec 1) = 1#1
      ↔ a.val + 1 < n.val := by
    decide +kernel
  have := h (i 0) ⟨v.toNat, hv⟩
  simp only [BitVec.ofNat_toNat, BitVec.setWidth_eq] at this
  exact this

/-- Of a count of at most 72, the sixth condition says the tile is not below it. -/
theorem cond6_iff (i : grid0.Coords) (v : BitVec 32) (hv : v.toNat < 73) : k0_cond6 i v = 1#1 ↔ ¬ (i 0).val < v.toNat := by
  have h : ∀ (a : Fin 72) (n : Fin 73), (Scalar.cmpi .ne (Scalar.extui (Scalar.cmpi .sge (BitVec.ofNat 32 a.val) (BitVec.ofNat 32 n.val))) 0#32 : BitVec 1) = 1#1
      ↔ ¬ a.val < n.val := by
    decide +kernel
  have := h (i 0) ⟨v.toNat, hv⟩
  simp only [BitVec.ofNat_toNat, BitVec.setWidth_eq] at this
  exact this

/-- The first tile's copies are 512. -/
theorem trips1 : k0_t1_loop.trips = 512 := by decide +kernel
/-- The waits are 512. -/
theorem trips2 : k0_t2_loop.trips = 512 := by decide +kernel

/-- The counter of a loop from `lb` by ones, as a number. -/
theorem iv_toNat (lb : BitVec 32) (k : ℕ) (h : lb.toNat + k < 2 ^ 32) : (Scf.iv lb 1#32 k).toNat = lb.toNat + k := by
  unfold Scf.iv
  simp [BitVec.toNat_add, BitVec.toNat_mul]
  omega

theorem off2_eq (k : Fin k0_t1_loop.trips) : k0_off2 k = ![k.val] := by
  have hk : k.val < 512 := trips1 ▸ k.isLt
  have h := iv_toNat 0#32 k.val (by simp; omega)
  unfold k0_off2
  simp only [Scalar.addi, IntOp.addi, Scalar.indexCast]
  congr 1
  simp [h]

theorem off3_eq (k : Fin k0_t1_loop.trips) : k0_off3 k = ![0, 40 * k.val, 0] := by
  have hk : k.val < 512 := trips1 ▸ k.isLt
  have h := iv_toNat 0#32 k.val (by simp; omega)
  have e : (Scalar.muli (Scf.iv 0#32 1#32 k.val) 40#32).toNat = 40 * k.val := by
    simp only [Scalar.muli, IntOp.muli, BitVec.toNat_mul, h]
    simp; omega
  show ![0, (Scalar.muli (Scf.iv 0#32 1#32 k.val) 40#32).toNat, 0] = _
  rw [e]

/-- The slot of a tile: its number's parity. -/
theorem slot_toNat (i : grid0.Coords) : (Scalar.remsi (BitVec.ofNat 32 (i 0).val) 2#32).toNat = (i 0).val % 2 := by
  have h : ∀ a : Fin 72, (Scalar.remsi (BitVec.ofNat 32 a.val) 2#32).toNat = a.val % 2 := by decide +kernel
  exact h (i 0)

/-- The other slot. -/
theorem other_toNat (i : grid0.Coords) : (Scalar.subi 1#32 (Scalar.remsi (BitVec.ofNat 32 (i 0).val) 2#32)).toNat = 1 - (i 0).val % 2 := by
  have h : ∀ a : Fin 72, (Scalar.subi 1#32 (Scalar.remsi (BitVec.ofNat 32 a.val) 2#32)).toNat = 1 - a.val % 2 := by decide +kernel
  exact h (i 0)

theorem off6_eq (i : grid0.Coords) : k0_off6 i = ![(i 0).val % 2] := by
  show ![_] = _
  rw [slot_toNat]
theorem off42_eq (i : grid0.Coords) : k0_off42 i = ![1 - (i 0).val % 2] := by
  show ![_] = _
  rw [other_toNat]

/-- The rows of the next tile that have been asked for before column step `j`. -/
def asked (j : ℕ) : ℕ := min (86 * j) 512

theorem t3_lb (i : grid0.Coords) : (k0_t3_loop i).lb.toNat = asked (i 1).val := by
  have h : ∀ b : Fin 6, (Scalar.minsi (Scalar.muli (BitVec.ofNat 32 b.val) 86#32) 512#32).toNat = asked b.val := by
    unfold asked; decide +kernel
  exact h (i 1)

theorem trips3 (i : grid0.Coords) : (k0_t3_loop i).trips = asked ((i 1).val + 1) - asked (i 1).val := by
  have h : ∀ b : Fin 6, (⟨Scalar.minsi (Scalar.muli (BitVec.ofNat 32 b.val) 86#32) 512#32,
      Scalar.addi (Scalar.minsi (Scalar.muli (BitVec.ofNat 32 b.val) 86#32) 512#32)
        (Scalar.muli (Scalar.divsi (Scalar.subi (Scalar.minsi (Scalar.muli (Scalar.addi (BitVec.ofNat 32 b.val) 1#32) 86#32) 512#32)
          (Scalar.minsi (Scalar.muli (BitVec.ofNat 32 b.val) 86#32) 512#32)) 1#32) 1#32), 1#32⟩ : Scf.Loop 32).trips = asked (b.val + 1) - asked b.val := by
    unfold asked; decide +kernel
  exact h (i 1)

theorem trips4 (i : grid0.Coords) : (k0_t4_loop i).trips = 0 := by
  have h : ∀ b : Fin 6, (⟨Scalar.addi (Scalar.minsi (Scalar.muli (BitVec.ofNat 32 b.val) 86#32) 512#32)
        (Scalar.muli (Scalar.divsi (Scalar.subi (Scalar.minsi (Scalar.muli (Scalar.addi (BitVec.ofNat 32 b.val) 1#32) 86#32) 512#32)
          (Scalar.minsi (Scalar.muli (BitVec.ofNat 32 b.val) 86#32) 512#32)) 1#32) 1#32),
      Scalar.addi (Scalar.minsi (Scalar.muli (BitVec.ofNat 32 b.val) 86#32) 512#32)
        (Scalar.subi (Scalar.minsi (Scalar.muli (Scalar.addi (BitVec.ofNat 32 b.val) 1#32) 86#32) 512#32)
          (Scalar.minsi (Scalar.muli (BitVec.ofNat 32 b.val) 86#32) 512#32)), 1#32⟩ : Scf.Loop 32).trips = 0 := by
    decide +kernel
  exact h (i 1)

theorem asked_le (j : ℕ) : asked j ≤ 512 := by unfold asked; omega
theorem asked_mono (j : ℕ) : asked j ≤ asked (j + 1) := by unfold asked; omega

theorem t3_row (i : grid0.Coords) (k : Fin (k0_t3_loop i).trips) : asked (i 1).val + k.val < 512 := by
  have := lt_of_lt_of_eq k.isLt (trips3 i)
  have := asked_le ((i 1).val + 1)
  omega

theorem off41_eq (i : grid0.Coords) (k : Fin (k0_t3_loop i).trips) : k0_off41 i k = ![512 * ((i 0).val + 1) + (asked (i 1).val + k.val)] := by
  have h1 := t3_row i k
  have hi := tile_lt i
  have h := iv_toNat (k0_t3_loop i).lb k.val (by rw [t3_lb]; omega)
  rw [t3_lb] at h
  have e : (Scalar.addi (Scalar.muli (Scalar.addi (BitVec.ofNat 32 (i 0).val) 1#32) 512#32) (Scf.iv (k0_t3_loop i).lb 1#32 k.val)).toNat
      = 512 * ((i 0).val + 1) + (asked (i 1).val + k.val) := by
    revert h
    generalize Scf.iv (k0_t3_loop i).lb 1#32 k.val = x
    intro h
    simp only [Scalar.addi, IntOp.addi, Scalar.muli, IntOp.muli, BitVec.toNat_add, BitVec.toNat_mul, h, BitVec.toNat_ofNat]
    omega
  show ![(Scalar.addi (Scalar.muli (Scalar.addi (BitVec.ofNat 32 (i 0).val) 1#32) 512#32) (Scf.iv (k0_t3_loop i).lb 1#32 k.val)).toNat] = _
  rw [e]

theorem off43_eq (i : grid0.Coords) (k : Fin (k0_t3_loop i).trips) :
    k0_off43 i k = ![1 - (i 0).val % 2, 40 * (asked (i 1).val + k.val), 0] := by
  have h1 := t3_row i k
  have h := iv_toNat (k0_t3_loop i).lb k.val (by rw [t3_lb]; omega)
  rw [t3_lb] at h
  have e : (Scalar.muli (Scf.iv (k0_t3_loop i).lb 1#32 k.val) 40#32).toNat = 40 * (asked (i 1).val + k.val) := by
    revert h
    generalize Scf.iv (k0_t3_loop i).lb 1#32 k.val = x
    intro h
    simp only [Scalar.muli, IntOp.muli, BitVec.toNat_mul, h, BitVec.toNat_ofNat]
    omega
  show ![(Scalar.subi 1#32 (Scalar.remsi (BitVec.ofNat 32 (i 0).val) 2#32)).toNat, (Scalar.muli (Scf.iv (k0_t3_loop i).lb 1#32 k.val) 40#32).toNat, 0] = _
  rw [e, other_toNat]

theorem off5_eq (i : grid0.Coords) (k : Fin k0_t2_loop.trips) : k0_off5 i k = ![512 * (i 0).val + k.val] := by
  have hk : k.val < 512 := trips2 ▸ k.isLt
  have hi := tile_lt i
  have h := iv_toNat 0#32 k.val (by simp; omega)
  have e : (Scalar.addi (Scalar.muli (BitVec.ofNat 32 (i 0).val) 512#32) (Scf.iv 0#32 1#32 k.val)).toNat = 512 * (i 0).val + k.val := by
    simp only [Scalar.addi, IntOp.addi, Scalar.muli, IntOp.muli, BitVec.toNat_add, BitVec.toNat_mul, h, BitVec.toNat_ofNat]
    omega
  show ![(Scalar.addi (Scalar.muli (BitVec.ofNat 32 (i 0).val) 512#32) (Scf.iv 0#32 1#32 k.val)).toNat] = _
  rw [e]

/-- A tile the count includes reads no row's number past the table's end: the check on the next tile's numbers. -/
theorem chk3_of (i : grid0.Coords) (v : BitVec 32) (hv : v.toNat < 73) : k0_chk3 i v := by
  intro k h4 a
  have := (cond4_iff i v hv).mp h4
  have h1 := t3_row i k
  rw [off41_eq]
  match a with
  | ⟨0, _⟩ => show 512 * ((i 0).val + 1) + (asked (i 1).val + k.val) + 1 ≤ 36864; omega

/-- A row's number below 16384 names a row of the tokens. -/
theorem row_inb (w : BitVec 32) (hw : w.toNat < 16384) : ∀ a, (![w.toNat, 0, 0] : Fin 3 → ℕ) a + S1x32x128.size a ≤ S16384x40x128.size a := by
  intro a
  match a with
  | ⟨0, _⟩ => show w.toNat + 1 ≤ 16384; omega
  | ⟨1, _⟩ => show 0 + 32 ≤ 40; omega
  | ⟨2, _⟩ => show 0 + 128 ≤ 128; omega

end Cert.MoeUpBody

end
-- ==== Proof.MoeUpCore.lean ====
/-
  The experts' first products: the gather's ownership. The landing buffer is cut into 1024 pieces, one per row of each slot,
  and the tokens are held in 1024 shares, one per piece, so that each row's copy has a source share and a piece of its own.
-/
module

public import proofs.«01_k».proof.Proof.MoeUpWords
public import proofs.«01_k».proof.Proof.Gen.MoeUpIdeal.Launch
public import Idealize.ShloMosaic.Lib.Pipeline.FrameBody
public import Idealize.ShloMosaic.Lib.Claim
public import Idealize.ShloMosaic.Lib.Ring
public import Idealize.ShloMosaic.Lib.Batch
public import Idealize.ShloMosaic.Lib.Tactic
public import Idealize.ShloMosaic.Lib.MatmulPlain
public import Idealize.ShloMosaic.Lib.VecWindow
public import Idealize.ShloMosaic.Lib.Pipeline.ReadBack
public import Idealize.ShloMosaic.Lib.Pipeline.Value

@[expose] public section

set_option maxRecDepth 16384

noncomputable section

namespace Cert.MoeUpBody

open Cert.MoeUpIdeal Cert.MoeUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (UD)

variable {F : FTy → Type} [FloatOps F]

local notation "𝕄" => MT nD τ sig Unit (Elt F) ℕ (UD sig nD τ) ℕ

/-- The tokens as a memref. -/
abbrev tokMem : Memref sig .tc .hbm S16384x40x128 .f32 := Memref.whole main_arg0
/-- The landing buffer as a memref. -/
abbrev slotMem : Memref sig .tc .vmem S2x20480x128 .f32 := Memref.whole cc0_scratch0

/-- Piece `b` of the landing buffer: the forty rows that row `b % 512` of slot `b / 512` may use. -/
def piece (b : ℕ) : Finset S2x20480x128.Idx := Finset.univ.filter fun y => (y 0).val * 512 + (y 1).val / 40 = b
/-- The part of the tokens a copy of row `w` reads. -/
def tokRow (w : ℕ) : Finset S16384x40x128.Idx := Finset.univ.filter fun z => (z 0).val = w ∧ (z 1).val < 32

theorem mem_piece {b : ℕ} {y : S2x20480x128.Idx} : y ∈ piece b ↔ (y 0).val * 512 + (y 1).val / 40 = b := by
  unfold piece; simp
theorem mem_tokRow {w : ℕ} {z : S16384x40x128.Idx} : z ∈ tokRow w ↔ (z 0).val = w ∧ (z 1).val < 32 := by
  unfold tokRow; simp

/-- The landing place of row `r` in slot `s`. -/
theorem slot_inb (s r : ℕ) (hs : s < 2) (hr : r < 512) : ∀ a, (![s, 40 * r, 0] : Fin 3 → ℕ) a + S1x32x128.size a ≤ S2x20480x128.size a := by
  intro a
  match a with
  | ⟨0, _⟩ => show s + 1 ≤ 2; omega
  | ⟨1, _⟩ => show 40 * r + 32 ≤ 20480; omega
  | ⟨2, _⟩ => show 0 + 128 ≤ 128; omega

/-- A copy's block, seen with its unit axis. -/
theorem unit_axis (a : Fin 32) (l : Fin 128) :
    Shape.reshapeEquiv (s := S1x32x128) (s' := S32x128) squeezes_S1x32x128_S32x128.numel_eq (ix2 a l) = ix3 (0 : Fin 1) a l :=
  Shape.reshapeEquiv_eq_of_rowMajor _ (by rw [Shape.rowMajor_val_three, Shape.rowMajor_val_two]; show ((0 : ℕ) * 32 + a.val) * 128 + l.val = a.val * 128 + l.val; omega)

/-- The landing place of a copy: a block of 32 rows of the landing buffer. -/
abbrev landAt (off : Fin 3 → ℕ) (hb : ∀ a, off a + S1x32x128.size a ≤ S2x20480x128.size a) : Memref sig .tc .vmem S32x128 .f32 :=
  (slotMem.slice (Rect.unit (s := S2x20480x128) off S1x32x128.size hb) (fun _ => rfl)).squeeze S32x128 squeezes_S1x32x128_S32x128
/-- The source of a copy: the first 32 rows of one row of tokens. -/
abbrev fromAt (off : Fin 3 → ℕ) (hb : ∀ a, off a + S1x32x128.size a ≤ S16384x40x128.size a) : Memref sig .tc .hbm S32x128 .f32 :=
  (tokMem.slice (Rect.unit (s := S16384x40x128) off S1x32x128.size hb) (fun _ => rfl)).squeeze S32x128 squeezes_S1x32x128_S32x128

/-- Where the landing block's element lies. -/
theorem landAt_emb (s r : ℕ) (hb) (a : Fin 32) (l : Fin 128) (d : Fin 3) :
    ((landAt ![s, 40 * r, 0] hb).view.emb (ix2 a l) d).val = (![s, 40 * r + a.val, l.val] : Fin 3 → ℕ) d := by
  show ((Rect.unit (s := S2x20480x128) ![s, 40 * r, 0] S1x32x128.size hb).emb (Shape.reshapeEquiv squeezes_S1x32x128_S32x128.numel_eq (ix2 a l)) d).val = _
  rw [unit_axis]
  match d with
  | ⟨0, _⟩ => show s + 1 * 0 = s; omega
  | ⟨1, _⟩ => show 40 * r + 1 * a.val = 40 * r + a.val; omega
  | ⟨2, _⟩ => show 0 + 1 * l.val = l.val; omega

/-- Where the source block's element lies. -/
theorem fromAt_emb (w : ℕ) (hb) (a : Fin 32) (l : Fin 128) (d : Fin 3) :
    ((fromAt ![w, 0, 0] hb).view.emb (ix2 a l) d).val = (![w, a.val, l.val] : Fin 3 → ℕ) d := by
  show ((Rect.unit (s := S16384x40x128) ![w, 0, 0] S1x32x128.size hb).emb (Shape.reshapeEquiv squeezes_S1x32x128_S32x128.numel_eq (ix2 a l)) d).val = _
  rw [unit_axis]
  match d with
  | ⟨0, _⟩ => show w + 1 * 0 = w; omega
  | ⟨1, _⟩ => show 0 + 1 * a.val = a.val; omega
  | ⟨2, _⟩ => show 0 + 1 * l.val = l.val; omega

/-- An index of a block, by its coordinates. -/
theorem block_idx (x : S32x128.Idx) : ∃ (a : Fin 32) (l : Fin 128), x = ix2 a l :=
  ⟨x 0, x 1, funext fun d => match d with | ⟨0, _⟩ => rfl | ⟨1, _⟩ => rfl⟩

/-- A copy lands inside its piece. -/
theorem landAt_set (s r : ℕ) (hr : r < 512) (hb) : (landAt ![s, 40 * r, 0] hb).view.set ⊆ piece (512 * s + r) := by
  intro y hy
  obtain ⟨x, -, rfl⟩ := Finset.mem_map.mp hy
  obtain ⟨a, l, rfl⟩ := block_idx x
  have h0 := landAt_emb s r hb a l 0
  have h1 := landAt_emb s r hb a l 1
  have ha := a.isLt
  refine mem_piece.mpr ?_
  rw [h0, h1]
  show s * 512 + (40 * r + a.val) / 40 = _
  omega

/-- A copy of row `w` reads that row's part. -/
theorem fromAt_set (w : ℕ) (hb) : (fromAt ![w, 0, 0] hb).view.set = tokRow w := by
  ext z
  refine Iff.trans ?_ mem_tokRow.symm
  constructor
  · intro hz
    obtain ⟨x, -, rfl⟩ := Finset.mem_map.mp hz
    obtain ⟨a, l, rfl⟩ := block_idx x
    have ha := a.isLt
    exact ⟨fromAt_emb w hb a l 0, (fromAt_emb w hb a l 1).trans_lt ha⟩
  · rintro ⟨h0, h1⟩
    refine Finset.mem_map.mpr ⟨ix2 ⟨(z 1).val, h1⟩ (z 2), Finset.mem_univ _, funext fun d => Fin.ext ?_⟩
    refine (fromAt_emb w hb _ _ d).trans ?_
    match d with
    | ⟨0, _⟩ => exact h0.symm
    | ⟨1, _⟩ => rfl
    | ⟨2, _⟩ => rfl

/-- On row `r` of slot `s`, contents `g` of the landing buffer are the row of tokens that row `r` of tile `i` names. -/
def Rows (rn : ℕ → ℕ) (h : S16384x40x128.Idx → F .f32) (s i r : ℕ) (g : S2x20480x128.Idx → F .f32) : Prop :=
  ∀ (y : S2x20480x128.Idx) (z : S16384x40x128.Idx), (y 0).val = s → (y 1).val / 40 = r → (y 1).val % 40 < 32 →
    (z 0).val = rn (512 * i + r) → (z 1).val = (y 1).val % 40 → (z 2).val = (y 2).val → g y = h z

/-- A copy of the row its number names leaves that row. -/
theorem rows_of_copy (rn : ℕ → ℕ) (h : S16384x40x128.Idx → F .f32) (s i r : ℕ) (g : S2x20480x128.Idx → F .f32) (hb hb')
    (hg : ∀ x, g ((landAt ![s, 40 * r, 0] hb).view.emb x) = h ((fromAt ![rn (512 * i + r), 0, 0] hb').view.emb x)) : Rows rn h s i r g := by
  intro y z h0 h1 h2 z0 z1 z2
  have ey : y = (landAt ![s, 40 * r, 0] hb).view.emb (ix2 ⟨(y 1).val % 40, h2⟩ (y 2)) := by
    refine funext fun d => Fin.ext (Eq.trans ?_ (landAt_emb s r hb _ _ d).symm)
    match d with
    | ⟨0, _⟩ => exact h0
    | ⟨1, _⟩ => show (y 1).val = 40 * r + (y 1).val % 40; omega
    | ⟨2, _⟩ => rfl
  have ez : z = (fromAt ![rn (512 * i + r), 0, 0] hb').view.emb (ix2 ⟨(y 1).val % 40, h2⟩ (y 2)) := by
    refine funext fun d => Fin.ext (Eq.trans ?_ (fromAt_emb _ hb' _ _ d).symm)
    match d with
    | ⟨0, _⟩ => exact z0
    | ⟨1, _⟩ => exact z1
    | ⟨2, _⟩ => exact z2
  rw [ey, ez]
  exact hg _

/-- A family over the numbers below `k + 1`: its last, and those below `k`. -/
theorem range_succ (Φ : ℕ → sProp 𝕄) (k : ℕ) : bigSep (Finset.range (k + 1)) Φ = iprop(Φ k ∗ bigSep (Finset.range k) Φ) := by
  rw [Finset.range_add_one, bigSep_insert Finset.notMem_range_self]; rfl

/-! ## What is held -/

section Held

variable (c : Dev nD) (h : Buf (Elt F) (tokMem.view.loc (c : Thread nD τ))) (rn : ℕ → ℕ)

/-- Piece `b` of the landing buffer at contents `g`. -/
abbrev piecePt (b : ℕ) (g : Buf (Elt F) (slotMem.view.loc (c : Thread nD τ))) : sProp 𝕄 :=
  slotMem.view.loc (c : Thread nD τ) ↦[piece b]{fullShare} g
/-- Share `b` of the tokens. -/
abbrev tokPt (b : ℕ) : sProp 𝕄 := tokMem.view.loc (c : Thread nD τ) ↦{Transfers.shareTokN fullShare b} h
/-- What row `b`'s copy needs: the piece at any contents, and the share of the tokens. -/
abbrev item (b : ℕ) : sProp 𝕄 := iprop((∃ g, piecePt c b g) ∗ tokPt c h b)

/-- What the copy of row `r` of tile `i` into slot `s` delivers: the piece holding the row, and the part of the share it read. -/
def landed (s i : ℕ) (r : ℕ) : sProp 𝕄 :=
  iprop((∃ g, ⌜Rows rn h s i r g⌝ ∗ piecePt c (512 * s + r) g)
    ∗ (tokMem.view.loc (c : Thread nD τ) ↦[tokRow (rn (512 * i + r))]{Transfers.shareTokN fullShare (512 * s + r)} h))
/-- What stays in hand while that copy runs: the rest of the share. -/
def kept (s i : ℕ) (r : ℕ) : sProp 𝕄 :=
  tokMem.view.loc (c : Thread nD τ) ↦[(tokRow (rn (512 * i + r)))ᶜ]{Transfers.shareTokN fullShare (512 * s + r)} h

instance landed_storable (s i r : ℕ) : BI.Storable (upEmb : UEmb _ 𝕄) (landed c h rn s i r) := by
  unfold landed; infer_instance

/-- The semaphore of a slot. -/
theorem sem_inb (s : ℕ) (hs : s < 2) : ∀ a, (![s] : Fin 1 → ℕ) a + S1.size a ≤ S2.size a := by
  intro a
  match a with
  | ⟨0, _⟩ => show s + 1 ≤ 2; omega
abbrev semAt (off : Fin 1 → ℕ) (hb : ∀ a, off a + S1.size a ≤ S2.size a) : DmaSem sig :=
  ((cc0_scratch2.slice (Rect.unit (s := S2) off S1.size hb)).squeeze S_ squeezes_S1_S_).sem
abbrev slotSem (s : Fin 2) : DmaSem sig := semAt ![s.val] (sem_inb s.val s.isLt)

/-- A copy's units on its semaphore. -/
def unitsOf : ℕ := slotMem.view.ref.dmaCredit S32x128 .f32
theorem landAt_amount (off : Fin 3 → ℕ) (hb) (sm : DmaSem sig) : (landAt off hb).view.amount (.dma sm) = unitsOf := rfl
theorem unitsOf_pos : 0 < unitsOf := (landAt ![0, 40 * 0, 0] (slot_inb 0 0 (by omega) (by omega))).view.dmaCredit_pos (by decide)

/-- The copies of tile `i`'s rows into slot `s`, `k` of them started and `u` units of them waited for. -/
abbrev batch (s : Fin 2) (i k u : ℕ) : sProp 𝕄 :=
  Transfers.Batch (countersEmb (U := UD sig nD τ)) (c : Thread nD τ) (.dma (slotSem s)) () unitsOf
    (fun r : Fin 512 => landed c h rn s.val i r.val) k u

/-- Slot `s` with the first `k` rows of tile `i` on their way. -/
def fly (s : Fin 2) (i k : ℕ) : sProp 𝕄 :=
  iprop(batch c h rn s i k 0 ∗ bigSep (Finset.range k) (kept c h rn s.val i)
    ∗ bigSep (Ring.rangeSet 1024 (512 * s.val + k) (512 * s.val + 512)) (fun b => item c h b.val))
/-- Slot `s` with nothing on its way. -/
def free (s : Fin 2) : sProp 𝕄 :=
  iprop(semVal ((c : Thread nD τ), .dma (slotSem s)) 0
    ∗ bigSep (Ring.rangeSet 1024 (512 * s.val) (512 * s.val + 512)) (fun b => item c h b.val))

/-- A free slot starts with nothing on its way. -/
theorem fly_start (s : Fin 2) (i : ℕ) {E : Set ℕ} : free c h s ⊢ |={E}=> fly c h rn s i 0 := by
  unfold free fly
  iintro ⟨Hv, Hb⟩
  imod (Transfers.batch_alloc' (countersEmb (U := UD sig nD τ)) (c : Thread nD τ) () unitsOf
    (fun r : Fin 512 => landed c h rn s.val i r.val) (E := E)) $$ Hv with HB
  imodintro
  isplitl [HB]; · iexact HB
  rw [Finset.range_zero, bigSep_empty]
  isplitr; · iempintro
  iexact Hb

/-- A share of the tokens splits into the part a copy reads and the rest. -/
theorem split_row (s i r : ℕ) : tokPt c h (512 * s + r)
    ⊢ iprop((tokMem.view.loc (c : Thread nD τ) ↦[tokRow (rn (512 * i + r))]{Transfers.shareTokN fullShare (512 * s + r)} h) ∗ kept c h rn s i r) := by
  unfold kept
  rw [Finset.compl_eq_univ_sdiff]
  exact (pointsTo_split_subset (Finset.subset_univ _)).1
/-- and the two parts join again. -/
theorem join_row (s i r : ℕ) : iprop((tokMem.view.loc (c : Thread nD τ) ↦[tokRow (rn (512 * i + r))]{Transfers.shareTokN fullShare (512 * s + r)} h) ∗ kept c h rn s i r)
    ⊢ tokPt c h (512 * s + r) := by
  unfold kept
  rw [Finset.compl_eq_univ_sdiff]
  exact (pointsTo_split_subset (Finset.subset_univ _)).2

/-- What a copy leaves is what it was to deliver. -/
theorem deliver (s i r : ℕ) (hb) (hb') (g : Buf (Elt F) (slotMem.view.loc (c : Thread nD τ))) :
    iprop(((landAt ![s, 40 * r, 0] hb).view.loc (c : Thread nD τ) ↦[piece (512 * s + r)]{fullShare}
        ((landAt ![s, 40 * r, 0] hb).view.write (Elt F) g ((ReadAs.same : ReadAs (Elt F) S32x128 .f32 S32x128 .f32).apply ((fromAt ![rn (512 * i + r), 0, 0] hb').view.read (Elt F) h)) Finset.univ))
      ∗ ((fromAt ![rn (512 * i + r), 0, 0] hb').view.loc (c : Thread nD τ) ↦[(fromAt ![rn (512 * i + r), 0, 0] hb').view.set]{Transfers.shareTokN fullShare (512 * s + r)} h))
      ⊢ landed c h rn s i r := by
  rw [fromAt_set]
  unfold landed
  iintro ⟨Hp, Ht⟩
  isplitr [Ht]
  · iexists _
    isplitr; swap
    · iexact Hp
    ipureintro
    refine rows_of_copy rn h s i r _ hb hb' fun x => ?_
    exact congrFun (View.read_write_univ (v := (landAt ![s, 40 * r, 0] hb).view) g ((ReadAs.same : ReadAs (Elt F) S32x128 .f32 S32x128 .f32).apply ((fromAt ![rn (512 * i + r), 0, 0] hb').view.read (Elt F) h))) x
  iexact Ht

/-- One copy of the gather: row `r` of the tile is on its way. -/
theorem wp_issue (s : Fin 2) (i r : ℕ) (hr : r < 512) (off : Fin 3 → ℕ) (hoff : off = ![s.val, 40 * r, 0]) (hb)
    (soff : Fin 3 → ℕ) (hsoff : soff = ![rn (512 * i + r), 0, 0]) (hb') (moff : Fin 1 → ℕ) (hmoff : moff = ![s.val]) (hbm)
    {α : Type} {Q : α → sProp 𝕄} {k : PUnit → Prog (TpuEff nD τ sig (Elt F) Λ₀ .tc) α} {hsrc hdst hsem} :
    fly c h rn s i r ⊢ iprop((fly c h rn s i (r + 1) -∗ wp frame (wpE (defs₀ (F := F)) Variants.none (c : Thread nD τ) none) Set.univ (k ⟨⟩) Q)
      -∗ wp frame (wpE (defs₀ (F := F)) Variants.none (c : Thread nD τ) none) Set.univ
        (.op (.enqueueDma (p := (c : Thread nD τ).2) (fromAt soff hb') (.here (landAt off hb)) (.dma (semAt moff hbm)) hsrc hdst hsem) k) Q) := by
  subst hoff hsoff hmoff
  have hs := s.isLt
  unfold fly
  rw [Ring.bigSep_rangeSet_head (Φ := fun b => item c h b.val) (by omega) (by omega)]
  rw [range_succ]
  iintro ⟨HB, HK, ⟨⟨%g, Hp⟩, Ht⟩, HI⟩ Hk
  ihave Ht := (split_row c h rn s.val i r) $$ Ht
  icases Ht with ⟨Ht, Hkept⟩
  iapply (Transfers.wp_dmaBatch (src := fromAt ![rn (512 * i + r), 0, 0] hb') (via := .same) (dst := landAt ![s.val, 40 * r, 0] hb) (sm := .dma (slotSem s)) (countersEmb (U := UD sig nD τ)) Variants.none (c : Thread nD τ) none () unitsOf (landAt_amount _ hb _)
    (landAt_set s.val r hr hb) hr (Nat.zero_le _) (D := fun r : Fin 512 => landed c h rn s.val i r.val) (q := Transfers.shareTokN fullShare (512 * s.val + r))
    (fs := h) (fd := g) (deliver c h rn s.val i r hb hb' g)) $$ [Ht Hp HB]
  · rw [fromAt_set]
    isplitl [Ht]; · iexact Ht
    isplitl [Hp]; · iexact Hp
    iexact HB
  iintro HB
  iapply Hk
  isplitl [HB]; · iexact HB
  isplitl [HK Hkept]
  · isplitl [Hkept]; · iexact Hkept
    iexact HK
  iexact HI

/-- Slot `s`'s copies of tile `i` when `k` of them have been waited for: after the last, all have landed. -/
def waiting (s : Fin 2) (i k : ℕ) : sProp 𝕄 :=
  iprop((∃ W, owes (c : Thread nD τ) 0 W)
    ∗ (if k < 512 then batch c h rn s i 512 (k * unitsOf)
       else iprop(bigSep Finset.univ (fun r : Fin 512 => landed c h rn s.val i r.val) ∗ semVal ((c : Thread nD τ), .dma (slotSem s)) 0)))

/-- One wait of the gather. -/
theorem wp_wait (s : Fin 2) (i r : ℕ) (hr : r < 512) (off : Fin 3 → ℕ) (hb) (soff : Fin 3 → ℕ) (hb') (moff : Fin 1 → ℕ) (hmoff : moff = ![s.val]) (hbm)
    {α : Type} {Q : α → sProp 𝕄} {k : PUnit → Prog (TpuEff nD τ sig (Elt F) Λ₀ .tc) α} {hsrc hdst} :
    waiting c h rn s i r ⊢ iprop((waiting c h rn s i (r + 1) -∗ wp frame (wpE (defs₀ (F := F)) Variants.none (c : Thread nD τ) none) Set.univ (k ⟨⟩) Q)
      -∗ wp frame (wpE (defs₀ (F := F)) Variants.none (c : Thread nD τ) none) Set.univ
        (.op (.waitDma2 (p := (c : Thread nD τ).2) (semAt moff hbm) (fromAt soff hb') (landAt off hb) hsrc hdst) k) Q) := by
  subst hmoff
  have hN : (landAt off hb).view.dmaCredit = unitsOf := landAt_amount off hb (slotSem s)
  unfold waiting
  rw [if_pos hr]
  by_cases h1 : r + 1 < 512
  · rw [if_pos h1]
    iintro ⟨⟨%W, HO⟩, HB⟩ Hk
    iapply (Transfers.wp_waitBatch (srcw := fromAt soff hb') (dstw := landAt off hb) (sem := slotSem s) (countersEmb (U := UD sig nD τ)) Variants.none (c : Thread nD τ) none () hN
      (D := fun r : Fin 512 => landed c h rn s.val i r.val) (u := r * unitsOf) (W := W)
      (by have := Nat.mul_lt_mul_of_pos_right h1 unitsOf_pos; rw [Nat.mul_comm unitsOf 512, ← Nat.succ_mul]; exact this)) $$ [HO HB]
    · isplitl [HB]; · iexact HB
      iexact HO
    iintro ⟨HB, HO⟩
    iapply Hk
    isplitl [HO]; · iexists _; iexact HO
    rw [Nat.succ_mul]
    iexact HB
  · rw [if_neg h1]
    have e : r + 1 = 512 := by omega
    iintro ⟨⟨%W, HO⟩, HB⟩ Hk
    iapply (Transfers.wp_waitBatchLast (srcw := fromAt soff hb') (dstw := landAt off hb) (sem := slotSem s) (countersEmb (U := UD sig nD τ)) Variants.none (c : Thread nD τ) none () hN
      unitsOf_pos (D := fun r : Fin 512 => landed c h rn s.val i r.val) (u := r * unitsOf) (W := W)
      (by rw [Nat.mul_comm unitsOf 512, ← Nat.succ_mul, Nat.succ_eq_add_one, e])) $$ [HO HB]
    · isplitl [HB]; · iexact HB
      iexact HO
    iintro ⟨HD, HS, HO⟩
    iapply Hk
    isplitl [HO]; · iexists _; iexact HO
    isplitl [HD]; · iexact HD
    iexact HS

/-- Piece `b` and its share when slot `s` holds tile `i`'s rows; of the other slot's pieces nothing is said. -/
abbrev doneItem (s : Fin 2) (i b : ℕ) : sProp 𝕄 :=
  iprop((∃ g, ⌜b / 512 = s.val → Rows rn h s.val i (b % 512) g⌝ ∗ piecePt c b g) ∗ tokPt c h b)

/-- All 512 copies landed are the slot's pieces holding the tile's rows. -/
theorem arrived (s : Fin 2) (i : ℕ) :
    iprop(bigSep Finset.univ (fun r : Fin 512 => landed c h rn s.val i r.val) ∗ bigSep (Finset.range 512) (kept c h rn s.val i))
      ⊢ bigSep (Ring.rangeSet 1024 (512 * s.val) (512 * s.val + 512)) (fun b => doneItem c h rn s i b.val) := by
  have hs := s.isLt
  rw [Ring.bigSep_fin_eq_range 512 _ (landed c h rn s.val i) (fun _ _ => rfl), ← bigSep_sep',
    Ring.bigSep_rangeSet_eq_range (Φ := fun b : Fin 1024 => doneItem c h rn s i b.val) (by omega) (fun r => doneItem c h rn s i (512 * s.val + r)) (fun _ _ => rfl),
    Nat.add_sub_cancel_left]
  refine bigSep_mono fun r hr => ?_
  have hr := Finset.mem_range.mp hr
  unfold landed
  show (_ : sProp 𝕄) ⊢ _
  iintro ⟨⟨⟨%g, %hg, Hp⟩, Ht⟩, Hk⟩
  isplitl [Hp]
  · iexists g
    isplitr
    · ipureintro
      intro _
      rw [show (512 * s.val + r) % 512 = r by omega]
      exact hg
    iexact Hp
  iapply (join_row c h rn s.val i r)
  isplitl [Ht]; · iexact Ht
  iexact Hk

/-- The other slot's pieces, whatever they hold. -/
theorem other_items (s s' : Fin 2) (hss : s' ≠ s) (i : ℕ) :
    bigSep (Ring.rangeSet 1024 (512 * s'.val) (512 * s'.val + 512)) (fun b => item c h b.val)
      ⊢ bigSep (Ring.rangeSet 1024 (512 * s'.val) (512 * s'.val + 512)) (fun b => doneItem c h rn s i b.val) := by
  refine bigSep_mono fun b hb => ?_
  have hb := (Ring.mem_rangeSet (NB := 1024) _ _ _).mp hb
  have hne : s'.val ≠ s.val := fun e => hss (Fin.ext e)
  show (_ : sProp 𝕄) ⊢ _
  iintro ⟨⟨%g, Hp⟩, Ht⟩
  isplitl [Hp]
  · iexists g
    isplitr
    · ipureintro
      intro e
      omega
    iexact Hp
  iexact Ht

/-- The two slots' pieces are all the pieces. -/
theorem both_slots (Φ : Fin 1024 → sProp 𝕄) (s s' : Fin 2) (hss : s' ≠ s) :
    iprop(bigSep (Ring.rangeSet 1024 (512 * s.val) (512 * s.val + 512)) Φ ∗ bigSep (Ring.rangeSet 1024 (512 * s'.val) (512 * s'.val + 512)) Φ)
      ⊣⊢ bigSep Finset.univ Φ := by
  have e : bigSep Finset.univ Φ = iprop(bigSep (Ring.rangeSet 1024 0 512) Φ ∗ bigSep (Ring.rangeSet 1024 512 1024) Φ) := by
    rw [← Ring.rangeSet_univ, Ring.bigSep_rangeSet_split (b := 512) (by omega) (by omega)]
  have hc : (s = 0 ∧ s' = 1) ∨ (s = 1 ∧ s' = 0) := by revert hss; revert s s'; decide
  rw [e]
  rcases hc with ⟨rfl, rfl⟩ | ⟨rfl, rfl⟩
  · exact ⟨.rfl, .rfl⟩
  · constructor
    · iintro ⟨A, B⟩; isplitl [B]; · iexact B
      iexact A
    · iintro ⟨A, B⟩; isplitl [B]; · iexact B
      iexact A

theorem pieces_disjoint : ∀ b b' : Fin 1024, b ≠ b' → Disjoint (piece b.val) (piece b'.val) := by
  intro b b' hne
  refine Finset.disjoint_left.mpr fun y h1 h2 => hne (Fin.ext ?_)
  exact (mem_piece.mp h1).symm.trans (mem_piece.mp h2)

theorem pieces_cover : (Finset.univ : Finset (Fin 1024)).biUnion (fun b => piece b.val) = Finset.univ := by
  ext y
  have h0 := (y 0).isLt
  have h1 := (y 1).isLt
  change _ < 2 at h0
  change _ < 20480 at h1
  simp only [Finset.mem_biUnion, Finset.mem_univ, true_and, iff_true]
  exact ⟨⟨(y 0).val * 512 + (y 1).val / 40, by omega⟩, mem_piece.mpr rfl⟩

/-- All pieces, one slot holding a tile's rows, are the whole landing buffer, that slot holding them. -/
theorem whole_of_pieces (s : Fin 2) (i : ℕ) : bigSep Finset.univ (fun b : Fin 1024 => doneItem c h rn s i b.val)
    ⊢ iprop((∃ g, ⌜∀ r < 512, Rows rn h s.val i r g⌝ ∗ (slotMem.view.loc (c : Thread nD τ) ↦{fullShare} g)) ∗ bigSep Finset.univ (fun b : Fin 1024 => tokPt c h b.val)) := by
  rw [bigSep_sep']
  refine sep_mono ?_ .rfl
  have hne : Nonempty (Buf (Elt F) (slotMem.view.loc (c : Thread nD τ))) := ⟨fun _ => Classical.choice inferInstance⟩
  refine (bigSep_exists_pi Finset.univ (fun (b : Fin 1024) (g : Buf (Elt F) (slotMem.view.loc (c : Thread nD τ))) =>
    iprop(⌜b.val / 512 = s.val → Rows rn h s.val i (b.val % 512) g⌝ ∗ piecePt c b.val g))).trans ?_
  iintro ⟨%fs, H⟩
  ihave H := (bigSep_pure_sep Finset.univ (fun b : Fin 1024 => b.val / 512 = s.val → Rows rn h s.val i (b.val % 512) (fs b)) (fun b => piecePt c b.val (fs b))) $$ H
  icases H with ⟨%hfs, H⟩
  ihave H := (pointsTo_biUnion_join Finset.univ (fun b : Fin 1024 => piece b.val) fs (fs 0) (fun b _ b' _ hn => pieces_disjoint b b' hn)) $$ H
  icases H with ⟨%g, %hg, H⟩
  iexists g
  isplitr
  · ipureintro
    intro r hr y z h0 h1 h2 z0 z1 z2
    have hs := s.isLt
    have hb : (y 0).val * 512 + (y 1).val / 40 = (⟨512 * s.val + r, by omega⟩ : Fin 1024).val := by show _ = 512 * s.val + r; omega
    have e := hg ⟨512 * s.val + r, by omega⟩ (Finset.mem_univ _) y (mem_piece.mpr hb)
    refine e.trans ?_
    have hrow := hfs ⟨512 * s.val + r, by omega⟩ (Finset.mem_univ _) (by show (512 * s.val + r) / 512 = _; omega)
    rw [show (512 * s.val + r) % 512 = r by omega] at hrow
    exact hrow y z h0 h1 h2 z0 z1 z2
  rw [pieces_cover]
  iexact H

/-- The whole landing buffer and all the shares are every piece with its share. -/
theorem pieces_of_whole (g : Buf (Elt F) (slotMem.view.loc (c : Thread nD τ))) :
    iprop((slotMem.view.loc (c : Thread nD τ) ↦{fullShare} g) ∗ bigSep Finset.univ (fun b : Fin 1024 => tokPt c h b.val))
      ⊢ bigSep Finset.univ (fun b : Fin 1024 => item c h b.val) := by
  rw [bigSep_sep']
  refine sep_mono ?_ .rfl
  rw [Ring.pointsTo_blocks (fun b : Fin 1024 => piece b.val) pieces_disjoint pieces_cover g]
  refine bigSep_mono fun b _ => ?_
  show (_ : sProp 𝕄) ⊢ _
  iintro H
  iexists g
  iexact H

end Held

end Cert.MoeUpBody

end
-- ==== Proof.MoeUpBody.lean ====
/-
  The experts' first products: what the body does at one point.
-/
module

public import proofs.«01_k».proof.Proof.MoeUpCore

@[expose] public section

set_option maxRecDepth 16384

noncomputable section

namespace Cert.MoeUpBody

open Cert.MoeUpIdeal Cert.MoeUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (UD)

variable {F : FTy → Type} [FloatOps F]

local notation "𝕄" => MT nD τ sig Unit (Elt F) ℕ (UD sig nD τ) ℕ

/-- The row tables' memrefs. -/
abbrev expertMem : Memref sig .tc .smem S72 .i32 := Memref.whole main_arg4
/-- The number of tiles as a memref. -/
abbrev countMem : Memref sig .tc .smem S1 .i32 := Memref.whole main_arg5
/-- The rows' tokens as a memref. -/
abbrev rowMem : Memref sig .tc .smem S36864 .i32 := Memref.whole main_arg1
/-- The buffer of gathered rows as a memref. -/
abbrev gathMem : Memref sig .tc .vmem S512x4096 .bf16 := Memref.whole cc0_scratch1

/-- A table's buffer held at half the full share. -/
abbrev tablePt (c : Dev nD) {S : Shape} {e : EltTy} (M : Memref sig .tc .smem S e)
    (f : Buf (Elt F) (M.view.loc (c : Thread nD τ))) : sProp 𝕄 :=
  M.view.loc (c : Thread nD τ) ↦{fullShare.right} f

/-- The token that row `n` of the sorted rows is: the table's word, as a number. -/
def rowOf (T : Vec F S36864 .i32) (n : ℕ) : ℕ := if hn : n < 36864 then (T (ix1 ⟨n, hn⟩) : BitVec 32).toNat else 0

section Loops

variable (c : Dev nD) (h : Buf (Elt F) (tokMem.view.loc (c : Thread nD τ))) (T : Vec F S36864 .i32) (hT : ∀ x, (T x : BitVec 32).toNat < 16384)
variable (i : grid0.Coords) (a6 : Memref sig .tc .vmem S1x4096x512 .bf16) (h6 : a6.IsWhole) (a7 : Memref sig .tc .vmem S1x4096x512 .bf16) (h7 : a7.IsWhole)
  (a8 : Memref sig .tc .vmem S512x512 .bf16) (h8 : a8.IsWhole)

include hT in
/-- A row's number is below 16384. -/
theorem rowOf_lt (n : ℕ) : rowOf T n < 16384 := by
  unfold rowOf
  split
  · exact hT _
  · omega

include hT in
/-- A load of the rows' table gives a word that is the row's token. -/
theorem wp_row (n : ℕ) (hn : n < 36864) (off : Fin 1 → ℕ) (hoff : off = ![n]) (hb) {α : Type} {Q : α → sProp 𝕄}
    {k : BitVec 32 → Prog (TpuEff nD τ sig (Elt F) Λ₀ .tc) α} {h1 h2} :
    tablePt c rowMem T ⊢ iprop((∀ w : BitVec 32, ⌜w.toNat = rowOf T n ∧ w.toNat < 16384⌝ -∗ tablePt c rowMem T -∗
        wp frame (wpE (defs₀ (F := F)) Variants.none (c : Thread nD τ) none) Set.univ (k w) Q)
      -∗ wp frame (wpE (defs₀ (F := F)) Variants.none (c : Thread nD τ) none) Set.univ
        (smemLoad (p := (c : Thread nD τ).2) rowMem (Rect.unit (s := S36864) off S1.size hb) h1 h2 >>= k) Q) := by
  subst hoff
  have e : rowMem.view.readAt (Elt F) (Rect.unit (s := S36864) ![n] S1.size hb).toLoadRect T (Shape.Idx.first (h1.symm ▸ Nat.one_pos)) = T (ix1 ⟨n, hn⟩) :=
    congrArg T (funext fun a => match a with | ⟨0, _⟩ => Fin.ext (show n + 1 * 0 = n by omega))
  have hld : tablePt c rowMem T ⊢ iprop((tablePt c rowMem T -∗ wp frame (wpE (defs₀ (F := F)) Variants.none (c : Thread nD τ) none) Set.univ
        (k (rowMem.view.readAt (Elt F) (Rect.unit (s := S36864) ![n] S1.size hb).toLoadRect T (Shape.Idx.first (h1.symm ▸ Nat.one_pos)))) Q)
      -∗ wp frame (wpE (defs₀ (F := F)) Variants.none (c : Thread nD τ) none) Set.univ
        (.op (.load (p := (c : Thread nD τ).2) rowMem (Rect.unit (s := S36864) ![n] S1.size hb).toLoadRect (View.loadsAt_rect (View.loads_smem_one h2 h1)))
          fun f => k (f (Shape.Idx.first (h1.symm ▸ Nat.one_pos)))) Q) :=
    wp_load Variants.none (c : Thread nD τ) none Set.univ (defs := defs₀ (F := F)) (m := rowMem) (q := fullShare.right) (f := T)
      (k := fun f => k (f (Shape.Idx.first (h1.symm ▸ Nat.one_pos)))) (Finset.subset_univ _)
  refine hld.trans ?_
  iintro H K
  iapply H
  iintro T
  rw [e]
  iapply K $$ [] [T]
  · ipureintro
    refine ⟨?_, hT _⟩
    unfold rowOf
    rw [dif_pos hn]
  · iexact T

include hT in
/-- One copy of the first tile. -/
theorem wp_t1_body (c1 : k0_cond1 i = 1#1) (c2 : k0_cond2 i = 1#1) (k : Fin k0_t1_loop.trips) (acc : Unit) :
    iprop(tablePt c rowMem T ∗ fly c h (rowOf T) 0 0 k.val)
      ⊢ wp frame (wpE (defs₀ (F := F)) Variants.none (c : Thread nD τ) none) Set.univ
        (k0_t1_body i expertMem (Memref.isWhole_whole _) countMem (Memref.isWhole_whole _) rowMem (Memref.isWhole_whole _) tokMem (Memref.isWhole_whole _)
          a6 h6 a7 h7 a8 h8 slotMem (Memref.isWhole_whole _) gathMem (Memref.isWhole_whole _) cc0_scratch2 c1 c2 k acc)
        (fun _ => iprop(tablePt c rowMem T ∗ fly c h (rowOf T) 0 0 (k.val + 1))) := by
  have hk : k.val < 512 := trips1 ▸ k.isLt
  unfold k0_t1_body
  iintro ⟨T, F⟩
  iapply wp_row c T hT k.val (by omega) _ (off2_eq k) _ $$ [T]
  · iexact T
  iintro %w %hw T
  iapply wp_assume Variants.none (c : Thread nD τ) none Set.univ (fun _ _ => row_inb w hw.2)
  iapply wp_issue c h (rowOf T) 0 0 k.val hk _ (off3_eq k) _ _ (show k0_off4 w = _ by rw [Nat.mul_zero, Nat.zero_add, ← hw.1]; rfl) _ _ rfl _ $$ [F]
  · iexact F
  iintro F
  rw [show (Prog.ret PUnit.unit).bind (fun _ => Pure.pure PUnit.unit) = (Prog.ret PUnit.unit : Prog (TpuEff nD τ sig (Elt F) Λ₀ .tc) Unit) from rfl]
  sl_step
  isplitl [T]; · iexact T
  iexact F

include hT in
/-- The copies of the first tile: all rows of slot 0 under way. -/
theorem wp_t1 (c1 : k0_cond1 i = 1#1) (c2 : k0_cond2 i = 1#1) {hok} {Q : PUnit → sProp 𝕄} {k : Unit → Prog (TpuEff nD τ sig (Elt F) Λ₀ .tc) PUnit} :
    iprop(tablePt c rowMem T ∗ fly c h (rowOf T) 0 0 0)
      ⊢ iprop(((tablePt c rowMem T ∗ fly c h (rowOf T) 0 0 512) -∗ wp frame (wpE (defs₀ (F := F)) Variants.none (c : Thread nD τ) none) Set.univ (k ⟨⟩) Q)
      -∗ wp frame (wpE (defs₀ (F := F)) Variants.none (c : Thread nD τ) none) Set.univ
        (Scf.Loop.for k0_t1_loop hok ⟨⟩ (k0_t1_body i expertMem (Memref.isWhole_whole _) countMem (Memref.isWhole_whole _) rowMem (Memref.isWhole_whole _) tokMem (Memref.isWhole_whole _)
          a6 h6 a7 h7 a8 h8 slotMem (Memref.isWhole_whole _) gathMem (Memref.isWhole_whole _) cc0_scratch2 c1 c2) >>= k) Q) := by
  have hb := Scf.wp_for_bind frame (wpE (defs₀ (F := F)) Variants.none (c : Thread nD τ) none) Set.univ _ _ _ hok (⟨⟩ : Unit) _
    (fun n _ => iprop(tablePt c rowMem T ∗ fly c h (rowOf T) 0 0 n)) (wp_t1_body c h T hT i a6 h6 a7 h7 a8 h8 c1 c2) (kk := k) (Q := Q)
  refine hb.trans ?_
  iintro H K
  iapply H
  iintro %acc HI
  iapply K
  have e : k0_t1_loop.trips = 512 := trips1
  change iprop(tablePt c rowMem T ∗ fly c h (rowOf T) 0 0 k0_t1_loop.trips) ⊢ _
  rw [e]

include hT in
/-- One wait for a row of the tile. -/
theorem wp_t2_body (x v y : BitVec 32) (c1 : k0_cond1 i = 1#1) (c3 : k0_cond3 i v = 1#1) (k : Fin k0_t2_loop.trips) (acc : Unit) :
    iprop(tablePt c rowMem T ∗ waiting c h (rowOf T) ⟨(i 0).val % 2, Nat.mod_lt _ (by omega)⟩ (i 0).val k.val)
      ⊢ wp frame (wpE (defs₀ (F := F)) Variants.none (c : Thread nD τ) none) Set.univ
        (k0_t2_body i expertMem (Memref.isWhole_whole _) countMem (Memref.isWhole_whole _) rowMem (Memref.isWhole_whole _) tokMem (Memref.isWhole_whole _)
          a6 h6 a7 h7 a8 h8 slotMem (Memref.isWhole_whole _) gathMem (Memref.isWhole_whole _) cc0_scratch2 x v y c1 c3 k acc)
        (fun _ => iprop(tablePt c rowMem T ∗ waiting c h (rowOf T) ⟨(i 0).val % 2, Nat.mod_lt _ (by omega)⟩ (i 0).val (k.val + 1))) := by
  have hk : k.val < 512 := trips2 ▸ k.isLt
  have hi := tile_lt i
  unfold k0_t2_body
  iintro ⟨T, F⟩
  iapply wp_row c T hT (512 * (i 0).val + k.val) (by omega) _ (off5_eq i k) _ $$ [T]
  · iexact T
  iintro %w %hw T
  iapply wp_assume Variants.none (c : Thread nD τ) none Set.univ (fun _ _ => row_inb w hw.2)
  iapply wp_wait c h (rowOf T) ⟨(i 0).val % 2, Nat.mod_lt _ (by omega)⟩ (i 0).val k.val hk _ _ _ _ _ (off6_eq i) _ $$ [F]
  · iexact F
  iintro F
  rw [show (Prog.ret PUnit.unit).bind (fun _ => Pure.pure PUnit.unit) = (Prog.ret PUnit.unit : Prog (TpuEff nD τ sig (Elt F) Λ₀ .tc) Unit) from rfl]
  sl_step
  isplitl [T]; · iexact T
  iexact F

include hT in
/-- One copy of the next tile. -/
theorem wp_t3_body (v : BitVec 32) (hv : v.toNat < 73) (hw3 : k0_chk3 i v) (c4 : k0_cond4 i v = 1#1) (k : Fin (k0_t3_loop i).trips) (acc : Unit) :
    iprop(tablePt c rowMem T ∗ fly c h (rowOf T) ⟨1 - (i 0).val % 2, by omega⟩ ((i 0).val + 1) (asked (i 1).val + k.val))
      ⊢ wp frame (wpE (defs₀ (F := F)) Variants.none (c : Thread nD τ) none) Set.univ
        (k0_t3_body i expertMem (Memref.isWhole_whole _) countMem (Memref.isWhole_whole _) rowMem (Memref.isWhole_whole _) tokMem (Memref.isWhole_whole _)
          a6 h6 a7 h7 a8 h8 slotMem (Memref.isWhole_whole _) gathMem (Memref.isWhole_whole _) cc0_scratch2 v hw3 c4 k acc)
        (fun _ => iprop(tablePt c rowMem T ∗ fly c h (rowOf T) ⟨1 - (i 0).val % 2, by omega⟩ ((i 0).val + 1) (asked (i 1).val + (k.val + 1)))) := by
  have hk := t3_row i k
  have hi := (cond4_iff i v hv).mp c4
  unfold k0_t3_body
  iintro ⟨T, F⟩
  iapply wp_row c T hT (512 * ((i 0).val + 1) + (asked (i 1).val + k.val)) (by omega) _ (off41_eq i k) _ $$ [T]
  · iexact T
  iintro %w %hw T
  iapply wp_assume Variants.none (c : Thread nD τ) none Set.univ (fun _ => row_inb w hw.2)
  iapply wp_issue c h (rowOf T) ⟨1 - (i 0).val % 2, by omega⟩ ((i 0).val + 1) (asked (i 1).val + k.val) hk _ (off43_eq i k) _ _
    (show k0_off44 w = _ by rw [← hw.1]; rfl) _ _ (off42_eq i) _ $$ [F]
  · iexact F
  iintro F
  rw [show (Prog.ret PUnit.unit).bind (fun _ => Pure.pure PUnit.unit) = (Prog.ret PUnit.unit : Prog (TpuEff nD τ sig (Elt F) Λ₀ .tc) Unit) from rfl]
  sl_step
  isplitl [T]; · iexact T
  iexact F

include hT in
/-- The waits: after them every row of the tile's slot has landed. -/
theorem wp_t2 (x v y : BitVec 32) (c1 : k0_cond1 i = 1#1) (c3 : k0_cond3 i v = 1#1) {hok} {α : Type} {Q : α → sProp 𝕄} {k : Unit → Prog (TpuEff nD τ sig (Elt F) Λ₀ .tc) α} :
    iprop(tablePt c rowMem T ∗ waiting c h (rowOf T) ⟨(i 0).val % 2, Nat.mod_lt _ (by omega)⟩ (i 0).val 0)
      ⊢ iprop(((tablePt c rowMem T ∗ waiting c h (rowOf T) ⟨(i 0).val % 2, Nat.mod_lt _ (by omega)⟩ (i 0).val 512) -∗ wp frame (wpE (defs₀ (F := F)) Variants.none (c : Thread nD τ) none) Set.univ (k ⟨⟩) Q)
      -∗ wp frame (wpE (defs₀ (F := F)) Variants.none (c : Thread nD τ) none) Set.univ
        (Scf.Loop.for k0_t2_loop hok ⟨⟩ (k0_t2_body i expertMem (Memref.isWhole_whole _) countMem (Memref.isWhole_whole _) rowMem (Memref.isWhole_whole _) tokMem (Memref.isWhole_whole _)
          a6 h6 a7 h7 a8 h8 slotMem (Memref.isWhole_whole _) gathMem (Memref.isWhole_whole _) cc0_scratch2 x v y c1 c3) >>= k) Q) := by
  have hb := Scf.wp_for_bind frame (wpE (defs₀ (F := F)) Variants.none (c : Thread nD τ) none) Set.univ _ _ _ hok (⟨⟩ : Unit) _
    (fun n _ => iprop(tablePt c rowMem T ∗ waiting c h (rowOf T) ⟨(i 0).val % 2, Nat.mod_lt _ (by omega)⟩ (i 0).val n)) (wp_t2_body c h T hT i a6 h6 a7 h7 a8 h8 x v y c1 c3) (kk := k) (Q := Q)
  refine hb.trans ?_
  iintro H K
  iapply H
  iintro %acc HI
  iapply K
  have e : k0_t2_loop.trips = 512 := trips2
  change iprop(tablePt c rowMem T ∗ waiting c h (rowOf T) ⟨(i 0).val % 2, Nat.mod_lt _ (by omega)⟩ (i 0).val k0_t2_loop.trips) ⊢ _
  rw [e]

include hT in
/-- The copies a column step starts for the next tile. -/
theorem wp_t3 (v : BitVec 32) (hv : v.toNat < 73) (hw3 : k0_chk3 i v) (c4 : k0_cond4 i v = 1#1) {hok} {Q : PUnit → sProp 𝕄} {k : Unit → Prog (TpuEff nD τ sig (Elt F) Λ₀ .tc) PUnit} :
    iprop(tablePt c rowMem T ∗ fly c h (rowOf T) ⟨1 - (i 0).val % 2, by omega⟩ ((i 0).val + 1) (asked (i 1).val))
      ⊢ iprop(((tablePt c rowMem T ∗ fly c h (rowOf T) ⟨1 - (i 0).val % 2, by omega⟩ ((i 0).val + 1) (asked ((i 1).val + 1))) -∗ wp frame (wpE (defs₀ (F := F)) Variants.none (c : Thread nD τ) none) Set.univ (k ⟨⟩) Q)
      -∗ wp frame (wpE (defs₀ (F := F)) Variants.none (c : Thread nD τ) none) Set.univ
        (Scf.Loop.for (k0_t3_loop i) hok ⟨⟩ (k0_t3_body i expertMem (Memref.isWhole_whole _) countMem (Memref.isWhole_whole _) rowMem (Memref.isWhole_whole _) tokMem (Memref.isWhole_whole _)
          a6 h6 a7 h7 a8 h8 slotMem (Memref.isWhole_whole _) gathMem (Memref.isWhole_whole _) cc0_scratch2 v hw3 c4) >>= k) Q) := by
  have hb := Scf.wp_for_bind frame (wpE (defs₀ (F := F)) Variants.none (c : Thread nD τ) none) Set.univ _ _ _ hok (⟨⟩ : Unit) _
    (fun n _ => iprop(tablePt c rowMem T ∗ fly c h (rowOf T) ⟨1 - (i 0).val % 2, by omega⟩ ((i 0).val + 1) (asked (i 1).val + n)))
    (wp_t3_body c h T hT i a6 h6 a7 h7 a8 h8 v hv hw3 c4) (kk := k) (Q := Q)
  refine hb.trans ?_
  iintro H K
  iapply H
  iintro %acc HI
  iapply K
  have e : asked (i 1).val + (k0_t3_loop i).trips = asked ((i 1).val + 1) := by
    have := trips3 i
    have := asked_mono (i 1).val
    omega
  change iprop(tablePt c rowMem T ∗ fly c h (rowOf T) ⟨1 - (i 0).val % 2, by omega⟩ ((i 0).val + 1) (asked (i 1).val + (k0_t3_loop i).trips)) ⊢ _
  rw [e]

end Loops

end Cert.MoeUpBody

end
-- ==== Proof.MoeUpGather.lean ====
/-
  The experts' first products: how a tile's landed rows become the operand of its products. Of every row thirty-two groups of
  128 words are read, forty words' rows apart, and stored side by side.
-/
module

public import proofs.«01_k».proof.Proof.MoeUpBody
public import Idealize.ShloMosaic.Lib.ValueLayout
public import Idealize.ShloMosaic.Lib.VecWindow
public import Idealize.ShloMosaic.Lib.Pipeline.ReadBack
public import Idealize.ShloMosaic.Lib.Pipeline.Value

@[expose] public section

set_option maxRecDepth 16384

noncomputable section

namespace Cert.MoeUpBody

open Cert.MoeUpIdeal Cert.MoeUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (UD)

variable {F : FTy → Type} [FloatOps F]

local notation "𝕄" => MT nD τ sig Unit (Elt F) ℕ (UD sig nD τ) ℕ

/-- The columns that group `q` is stored to. -/
def colRect (q : Fin 32) : Rect S512x4096 :=
  Rect.unit (s := S512x4096) ![0, 128 * q.val] S512x128.size (by revert q; decide +kernel)

/-- The rows of the landing buffer that group `q` of a slot's rows is. -/
theorem group_inb (i : grid0.Coords) (q : Fin 32) : ∀ a, S1x512x128.size a = 0 ∨
    (![(Scalar.remsi (BitVec.ofNat 32 (i 0).val) 2#32).toNat, q.val, 0] : Fin 3 → ℕ) a + (![1, 40, 1] : Fin 3 → ℕ) a * (S1x512x128.size a - 1) < S2x20480x128.size a := by
  intro a
  right
  have := slot_toNat i
  have hq := q.isLt
  match a with
  | ⟨0, _⟩ => show (Scalar.remsi (BitVec.ofNat 32 (i 0).val) 2#32).toNat + 1 * 0 < 2; omega
  | ⟨1, _⟩ => show q.val + 40 * 511 < 20480; omega
  | ⟨2, _⟩ => show 0 + 1 * 127 < 128; omega

/-- Where the landing buffer holds column `y` of row `r` of slot `s`. -/
def slotIdx (s : Fin 2) (y : S512x4096.Idx) : S2x20480x128.Idx :=
  ix3 s ⟨40 * (y 0).val + (y 1).val / 128, by
    have h0 := (y 0).isLt; have h1 := (y 1).isLt; change _ < 512 at h0; change _ < 4096 at h1; omega⟩
    ⟨(y 1).val % 128, Nat.mod_lt _ (by omega)⟩

/-- The operand read from slot `s` of the landing buffer. -/
def gathSlot (s : Fin 2) (g : Vec F S2x20480x128 .f32) : FVec F S512x4096 .bf16 := fun y => FloatOps.truncf .bf16 (by decide) (g (slotIdx s y))

/-- Group `q` of the slot's rows, as the kernel reads, rounds and stores it. -/
def groupPiece (i : grid0.Coords) (g : Vec F S2x20480x128 .f32) (q : Fin 32) : View.Piece (Elt F) S512x4096 .bf16 :=
  ⟨colRect q, shapeCast S512x128 (truncf .bf16 (shapeCast S512x128 (slotMem.view.readAt (Elt F)
    (⟨![(Scalar.remsi (BitVec.ofNat 32 (i 0).val) 2#32).toNat, q.val, 0], S1x512x128.size, ![1, 40, 1], group_inb i q⟩ : LoadRect S2x20480x128) g)
    shapeCasts_S1x512x128_S512x128) bitsLt_bf16_f32) shapeCasts_S512x128_S512x128⟩

/-- A group's piece is what the operand holds at its columns. -/
theorem group_piece (i : grid0.Coords) (g : Vec F S2x20480x128 .f32) (q : Fin 32) (x : S512x128.Idx) :
    (groupPiece i g q).2 x = gathSlot ⟨(i 0).val % 2, Nat.mod_lt _ (by omega)⟩ g ((colRect q).emb x) := by
  unfold groupPiece gathSlot
  have h0 := (x 0).isLt
  have h1 := (x 1).isLt
  change _ < 512 at h0
  change _ < 128 at h1
  have hq := q.isLt
  have hx : x = ix2 (x 0) (x 1) := funext fun d => match d with | ⟨0, _⟩ => rfl | ⟨1, _⟩ => rfl
  have e0 : ((colRect q).emb x 0).val = 0 + 1 * (x 0).val := rfl
  have e1 : ((colRect q).emb x 1).val = 128 * q.val + 1 * (x 1).val := rfl
  dsimp only
  rw [shapeCast_self]
  have hc : ∀ V : FVec F S1x512x128 .f32, shapeCast S512x128 V shapeCasts_S1x512x128_S512x128 x = V (ix3 (0 : Fin 1) (x 0) (x 1)) := fun V =>
    (congrArg (shapeCast S512x128 V shapeCasts_S1x512x128_S512x128) hx).trans (shapeCast_1ab_ab_apply V _ (x 0) (x 1))
  refine (congrArg (FloatOps.truncf .bf16 bitsLt_bf16_f32) (hc _)).trans ?_
  refine congrArg (fun z => FloatOps.truncf .bf16 _ (g z)) (funext fun d => Fin.ext ?_)
  have hs := slot_toNat i
  match d with
  | ⟨0, _⟩ => show (Scalar.remsi (BitVec.ofNat 32 (i 0).val) 2#32).toNat + 1 * 0 = (i 0).val % 2; omega
  | ⟨1, _⟩ => show q.val + 40 * (x 0).val = 40 * ((colRect q).emb x 0).val + ((colRect q).emb x 1).val / 128; omega
  | ⟨2, _⟩ => show 0 + 1 * (x 1).val = ((colRect q).emb x 1).val % 128; omega

/-- Pieces of the operand, of any list of groups. -/
theorem group_pieces (i : grid0.Coords) (g : Vec F S2x20480x128 .f32) : ∀ l : List (Fin 32),
    View.PiecesOf (gathSlot ⟨(i 0).val % 2, Nat.mod_lt _ (by omega)⟩ g) (l.map (groupPiece i g))
  | [] => trivial
  | q :: l => ⟨group_piece i g q, group_pieces i g l⟩

/-- Every column is a group's. -/
theorem group_cover (y : S512x4096.Idx) : ∃ q, y ∈ (colRect q).set := by
  have h0 := (y 0).isLt
  have h1 := (y 1).isLt
  change _ < 512 at h0
  change _ < 4096 at h1
  refine ⟨⟨(y 1).val / 128, by omega⟩, (colRect _).toLoadRect.mem_set.mpr fun a => ?_⟩
  match a with
  | ⟨0, _⟩ => exact ⟨(y 0).val, by show _ < 512; omega, by show (y 0).val = 0 + 1 * _; omega⟩
  | ⟨1, _⟩ => exact ⟨(y 1).val % 128, by show _ < 128; omega, by show (y 1).val = 128 * ((y 1).val / 128) + 1 * _; omega⟩

/-- Stores of all groups, over any contents, leave the operand. -/
theorem read_groups {sp : Space} (v : View sig .tc sp S512x4096 .bf16) (f : v.ty.Contents (Elt F)) (i : grid0.Coords) (g : Vec F S2x20480x128 .f32)
    (l : List (Fin 32)) (hl : ∀ q, q ∈ l) :
    v.read (Elt F) (v.writes (Elt F) f (l.map (groupPiece i g))) = gathSlot ⟨(i 0).val % 2, Nat.mod_lt _ (by omega)⟩ g := by
  funext y
  have hc : ∃ p ∈ l.map (groupPiece i g), y ∈ p.1.set := by
    obtain ⟨q, hq⟩ := group_cover y
    exact ⟨groupPiece i g q, List.mem_map_of_mem (hl q), hq⟩
  rw [View.read_writes_apply_eq_canon v f y _ hc, ← List.append_nil (l.map (groupPiece i g))]
  exact View.canon_append_of_piecesOf _ [] _ (group_pieces i g l) y hc

section Held

variable (c : Dev nD) (h : Buf (Elt F) (tokMem.view.loc (c : Thread nD τ))) (rn : ℕ → ℕ)

/-- The shares of the tokens the copies read from, all at rest. -/
abbrev toks : sProp 𝕄 := bigSep Finset.univ (fun b : Fin 1024 => tokPt c h b.val)

/-- A slot all of whose copies have been asked for, before the first wait. -/
theorem to_wait (s : Fin 2) (i : ℕ) : iprop((∃ W, owes (c : Thread nD τ) 0 W) ∗ fly c h rn s i 512)
    ⊢ iprop(waiting c h rn s i 0 ∗ bigSep (Finset.range 512) (kept c h rn s.val i)) := by
  unfold fly waiting
  rw [if_pos (by omega), Nat.zero_mul]
  iintro ⟨O, B, K, -⟩
  isplitr [K]
  · isplitl [O]; · iexact O
    iexact B
  · iexact K

/-- After the last wait: the whole landing buffer, its slot's rows being the tile's, and all the tokens' shares. -/
theorem waited (s s' : Fin 2) (hss : s' ≠ s) (i : ℕ) :
    iprop(waiting c h rn s i 512 ∗ bigSep (Finset.range 512) (kept c h rn s.val i) ∗ free c h s')
      ⊢ iprop((∃ W, owes (c : Thread nD τ) 0 W) ∗ semVal ((c : Thread nD τ), .dma (slotSem s)) 0 ∗ semVal ((c : Thread nD τ), .dma (slotSem s')) 0
        ∗ (∃ g, ⌜∀ r < 512, Rows rn h s.val i r g⌝ ∗ (slotMem.view.loc (c : Thread nD τ) ↦{fullShare} g)) ∗ toks c h) := by
  unfold waiting free
  rw [if_neg (by omega)]
  iintro ⟨⟨O, L, S⟩, K, S', I⟩
  isplitl [O]; · iexact O
  isplitl [S]; · iexact S
  isplitl [S']; · iexact S'
  iapply (whole_of_pieces c h rn s i)
  iapply (both_slots (fun b => doneItem c h rn s i b.val) s s' hss).1
  isplitl [L K]
  · iapply (arrived c h rn s i)
    isplitl [L]; · iexact L
    iexact K
  · iapply (other_items c h rn s s' hss i)
    iexact I

/-- Both slots free again. -/
theorem freed (s s' : Fin 2) (hss : s' ≠ s) (g : Buf (Elt F) (slotMem.view.loc (c : Thread nD τ))) :
    iprop(semVal ((c : Thread nD τ), .dma (slotSem s)) 0 ∗ semVal ((c : Thread nD τ), .dma (slotSem s')) 0
        ∗ (slotMem.view.loc (c : Thread nD τ) ↦{fullShare} g) ∗ toks c h)
      ⊢ iprop(free c h s ∗ free c h s') := by
  unfold free
  iintro ⟨S, S', G, K⟩
  ihave H := (pieces_of_whole c h g) $$ [G K]
  · isplitl [G]; · iexact G
    iexact K
  ihave H := (both_slots (fun b => item c h b.val) s s' hss).2 $$ H
  icases H with ⟨H, H'⟩
  isplitl [S H]
  · isplitl [S]; · iexact S
    iexact H
  · isplitl [S']; · iexact S'
    iexact H'

/-- The operand of tile `i`: the tokens its rows are, rounded. -/
def tileOf (i : ℕ) : FVec F S512x4096 .bf16 := fun y => FloatOps.truncf .bf16 (by decide)
  (h (ix3 ⟨rn (512 * i + (y 0).val) % 16384, Nat.mod_lt _ (by omega)⟩
    ⟨(y 1).val / 128, by have h1 := (y 1).isLt; change _ < 4096 at h1; show _ < 40; omega⟩ ⟨(y 1).val % 128, Nat.mod_lt _ (by omega)⟩) : F .f32)

/-- A slot whose rows are the tile's gives the tile's operand. -/
theorem gathSlot_rows (hrn : ∀ n, rn n < 16384) (s : Fin 2) (i : ℕ) (g : Buf (Elt F) (slotMem.view.loc (c : Thread nD τ)))
    (hg : ∀ r < 512, Rows rn h s.val i r g) : gathSlot s g = tileOf c h rn i := by
  funext y
  have h0 := (y 0).isLt
  have h1 := (y 1).isLt
  change _ < 512 at h0
  change _ < 4096 at h1
  unfold gathSlot tileOf
  refine congrArg (FloatOps.truncf .bf16 _) (hg (y 0).val h0 _ _ rfl ?_ ?_ ?_ ?_ rfl)
  · show (40 * (y 0).val + (y 1).val / 128) / 40 = _; omega
  · show (40 * (y 0).val + (y 1).val / 128) % 40 < 32; omega
  · exact Nat.mod_eq_of_lt (hrn _)
  · show (y 1).val / 128 = (40 * (y 0).val + (y 1).val / 128) % 40; omega

end Held

section Gather

variable (c : Dev nD) (h : Buf (Elt F) (tokMem.view.loc (c : Thread nD τ))) (T : Vec F S36864 .i32) (hT : ∀ x, (T x : BitVec 32).toNat < 16384)
variable (i : grid0.Coords) (a6 : Memref sig .tc .vmem S1x4096x512 .bf16) (h6 : a6.IsWhole) (a7 : Memref sig .tc .vmem S1x4096x512 .bf16) (h7 : a7.IsWhole)
  (a8 : Memref sig .tc .vmem S512x512 .bf16) (h8 : a8.IsWhole)

/-- The gather's buffer held. -/
abbrev gathPt (f : Buf (Elt F) (gathMem.view.loc (c : Thread nD τ))) : sProp 𝕄 := gathMem.view.loc (c : Thread nD τ) ↦{fullShare} f

set_option maxHeartbeats 4000000 in
include hT in
/-- The tile's rows are waited for and gathered, and the slots are free. -/
theorem wp_gather (s s' : Fin 2) (hs : s = ⟨(i 0).val % 2, Nat.mod_lt _ (by omega)⟩) (hss : s' ≠ s) (x v y : BitVec 32) (c1 : k0_cond1 i = 1#1) (c3 : k0_cond3 i v = 1#1) {Q : PUnit → sProp 𝕄} {k : Prog (TpuEff nD τ sig (Elt F) Λ₀ .tc) PUnit} :
    iprop(tablePt c rowMem T ∗ (∃ W, owes (c : Thread nD τ) 0 W) ∗ fly c h (rowOf T) s (i 0).val 512 ∗ free c h s' ∗ (∃ f, gathPt c f))
      ⊢ iprop((tablePt c rowMem T -∗ (∃ W, owes (c : Thread nD τ) 0 W) -∗ free c h s -∗ free c h s' -∗ gathPt c (tileOf c h (rowOf T) (i 0).val)
            -∗ wp frame (wpE (defs₀ (F := F)) Variants.none (c : Thread nD τ) none) Set.univ k Q)
      -∗ wp frame (wpE (defs₀ (F := F)) Variants.none (c : Thread nD τ) none) Set.univ (do
    let v53 : FVec F S512x128 .bf16 ← k0_part1 i expertMem (Memref.isWhole_whole _) countMem (Memref.isWhole_whole _) rowMem (Memref.isWhole_whole _) tokMem (Memref.isWhole_whole _) a6 h6 a7 h7 a8 h8 slotMem (Memref.isWhole_whole _) gathMem (Memref.isWhole_whole _) cc0_scratch2 x v y c1 c3
    let v88 : FVec F S512x128 .bf16 ← k0_part2 i expertMem (Memref.isWhole_whole _) countMem (Memref.isWhole_whole _) rowMem (Memref.isWhole_whole _) tokMem (Memref.isWhole_whole _) a6 h6 a7 h7 a8 h8 slotMem (Memref.isWhole_whole _) gathMem (Memref.isWhole_whole _) cc0_scratch2 y c1 v53
    let v123 : FVec F S512x128 .bf16 ← k0_part3 i expertMem (Memref.isWhole_whole _) countMem (Memref.isWhole_whole _) rowMem (Memref.isWhole_whole _) tokMem (Memref.isWhole_whole _) a6 h6 a7 h7 a8 h8 slotMem (Memref.isWhole_whole _) gathMem (Memref.isWhole_whole _) cc0_scratch2 y c1 v88
    let v158 : FVec F S512x128 .bf16 ← k0_part4 i expertMem (Memref.isWhole_whole _) countMem (Memref.isWhole_whole _) rowMem (Memref.isWhole_whole _) tokMem (Memref.isWhole_whole _) a6 h6 a7 h7 a8 h8 slotMem (Memref.isWhole_whole _) gathMem (Memref.isWhole_whole _) cc0_scratch2 y c1 v123
    let v193 : FVec F S512x128 .bf16 ← k0_part5 i expertMem (Memref.isWhole_whole _) countMem (Memref.isWhole_whole _) rowMem (Memref.isWhole_whole _) tokMem (Memref.isWhole_whole _) a6 h6 a7 h7 a8 h8 slotMem (Memref.isWhole_whole _) gathMem (Memref.isWhole_whole _) cc0_scratch2 y c1 v158
    let v228 : FVec F S512x128 .bf16 ← k0_part6 i expertMem (Memref.isWhole_whole _) countMem (Memref.isWhole_whole _) rowMem (Memref.isWhole_whole _) tokMem (Memref.isWhole_whole _) a6 h6 a7 h7 a8 h8 slotMem (Memref.isWhole_whole _) gathMem (Memref.isWhole_whole _) cc0_scratch2 y c1 v193
    let v229 : Vec F S512x128 .bf16 ← Prog.lift (.load gathMem (Rect.unit (s := S512x4096) ![0, 3712] S512x128.size inb_S512x4096_S512x128_0_3712).toLoadRect (View.loadsAt_vmem h_S512x128))
    Prog.lift (.store gathMem (Rect.unit (s := S512x4096) ![0, 3712] S512x128.size inb_S512x4096_S512x128_0_3712) (k0_pay1 v228) Finset.univ (View.stores_vmem h_S512x128 ((Memref.isWhole_whole cc0_scratch1).storeExact_slice rfl _ packedbf16_S512x4096_S512x128_0_3712) (fun _ => rfl)) (.inl rfl))
    let v233 : Vec F S1x512x128 .f32 ← Prog.lift (.load slotMem (⟨k0_off39 i, S1x512x128.size, ![1, 40, 1], (k0_off39_inb i c1)⟩ : LoadRect S2x20480x128) (View.loadsAt_vmem h_S1x512x128))
    let v236 : Vec F S512x128 .bf16 ← Prog.lift (.load gathMem (Rect.unit (s := S512x4096) ![0, 3840] S512x128.size inb_S512x4096_S512x128_0_3840).toLoadRect (View.loadsAt_vmem h_S512x128))
    Prog.lift (.store gathMem (Rect.unit (s := S512x4096) ![0, 3840] S512x128.size inb_S512x4096_S512x128_0_3840) (k0_pay2 v233) Finset.univ (View.stores_vmem h_S512x128 ((Memref.isWhole_whole cc0_scratch1).storeExact_slice rfl _ packedbf16_S512x4096_S512x128_0_3840) (fun _ => rfl)) (.inl rfl))
    let v240 : Vec F S1x512x128 .f32 ← Prog.lift (.load slotMem (⟨k0_off40 i, S1x512x128.size, ![1, 40, 1], (k0_off40_inb i c1)⟩ : LoadRect S2x20480x128) (View.loadsAt_vmem h_S1x512x128))
    let v243 : Vec F S512x128 .bf16 ← Prog.lift (.load gathMem (Rect.unit (s := S512x4096) ![0, 3968] S512x128.size inb_S512x4096_S512x128_0_3968).toLoadRect (View.loadsAt_vmem h_S512x128))
    Prog.lift (.store gathMem (Rect.unit (s := S512x4096) ![0, 3968] S512x128.size inb_S512x4096_S512x128_0_3968) (k0_pay3 v240) Finset.univ (View.stores_vmem h_S512x128 ((Memref.isWhole_whole cc0_scratch1).storeExact_slice rfl _ packedbf16_S512x4096_S512x128_0_3968) (fun _ => rfl)) (.inl rfl))
    k) Q) := by
  subst hs
  simp only [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  rw [wp_bind]
  iintro ⟨T, O, Fl, Fr, ⟨%f, G⟩⟩ Hk
  ihave H := (to_wait c h (rowOf T) _ _) $$ [O Fl]
  · isplitl [O]; · iexact O
    iexact Fl
  icases H with ⟨W, K⟩
  iapply (wp_t2 c h T hT i a6 h6 a7 h7 a8 h8 x v y c1 c3) $$ [T W]
  · isplitl [T]; · iexact T
    iexact W
  iintro ⟨T, W⟩
  rw [← wp_bind]
  ihave H := (waited c h (rowOf T) _ s' hss (i 0).val) $$ [W K Fr]
  · isplitl [W]; · iexact W
    isplitl [K]; · iexact K
    iexact Fr
  icases H with ⟨O, S, S', ⟨%g, %hg, L⟩, K⟩
  sl_exec
  ihave H := (freed c h _ s' hss g) $$ [S S' L K]
  · isplitl [S]; · iexact S
    isplitl [S']; · iexact S'
    isplitl [L]; · iexact L
    iexact K
  icases H with ⟨Fr, Fr'⟩
  have e : gathMem.view.writes (Elt F) f (([31, 30, 29, 28, 27, 26, 25, 24, 23, 22, 21, 20, 19, 18, 17, 16, 15, 14, 13, 12, 11, 10, 9, 8, 7, 6, 5, 4, 3, 2, 1, 0] : List (Fin 32)).map (groupPiece i g))
      = tileOf c h (rowOf T) (i 0).val :=
    (read_groups gathMem.view f i g [31, 30, 29, 28, 27, 26, 25, 24, 23, 22, 21, 20, 19, 18, 17, 16, 15, 14, 13, 12, 11, 10, 9, 8, 7, 6, 5, 4, 3, 2, 1, 0] (by decide)).trans (gathSlot_rows c h (rowOf T) (rowOf_lt T hT) _ _ g hg)
  rw [← e]
  iapply Hk $$ [T] [O] [Fr] [Fr'] [G]
  · iexact T
  · iexact O
  · iexact Fr
  · iexact Fr'
  · iexact G

end Gather

end Cert.MoeUpBody

end
-- ==== Proof.MoeUpPoint.lean ====
/-
  The experts' first products: what the body does at a grid point, and what it leaves for the next.
-/
module

public import proofs.«01_k».proof.Proof.MoeUpGather

@[expose] public section

set_option maxRecDepth 16384

noncomputable section

namespace Cert.MoeUpBody

open Cert.MoeUpIdeal Cert.MoeUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (UD)

variable {F : FTy → Type} [FloatOps F]

local notation "𝕄" => MT nD τ sig Unit (Elt F) ℕ (UD sig nD τ) ℕ

/-- The slot of tile `i`. -/
abbrev slotOf (i : ℕ) : Fin 2 := ⟨i % 2, Nat.mod_lt _ (by omega)⟩
/-- The other slot. -/
abbrev otherOf (i : ℕ) : Fin 2 := ⟨1 - i % 2, by omega⟩
theorem other_ne (i : ℕ) : otherOf i ≠ slotOf i := by
  intro h
  have := congrArg Fin.val h
  change 1 - i % 2 = i % 2 at this
  omega

section States

variable (c : Dev nD) (h : Buf (Elt F) (tokMem.view.loc (c : Thread nD τ))) (rn : ℕ → ℕ) (nt : ℕ)

/-- The tile's slot before column step `j`: its copies all under way before the first, nothing afterwards. -/
def curSt (i j : ℕ) : sProp 𝕄 := if j = 0 ∧ 0 < i ∧ i < nt then fly c h rn (slotOf i) i 512 else free c h (slotOf i)
/-- The other slot before column step `j`: the next tile's copies asked for so far. -/
def othSt (i j : ℕ) : sProp 𝕄 := if 0 < j ∧ i + 1 < nt then fly c h rn (otherOf i) (i + 1) (asked j) else free c h (otherOf i)
/-- The operand's buffer before column step `j`: the tile's operand from the second step on. -/
def gathSt (i j : ℕ) : sProp 𝕄 := if 0 < j ∧ i < nt then gathPt c (tileOf c h rn i) else iprop(∃ f, gathPt c f)
/-- What the body holds between column step `j` of tile `i` and the one before. -/
def Slots (i j : ℕ) : sProp 𝕄 := iprop(curSt c h rn nt i j ∗ othSt c h rn nt i j ∗ gathSt c h rn nt i j)

theorem curSt_ready {i : ℕ} (h0 : 0 < i) (h1 : i < nt) : curSt c h rn nt i 0 = fly c h rn (slotOf i) i 512 := if_pos ⟨rfl, h0, h1⟩
theorem curSt_free {i j : ℕ} (hn : ¬ (j = 0 ∧ 0 < i ∧ i < nt)) : curSt c h rn nt i j = free c h (slotOf i) := if_neg hn
theorem othSt_asked {i j : ℕ} (h0 : 0 < j) (h1 : i + 1 < nt) : othSt c h rn nt i j = fly c h rn (otherOf i) (i + 1) (asked j) := if_pos ⟨h0, h1⟩
theorem othSt_free {i j : ℕ} (hn : ¬ (0 < j ∧ i + 1 < nt)) : othSt c h rn nt i j = free c h (otherOf i) := if_neg hn
theorem gathSt_tile {i j : ℕ} (h0 : 0 < j) (h1 : i < nt) : gathSt c h rn nt i j = gathPt c (tileOf c h rn i) := if_pos ⟨h0, h1⟩
theorem gathSt_any {i j : ℕ} (hn : ¬ (0 < j ∧ i < nt)) : gathSt c h rn nt i j = iprop(∃ f, gathPt c f) := if_neg hn

/-- Within a tile, a step leaves what the next finds. -/
theorem slots_step (i j : ℕ) : iprop(free c h (slotOf i) ∗ othSt c h rn nt i (j + 1) ∗ gathSt c h rn nt i (j + 1)) ⊢ Slots c h rn nt i (j + 1) := by
  unfold Slots
  rw [curSt_free c h rn nt (j := j + 1) (i := i) (fun hh => Nat.succ_ne_zero j hh.1)]

/-- The last step of a tile leaves what the next tile's first finds. -/
theorem slots_tile (i : ℕ) : iprop(free c h (slotOf i) ∗ othSt c h rn nt i 6 ∗ gathSt c h rn nt i 6) ⊢ Slots c h rn nt (i + 1) 0 := by
  have e : otherOf i = slotOf (i + 1) := Fin.ext (by show 1 - i % 2 = (i + 1) % 2; omega)
  have e' : slotOf i = otherOf (i + 1) := Fin.ext (by show i % 2 = 1 - (i + 1) % 2; omega)
  have hg : gathSt c h rn nt i 6 ⊢ gathSt c h rn nt (i + 1) 0 := by
    rw [gathSt_any c h rn nt (i := i + 1) (j := 0) (fun hh => Nat.lt_irrefl 0 hh.1)]
    by_cases hi : i < nt
    · rw [gathSt_tile c h rn nt (by omega) hi]
      iintro H; iexists _; iexact H
    · rw [gathSt_any c h rn nt (fun hh => hi hh.2)]
  have ho : othSt c h rn nt i 6 ⊢ curSt c h rn nt (i + 1) 0 := by
    by_cases hi : i + 1 < nt
    · rw [othSt_asked c h rn nt (by omega) hi, curSt_ready c h rn nt (by omega) hi, e, show asked 6 = 512 from rfl]
    · rw [othSt_free c h rn nt (fun hh => hi hh.2), curSt_free c h rn nt (fun hh => hi hh.2.2), e]
  have hf : free c h (slotOf i) ⊢ othSt c h rn nt (i + 1) 0 := by
    rw [othSt_free c h rn nt (i := i + 1) (j := 0) (fun hh => Nat.lt_irrefl 0 hh.1), e']
  unfold Slots
  iintro ⟨A, B, C⟩
  isplitl [B]; · iapply ho; iexact B
  isplitl [A]; · iapply hf; iexact A
  iapply hg; iexact C

end States

section Point

variable (c : Dev nD) (h : Buf (Elt F) (tokMem.view.loc (c : Thread nD τ))) (T : Vec F S36864 .i32) (hT : ∀ x, (T x : BitVec 32).toNat < 16384)
variable (i : grid0.Coords) (a6 : Memref sig .tc .vmem S1x4096x512 .bf16) (h6 : a6.IsWhole) (a7 : Memref sig .tc .vmem S1x4096x512 .bf16) (h7 : a7.IsWhole)
  (a8 : Memref sig .tc .vmem S512x512 .bf16) (h8 : a8.IsWhole)

include hT in
/-- At a tile the count includes, after its slot's copies have been asked for: the rows are gathered at the first step. -/
theorem wp_first (v : BitVec 32) (c1 : k0_cond1 i = 1#1) (hi : (i 0).val < v.toNat) (hj : (i 1).val = 0) {hok : k0_cond2 i = 1#1 → k0_t1_loop.OK}
    {Q : PUnit → sProp 𝕄} {k : Prog (TpuEff nD τ sig (Elt F) Λ₀ .tc) PUnit} :
    iprop(tablePt c rowMem T ∗ curSt c h (rowOf T) v.toNat (i 0).val (i 1).val)
      ⊢ iprop((tablePt c rowMem T -∗ fly c h (rowOf T) (slotOf (i 0).val) (i 0).val 512 -∗ wp frame (wpE (defs₀ (F := F)) Variants.none (c : Thread nD τ) none) Set.univ k Q)
      -∗ wp frame (wpE (defs₀ (F := F)) Variants.none (c : Thread nD τ) none) Set.univ
        (if c2 : k0_cond2 i = 1#1 then
          (Scf.Loop.for k0_t1_loop (hok c2) ⟨⟩ (k0_t1_body i expertMem (Memref.isWhole_whole _) countMem (Memref.isWhole_whole _) rowMem (Memref.isWhole_whole _) tokMem (Memref.isWhole_whole _)
            a6 h6 a7 h7 a8 h8 slotMem (Memref.isWhole_whole _) gathMem (Memref.isWhole_whole _) cc0_scratch2 c1 c2) >>= fun _ => k)
        else k) Q) := by
  rw [hj]
  by_cases c2 : k0_cond2 i = 1#1
  · have h0 := (cond2_iff i).mp c2
    have hs : slotOf (i 0).val = 0 := Fin.ext (by show (i 0).val % 2 = 0; omega)
    rw [dif_pos c2, curSt_free c h (rowOf T) v.toNat (fun hh => absurd hh.2.1 (by omega)), hs, h0]
    iintro ⟨T, Fr⟩ Hk
    ihave H := (fly_start c h (rowOf T) 0 0 (E := Set.univ)) $$ Fr
    imod H
    iapply (wp_t1 c h T hT i a6 h6 a7 h7 a8 h8 c1 c2) $$ [T H]
    · isplitl [T]; · iexact T
      iexact H
    iintro ⟨T, H⟩
    iapply Hk $$ [T] [H]
    · iexact T
    · iexact H
  · have h0 := fun h0 => c2 ((cond2_iff i).mpr h0)
    rw [dif_neg c2, curSt_ready c h (rowOf T) v.toNat (Nat.pos_of_ne_zero h0) hi]
    iintro ⟨T, H⟩ Hk
    iapply Hk $$ [T] [H]
    · iexact T
    · iexact H

set_option maxHeartbeats 1000000 in
include hT in
/-- The first part of the body: at the first step of a tile the count includes the operand is gathered. -/
theorem wp_stage1 (x v y : BitVec 32) (hv : v.toNat < 73) (hv1 : 0 < v.toNat) {Q : PUnit → sProp 𝕄} {k : Prog (TpuEff nD τ sig (Elt F) Λ₀ .tc) PUnit} :
    iprop(tablePt c rowMem T ∗ (∃ W, owes (c : Thread nD τ) 0 W) ∗ Slots c h (rowOf T) v.toNat (i 0).val (i 1).val)
      ⊢ iprop((tablePt c rowMem T -∗ (∃ W, owes (c : Thread nD τ) 0 W) -∗ free c h (slotOf (i 0).val) -∗ othSt c h (rowOf T) v.toNat (i 0).val (i 1).val
            -∗ gathSt c h (rowOf T) v.toNat (i 0).val ((i 1).val + 1)
            -∗ wp frame (wpE (defs₀ (F := F)) Variants.none (c : Thread nD τ) none) Set.univ k Q)
      -∗ wp frame (wpE (defs₀ (F := F)) Variants.none (c : Thread nD τ) none) Set.univ (do
    if c1 : k0_cond1 i = 1#1 then do
      if c2 : k0_cond2 i = 1#1 then do
        Scf.Loop.for k0_t1_loop (k0_t1_ok i c1 c2) ⟨⟩ (k0_t1_body i expertMem (Memref.isWhole_whole _) countMem (Memref.isWhole_whole _) rowMem (Memref.isWhole_whole _) tokMem (Memref.isWhole_whole _) a6 h6 a7 h7 a8 h8 slotMem (Memref.isWhole_whole _) gathMem (Memref.isWhole_whole _) cc0_scratch2 c1 c2)
        pure ⟨⟩
      else do
        pure ⟨⟩
      if c3 : k0_cond3 i v = 1#1 then do
        let v53 : FVec F S512x128 .bf16 ← k0_part1 i expertMem (Memref.isWhole_whole _) countMem (Memref.isWhole_whole _) rowMem (Memref.isWhole_whole _) tokMem (Memref.isWhole_whole _) a6 h6 a7 h7 a8 h8 slotMem (Memref.isWhole_whole _) gathMem (Memref.isWhole_whole _) cc0_scratch2 x v y c1 c3
        let v88 : FVec F S512x128 .bf16 ← k0_part2 i expertMem (Memref.isWhole_whole _) countMem (Memref.isWhole_whole _) rowMem (Memref.isWhole_whole _) tokMem (Memref.isWhole_whole _) a6 h6 a7 h7 a8 h8 slotMem (Memref.isWhole_whole _) gathMem (Memref.isWhole_whole _) cc0_scratch2 y c1 v53
        let v123 : FVec F S512x128 .bf16 ← k0_part3 i expertMem (Memref.isWhole_whole _) countMem (Memref.isWhole_whole _) rowMem (Memref.isWhole_whole _) tokMem (Memref.isWhole_whole _) a6 h6 a7 h7 a8 h8 slotMem (Memref.isWhole_whole _) gathMem (Memref.isWhole_whole _) cc0_scratch2 y c1 v88
        let v158 : FVec F S512x128 .bf16 ← k0_part4 i expertMem (Memref.isWhole_whole _) countMem (Memref.isWhole_whole _) rowMem (Memref.isWhole_whole _) tokMem (Memref.isWhole_whole _) a6 h6 a7 h7 a8 h8 slotMem (Memref.isWhole_whole _) gathMem (Memref.isWhole_whole _) cc0_scratch2 y c1 v123
        let v193 : FVec F S512x128 .bf16 ← k0_part5 i expertMem (Memref.isWhole_whole _) countMem (Memref.isWhole_whole _) rowMem (Memref.isWhole_whole _) tokMem (Memref.isWhole_whole _) a6 h6 a7 h7 a8 h8 slotMem (Memref.isWhole_whole _) gathMem (Memref.isWhole_whole _) cc0_scratch2 y c1 v158
        let v228 : FVec F S512x128 .bf16 ← k0_part6 i expertMem (Memref.isWhole_whole _) countMem (Memref.isWhole_whole _) rowMem (Memref.isWhole_whole _) tokMem (Memref.isWhole_whole _) a6 h6 a7 h7 a8 h8 slotMem (Memref.isWhole_whole _) gathMem (Memref.isWhole_whole _) cc0_scratch2 y c1 v193
        let v229 : Vec F S512x128 .bf16 ← Prog.lift (.load gathMem (Rect.unit (s := S512x4096) ![0, 3712] S512x128.size inb_S512x4096_S512x128_0_3712).toLoadRect (View.loadsAt_vmem h_S512x128))
        Prog.lift (.store gathMem (Rect.unit (s := S512x4096) ![0, 3712] S512x128.size inb_S512x4096_S512x128_0_3712) (k0_pay1 v228) Finset.univ (View.stores_vmem h_S512x128 ((Memref.isWhole_whole cc0_scratch1).storeExact_slice rfl _ packedbf16_S512x4096_S512x128_0_3712) (fun _ => rfl)) (.inl rfl))
        let v233 : Vec F S1x512x128 .f32 ← Prog.lift (.load slotMem (⟨k0_off39 i, S1x512x128.size, ![1, 40, 1], (k0_off39_inb i c1)⟩ : LoadRect S2x20480x128) (View.loadsAt_vmem h_S1x512x128))
        let v236 : Vec F S512x128 .bf16 ← Prog.lift (.load gathMem (Rect.unit (s := S512x4096) ![0, 3840] S512x128.size inb_S512x4096_S512x128_0_3840).toLoadRect (View.loadsAt_vmem h_S512x128))
        Prog.lift (.store gathMem (Rect.unit (s := S512x4096) ![0, 3840] S512x128.size inb_S512x4096_S512x128_0_3840) (k0_pay2 v233) Finset.univ (View.stores_vmem h_S512x128 ((Memref.isWhole_whole cc0_scratch1).storeExact_slice rfl _ packedbf16_S512x4096_S512x128_0_3840) (fun _ => rfl)) (.inl rfl))
        let v240 : Vec F S1x512x128 .f32 ← Prog.lift (.load slotMem (⟨k0_off40 i, S1x512x128.size, ![1, 40, 1], (k0_off40_inb i c1)⟩ : LoadRect S2x20480x128) (View.loadsAt_vmem h_S1x512x128))
        let v243 : Vec F S512x128 .bf16 ← Prog.lift (.load gathMem (Rect.unit (s := S512x4096) ![0, 3968] S512x128.size inb_S512x4096_S512x128_0_3968).toLoadRect (View.loadsAt_vmem h_S512x128))
        Prog.lift (.store gathMem (Rect.unit (s := S512x4096) ![0, 3968] S512x128.size inb_S512x4096_S512x128_0_3968) (k0_pay3 v240) Finset.univ (View.stores_vmem h_S512x128 ((Memref.isWhole_whole cc0_scratch1).storeExact_slice rfl _ packedbf16_S512x4096_S512x128_0_3968) (fun _ => rfl)) (.inl rfl))
        pure ⟨⟩
      else do
        pure ⟨⟩
      pure ⟨⟩
    else do
      pure ⟨⟩
    k) Q) := by
  unfold Slots
  by_cases c1 : k0_cond1 i = 1#1
  · have hj := (cond1_iff i).mp c1
    by_cases c3 : k0_cond3 i v = 1#1
    · have hi := (cond3_iff i v hv).mp c3
      simp only [dif_pos c1, dif_pos c3]
      rw [othSt_free c h (rowOf T) v.toNat (fun hh => absurd hh.1 (by omega)), gathSt_any c h (rowOf T) v.toNat (j := (i 1).val) (fun hh => absurd hh.1 (by omega)),
        gathSt_tile c h (rowOf T) v.toNat (Nat.succ_pos _) hi]
      iintro ⟨T, O, C, D, G⟩ Hk
      iapply (wp_first c h T hT i a6 h6 a7 h7 a8 h8 v c1 hi hj) $$ [T C]
      · isplitl [T]; · iexact T
        iexact C
      iintro T C
      iapply (wp_gather c h T hT i a6 h6 a7 h7 a8 h8 (slotOf (i 0).val) (otherOf (i 0).val) rfl (other_ne _) x v y c1 c3) $$ [T O C D G]
      · isplitl [T]; · iexact T
        isplitl [O]; · iexact O
        isplitl [C]; · iexact C
        isplitl [D]; · iexact D
        iexact G
      iintro T O C D G
      iapply Hk $$ [T] [O] [C] [D] [G]
      · iexact T
      · iexact O
      · iexact C
      · iexact D
      · iexact G
    · have hi := fun hi => c3 ((cond3_iff i v hv).mpr hi)
      have c2 : ¬ k0_cond2 i = 1#1 := fun c2 => hi (by rw [(cond2_iff i).mp c2]; exact hv1)
      simp only [dif_pos c1, dif_neg c2, dif_neg c3]
      rw [curSt_free c h (rowOf T) v.toNat (fun hh => hi hh.2.2), gathSt_any c h (rowOf T) v.toNat (j := (i 1).val) (fun hh => hi hh.2),
        gathSt_any c h (rowOf T) v.toNat (j := (i 1).val + 1) (fun hh => hi hh.2)]
      iintro ⟨T, O, C, D, G⟩ Hk
      iapply Hk $$ [T] [O] [C] [D] [G]
      · iexact T
      · iexact O
      · iexact C
      · iexact D
      · iexact G
  · have hj := fun hj => c1 ((cond1_iff i).mpr hj)
    simp only [dif_neg c1]
    have hg : gathSt c h (rowOf T) v.toNat (i 0).val (i 1).val ⊢ gathSt c h (rowOf T) v.toNat (i 0).val ((i 1).val + 1) := by
      by_cases hi : (i 0).val < v.toNat
      · rw [gathSt_tile c h (rowOf T) v.toNat (Nat.pos_of_ne_zero hj) hi, gathSt_tile c h (rowOf T) v.toNat (Nat.succ_pos _) hi]
      · rw [gathSt_any c h (rowOf T) v.toNat (j := (i 1).val) (fun hh => hi hh.2), gathSt_any c h (rowOf T) v.toNat (j := (i 1).val + 1) (fun hh => hi hh.2)]
    rw [curSt_free c h (rowOf T) v.toNat (fun hh => hj hh.1)]
    iintro ⟨T, O, C, D, G⟩ Hk
    iapply Hk $$ [T] [O] [C] [D] [G]
    · iexact T
    · iexact O
    · iexact C
    · iexact D
    · iapply hg; iexact G

include hT in
/-- The second part: the next tile's copies this step asks for. -/
theorem wp_stage2 (v : BitVec 32) (hv : v.toNat < 73) (hw3 : k0_chk3 i v) {hok3 hok4} {Q : PUnit → sProp 𝕄} {k : Prog (TpuEff nD τ sig (Elt F) Λ₀ .tc) PUnit} :
    iprop(tablePt c rowMem T ∗ othSt c h (rowOf T) v.toNat (i 0).val (i 1).val)
      ⊢ iprop((tablePt c rowMem T -∗ othSt c h (rowOf T) v.toNat (i 0).val ((i 1).val + 1)
            -∗ wp frame (wpE (defs₀ (F := F)) Variants.none (c : Thread nD τ) none) Set.univ k Q)
      -∗ wp frame (wpE (defs₀ (F := F)) Variants.none (c : Thread nD τ) none) Set.univ
        (if c4 : k0_cond4 i v = 1#1 then
          (Scf.Loop.for (k0_t3_loop i) hok3 ⟨⟩ (k0_t3_body i expertMem (Memref.isWhole_whole _) countMem (Memref.isWhole_whole _) rowMem (Memref.isWhole_whole _) tokMem (Memref.isWhole_whole _)
            a6 h6 a7 h7 a8 h8 slotMem (Memref.isWhole_whole _) gathMem (Memref.isWhole_whole _) cc0_scratch2 v hw3 c4) >>= fun _ =>
          Scf.Loop.for (k0_t4_loop i) hok4 ⟨⟩ (k0_t4_body i expertMem (Memref.isWhole_whole _) countMem (Memref.isWhole_whole _) rowMem (Memref.isWhole_whole _) tokMem (Memref.isWhole_whole _)
            a6 h6 a7 h7 a8 h8 slotMem (Memref.isWhole_whole _) gathMem (Memref.isWhole_whole _) cc0_scratch2 v c4) >>= fun _ => k)
        else k) Q) := by
  have h4 : ∀ (c4 : k0_cond4 i v = 1#1), wp frame (wpE (defs₀ (F := F)) Variants.none (c : Thread nD τ) none) Set.univ k Q
      ⊢ wp frame (wpE (defs₀ (F := F)) Variants.none (c : Thread nD τ) none) Set.univ (Scf.Loop.for (k0_t4_loop i) hok4 ⟨⟩ (k0_t4_body i expertMem (Memref.isWhole_whole _) countMem (Memref.isWhole_whole _) rowMem (Memref.isWhole_whole _) tokMem (Memref.isWhole_whole _)
            a6 h6 a7 h7 a8 h8 slotMem (Memref.isWhole_whole _) gathMem (Memref.isWhole_whole _) cc0_scratch2 v c4) >>= fun _ => k) Q := by
    intro c4
    have hb := Scf.wp_for_bind frame (wpE (defs₀ (F := F)) Variants.none (c : Thread nD τ) none) Set.univ _ _ _ hok4 (⟨⟩ : Unit)
      (k0_t4_body i expertMem (Memref.isWhole_whole _) countMem (Memref.isWhole_whole _) rowMem (Memref.isWhole_whole _) tokMem (Memref.isWhole_whole _)
            a6 h6 a7 h7 a8 h8 slotMem (Memref.isWhole_whole _) gathMem (Memref.isWhole_whole _) cc0_scratch2 v c4)
      (fun _ _ => (iprop(emp) : sProp 𝕄)) (fun k => absurd (lt_of_lt_of_eq k.isLt (trips4 i)) (Nat.not_lt_zero _)) (kk := fun _ => k) (Q := Q)
    iintro H
    iapply hb $$ []
    · iempintro
    iintro %acc He
    iexact H
  unfold othSt
  by_cases c4 : k0_cond4 i v = 1#1
  · have hi := (cond4_iff i v hv).mp c4
    rw [dif_pos c4, if_pos (show 0 < (i 1).val + 1 ∧ (i 0).val + 1 < v.toNat from ⟨by omega, hi⟩)]
    have hfly : (if 0 < (i 1).val ∧ (i 0).val + 1 < v.toNat then fly c h (rowOf T) (otherOf (i 0).val) ((i 0).val + 1) (asked (i 1).val) else free c h (otherOf (i 0).val))
        ⊢ |={Set.univ}=> fly c h (rowOf T) (otherOf (i 0).val) ((i 0).val + 1) (asked (i 1).val) := by
      by_cases hj : 0 < (i 1).val
      · rw [if_pos ⟨hj, hi⟩]
        iintro H
        imodintro
        iexact H
      · rw [if_neg (fun hh => hj hh.1), show (i 1).val = 0 by omega]
        exact fly_start c h (rowOf T) _ _
    iintro ⟨T, D⟩ Hk
    ihave H := hfly $$ D
    imod H
    iapply (wp_t3 c h T hT i a6 h6 a7 h7 a8 h8 v hv hw3 c4) $$ [T H]
    · isplitl [T]; · iexact T
      iexact H
    iintro ⟨T, H⟩
    iapply (h4 c4)
    iapply Hk $$ [T] [H]
    · iexact T
    · iexact H
  · have hi := fun hi => c4 ((cond4_iff i v hv).mpr hi)
    rw [dif_neg c4, if_neg (fun hh => hi hh.2), if_neg (fun hh => hi hh.2)]
    iintro ⟨T, D⟩ Hk
    iapply Hk $$ [T] [D]
    · iexact T
    · iexact D

/-- What the body leaves in the output's buffer: of the tile's operand and the tile's expert's two weight blocks, the gated
    product, at a tile the count includes, and zeros at any other. -/
def upOut (n i : ℕ) (M : FVec F S512x4096 .bf16) (x6 x7 : Vec F S1x4096x512 .bf16) : Vec F S512x512 .bf16 :=
  if i < n then k0_pay4 M x6 x7 else k0_pay5

/-- The count's word. -/
def countOf (N : Vec F S1 .i32) : BitVec 32 := N (ix1 0)

/-- A load of the count's table. -/
theorem wp_count (N : Vec F S1 .i32) (hb) {α : Type} {Q : α → sProp 𝕄}
    {k : BitVec 32 → Prog (TpuEff nD τ sig (Elt F) Λ₀ .tc) α} {h1 h2} :
    tablePt c countMem N ⊢ iprop((tablePt c countMem N -∗
        wp frame (wpE (defs₀ (F := F)) Variants.none (c : Thread nD τ) none) Set.univ (k (countOf N)) Q)
      -∗ wp frame (wpE (defs₀ (F := F)) Variants.none (c : Thread nD τ) none) Set.univ
        (smemLoad (p := (c : Thread nD τ).2) countMem (Rect.unit (s := S1) ![0] S1.size hb) h1 h2 >>= k) Q) := by
  have e : countMem.view.readAt (Elt F) (Rect.unit (s := S1) ![0] S1.size hb).toLoadRect N (Shape.Idx.first (h1.symm ▸ Nat.one_pos)) = countOf N :=
    congrArg N (funext fun a => match a with | ⟨0, _⟩ => Subsingleton.elim (α := Fin 1) _ _)
  have hld : tablePt c countMem N ⊢ iprop((tablePt c countMem N -∗ wp frame (wpE (defs₀ (F := F)) Variants.none (c : Thread nD τ) none) Set.univ
        (k (countMem.view.readAt (Elt F) (Rect.unit (s := S1) ![0] S1.size hb).toLoadRect N (Shape.Idx.first (h1.symm ▸ Nat.one_pos)))) Q)
      -∗ wp frame (wpE (defs₀ (F := F)) Variants.none (c : Thread nD τ) none) Set.univ
        (.op (.load (p := (c : Thread nD τ).2) countMem (Rect.unit (s := S1) ![0] S1.size hb).toLoadRect (View.loadsAt_rect (View.loads_smem_one h2 h1)))
          fun f => k (f (Shape.Idx.first (h1.symm ▸ Nat.one_pos)))) Q) :=
    wp_load Variants.none (c : Thread nD τ) none Set.univ (defs := defs₀ (F := F)) (m := countMem) (q := fullShare.right) (f := N)
      (k := fun f => k (f (Shape.Idx.first (h1.symm ▸ Nat.one_pos)))) (Finset.subset_univ _)
  rw [e] at hld
  exact hld

set_option maxHeartbeats 1000000 in
include hT in
/-- The body at a point: from what the step before left, the output's block and what the next step finds. -/
theorem sound_kernel (N : Vec F S1 .i32) (hv : (countOf N).toNat < 73) (hv1 : 0 < (countOf N).toNat)
    (x6 x7 : Vec F S1x4096x512 .bf16) (K : PUnit → sProp 𝕄) :
    iprop(owns (c : Thread nD τ) a6 fullShare x6 ∗ owns (c : Thread nD τ) a7 fullShare x7 ∗ (∃ d, owns (c : Thread nD τ) a8 fullShare d)
        ∗ tablePt c countMem N ∗ tablePt c rowMem T ∗ (∃ W, owes (c : Thread nD τ) 0 W) ∗ Slots c h (rowOf T) (countOf N).toNat (i 0).val (i 1).val
        ∗ (iprop(owns (c : Thread nD τ) a6 fullShare x6 ∗ owns (c : Thread nD τ) a7 fullShare x7
            ∗ owns (c : Thread nD τ) a8 fullShare (upOut (countOf N).toNat (i 0).val (tileOf c h (rowOf T) (i 0).val) x6 x7)
            ∗ tablePt c countMem N ∗ tablePt c rowMem T ∗ (∃ W, owes (c : Thread nD τ) 0 W)
            ∗ free c h (slotOf (i 0).val) ∗ othSt c h (rowOf T) (countOf N).toNat (i 0).val ((i 1).val + 1)
            ∗ gathSt c h (rowOf T) (countOf N).toNat (i 0).val ((i 1).val + 1)) -∗ K ⟨⟩))
      ⊢ wp frame (wpE (defs₀ (F := F)) Variants.none c none) Set.univ
          (cc0_moe_swiglu i expertMem (Memref.isWhole_whole _) countMem (Memref.isWhole_whole _) rowMem (Memref.isWhole_whole _) tokMem (Memref.isWhole_whole _)
            a6 h6 a7 h7 a8 h8 slotMem (Memref.isWhole_whole _) gathMem (Memref.isWhole_whole _) cc0_scratch2) K := by
  simp only [cc0_moe_swiglu_eq_skeleton]; unfold cc0_moe_swiglu_skel
  iintro ⟨H6, H7, H8, N, T, O, S, Hk⟩
  iapply (wp_count c N _) $$ [N]
  · iexact N
  iintro N
  iapply wp_assume Variants.none (c : Thread nD τ) none Set.univ (chk3_of i (countOf N) hv)
  iapply (wp_stage1 c h T hT i a6 h6 a7 h7 a8 h8 _ _ _ hv hv1) $$ [T O S]
  · isplitl [T]; · iexact T
    isplitl [O]; · iexact O
    iexact S
  iintro T O C D G
  iapply (wp_stage2 c h T hT i a6 h6 a7 h7 a8 h8 _ hv (chk3_of i (countOf N) hv)) $$ [T D]
  · isplitl [T]; · iexact T
    iexact D
  iintro T D
  unfold owns
  icases H6 with ⟨%f6, %hf6, H6⟩
  icases H7 with ⟨%f7, %hf7, H7⟩
  icases H8 with ⟨%d8, %f8, -, H8⟩
  subst hf6 hf7
  by_cases hi : (i 0).val < (countOf N).toNat
  · have c5 : k0_cond5 i (countOf N) = 1#1 := (cond3_iff i _ hv).mpr hi
    have c6 : ¬ k0_cond6 i (countOf N) = 1#1 := fun c6 => (cond6_iff i _ hv).mp c6 hi
    ihave G := (show gathSt c h (rowOf T) (countOf N).toNat (i 0).val ((i 1).val + 1) ⊢ gathPt c (tileOf c h (rowOf T) (i 0).val) from
      Entails.of_eq (gathSt_tile c h (rowOf T) _ (Nat.succ_pos _) hi)) $$ G
    simp only [dif_pos c5, dif_neg c6]
    sl_exec
    sl_step
    iapply Hk
    isplitl [H6]
    · iexists f6; isplitr; · ipureintro; rfl
      iexact H6
    isplitl [H7]
    · iexists f7; isplitr; · ipureintro; rfl
      iexact H7
    isplitl [H8]
    · iexists _; isplitr
      swap; · iexact H8
      ipureintro
      refine (View.read_writes_full _ _ _ _ _).trans ?_
      unfold upOut sound_kernel.sl.v15
      rw [if_pos hi, View.readAt_full, View.readAt_full, View.readAt_full]
      rfl
    isplitl [N]; · iexact N
    isplitl [T]; · iexact T
    isplitl [O]; · iexact O
    isplitl [C]; · iexact C
    isplitl [D]; · iexact D
    iapply (Entails.of_eq (gathSt_tile c h (rowOf T) _ (Nat.succ_pos _) hi).symm)
    iexact G
  · have c5 : ¬ k0_cond5 i (countOf N) = 1#1 := fun c5 => hi ((cond3_iff i _ hv).mp c5)
    have c6 : k0_cond6 i (countOf N) = 1#1 := (cond6_iff i _ hv).mpr hi
    simp only [dif_neg c5, dif_pos c6]
    sl_exec
    sl_step
    iapply Hk
    isplitl [H6]
    · iexists f6; isplitr; · ipureintro; rfl
      iexact H6
    isplitl [H7]
    · iexists f7; isplitr; · ipureintro; rfl
      iexact H7
    isplitl [H8]
    · iexists _; isplitr
      swap; · iexact H8
      ipureintro
      refine (View.read_writes_full _ _ _ _ _).trans ?_
      unfold upOut
      rw [if_neg hi]
    isplitl [N]; · iexact N
    isplitl [T]; · iexact T
    isplitl [O]; · iexact O
    isplitl [C]; · iexact C
    isplitl [D]; · iexact D
    iexact G

end Point

end Cert.MoeUpBody

end
-- ==== Proof.MoeUpRun.lean ====
/-
  The experts' first products: the run of the whole call from its body, the tables read once at the start.
-/
module

public import proofs.«01_k».proof.Proof.MoeUpPoint

@[expose] public section

set_option maxRecDepth 16384

noncomputable section

namespace Cert.MoeUpBody

open Cert.MoeUpIdeal Cert.MoeUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf UD)

variable {F : FTy → Type} [FloatOps F]

local notation "𝕄" => MT nD τ sig Unit (Elt F) ℕ (UD sig nD τ) ℕ

section Whole

variable (c : Dev nD) (h : Buf (Elt F) (tokMem.view.loc (c : Thread nD τ))) (rn : ℕ → ℕ)

/-- All pieces, of whose contents nothing is said, are the whole landing buffer at some contents, and all the shares. -/
theorem whole_of_items : bigSep Finset.univ (fun b : Fin 1024 => item c h b.val)
    ⊢ iprop((∃ g, slotMem.view.loc (c : Thread nD τ) ↦{fullShare} g) ∗ toks c h) := by
  rw [bigSep_sep']
  refine sep_mono ?_ .rfl
  have hne : Nonempty (Buf (Elt F) (slotMem.view.loc (c : Thread nD τ))) := ⟨fun _ => Classical.choice inferInstance⟩
  refine (bigSep_exists_pi Finset.univ (fun (b : Fin 1024) (g : Buf (Elt F) (slotMem.view.loc (c : Thread nD τ))) => piecePt c b.val g)).trans ?_
  iintro ⟨%fs, H⟩
  ihave H := (pointsTo_biUnion_join Finset.univ (fun b : Fin 1024 => piece b.val) fs (fs 0) (fun b _ b' _ hn => pieces_disjoint b b' hn)) $$ H
  icases H with ⟨%g, %hg, H⟩
  iexists g
  rw [pieces_cover]
  iexact H

/-- Both slots free are both counters at zero, the landing buffer at some contents and all the shares. -/
theorem unfreed (s s' : Fin 2) (hss : s' ≠ s) : iprop(free c h s ∗ free c h s')
    ⊢ iprop(semVal ((c : Thread nD τ), .dma (slotSem s)) 0 ∗ semVal ((c : Thread nD τ), .dma (slotSem s')) 0
        ∗ (∃ g, slotMem.view.loc (c : Thread nD τ) ↦{fullShare} g) ∗ toks c h) := by
  unfold free
  iintro ⟨⟨S, I⟩, S', I'⟩
  isplitl [S]; · iexact S
  isplitl [S']; · iexact S'
  iapply (whole_of_items c h)
  iapply (both_slots (fun b : Fin 1024 => item c h b.val) s s' hss).1
  isplitl [I]; · iexact I
  iexact I'

/-- The tokens whole are 1024 shares and what is left over. -/
theorem tokens_split : (tokMem.view.loc (c : Thread nD τ) ↦{fullShare} h : sProp 𝕄)
    ⊣⊢ iprop((tokMem.view.loc (c : Thread nD τ) ↦{Transfers.shareDrop fullShare 1024} h) ∗ toks c h) := by
  have e : (toks c h : sProp 𝕄) = bigSep (Finset.range 1024) (fun b => tokPt c h b) :=
    Ring.bigSep_fin_eq_range 1024 _ _ fun _ _ => rfl
  rw [e]
  exact Transfers.pointsTo_toks_range fullShare 1024

/-- What the launch gives is what the first point finds. -/
theorem slots_start (nt : ℕ) (g : Buf (Elt F) (slotMem.view.loc (c : Thread nD τ))) :
    iprop(semVal ((c : Thread nD τ), .dma (slotSem 0)) 0 ∗ semVal ((c : Thread nD τ), .dma (slotSem 1)) 0
        ∗ (slotMem.view.loc (c : Thread nD τ) ↦{fullShare} g) ∗ toks c h ∗ (∃ f, gathPt c f))
      ⊢ Slots c h rn nt 0 0 := by
  unfold Slots
  rw [curSt_free c h rn nt (i := 0) (j := 0) (fun hh => Nat.lt_irrefl 0 hh.2.1), othSt_free c h rn nt (i := 0) (j := 0) (fun hh => Nat.lt_irrefl 0 hh.1),
    gathSt_any c h rn nt (i := 0) (j := 0) (fun hh => Nat.lt_irrefl 0 hh.1)]
  iintro ⟨S, S', G, K, A⟩
  ihave H := (freed c h 0 1 (by decide) g) $$ [S S' G K]
  · isplitl [S]; · iexact S
    isplitl [S']; · iexact S'
    isplitl [G]; · iexact G
    iexact K
  icases H with ⟨H, H'⟩
  isplitl [H]; · iexact H
  isplitl [H']; · iexact H'
  iexact A

/-- What the last point leaves is what the launch takes back. -/
theorem slots_end (nt : ℕ) (hn : nt ≤ 72) : Slots c h rn nt 72 0
    ⊢ iprop(semVal ((c : Thread nD τ), .dma (slotSem 0)) 0 ∗ semVal ((c : Thread nD τ), .dma (slotSem 1)) 0
        ∗ (∃ g, slotMem.view.loc (c : Thread nD τ) ↦{fullShare} g) ∗ toks c h ∗ (∃ f, gathPt c f)) := by
  unfold Slots
  rw [curSt_free c h rn nt (i := 72) (j := 0) (fun hh => absurd hh.2.2 (by omega)), othSt_free c h rn nt (i := 72) (j := 0) (fun hh => Nat.lt_irrefl 0 hh.1),
    gathSt_any c h rn nt (i := 72) (j := 0) (fun hh => Nat.lt_irrefl 0 hh.1)]
  iintro ⟨H, H', A⟩
  ihave H := (unfreed c h 0 1 (by decide)) $$ [H H']
  · isplitl [H]; · iexact H
    iexact H'
  icases H with ⟨S, S', G, K⟩
  isplitl [S]; · iexact S
  isplitl [S']; · iexact S'
  isplitl [G]; · iexact G
  isplitl [K]; · iexact K
  iexact A

end Whole

variable (m : (ℓ : Loc nD τ sig) → Buf (Elt F) ℓ) (ρ : Dev nD → PrngReg)

/-! ## The launch memory and the tables -/

/-- A core's buffers when the call begins: as launched. -/
abbrev V (c : Dev nD) (b : Ref sig .tc) : Buf (Elt F) ((c : Thread nD τ).loc b) := m ((c : Thread nD τ).loc b)

/-- The program up to its call: the call alone. -/
theorem hmain (𝒱₀ : Variants) :
    Pipeline.HMainP (Ix := Unit) (Name := ℕ) (U := UD sig nD τ) (Lvl := ℕ) pcfgs 0 defs₀ 𝒱₀ m (main (F := F)) (V m) :=
  Pipeline.hmainP_region pcfgs 0 defs₀ 𝒱₀ m main fun c => (main_chain c).trans rfl

/-- The contents of the three tables: the tiles' experts, the number of tiles, and the slots' tokens. -/
def tbl : pre0.Contents (Elt F) := fun j => V m (0 : Dev nD) (pre0.ref j)

/-- There is one device, so every device's tables hold these contents. -/
theorem V_pre (c : Dev nD) (j : Fin 3) : V m c (pre0.ref j) = tbl m j := by
  obtain rfl : c = 0 := Subsingleton.elim _ _
  rfl

/-- The number of tiles. -/
abbrev nTiles : ℕ := (countOf (tbl m 1)).toNat
/-- Slot `n`'s token. -/
abbrev tokenOf : ℕ → ℕ := rowOf (tbl m 2)

/-- The blocks the tables choose lie inside their arrays, every slot's token is one there is, and so is every tile. -/
abbrev Ok : Prop := ok0 (F := F) (tbl m) ∧ (∀ x : S36864.Idx, (tbl m 2 x : BitVec 32).toNat < 16384) ∧ nTiles m < 73 ∧ 0 < nTiles m

abbrev adm (hO : Ok m) : (pcfg0 (F := F)).Adm := ⟨tbl m, hO.1⟩
/-- The pipeline at these tables. -/
abbrev cfgM (hO : Ok m) : Pipeline.Cfg sig Λ₀ := cfg0 (adm m hO)

/-- The tables as the body holds them. -/
theorem PhiT_eq (c : Dev nD) :
    (Pipeline.ΦT pre0 (tbl m) c : sProp 𝕄) = iprop(tablePt c expertMem (tbl m 0) ∗ tablePt c countMem (tbl m 1) ∗ tablePt c rowMem (tbl m 2)) := by
  unfold Pipeline.ΦT Pipeline.prefHeld
  rw [show (Finset.univ : Finset (Fin 3)) = insert 0 (insert 1 {2}) from by decide, bigSep_insert (by decide), bigSep_insert (by decide), bigSep_singleton]
  rfl

/-! ## The windows' blocks -/

/-- Window `w`'s block at point `t`, read off its array as launched. -/
def iblk (hO : Ok m) (c : Dev nD) (w : Fin 3) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

/-- What the body leaves in the output's buffer at point `t`. -/
def outBlk (hO : Ok m) (c : Dev nD) (t : Fin (cfgM m hO).N) : Vec F S512x512 .bf16 :=
  upOut (nTiles m) (grid0.coords t 0).val (tileOf c (V m c main_arg0) (tokenOf m) (grid0.coords t 0).val) (iblk m hO c 0 t) (iblk m hO c 1 t)

/-- What is held between points besides the windows: the two slots and the gathered tile as point `p` finds them, what is
    left of the tokens, the generator's register and the tables. -/
def Inv (c : Dev nD) (p : ℕ) : sProp 𝕄 :=
  iprop(Slots c (V m c main_arg0) (tokenOf m) (nTiles m) (p / 6) (p % 6)
    ∗ (tokMem.view.loc (c : Thread nD τ) ↦{Transfers.shareDrop fullShare 1024} V m c main_arg0)
    ∗ (∃ r, prngReg c r) ∗ Pipeline.ΦT pre0 (tbl m) c)

/-- The pipeline's proof data: the arrays as launched, the inputs' buffers at their blocks and the output's as the body
    leaves it. -/
def dats (hO : Ok m) (_ : Fin 1) (c : Dev nD) : Dat τ (Elt F) Unit ℕ (UD sig nD τ) ℕ (cfgM m hO) c where
  A w := V m c (Pipeline.arrRef spec0 w)
  after w t := match w with
    | ⟨0, _⟩ => iblk m hO c 0 t
    | ⟨1, _⟩ => iblk m hO c 1 t
    | ⟨2, _⟩ => outBlk m hO c t
  Φ p := Inv m c p.val
  q _ := fullShare
  owed _ := 0

theorem A_eq (hO : Ok m) (c : Dev nD) (w : Fin (cfgM m hO).W) : (dats m hO 0 c).A w = V m c (Pipeline.arrRef spec0 w) := by
  dsimp only [dats]
theorem after_0 (hO : Ok m) (c : Dev nD) (t : Fin (cfgM m hO).N) : (dats m hO 0 c).after 0 t = iblk m hO c 0 t := by
  dsimp only [dats]; rfl
theorem after_1 (hO : Ok m) (c : Dev nD) (t : Fin (cfgM m hO).N) : (dats m hO 0 c).after 1 t = iblk m hO c 1 t := by
  dsimp only [dats]; rfl
theorem after_2 (hO : Ok m) (c : Dev nD) (t : Fin (cfgM m hO).N) : (dats m hO 0 c).after 2 t = outBlk m hO c t := by
  dsimp only [dats]; rfl

/-- The first weights' buffer holds its block at every point. -/
theorem before_0 (hO : Ok m) (c : Dev nD) (t : Fin (cfgM m hO).N) (d) : (dats m hO 0 c).before 0 t d = iblk m hO c 0 t :=
  ((dats m hO 0 c).before_in_eq_fetched 0 rfl (fun _ => rfl) (fun _ _ _ => rfl)
      (fun t => by rw [after_0]; unfold Dat.blockOf iblk; rw [A_eq]; rfl) t d).trans
    (by unfold Dat.fetched Dat.blockOf iblk; rw [A_eq]; rfl)
/-- The second weights' buffer holds its block at every point. -/
theorem before_1 (hO : Ok m) (c : Dev nD) (t : Fin (cfgM m hO).N) (d) : (dats m hO 0 c).before 1 t d = iblk m hO c 1 t :=
  ((dats m hO 0 c).before_in_eq_fetched 1 rfl (fun _ => rfl) (fun _ _ _ => rfl)
      (fun t => by rw [after_1]; unfold Dat.blockOf iblk; rw [A_eq]; rfl) t d).trans
    (by unfold Dat.fetched Dat.blockOf iblk; rw [A_eq]; rfl)

/-- The body stores its output at every point. -/
theorem idle_2 (hO : Ok m) (i : grid0.Coords) : (cfgM m hO).idle 2 i = false := by
  have e : (tbl m).atD 1 ![0] = countOf (tbl m 1) := by
    unfold countOf Pipeline.Prefetch.Contents.atD
    rw [dif_pos (by decide)]
    exact congrArg (tbl m 1) (funext fun a => match a with | ⟨0, _⟩ => Subsingleton.elim (α := Fin 1) _ _)
  show (!(k0_cond5 i ((tbl m).atD 1 ![0]) == 1#1) && !(k0_cond6 i ((tbl m).atD 1 ![0]) == 1#1)) = false
  rw [e, cond5_eq]
  by_cases h1 : (i 0).val < (countOf (tbl m 1)).toNat
  · rw [(cond3_iff i _ hO.2.2.1).mpr h1]; rfl
  · rw [(cond6_iff i _ hO.2.2.1).mpr h1]
    exact Bool.and_false _

/-! ## The steps of the grid -/

/-- The tile and the step of point `t`. -/
theorem coords_tile (t : Fin grid0.N) : (grid0.coords t 0).val = t.val / 6 ∧ (grid0.coords t 1).val = t.val % 6 := by
  have ht : t.val < 432 := lt_of_lt_of_eq t.isLt N_0
  refine ⟨?_, ?_⟩
  · rw [Pipeline.Grid.coords_val t 0 (S := 6) (B := 72) (by decide) (by decide), Nat.mod_eq_of_lt (by omega)]
  · rw [Pipeline.Grid.coords_val t 1 (S := 1) (B := 6) (by decide) (by decide), Nat.div_one]

/-- What a point leaves is what the next finds. -/
theorem slots_next (c : Dev nD) (h : Buf (Elt F) (tokMem.view.loc (c : Thread nD τ))) (rn : ℕ → ℕ) (nt : ℕ) (p : ℕ) :
    iprop(free c h (slotOf (p / 6)) ∗ othSt c h rn nt (p / 6) (p % 6 + 1) ∗ gathSt c h rn nt (p / 6) (p % 6 + 1))
      ⊢ Slots c h rn nt ((p + 1) / 6) ((p + 1) % 6) := by
  by_cases hp : p % 6 = 5
  · rw [show (p + 1) / 6 = p / 6 + 1 by omega, show (p + 1) % 6 = 0 by omega, hp]
    exact slots_tile c h rn nt (p / 6)
  · rw [show (p + 1) / 6 = p / 6 by omega, show (p + 1) % 6 = p % 6 + 1 by omega]
    exact slots_step c h rn nt (p / 6) (p % 6)

/-! ## The body at a point -/

abbrev st_0 (hO : Ok m) (t : Fin (cfgM m hO).N) := ((cfgM m hO).win 0).stage ((cfgM m hO).slots t 0)
abbrev st_1 (hO : Ok m) (t : Fin (cfgM m hO).N) := ((cfgM m hO).win 1).stage ((cfgM m hO).slots t 1)
abbrev st_2 (hO : Ok m) (t : Fin (cfgM m hO).N) := ((cfgM m hO).win 2).stage ((cfgM m hO).slots t 2)

/-- The body as the pipeline calls it at point `t`. -/
abbrev bodyAt (hO : Ok m) (t : Fin (cfgM m hO).N) : Prog (TpuEff nD τ sig (Elt F) Λ₀ .tc) PUnit :=
  cc0_moe_swiglu (grid0.coords t) expertMem (Memref.isWhole_whole _) countMem (Memref.isWhole_whole _)
    rowMem (Memref.isWhole_whole _) tokMem (Memref.isWhole_whole _)
    (spec0_0.stage ((cfgM m hO).slots t 0)) (hstage0_0 (((cfgM m hO).slots t 0).cast nbuf0_0))
    (spec0_1.stage ((cfgM m hO).slots t 1)) (hstage0_1 (((cfgM m hO).slots t 1).cast nbuf0_1))
    (spec0_2.stage ((cfgM m hO).slots t 2)) (hstage0_2 (((cfgM m hO).slots t 2).cast nbuf0_2))
    slotMem (Memref.isWhole_whole _) gathMem (Memref.isWhole_whole _) cc0_scratch2

/-- What the body is called with at point `t`, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (st_0 m hO t) fullShare ((dats m hO 0 c).before 0 t d))
    ∗ (∃ d, owns (c : Thread nD τ) (st_1 m hO t) fullShare ((dats m hO 0 c).before 1 t d))
    ∗ (∃ d, owns (c : Thread nD τ) (st_2 m hO t) fullShare ((dats m hO 0 c).before 2 t d)))

/-- and what it gives back. -/
def bodyPost (hO : Ok m) (c : Dev nD) (t : Fin (cfgM m hO).N) : sProp 𝕄 :=
  iprop((dats m hO 0 c).Φ t.succ ∗ (dats m hO 0 c).owesAt () t.succ
    ∗ owns (c : Thread nD τ) (st_0 m hO t) fullShare ((dats m hO 0 c).after 0 t)
    ∗ owns (c : Thread nD τ) (st_1 m hO t) fullShare ((dats m hO 0 c).after 1 t)
    ∗ owns (c : Thread nD τ) (st_2 m hO t) fullShare ((dats m hO 0 c).after 2 t))

theorem sound_body (hO : Ok m) (c : Dev nD) (t : Fin (cfgM m hO).N) :
    bodyPre m hO c t ⊢ wp frame (wpE (defs₀ (F := F)) Variants.none c none) Set.univ (bodyAt m hO t) (fun _ => bodyPost m hO c t) := by
  unfold bodyPre bodyPost
  simp only [before_0, before_1]
  rw [show (dats m hO 0 c).Φ t.succ = Inv m c (t.val + 1) from rfl,
    show (dats m hO 0 c).Φ t.castSucc = Inv m c t.val from rfl, after_0, after_1, after_2]
  unfold Inv
  rw [PhiT_eq, ← (coords_tile t).1, ← (coords_tile t).2]
  have hnext := slots_next c (V m c main_arg0) (tokenOf m) (nTiles m) t.val
  rw [← (coords_tile t).1, ← (coords_tile t).2] at hnext
  iintro ⟨⟨S, R, Hp, TE, TN, TT⟩, Ho, ⟨%d0, H0⟩, ⟨%d1, H1⟩, ⟨%d2, H2⟩⟩
  icases Ho with ⟨%W, -, Ho⟩
  iapply (sound_kernel c (V m c main_arg0) (tbl m 2) hO.2.1 (grid0.coords t) _ _ _ _ _ _ (tbl m 1) hO.2.2.1 hO.2.2.2 (iblk m hO c 0 t) (iblk m hO c 1 t) _)
  isplitl [H0]; · iexact H0
  isplitl [H1]; · iexact H1
  isplitl [H2]; · iexists _; iexact H2
  isplitl [TN]; · iexact TN
  isplitl [TT]; · iexact TT
  isplitl [Ho]; · iexists W; iexact Ho
  isplitl [S]; · iexact S
  iintro ⟨H0, H1, H2, TN, TT, ⟨%W', Ho⟩, C, D, G⟩
  isplitl [C D G R Hp TE TN TT]
  · isplitl [C D G]
    · iapply hnext
      isplitl [C]; · iexact C
      isplitl [D]; · iexact D
      iexact G
    isplitl [R]; · iexact R
    isplitl [Hp]; · iexact Hp
    isplitl [TE]; · iexact TE
    isplitl [TN]; · iexact TN
    iexact TT
  isplitl [Ho]
  · iexists W'
    isplitr; · ipureintro; exact fun _ _ => Or.inl trivial
    iexact Ho
  isplitl [H0]; · iexact H0
  isplitl [H1]; · iexact H1
  iexact H2

/-- The body's row at point `t`. -/
theorem defs₀_row (hO : Ok m) (t : Fin (cfgM m hO).N) :
    defs₀ (F := F) .tc (cfgM m hO).body ((cfgM m hO).bodyArgs t ((cfgM m hO).slots t)) = bodyAt m hO t := by
  unfold defs₀
  rw [Defs.onTc_tc]

/-- What is owed where a window may be idle is, where it is not, what the body leaves. -/
theorem live_of (b : Bool) (hb : b = false) (P Q : sProp 𝕄) :
    P ⊢ (match (generalizing := false) b with
      | true => Q
      | false => P) := by
  subst hb
  exact Entails.rfl

theorem body_obligation (hO : Ok m) (c : Dev nD) :
    BodyObligation (dats (F := F) m hO 0 c) (defs₀ (F := F)) Variants.none () Set.univ := fun t => by
  rw [bigSep_W0, bigSep_W0, defs₀_row]
  refine triple_restated (sound_body m hO c t) rfl .rfl fun _ => sep_mono .rfl (sep_mono .rfl (sep_mono .rfl (sep_mono .rfl ?_)))
  exact live_of (F := F) ((cfgM m hO).idle 2 ((cfgM m hO).grid.coords t)) (idle_2 m hO (grid0.coords t))
    (owns (c : Thread nD τ) (st_2 m hO t) fullShare ((dats m hO 0 c).after 2 t))
    (match ((cfgM m hO).win 2).flush t with
      | false => iprop(∃ d, owns (c : Thread nD τ) (st_2 m hO t) fullShare ((dats m hO 0 c).before 2 t d))
      | true => owns (c : Thread nD τ) (st_2 m hO t) fullShare ((dats m hO 0 c).after 2 t))

/-! ## The run -/

/-- The two slots' semaphores. -/
def ownSem (s : Fin 2) : SemLoc sig := .dma (slotSem s)

theorem ownSem_facts : Pipeline.OwnSemFacts spec0 ownSem := by decide

/-- The tokens are no window's array and no table. -/
theorem held_rest : ({main_arg0} : Finset (Ref sig .tc)) ⊆ Pipeline.restRefsP sig pre0 spec0 := by decide

/-- The two counters at zero. -/
theorem ownSems_eq (c : Dev nD) : (Pipeline.ownSems0 (τ := τ) ownSem c : sProp 𝕄)
    = iprop(semVal ((c : Thread nD τ), .dma (slotSem 0)) 0 ∗ semVal ((c : Thread nD τ), .dma (slotSem 1)) 0) :=
  Pipeline.ownSems0_eq_of_list c ownSem [0, 1] (by decide) (by decide)

/-- The launch gives what the first point finds. -/
theorem held_start (c : Dev nD) :
    iprop(Pipeline.ΦD ownSem spec0 {main_arg0} (V m) c ∗ Pipeline.ΦT pre0 (tbl m) c) ⊢ Inv m c 0 := by
  rw [Pipeline.ΦD_eq, scopedRest0_eq, ownSems_eq, bigSep_singleton]
  unfold Inv
  iintro ⟨⟨⟨⟨%g, G⟩, A⟩, Hp, ⟨S, S'⟩, K⟩, T⟩
  ihave K := (tokens_split c (V m c main_arg0)).1 $$ K
  icases K with ⟨R, K⟩
  isplitl [S S' G K A]
  · iapply (slots_start c (V m c main_arg0) (tokenOf m) (nTiles m) g)
    isplitl [S]; · iexact S
    isplitl [S']; · iexact S'
    isplitl [G]; · iexact G
    isplitl [K]; · iexact K
    iexact A
  isplitl [R]; · iexact R
  isplitl [Hp]; · iexact Hp
  iexact T

/-- What the last point leaves gives the launch back what it lent. -/
theorem held_end (hO : Ok m) (c : Dev nD) : Inv m c 432 ⊢ Pipeline.ΦD ownSem spec0 {main_arg0} (V m) c := by
  rw [Pipeline.ΦD_eq, scopedRest0_eq, ownSems_eq, bigSep_singleton]
  unfold Inv
  iintro ⟨S, R, Hp, -⟩
  ihave S := (slots_end c (V m c main_arg0) (tokenOf m) (nTiles m) (by have := hO.2.2.1; omega)) $$ S
  icases S with ⟨S, S', G, K, A⟩
  isplitl [G A]
  · isplitl [G]; · iexact G
    iexact A
  isplitl [Hp]; · iexact Hp
  isplitl [S S']
  · isplitl [S]; · iexact S
    iexact S'
  iapply (tokens_split c (V m c main_arg0)).2
  isplitl [R]; · iexact R
  iexact K

set_option backward.isDefEq.respectTransparency.types false in
set_option maxHeartbeats 800000 in
/-- The run of the program: every array of the pipeline ends as the proof data gives it, every other buffer as launched,
    and every semaphore counter at zero. -/
theorem run_main_quiescent (hO : Ok m) : θ_run defs (onTc (τ := τ) (main (F := F))) (s₀ m ρ)
    (fun r => (Pipeline.FramePost (Pipeline.pin pcfgs fun _ => adm m hO) (dats m hO) 0 (V m)) r ∧ r.2.sem = fun _ => 0) :=
  Pipeline.θ_run_frameP_dma (Q' := _) pcfgs (fun _ => adm m hO) (dats m hO) (0 : Fin 1) launch0 ownSem defs₀ Variants.none
    (ho := ownSem_facts) (H := {main_arg0}) (hH := held_rest) m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := held_start m) (hout := fun c => held_end m hO c)

end Cert.MoeUpBody

end
-- ==== Proof.MoeUpFrame.lean ====
/-
  The experts' first products: tables of experts that exist, of a count of tiles that exist and of tokens that exist choose
  blocks and rows inside their arrays, so the call runs, over ideal floats and over bit patterns.
-/
module

public import proofs.«01_k».proof.Proof.MoeUpRun
public import proofs.«01_k».proof.Proof.MoeDownFrame
public import proofs.«01_k».proof.Defs
public import proofs.«01_k».proof.Proof.Gen.MoeUp
public import proofs.«01_k».proof.Proof.Gen.Pre_dispatched
public import Idealize.ShloMosaic.Lib.ReduceAll
public import Idealize.ShloMosaic.Lib.WordArith

@[expose] public section

set_option maxRecDepth 16384

noncomputable section

namespace Cert.MoeUpBody

open Cert.MoeUpIdeal Cert.MoeUpIdeal.Gen
open Idealize.ShloMosaic Idealize.ShloMosaic.TcCoe
open Idealize.SL Idealize.SL.Sem
open Idealize.ShloMosaic.Pipeline (Dat)
open Idealize.ShloMosaic.ValueIdx

variable {F : FTy → Type} [FloatOps F]

variable (m : (ℓ : Loc nD τ sig) → Buf (Elt F) ℓ) (ρ : Dev nD → PrngReg)

/-! ## What the precondition says of the tables -/

/-- A word between 1 and 72 in the signed order is between 1 and 72. -/
theorem count_word (x : BitVec 32) (h0 : IntOp.cmpi .sge x 1#32 = 1#1) (h1 : IntOp.cmpi .sle x 72#32 = 1#1) :
    0 < x.toNat ∧ x.toNat < 73 := by
  rw [WordCmp.cmpi_sge_eq, WordCmp.ofBool_eq_one_iff, decide_eq_true_eq] at h0
  rw [WordCmp.cmpi_sle_eq, WordCmp.ofBool_eq_one_iff, decide_eq_true_eq] at h1
  have e1 : (1#32 : BitVec 32).toInt = 1 := by decide
  have e2 : (72#32 : BitVec 32).toInt = 72 := by decide
  rw [e1] at h0
  rw [e2] at h1
  have hlt : x.toNat < 2 ^ 31 := (WordCmp.toInt_nonneg_iff_lt_half x).mp (by omega)
  rw [WordCmp.toInt_eq_toNat_of_lt_half hlt] at h0 h1
  omega

/-- Under the precondition every tile's expert is one of the eight, the count is between 1 and 72, and every row's token is
    one of the 16384. -/
theorem dispatched_words (a : FVec F S16384x40x128 .f32) (tok : IVec S36864 32) (b b' : FVec F S8x4096x3072 .bf16) (te : IVec S72 32) (n : IVec S1 32)
    (h : Cert.Pre_dispatched.fn (F := F) a tok b b' te n = fun _ => 1#1) :
    (∀ t, (te t).toNat < 8) ∧ (∀ t, 0 < (n t).toNat ∧ (n t).toNat < 73) ∧ ∀ t, (tok t).toNat < 16384 := by
  have h' := congrFun h (Shape.Idx.first (by decide))
  unfold Cert.Pre_dispatched.fn Cert.Pre_dispatched.fn_part1 at h'
  dsimp only at h'
  obtain ⟨h', htok⟩ := IntOp.andi_eq_one.mp h'
  obtain ⟨h', hle⟩ := IntOp.andi_eq_one.mp h'
  obtain ⟨hte, hge⟩ := IntOp.andi_eq_one.mp h'
  refine ⟨fun t => ?_, fun t => ?_, fun t => ?_⟩
  · obtain ⟨h0, h1⟩ := IntOp.andi_eq_one.mp (Host.reduce_andi_all _ _ _ _ _ hte t)
    exact Cert.MoeDownBody.toNat_lt_of_signed (te t) 8 (by norm_num) h0 h1
  · have e : shapeCast Cert.Pre_dispatched.S_ n Cert.Pre_dispatched.Facts.shapeCasts_S1_S_ (Shape.Idx.first (by decide)) = n t := by
      unfold shapeCast
      exact congrArg n (funext fun a => match a with | ⟨0, _⟩ => Subsingleton.elim (α := Fin 1) _ _)
    refine count_word (n t) ?_ ?_
    · rw [← e]; exact hge
    · rw [← e]; exact hle
  · obtain ⟨h0, h1⟩ := IntOp.andi_eq_one.mp (Host.reduce_andi_all _ _ _ _ _ htok t)
    exact Cert.MoeDownBody.toNat_lt_of_signed (tok t) 16384 (by norm_num) h0 h1

/-- The column block is one of the six there are. -/
theorem col_inside (b : BitVec 1) (j : BitVec 32) (h : j.toNat < 6) : ((Scalar.select b j 5#32 : BitVec 32).toNat + 1) * 512 ≤ 3072 := by
  unfold Scalar.select
  split
  · omega
  · decide

/-- A tile's block of the first weights lies inside them, on whole words. -/
theorem weights_inside (pf : pre0.Contents (Elt F)) (hte : ∀ t : S72.Idx, (pf 0 t : BitVec 32).toNat < 8) (i : grid0.Coords) :
    ∃ h : (∀ a, (cc0_transform_1 k0_off1_inb numel1_S1 inb_S1_S1_0 pf i a + 1) * S1x4096x512.size a ≤ S8x4096x3072.size a),
      EltTy.bits .bf16 = 32 ∨ (Rect.block (s := S8x4096x3072) S1x4096x512.size (cc0_transform_1 k0_off1_inb numel1_S1 inb_S1_S1_0 pf i) h).WholeWords (EltTy.packing .bf16) := by
  have hj : (BitVec.ofNat 32 (i 1).val).toNat < 6 := by
    rw [Cert.MoeDownBody.coord_toNat (n := 6) (by norm_num) (i 1)]
    exact (i 1).isLt
  refine ⟨fun a => ?_, ?_⟩
  · match a with
    | ⟨0, _⟩ => exact Cert.MoeDownBody.expert_inside _ (hte _)
    | ⟨1, _⟩ => exact (by decide : (0 + 1) * 4096 ≤ 4096)
    | ⟨2, _⟩ => exact col_inside _ _ hj
  · refine Or.inr (Or.inl (Or.inr ⟨by decide, rfl, Or.inl ⟨?_, ?_⟩⟩))
    · exact Dvd.dvd.mul_left (by decide : 2 ∣ 4096) _
    · exact (by decide : 2 ∣ 4096)

/-- So do both weights' blocks at every point. -/
theorem ok_of (pf : pre0.Contents (Elt F)) (hte : ∀ t : S72.Idx, (pf 0 t : BitVec 32).toNat < 8) : ok0 pf :=
  ⟨weights_inside pf hte, weights_inside pf hte⟩

/-- The tables the precondition admits are tables the pipeline runs on. -/
theorem ok_of_dispatched (h : Cert.Pre_dispatched.fn (F := F) (V m 0 main_arg0) (V m 0 main_arg1) (V m 0 main_arg2) (V m 0 main_arg3)
    (V m 0 main_arg4) (V m 0 main_arg5) = fun _ => 1#1) : Ok m :=
  have w := dispatched_words _ _ _ _ _ _ h
  ⟨ok_of (tbl m) w.1, w.2.2, (w.2.1 (ix1 0)).2, (w.2.1 (ix1 0)).1⟩

/-- Under the precondition the program runs to the end, leaves its arguments as they were and every semaphore at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c =>
      ⟨(h.1 c).2 main_arg0 (Pipeline.mem_restRefs_of main_arg0 rfl (by decide : ∀ w : Fin 3, (spec0 w).arr.view.ref ≠ main_arg0)),
        (h.1 c).2 main_arg1 (Pipeline.mem_restRefs_of main_arg1 rfl (by decide : ∀ w : Fin 3, (spec0 w).arr.view.ref ≠ main_arg1)),
        ((h.1 c).1 (0 : Fin 3)).trans (((dats m hO 0 c).arrAt_in (0 : Fin 3) rfl _).trans (A_eq m hO c 0)),
        ((h.1 c).1 (1 : Fin 3)).trans (((dats m hO 0 c).arrAt_in (1 : Fin 3) rfl _).trans (A_eq m hO c 1)),
        (h.1 c).2 main_arg4 (Pipeline.mem_restRefs_of main_arg4 rfl (by decide : ∀ w : Fin 3, (spec0 w).arr.view.ref ≠ main_arg4)),
        (h.1 c).2 main_arg5 (Pipeline.mem_restRefs_of main_arg5 rfl (by decide : ∀ w : Fin 3, (spec0 w).arr.view.ref ≠ main_arg5))⟩, h.2⟩) (run_main_quiescent m ρ hO)

/-! ## The same program at bit patterns -/

/-- The kernel's body is the same program text in both modules, read at bit patterns. -/
theorem kernel_eq (i : Cert.MoeUp.grid0.Coords) (arg2 : Memref Cert.MoeUp.sig .tc .smem Cert.MoeUp.S72 .i32) (harg2 : arg2.IsWhole) (arg3 : Memref Cert.MoeUp.sig .tc .smem Cert.MoeUp.S1 .i32) (harg3 : arg3.IsWhole) (arg4 : Memref Cert.MoeUp.sig .tc .smem Cert.MoeUp.S36864 .i32) (harg4 : arg4.IsWhole) (arg5 : Memref Cert.MoeUp.sig .tc .hbm Cert.MoeUp.S16384x40x128 .f32) (harg5 : arg5.IsWhole) (arg6 : Memref Cert.MoeUp.sig .tc .vmem Cert.MoeUp.S1x4096x512 .bf16) (harg6 : arg6.IsWhole) (arg7 : Memref Cert.MoeUp.sig .tc .vmem Cert.MoeUp.S1x4096x512 .bf16) (harg7 : arg7.IsWhole) (arg8 : Memref Cert.MoeUp.sig .tc .vmem Cert.MoeUp.S512x512 .bf16) (harg8 : arg8.IsWhole) (arg9 : Memref Cert.MoeUp.sig .tc .vmem Cert.MoeUp.S2x20480x128 .f32) (harg9 : arg9.IsWhole) (arg10 : Memref Cert.MoeUp.sig .tc .vmem Cert.MoeUp.S512x4096 .bf16) (harg10 : arg10.IsWhole) (arg11 : DmaSems Cert.MoeUp.sig Cert.MoeUp.S2) :
    Cert.MoeUp.cc0_moe_swiglu (F := Bits) i arg2 harg2 arg3 harg3 arg4 harg4 arg5 harg5 arg6 harg6 arg7 harg7 arg8 harg8 arg9 harg9 arg10 harg10 arg11
      = Cert.MoeUpIdeal.cc0_moe_swiglu (F := Bits) i arg2 harg2 arg3 harg3 arg4 harg4 arg5 harg5 arg6 harg6 arg7 harg7 arg8 harg8 arg9 harg9 arg10 harg10 arg11 := rfl

/-- So are the body tables of its labels. -/
theorem defs₀_eq : @Cert.MoeUp.defs₀ Bits _ _ = @Cert.MoeUpIdeal.defs₀ Bits _ _ := by
  refine congrArg Defs.onTc ?_
  funext x y
  match x with
  | 0 => exact kernel_eq _ _ _ _ _ _ _ _ _ _ _ _ _ _ _ _ _ _ _ _
  | ⟨n + 1, h⟩ => exact absurd h (Nat.not_lt.2 (Nat.le_add_left _ _))

/-- And the body tables of the whole program. -/
theorem defs_eq : @Cert.MoeUp.defs Bits _ _ = @Cert.MoeUpIdeal.defs Bits _ _ :=
  congrArg (Pipeline.defs (Cert.MoeUp.pcfgs (F := Bits))) defs₀_eq

end Cert.MoeUpBody

namespace Cert.Proof

open Idealize.ShloMosaic Idealize.SL.Sem

/-- The MoeUp kernel over ideal floats runs to the end, leaves its arguments as they were and every semaphore at zero. -/
theorem quiescent_MoeUpIdeal : Cert.quiescent_MoeUpIdeal := fun m ρ h =>
  Cert.MoeUpBody.frame m ρ (Cert.MoeUpBody.ok_of_dispatched m (h 0))

/-- The MoeUp kernel runs to the end, leaves its arguments as they were and every semaphore at zero: its text is that of the
    kernel over ideal floats, read at bit patterns. -/
theorem quiescent_MoeUp : Cert.quiescent_MoeUp := fun m ρ h => by
  rw [Cert.MoeUpBody.defs_eq]
  exact Cert.MoeUpBody.frame (F := Bits) m ρ (Cert.MoeUpBody.ok_of_dispatched (F := Bits) m (h 0))

end Cert.Proof

end
-- ==== Proof.MoeUpRef.lean ====
/-
  The reference of the experts' first products, read at an entry: a tile below the count is silu of its rows' first product
  times their second, with its expert's weights; any other tile is zero.
-/
module

public import proofs.«01_k».proof.Defs
public import proofs.«01_k».proof.Proof.Gen.MoeUpRefIdeal.Run
public import proofs.«01_k».proof.Proof.Gen.MoeUpRefIdeal.Read
public import proofs.«01_k».proof.Proof.Common
public import Idealize.ShloMosaic.Lib.WordArith
public import Idealize.ShloMosaic.Lib.WordCmp

@[expose] public section

set_option maxRecDepth 16384

noncomputable section

namespace Cert.MoeUpRef

open Cert Cert.MoeUpRefIdeal Cert.MoeUpRefIdeal.Gen Cert.MoeUpRefIdeal.Read Idealize.ShloMosaic
open Idealize.ShloMosaic.ValueIdx

/-- Silu of the first product, times the second. -/
def gate (s g : EReal) : EReal := s * Common.sigmoid s * g

/-- A gather of whole rows: the row the word names, held inside the array. -/
theorem gather_rows {α : Type} (x : S16384x4096.Idx → α) (idx : IVec S36864x1 32) (R : Fin 36864) (k : Fin 4096) :
    Host.gather gather_S16384x4096_S36864x1_S36864x4096_1_0_n_n_0_1_14096 x idx (ix2 R k)
      = x (ix2 ⟨min (idx (ix2 R (0 : Fin 1))).toInt.toNat 16383, by omega⟩ k) := by
  generalize hd : gather_S16384x4096_S36864x1_S36864x4096_1_0_n_n_0_1_14096 = d
  have hb : ∀ a, a ∉ d.operandBatchingDims := by subst hd; exact fun a => List.not_mem_nil
  unfold Host.gather
  refine congrArg x (funext fun a => Fin.ext ?_)
  show d.start (ix2 R k) idx a + d.batchCoord (ix2 R k) a + d.offCoord (ix2 R k) a = _
  rw [d.batchCoord_eq_zero _ _ (hb a), Nat.add_zero]
  subst hd
  have ha : a = (0 : Fin 2) ∨ a = (1 : Fin 2) := by
    match a with
    | ⟨0, _⟩ => exact Or.inl rfl
    | ⟨1, _⟩ => exact Or.inr rfl
  unfold GatherDims.start GatherDims.offCoord
  rcases ha with rfl | rfl
  · rw [dif_pos (by decide), dif_neg (by decide), Nat.add_zero]
    refine congrArg (fun z => min (idx z).toInt.toNat 16383) (funext fun b => Fin.ext ?_)
    match b with
    | ⟨0, _⟩ => rfl
    | ⟨1, _⟩ => rfl
  · rw [dif_neg (by decide), dif_pos (by decide), Nat.zero_add]
    rfl

/-- A gather of whole experts: the expert the word names, held inside the eight there are. -/
theorem gather_expert {α : Type} (x : S8x4096x3072.Idx → α) (idx : IVec S72x1 32) (t : Fin 72) (k : Fin 4096) (q : Fin 3072) :
    Host.gather gather_S8x4096x3072_S72x1_S72x4096x3072_12_0_n_n_0_1_140963072 x idx (ix3 t k q)
      = x (ix3 ⟨min (idx (ix2 t (0 : Fin 1))).toInt.toNat 7, by omega⟩ k q) := by
  generalize hd : gather_S8x4096x3072_S72x1_S72x4096x3072_12_0_n_n_0_1_140963072 = d
  have hb : ∀ a, a ∉ d.operandBatchingDims := by subst hd; exact fun a => List.not_mem_nil
  unfold Host.gather
  refine congrArg x (funext fun a => Fin.ext ?_)
  show d.start (ix3 t k q) idx a + d.batchCoord (ix3 t k q) a + d.offCoord (ix3 t k q) a = _
  rw [d.batchCoord_eq_zero _ _ (hb a), Nat.add_zero]
  subst hd
  have ha : a = (0 : Fin 3) ∨ a = (1 : Fin 3) ∨ a = (2 : Fin 3) := by
    match a with
    | ⟨0, _⟩ => exact Or.inl rfl
    | ⟨1, _⟩ => exact Or.inr (Or.inl rfl)
    | ⟨2, _⟩ => exact Or.inr (Or.inr rfl)
  unfold GatherDims.start GatherDims.offCoord
  rcases ha with rfl | rfl | rfl
  · rw [dif_pos (by decide), dif_neg (by decide), Nat.add_zero]
    refine congrArg (fun z => min (idx z).toInt.toNat 7) (funext fun b => Fin.ext ?_)
    match b with
    | ⟨0, _⟩ => rfl
    | ⟨1, _⟩ => rfl
  · rw [dif_neg (by decide), dif_pos (by decide), Nat.zero_add]
    rfl
  · rw [dif_neg (by decide), dif_pos (by decide), Nat.zero_add]
    rfl

/-- A word inside the array names itself: it is not negative, and holding it inside does not change it. -/
theorem named_word (e k : BitVec 32) (n : ℕ) (hn : n < 2 ^ 31) (h : e.toNat ≤ n) :
    min (Scalar.select (IntOp.cmpi .slt e 0#32) (IntOp.addi e k) e : BitVec 32).toInt.toNat n = e.toNat := by
  have hs : (Scalar.select (IntOp.cmpi .slt e 0#32) (IntOp.addi e k) e : BitVec 32) = e := by
    refine if_neg ?_
    rw [WordCmp.cmpi_slt_eq, WordCmp.ofBool_eq_one_iff', decide_eq_true_eq, WordCmp.toInt_eq_toNat_of_lt_half (by omega)]
    show ¬ ((e.toNat : Int) < 0)
    omega
  rw [hs, WordCmp.toInt_eq_toNat_of_lt_half (by omega)]
  omega

/-- An entry of the rows gathered: its token's. -/
theorem rows_apply (x0 : Vec Ideal S16384x40x128 .f32) (x1 : IVec S36864 32) (R : Fin 36864) (k : Fin 4096) (T : Fin 16384)
    (hT : T.val = (x1 (ix1 R) : BitVec 32).toNat) (a : Fin 40) (ha : a.val = k.val / 128) (b : Fin 128) (hb : b.val = k.val % 128) :
    val_main_v8 (F := Ideal) x0 x1 (ix2 R k) = x0 (ix3 T a b) := by
  have hk := k.isLt
  have ei : idx_main_v7 (ix2 R (0 : Fin 1)) = ix1 R := funext fun a => by match a with | ⟨0, _⟩ => rfl
  have ew : (⟨min (val_main_v7 (F := Ideal) x1 (ix2 R (0 : Fin 1)) : BitVec 32).toInt.toNat 16383, by omega⟩ : Fin 16384) = T := by
    refine Fin.ext (Eq.trans ?_ hT.symm)
    dsimp only
    rw [val_main_v7_apply, val_main_v6_apply, val_main_v3_apply, val_main_v5_apply, val_main_v2_apply, val_main_v4_apply, ei]
    exact named_word _ _ 16383 (by norm_num) (by have := T.isLt; omega)
  refine (gather_rows (val_main_v1 (F := Ideal) x0) (val_main_v7 (F := Ideal) x1) R k).trans ?_
  rw [ew, val_main_v1_apply, val_main_v0_apply]
  refine congrArg x0 (Common.idx3_ext ?_ ?_ ?_)
  · show (T.val * 4096 + k.val) / 4096 = T.val; omega
  · show (T.val * 4096 + k.val) / 128 % 32 = a.val; omega
  · show (T.val * 4096 + k.val) % 128 = b.val; omega

/-- An entry of the weights gathered for a tile: its expert's. -/
theorem weights_apply (x2 : Vec Ideal S8x4096x3072 .bf16) (x4 : IVec S72 32) (t : Fin 72) (k : Fin 4096) (q : Fin 3072) (e : Fin 8)
    (he : e.val = (x4 (ix1 t) : BitVec 32).toNat) : val_main_v17 (F := Ideal) x2 x4 (ix3 t k q) = x2 (ix3 e k q) := by
  have ei : idx_main_v16 (ix2 t (0 : Fin 1)) = ix1 t := funext fun a => by match a with | ⟨0, _⟩ => rfl
  have ew : (⟨min (val_main_v16 (F := Ideal) x4 (ix2 t (0 : Fin 1)) : BitVec 32).toInt.toNat 7, by omega⟩ : Fin 8) = e := by
    refine Fin.ext (Eq.trans ?_ he.symm)
    dsimp only
    rw [val_main_v16_apply, val_main_v15_apply, val_main_v12_apply, val_main_v14_apply, val_main_v11_apply, val_main_v13_apply, ei]
    exact named_word _ _ 7 (by norm_num) (by have := e.isLt; omega)
  refine (gather_expert (val_main_v10 (F := Ideal) x2) (val_main_v16 (F := Ideal) x4) t k q).trans ?_
  rw [ew]
  exact val_main_v10_apply x2 _

/-- An entry of a tile's product with its expert's weights: row `R`, which is the tile's row `r`, is its token's. -/
theorem product (x0 : Vec Ideal S16384x40x128 .f32) (x1 : IVec S36864 32) (x2 : Vec Ideal S8x4096x3072 .bf16) (x4 : IVec S72 32) (t : Fin 72)
    (r : Fin 512) (q : Fin 3072) (R : Fin 36864) (hR : R.val = t.val * 512 + r.val) (T : Fin 16384)
    (hT : T.val = (x1 (ix1 R) : BitVec 32).toNat) (e : Fin 8) (he : e.val = (x4 (ix1 t) : BitVec 32).toNat) :
    val_main_v26 (F := Ideal) x0 x1 x2 x4 (ix3 t r q)
      = (∑ k : Fin 4096, (x0 (ix3 T (⟨k.val / 128, by omega⟩ : Fin 40) (⟨k.val % 128, Nat.mod_lt _ (by omega)⟩ : Fin 128)) : EReal)
          * (x2 (ix3 e k q) : EReal) : EReal) := by
  refine (val_main_v26_apply x0 x1 x2 x4 (ix3 t r q)).trans (Finset.sum_congr rfl fun k _ => ?_)
  have hk := k.isLt
  have el : lidx_main_v26 (ix3 t r q) k = ix3 t r k := Common.idx3_ext rfl rfl rfl
  have er : ridx_main_v26 (ix3 t r q) k = ix3 t k q := Common.idx3_ext rfl rfl rfl
  have e9 : idx_main_v9 (ix3 t r k) = ix2 R k := by
    refine Common.idx2_ext ?_ ?_
    · show ((t.val * 512 + r.val) * 4096 + k.val) / 4096 = R.val; omega
    · show ((t.val * 512 + r.val) * 4096 + k.val) % 4096 = k.val; omega
  rw [el, er, weights_apply x2 x4 t k q e he, val_main_v9_apply, e9,
    rows_apply x0 x1 R k T hT (⟨k.val / 128, by omega⟩ : Fin 40) rfl (⟨k.val % 128, Nat.mod_lt _ (by omega)⟩ : Fin 128) rfl]

/-- The second product is the first with the other weights. -/
theorem product_eq (x0 : Vec Ideal S16384x40x128 .f32) (x1 : IVec S36864 32) (x3 : Vec Ideal S8x4096x3072 .bf16) (x4 : IVec S72 32) :
    val_main_v28 (F := Ideal) x0 x1 x3 x4 = val_main_v26 (F := Ideal) x0 x1 x3 x4 := rfl

/-- An entry of the reference: where tile `R / 512` is below the count, the gate of row `R`'s two products with its expert's
    column; elsewhere zero. -/
theorem ref_apply (x0 : Vec Ideal S16384x40x128 .f32) (x1 : IVec S36864 32) (x2 x3 : Vec Ideal S8x4096x3072 .bf16) (x4 : IVec S72 32)
    (x5 : IVec S1 32) (R : Fin 36864) (q : Fin 3072) (t : Fin 72) (ht : t.val = R.val / 512) (T : Fin 16384)
    (hT : T.val = (x1 (ix1 R) : BitVec 32).toNat) (e : Fin 8) (he : e.val = (x4 (ix1 t) : BitVec 32).toNat) :
    val_main_v37 (F := Ideal) x0 x1 x2 x3 x4 x5 (ix2 R q)
      = Scalar.select (IntOp.cmpi .slt (BitVec.ofNat 32 t.val) (x5 (ix1 (0 : Fin 1))))
          (gate
            (∑ k : Fin 4096, (x0 (ix3 T (⟨k.val / 128, by omega⟩ : Fin 40) (⟨k.val % 128, Nat.mod_lt _ (by omega)⟩ : Fin 128)) : EReal)
              * (x2 (ix3 e k q) : EReal) : EReal)
            (∑ k : Fin 4096, (x0 (ix3 T (⟨k.val / 128, by omega⟩ : Fin 40) (⟨k.val % 128, Nat.mod_lt _ (by omega)⟩ : Fin 128)) : EReal)
              * (x3 (ix3 e k q) : EReal) : EReal)) (0 : EReal) := by
  have hR := R.isLt
  have hq := q.isLt
  have e36 : idx_main_v36 (ix2 R q) = ix3 t ⟨R.val % 512, Nat.mod_lt _ (by omega)⟩ q := by
    refine Common.idx3_ext ?_ ?_ ?_
    · show (R.val * 3072 + q.val) / 1572864 = t.val; omega
    · show (R.val * 3072 + q.val) / 3072 % 512 = R.val % 512; omega
    · show (R.val * 3072 + q.val) % 3072 = q.val; omega
  have hd : t.val * 512 + R.val % 512 = R.val := by omega
  generalize hr : (⟨R.val % 512, Nat.mod_lt _ (by omega)⟩ : Fin 512) = r at e36
  have hRr : R.val = t.val * 512 + r.val := by rw [← hr]; exact hd.symm
  refine (val_main_v37_apply x0 x1 x2 x3 x4 x5 (ix2 R q)).trans ?_
  show val_main_v36 (F := Ideal) x0 x1 x2 x3 x4 x5 (ix2 R q) = _
  rw [val_main_v36_apply, e36, val_main_v35_apply]
  have hc : val_main_call1_v1 (F := Ideal) x5 (ix3 t r q) = IntOp.cmpi .slt (BitVec.ofNat 32 t.val) (x5 (ix1 (0 : Fin 1))) := by
    rw [val_main_call1_v1_apply, val_main_v34_apply, val_main_v33_apply, val_main_v32_apply]
    refine congrArg₂ (IntOp.cmpi .slt) rfl ?_
    unfold val_main_v31
    show x5 _ = x5 _
    refine congrArg x5 (funext fun a => ?_)
    match a with
    | ⟨0, _⟩ => exact Subsingleton.elim (α := Fin 1) _ _
  have hz : val_main_call1_v2 (F := Ideal) (ix3 t r q) = (0 : EReal) := by
    rw [val_main_call1_v2_apply]
    exact Ideal.ofBits_zero_f32
  have hg : val_main_v29 (F := Ideal) x0 x1 x2 x3 x4 (ix3 t r q)
      = gate (val_main_v26 (F := Ideal) x0 x1 x2 x4 (ix3 t r q)) (val_main_v26 (F := Ideal) x0 x1 x3 x4 (ix3 t r q)) := by
    have e5 : val_main_call0_v5 (F := Ideal) x0 x1 x2 x4 (ix3 t r q)
        = Common.sigmoid (val_main_v26 (F := Ideal) x0 x1 x2 x4 (ix3 t r q)) := by
      rw [val_main_call0_v5_apply, val_main_call0_v4_apply, val_main_call0_v3_apply, val_main_call0_v2_apply]
      exact Common.host_sigmoid _
    rw [val_main_v29_apply, val_main_v27_apply, e5, product_eq]
    rfl
  rw [hc, hz, hg, product x0 x1 x2 x4 t r q R hRr T hT e he, product x0 x1 x3 x4 t r q R hRr T hT e he]

end Cert.MoeUpRef

end
-- ==== Proof.MoeUpValue.lean ====
/-
  The experts' first products: every tile of 512 rows below the count gathers its rows' tokens and is silu of their product
  with its expert's first weights, times their product with the second; the tiles past it are zero. The kernel's result is the
  reference's.
-/
module

public import proofs.«01_k».proof.Defs
public import proofs.«01_k».proof.Proof.MoeUpFrame
public import proofs.«01_k».proof.Proof.MoeUpRef
public import proofs.«01_k».proof.Proof.Common

@[expose] public section

set_option maxRecDepth 16384

noncomputable section

namespace Cert.MoeUpIdeal.Value

open Cert Cert.MoeUpIdeal Cert.MoeUpIdeal.Gen Cert.MoeUpBody Idealize.ShloMosaic Idealize.ShloMosaic.TcCoe Idealize.SL.Sem
open Idealize.ShloMosaic.ValueIdx
open Idealize.ShloMosaic.Pipeline (Dat)
open Cert.MoeUpRef (gate)

/-! ## The body's block at an entry -/

/-- An entry of a live tile's block: the gate of the row's two products. -/
theorem pay_apply (a : FVec Ideal S512x4096 .bf16) (w1 w3 : Vec Ideal S1x4096x512 .bf16) (r q : Fin 512) :
    k0_pay4 (F := Ideal) a w1 w3 (ix2 r q)
      = gate (∑ k : Fin 4096, (a (ix2 r k) : EReal) * (w1 (ix3 (0 : Fin 1) k q) : EReal) : EReal)
          (∑ k : Fin 4096, (a (ix2 r k) : EReal) * (w3 (ix3 (0 : Fin 1) k q) : EReal) : EReal) :=
  congrArg₂ gate (Common.matmul_dropUnit_apply (φ₁ := .bf16) (φ₂ := .bf16) a w1 _ r q)
    (Common.matmul_dropUnit_apply (φ₁ := .bf16) (φ₂ := .bf16) a w3 _ r q)

/-- An entry of any tile's block: the gate, or zero past the count. -/
theorem body_apply (n i : ℕ) (a : FVec Ideal S512x4096 .bf16) (w1 w3 : Vec Ideal S1x4096x512 .bf16) (r q : Fin 512) :
    upOut (F := Ideal) n i a w1 w3 (ix2 r q) = if i < n then
      gate (∑ k : Fin 4096, (a (ix2 r k) : EReal) * (w1 (ix3 (0 : Fin 1) k q) : EReal) : EReal)
          (∑ k : Fin 4096, (a (ix2 r k) : EReal) * (w3 (ix3 (0 : Fin 1) k q) : EReal) : EReal) else (0 : EReal) := by
  unfold upOut
  by_cases h : i < n
  · rw [if_pos h, if_pos h]
    exact pay_apply a w1 w3 r q
  · rw [if_neg h, if_neg h]
    exact Ideal.ofBits_zero_bf16

/-- A tile is below the count exactly when the words compare so. -/
theorem live_iff (i : Fin 72) (w : BitVec 32) (hw : w.toNat < 73) :
    (IntOp.cmpi .slt (BitVec.ofNat 32 i.val) w : BitVec 1) = 1#1 ↔ i.val < w.toNat := by
  have hi : (BitVec.ofNat 32 i.val).toNat = i.val := Cert.MoeDownBody.coord_toNat (n := 72) (by norm_num) i
  have hlt := i.isLt
  rw [WordCmp.cmpi_slt_eq, WordCmp.ofBool_eq_one_iff, decide_eq_true_eq, WordCmp.toInt_eq_toNat_of_lt_half (by omega),
    WordCmp.toInt_eq_toNat_of_lt_half (by omega), hi]
  omega

/-! ## The windows' blocks -/

/-- The output's block index at point `t`. -/
theorem out_index : ∀ t : Fin grid0.N, cc0_transform_3 (grid0.coords t) 0 = t.val / 6 ∧ cc0_transform_3 (grid0.coords t) 1 = t.val % 6 := by
  decide +kernel

/-- A tile below the count reads the column block of its point. -/
theorem col_live (b : BitVec 1) (j : BitVec 32) (h : b = 1#1) : (Scalar.select b j 5#32 : BitVec 32).toNat = j.toNat := by
  subst h
  rfl

variable (m : (ℓ : Loc nD τ sig) → Buf (Elt Ideal) ℓ)

/-- The rows' tokens, the table of experts and the count, as the words of the precondition. -/
abbrev tokW : IVec S36864 32 := m ((0 : Dev nD).tc.loc main_arg1)
abbrev teW : IVec S72 32 := m ((0 : Dev nD).tc.loc main_arg4)
abbrev ntW : IVec S1 32 := m ((0 : Dev nD).tc.loc main_arg5)

/-- Every index of the count's one word is the same. -/
theorem ntW_eq (z : S1.Idx) : ntW m z = ntW m (ix1 (0 : Fin 1)) := by
  refine congrArg (ntW m) (funext fun a => ?_)
  match a with
  | ⟨0, _⟩ => exact Subsingleton.elim (α := Fin 1) _ _

/-- The output is written back after every point. -/
theorem flush_2 (hO : Ok m) (t : Fin (cfgM m hO).N) : ((cfgM m hO).win 2).flush t = true := by
  have ht : t.val < 432 := t.isLt
  unfold Pipeline.Window.flush
  rw [Bool.and_eq_true]
  refine ⟨rfl, ?_⟩
  rw [Bool.or_eq_true]
  by_cases h : t.val + 1 = 432
  · exact Or.inl (decide_eq_true h)
  · refine Or.inr (decide_eq_true ⟨(by omega : t.val + 1 < 432), fun e => ?_⟩)
    obtain ⟨a0, a1⟩ := out_index ⟨t.val + 1, (by omega : t.val + 1 < 432)⟩
    obtain ⟨b0, b1⟩ := out_index t
    have e0 : cc0_transform_3 (grid0.coords ⟨t.val + 1, (by omega : t.val + 1 < 432)⟩) 0 = cc0_transform_3 (grid0.coords t) 0 := congrFun e (0 : Fin 2)
    have e1 : cc0_transform_3 (grid0.coords ⟨t.val + 1, (by omega : t.val + 1 < 432)⟩) 1 = cc0_transform_3 (grid0.coords t) 1 := congrFun e (1 : Fin 2)
    rw [a0, b0] at e0
    rw [a1, b1] at e1
    dsimp only at e0 e1
    omega

section live

variable (hO : Ok m) (t : Fin (cfgM m hO).N)
  (h : (IntOp.cmpi .slt (BitVec.ofNat 32 (grid0.coords t 0).val) (ntW m (ix1 (0 : Fin 1))) : BitVec 1) = 1#1)

include h

/-- The first weights a tile below the count reads: its expert's, at the column block of its point. -/
theorem weights_index : cc0_transform_1 k0_off1_inb numel1_S1 inb_S1_S1_0 (tbl m) (grid0.coords t) (0 : Fin 3) = (teW m (ix1 (grid0.coords t 0)) : BitVec 32).toNat
    ∧ cc0_transform_1 k0_off1_inb numel1_S1 inb_S1_S1_0 (tbl m) (grid0.coords t) (1 : Fin 3) = 0
    ∧ cc0_transform_1 k0_off1_inb numel1_S1 inb_S1_S1_0 (tbl m) (grid0.coords t) (2 : Fin 3) = (grid0.coords t 1).val := by
  have hj : (BitVec.ofNat 32 (grid0.coords t 1).val).toNat = (grid0.coords t 1).val := Cert.MoeDownBody.coord_toNat (n := 6) (by norm_num) (grid0.coords t 1)
  have hz : ∀ z, (IntOp.cmpi .slt (BitVec.ofNat 32 (grid0.coords t 0).val) (ntW m z) : BitVec 1) = 1#1 := fun z => by rw [ntW_eq m z]; exact h
  refine ⟨?_, rfl, (col_live _ _ (hz _)).trans hj⟩
  refine congrArg (fun z => (teW m z : BitVec 32).toNat) (funext fun a => Fin.ext ?_)
  match a with
  | ⟨0, _⟩ =>
    show (BitVec.ofNat 32 (grid0.coords t 0).val).toNat + 1 * 0 = (grid0.coords t 0).val
    rw [Cert.MoeDownBody.coord_toNat (n := 72) (by norm_num) (grid0.coords t 0)]
    omega

/-- An entry of the first weights' block of a tile below the count. -/
theorem weights1_apply (c : Dev nD) (k : Fin 4096) (q : Fin 512) (Q : Fin 3072) (hQ : Q.val = (grid0.coords t 1).val * 512 + q.val) (e : Fin 8)
    (he : e.val = (teW m (ix1 (grid0.coords t 0)) : BitVec 32).toNat) :
    iblk m hO c 0 t (ix3 (0 : Fin 1) k q) = m ((c : Thread nD τ).loc main_arg2) (ix3 e k Q) := by
  obtain ⟨b0, b1, b2⟩ := weights_index m hO t h
  refine congrArg (m ((c : Thread nD τ).loc main_arg2)) (Common.idx3_ext ?_ ?_ ?_)
  · refine (((cfgM m hO).win 0).rect_emb_val t (ix3 (0 : Fin 1) k q) (0 : Fin 3)).trans ((congrArg (· * 1 + 0) b0).trans ?_)
    exact (Nat.mul_one _).trans he.symm
  · exact (((cfgM m hO).win 0).rect_emb_val t (ix3 (0 : Fin 1) k q) (1 : Fin 3)).trans ((congrArg (· * 4096 + k.val) b1).trans (by rw [Nat.zero_mul, Nat.zero_add]))
  · exact (((cfgM m hO).win 0).rect_emb_val t (ix3 (0 : Fin 1) k q) (2 : Fin 3)).trans ((congrArg (· * 512 + q.val) b2).trans hQ.symm)

/-- An entry of the second weights' block of a tile below the count. -/
theorem weights3_apply (c : Dev nD) (k : Fin 4096) (q : Fin 512) (Q : Fin 3072) (hQ : Q.val = (grid0.coords t 1).val * 512 + q.val) (e : Fin 8)
    (he : e.val = (teW m (ix1 (grid0.coords t 0)) : BitVec 32).toNat) :
    iblk m hO c 1 t (ix3 (0 : Fin 1) k q) = m ((c : Thread nD τ).loc main_arg3) (ix3 e k Q) := by
  obtain ⟨b0, b1, b2⟩ := weights_index m hO t h
  refine congrArg (m ((c : Thread nD τ).loc main_arg3)) (Common.idx3_ext ?_ ?_ ?_)
  · refine (((cfgM m hO).win 1).rect_emb_val t (ix3 (0 : Fin 1) k q) (0 : Fin 3)).trans ((congrArg (· * 1 + 0) b0).trans ?_)
    exact (Nat.mul_one _).trans he.symm
  · exact (((cfgM m hO).win 1).rect_emb_val t (ix3 (0 : Fin 1) k q) (1 : Fin 3)).trans ((congrArg (· * 4096 + k.val) b1).trans (by rw [Nat.zero_mul, Nat.zero_add]))
  · exact (((cfgM m hO).win 1).rect_emb_val t (ix3 (0 : Fin 1) k q) (2 : Fin 3)).trans ((congrArg (· * 512 + q.val) b2).trans hQ.symm)

end live

/-- An entry of a gathered tile: its row's token's. -/
theorem tile_apply (i : ℕ) (r : Fin 512) (k : Fin 4096) (R : Fin 36864) (hR : R.val = i * 512 + r.val) (T : Fin 16384)
    (hT : T.val = (tokW m (ix1 R) : BitVec 32).toNat) :
    tileOf (F := Ideal) 0 (V m 0 main_arg0) (tokenOf m) i (ix2 r k)
      = m (((0 : Dev nD) : Thread nD τ).loc main_arg0) (ix3 T (⟨k.val / 128, by omega⟩ : Fin 40) (⟨k.val % 128, Nat.mod_lt _ (by omega)⟩ : Fin 128)) := by
  have hlt := R.isLt
  have hTl := T.isLt
  have e : tokenOf m (512 * i + r.val) = T.val := by
    rw [hT]
    show rowOf (tbl m 2) (512 * i + r.val) = _
    rw [show 512 * i + r.val = R.val by omega]
    unfold rowOf
    rw [dif_pos hlt]
    rfl
  refine congrArg (m (((0 : Dev nD) : Thread nD τ).loc main_arg0)) (Common.idx3_ext ?_ rfl rfl)
  show tokenOf m (512 * i + r.val) % 16384 = T.val
  rw [e]
  omega

/-- The result of the reference at the kernel's arguments. -/
abbrev goal (c : Dev nD) : Buf (Elt Ideal) ((c : Thread nD τ).loc main_v0) :=
  Cert.MoeUpRefIdeal.Read.val_main_v37 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5))

/-- What a point writes back is the reference's block there. -/
theorem flushed_eq (hO : Ok m) (hte : ∀ z, (teW m z : BitVec 32).toNat < 8) (c : Dev nD) (t : Fin (cfgM m hO).N) :
    (dats m hO 0 c).flushed 2 t = (((cfgM m hO).win 2).blk t).view.read (Elt Ideal) (goal m c) := by
  obtain rfl : c = 0 := Subsingleton.elim _ _
  show ((cfgM m hO).win 2).cut (grid0.coords t) ((dats m hO 0 0).after 2 t) = _
  rw [after_2]
  funext y
  obtain ⟨r, q, rfl⟩ : ∃ (r : Fin 512) (q : Fin 512), y = ix2 r q := ⟨y (0 : Fin 2), y (1 : Fin 2), eq_ix2 y⟩
  have hr := r.isLt
  have hq := q.isLt
  have ht : t.val < 432 := t.isLt
  obtain ⟨c0, c1⟩ := coords_tile t
  obtain ⟨o0, o1⟩ := out_index t
  have hR : (grid0.coords t 0).val * 512 + r.val < 36864 := by omega
  have hQ : (grid0.coords t 1).val * 512 + q.val < 3072 := by omega
  refine Eq.trans (body_apply (nTiles m) (grid0.coords t 0).val (tileOf 0 (V m 0 main_arg0) (tokenOf m) (grid0.coords t 0).val)
      (iblk m hO 0 0 t) (iblk m hO 0 1 t) r q) (Eq.trans ?_
    ((Cert.MoeUpRef.ref_apply (m (((0 : Dev nD) : Thread nD τ).loc main_arg0)) (tokW m) (m (((0 : Dev nD) : Thread nD τ).loc main_arg2))
      (m (((0 : Dev nD) : Thread nD τ).loc main_arg3)) (teW m) (ntW m) ⟨_, hR⟩ ⟨_, hQ⟩ (grid0.coords t 0) (by dsimp only; omega)
      ⟨_, hO.2.1 (ix1 ⟨_, hR⟩)⟩ rfl ⟨_, hte (ix1 (grid0.coords t 0))⟩ rfl).symm.trans ?_))
  · have hl := live_iff (grid0.coords t 0) (ntW m (ix1 (0 : Fin 1))) hO.2.2.1
    by_cases h : (IntOp.cmpi .slt (BitVec.ofNat 32 (grid0.coords t 0).val) (ntW m (ix1 (0 : Fin 1))) : BitVec 1) = 1#1
    · refine (if_pos (hl.mp h)).trans (Eq.trans ?_ (if_pos h).symm)
      refine congrArg₂ gate (Finset.sum_congr rfl fun k _ => congrArg₂ (fun a b : EReal => a * b) ?_ ?_)
        (Finset.sum_congr rfl fun k _ => congrArg₂ (fun a b : EReal => a * b) ?_ ?_)
      · exact tile_apply m _ r k ⟨_, hR⟩ rfl _ rfl
      · exact weights1_apply m hO t h 0 k q ⟨_, hQ⟩ rfl _ rfl
      · exact tile_apply m _ r k ⟨_, hR⟩ rfl _ rfl
      · exact weights3_apply m hO t h 0 k q ⟨_, hQ⟩ rfl _ rfl
    · exact (if_neg fun hh => h (hl.mpr hh)).trans (if_neg h).symm
  · refine congrArg (goal m 0) (Common.idx2_ext ?_ ?_)
    · exact ((((cfgM m hO).win 2).rect_emb_val t (ix2 r q) (0 : Fin 2)).trans
        ((congrArg (· * 512 + r.val) o0).trans (by dsimp only; omega))).symm
    · exact ((((cfgM m hO).win 2).rect_emb_val t (ix2 r q) (1 : Fin 2)).trans
        ((congrArg (· * 512 + q.val) o1).trans (by dsimp only; omega))).symm

/-- Every entry of the result lies in the block of some point. -/
theorem cover (hO : Ok m) (i : S36864x3072.Idx) :
    ∃ t : Fin (cfgM m hO).N, ((cfgM m hO).win 2).flush t = true ∧ i ∈ (((cfgM m hO).win 2).blk t).view.set := by
  have h0 : (i 0 : Nat) < 36864 := (i 0).isLt
  have h1 : (i 1 : Nat) < 3072 := (i 1).isLt
  obtain ⟨t, ht⟩ : ∃ t : Fin (cfgM m hO).N, t.val = (i 0 : Nat) / 512 * 6 + (i 1 : Nat) / 512 :=
    ⟨⟨_, (by omega : (i 0 : Nat) / 512 * 6 + (i 1 : Nat) / 512 < 432)⟩, rfl⟩
  refine ⟨t, flush_2 m hO t, ?_⟩
  have hset : (((cfgM m hO).win 2).blk t).view.set = (((cfgM m hO).win 2).rect t).set := View.set_slice_whole main_v0 _
  rw [hset]
  refine (((cfgM m hO).win 2).mem_rect_iff t i).mpr fun a => ?_
  obtain ⟨e0, e1⟩ := out_index t
  match a with
  | ⟨0, _⟩ =>
    show cc0_transform_3 (grid0.coords t) 0 * 512 ≤ (i 0 : Nat) ∧ (i 0 : Nat) < cc0_transform_3 (grid0.coords t) 0 * 512 + 512
    rw [e0]; omega
  | ⟨1, _⟩ =>
    show cc0_transform_3 (grid0.coords t) 1 * 512 ≤ (i 1 : Nat) ∧ (i 1 : Nat) < cc0_transform_3 (grid0.coords t) 1 * 512 + 512
    rw [e1]; omega

/-- The kernel's result array is the reference's. -/
theorem final (hO : Ok m) (hte : ∀ z, (teW m z : BitVec 32).toNat < 8) (c : Dev nD) :
    (dats m hO 0 c).arrAt 2 (cfgM m hO).N = goal m c :=
  (dats m hO 0 c).arrAt_eq_of_cover 2 (goal m c) (fun t _ => flushed_eq m hO hte c t) (cover m hO)

/-- The kernel and the reference, from equal arguments dispatched to experts, tokens and tiles that exist, end with equal
    results and unchanged arguments. -/
theorem algebraic : Cert.algebraic_MoeUpIdeal_MoeUpRefIdeal := by
  intro m g m' g' hpre hargs
  have hO : Ok m := ok_of_dispatched m (hpre 0)
  have hte := (dispatched_words _ _ _ _ _ _ (hpre 0)).1
  refine ⟨fun c => goal m c, ?_, ?_⟩
  · exact (θ_run defs _ _).mono (fun r h c =>
      ⟨((h.1 c).1 (2 : Fin 3)).trans (final m hO hte c),
        (h.1 c).2 main_arg0 (Pipeline.mem_restRefs_of main_arg0 rfl (by decide : ∀ w : Fin 3, (spec0 w).arr.view.ref ≠ main_arg0)),
        (h.1 c).2 main_arg1 (Pipeline.mem_restRefs_of main_arg1 rfl (by decide : ∀ w : Fin 3, (spec0 w).arr.view.ref ≠ main_arg1)),
        ((h.1 c).1 (0 : Fin 3)).trans (((dats m hO 0 c).arrAt_in (0 : Fin 3) rfl _).trans (A_eq m hO c 0)),
        ((h.1 c).1 (1 : Fin 3)).trans (((dats m hO 0 c).arrAt_in (1 : Fin 3) rfl _).trans (A_eq m hO c 1)),
        (h.1 c).2 main_arg4 (Pipeline.mem_restRefs_of main_arg4 rfl (by decide : ∀ w : Fin 3, (spec0 w).arr.view.ref ≠ main_arg4)),
        (h.1 c).2 main_arg5 (Pipeline.mem_restRefs_of main_arg5 rfl (by decide : ∀ w : Fin 3, (spec0 w).arr.view.ref ≠ main_arg5))⟩)
      (run_main_quiescent m g hO)
  · refine (θ_run _ _ _).mono (fun r h c => ⟨(h c).1.trans ((Cert.MoeUpRefIdeal.Read.val_main_v37_eq (F := Ideal) m' c).trans ?_), (h c).2⟩) (Cert.MoeUpRefIdeal.Value.run (F := Ideal) m' g')
    rw [(hargs c).1, (hargs c).2.1, (hargs c).2.2.1, (hargs c).2.2.2.1, (hargs c).2.2.2.2.1, (hargs c).2.2.2.2.2]

end Cert.MoeUpIdeal.Value

end
-- ==== Proof.AdaValue.lean ====
/-
  The modulation: what the kernel writes back, block by block, is silu of the conditioning times the layer's weights, plus
  the layer's bias.
-/
module

public import proofs.«01_k».proof.Defs
public import proofs.«01_k».proof.Proof.Gen.AdaIdeal.Value
public import proofs.«01_k».proof.Proof.Gen.AdaRefIdeal.Run
public import proofs.«01_k».proof.Proof.Gen.AdaRefIdeal.Read
public import proofs.«01_k».proof.Proof.Common
public import Idealize.ShloMosaic.Lib.StableHlo.Run

@[expose] public section

set_option maxRecDepth 16384

noncomputable section

namespace Cert.AdaIdeal.Value

open Cert Cert.AdaIdeal Cert.AdaIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- A number times its logistic. -/
def silu (x : EReal) : EReal := x * Common.sigmoid x

/-- An entry of the body: the activated row's product plus the bias. -/
theorem pay_apply (x : Vec Ideal S8x4096 .f32) (w : Vec Ideal S1x4096x1024 .f32) (b : Vec Ideal S1x1x1024 .f32) (r : Fin 8) (q : Fin 1024) :
    k0_pay1 (F := Ideal) x w b (ix3 (0 : Fin 1) r q)
      = (∑ k : Fin 4096, silu (x (ix2 r k)) * (w (ix3 (0 : Fin 1) k q) : EReal) : EReal) + (b (ix3 (0 : Fin 1) (0 : Fin 1) q) : EReal) := by
  have hr := r.isLt
  have hq := q.isLt
  unfold k0_pay1
  refine (shapeCast_apply _ shapeCasts_S8x1024_S1x8x1024 (ix3 (0 : Fin 1) r q) (ix2 r q) ?_).trans ?_
  · rewrite [Shape.rowMajor_val_two, Shape.rowMajor_val_three]
    show r.val * 1024 + q.val = (0 * 8 + r.val) * 1024 + q.val
    omega
  · exact congrArg₂ (fun u v : EReal => u + v)
      (Common.matmul_dropUnit_apply (φ₁ := .bf16) (φ₂ := .bf16) (fun i => silu (x i)) w _ r q)
      (Common.row_spread_apply (by decide) b _ _ r q)

/-- An entry of the reference: the activated row's product plus the layer's bias. -/
theorem ref_apply (x0 : Vec Ideal S8x4096 .f32) (x1 : Vec Ideal S2x4096x24576 .f32) (x2 : Vec Ideal S2x24576 .f32) (l : Fin 2) (r : Fin 8) (q : Fin 24576) :
    Cert.AdaRefIdeal.Read.val_main_v5 (F := Ideal) x0 x1 x2 (ix3 l r q)
      = (∑ k : Fin 4096, silu (x0 (ix2 r k)) * (x1 (ix3 l k q) : EReal) : EReal) + (x2 (ix2 l q) : EReal) := by
  refine congrArg₂ (fun u v : EReal => u + v) ?_ ?_
  · rw [Cert.AdaRefIdeal.Read.val_main_v2_apply]
    refine (Cert.AdaRefIdeal.Read.val_main_v1_apply _ _ _).trans (Finset.sum_congr rfl fun k _ => ?_)
    have e : ∀ i, Cert.AdaRefIdeal.Read.val_main_v0 (F := Ideal) x0 i = silu (x0 i) := fun i => by
      rw [Cert.AdaRefIdeal.Read.val_main_v0_apply, Cert.AdaRefIdeal.Read.val_main_call0_v5_apply, Cert.AdaRefIdeal.Read.val_main_call0_v4_apply,
        Cert.AdaRefIdeal.Read.val_main_call0_v3_apply, Cert.AdaRefIdeal.Read.val_main_call0_v2_apply]
      exact congrArg (fun s : EReal => x0 i * s) (Common.host_sigmoid _)
    rw [e]
    exact congrArg₂ (fun u v : EReal => u * v) (congrArg (fun z => silu (x0 z)) (Common.idx2_ext rfl rfl)) (congrArg x1 (Common.idx3_ext rfl rfl rfl))
  · rw [Cert.AdaRefIdeal.Read.val_main_v4_apply, Cert.AdaRefIdeal.Read.val_main_v3_apply]
    exact congrArg x2 (Common.idx2_ext rfl rfl)

/-- The bias as the region finds it: the argument with an axis of one row between its two. -/
theorem bias_apply (c : Dev nD) (l : Fin 2) (q : Fin 24576) :
    V m c main_v0 (ix3 l (0 : Fin 1) q) = m ((c : Thread nD τ).loc main_arg2) (ix2 l q) := by
  have e : V m c main_v0 = shapeCast S2x1x24576 (m ((c : Thread nD τ).loc main_arg2)) shapeCasts_S2x24576_S2x1x24576 := by
    show StableHlo.after hostOps0 _ (Proc.devRef .tc main_v0) = _
    after_results
    rfl
  rw [e]
  refine shapeCast_apply _ shapeCasts_S2x24576_S2x1x24576 (ix3 l (0 : Fin 1) q) (ix2 l q) ?_
  rewrite [Shape.rowMajor_val_two, Shape.rowMajor_val_three]
  show l.val * 24576 + q.val = (l.val * 1 + 0) * 24576 + q.val
  omega

/-- The block indices of the windows at grid point `t`: layer `t / 24`, column block `t % 24`. -/
theorem index_eq : ∀ t : Fin grid0.N, (win0_0.index t 0 = 0 ∧ win0_0.index t 1 = 0)
    ∧ (win0_1.index t 0 = t.val / 24 ∧ win0_1.index t 1 = 0 ∧ win0_1.index t 2 = t.val % 24)
    ∧ (win0_2.index t 0 = t.val / 24 ∧ win0_2.index t 1 = 0 ∧ win0_2.index t 2 = t.val % 24)
    ∧ win0_3.index t 0 = t.val / 24 ∧ win0_3.index t 1 = 0 ∧ win0_3.index t 2 = t.val % 24 := by decide +kernel

/-- The result of the reference at the kernel's arguments. -/
abbrev goal (c : Dev nD) : Buf (Elt Ideal) ((c : Thread nD τ).loc main_v1) :=
  Cert.AdaRefIdeal.Read.val_main_v5 (F := Ideal) (m ((c : Thread nD τ).loc main_arg0)) (m ((c : Thread nD τ).loc main_arg1))
    (m ((c : Thread nD τ).loc main_arg2))

/-- What each grid point writes back is the reference's block there. -/
theorem flushed_eq (c : Dev nD) (t : Fin cfg0.N) :
    (dats m 0 c).flushed 3 t = (win0_3.blk t).view.read (Elt Ideal) (goal m c) := by
  rw [flushed3]
  funext y
  obtain ⟨z, r, q, rfl⟩ : ∃ (z : Fin 1) (r : Fin 8) (q : Fin 1024), y = ix3 z r q := ⟨y 0, y 1, y 2, eq_ix3 y⟩
  obtain rfl : z = 0 := Subsingleton.elim _ _
  unfold out0_3
  rw [View.canon_unit_zero Common.zero3, View.ld_unit_zero Common.zero2, View.ld_unit_zero Common.zero3, View.ld_unit_zero Common.zero3]
  obtain ⟨e0, e1, e2, e3⟩ := index_eq t
  have ht : t.val < 48 := t.isLt
  have hr := r.isLt
  have hq := q.isLt
  have hL : t.val / 24 < 2 := by omega
  have hQ : t.val % 24 * 1024 + q.val < 24576 := by omega
  refine (pay_apply _ _ _ r q).trans (Eq.trans ?_ ((ref_apply (m ((c : Thread nD τ).loc main_arg0))
    (m ((c : Thread nD τ).loc main_arg1)) (m ((c : Thread nD τ).loc main_arg2)) ⟨_, hL⟩ r ⟨_, hQ⟩).symm.trans ?_))
  · refine congrArg₂ (fun u v : EReal => u + v) (Finset.sum_congr rfl fun k _ => congrArg₂ (fun u v : EReal => u * v) (congrArg silu ?_) ?_) ?_
    · rw [← V_main_arg0 m c]
      refine congrArg (V m c main_arg0) (Common.idx2_ext ?_ ?_)
      · exact (win0_0.rect_emb_val t (ix2 r k) 0).trans (by rw [e0.1, Nat.zero_mul, Nat.zero_add]; rfl)
      · exact (win0_0.rect_emb_val t (ix2 r k) 1).trans (by rw [e0.2, Nat.zero_mul, Nat.zero_add]; rfl)
    · rw [← V_main_arg1 m c]
      refine congrArg (V m c main_arg1) (Common.idx3_ext ?_ ?_ ?_)
      · exact (win0_1.rect_emb_val t (ix3 (0 : Fin 1) k q) 0).trans (by rw [e1.1]; exact Nat.mul_one _)
      · exact (win0_1.rect_emb_val t (ix3 (0 : Fin 1) k q) 1).trans (by rw [e1.2.1, Nat.zero_mul, Nat.zero_add]; rfl)
      · exact (win0_1.rect_emb_val t (ix3 (0 : Fin 1) k q) 2).trans (by rw [e1.2.2]; rfl)
    · refine Eq.trans ?_ (bias_apply m c ⟨_, hL⟩ ⟨_, hQ⟩)
      refine congrArg (V m c main_v0) (Common.idx3_ext ?_ ?_ ?_)
      · exact (win0_2.rect_emb_val t (ix3 (0 : Fin 1) (0 : Fin 1) q) 0).trans (by rw [e2.1]; exact Nat.mul_one _)
      · exact (win0_2.rect_emb_val t (ix3 (0 : Fin 1) (0 : Fin 1) q) 1).trans (by rw [e2.2.1, Nat.zero_mul, Nat.zero_add]; rfl)
      · exact (win0_2.rect_emb_val t (ix3 (0 : Fin 1) (0 : Fin 1) q) 2).trans (by rw [e2.2.2]; rfl)
  · refine congrArg (goal m c) (Common.idx3_ext ?_ ?_ ?_)
    · exact ((win0_3.rect_emb_val t (ix3 (0 : Fin 1) r q) 0).trans (by rw [e3.1]; exact Nat.mul_one _)).symm
    · exact ((win0_3.rect_emb_val t (ix3 (0 : Fin 1) r q) 1).trans (by rw [e3.2.1, Nat.zero_mul, Nat.zero_add]; rfl)).symm
    · exact ((win0_3.rect_emb_val t (ix3 (0 : Fin 1) r q) 2).trans (by rw [e3.2.2]; rfl)).symm

/-- Every entry of the result lies in some point's block. -/
theorem cover (i : S2x8x24576.Idx) :
    ∃ t : Fin cfg0.N, (cfg0.win 3).flush t = true ∧ i ∈ ((cfg0.win 3).blk t).view.set := by
  have h0 : (i 0 : Nat) < 2 := (i 0).isLt
  have h1 : (i 1 : Nat) < 8 := (i 1).isLt
  have h2 : (i 2 : Nat) < 24576 := (i 2).isLt
  obtain ⟨t, ht⟩ : ∃ t : Fin cfg0.N, t.val = (i 0 : Nat) * 24 + (i 2 : Nat) / 1024 :=
    ⟨⟨_, (by omega : (i 0 : Nat) * 24 + (i 2 : Nat) / 1024 < 48)⟩, rfl⟩
  refine ⟨t, flush0_3 _, ?_⟩
  show i ∈ ((View.whole main_v1).slice (win0_3.rect t)).set
  rw [View.set_slice_whole, Rect.mem_set_unit]
  obtain ⟨-, -, -, e3⟩ := index_eq t
  intro a
  match a with
  | ⟨0, _⟩ =>
    show win0_3.index t 0 * 1 ≤ (i 0 : Nat) ∧ (i 0 : Nat) < win0_3.index t 0 * 1 + 1
    rw [e3.1, ht]; omega
  | ⟨1, _⟩ =>
    show win0_3.index t 1 * 8 ≤ (i 1 : Nat) ∧ (i 1 : Nat) < win0_3.index t 1 * 8 + 8
    rw [e3.2.1]; omega
  | ⟨2, _⟩ =>
    show win0_3.index t 2 * 1024 ≤ (i 2 : Nat) ∧ (i 2 : Nat) < win0_3.index t 2 * 1024 + 1024
    rw [e3.2.2, ht]; omega

/-- The kernel's result array is the reference's. -/
theorem final (c : Dev nD) : (dats m 0 c).arrAt 3 cfg0.N = goal m c :=
  (dats m 0 c).arrAt_eq_of_cover 3 (goal m c) (fun t _ => flushed_eq m c t) cover

/-- The kernel and the reference, from equal arguments, end with equal results and unchanged arguments. -/
theorem algebraic : Cert.algebraic_AdaIdeal_AdaRefIdeal := by
  intro m g m' g' _ hargs
  refine ⟨fun c => goal m c, ?_, ?_⟩
  · exact (θ_run defs _ _).mono (fun r h c => ⟨(h c).1.trans (final m c), (h c).2⟩) (run_blocks m g)
  · refine (θ_run _ _ _).mono (fun r h c => ⟨(h c).1.trans ?_, (h c).2⟩)
      (Cert.AdaRefIdeal.Value.run (F := Ideal) m' g')
    rw [(hargs c).1, (hargs c).2.1, (hargs c).2.2]
    rfl

end Cert.AdaIdeal.Value

end
-- ==== Proof.NormValue.lean ====
/-
  The modulated norm: what the kernel writes back, block by block, is each row over its root mean square, times the gain,
  scaled and shifted by its batch's modulation.
-/
module

public import proofs.«01_k».proof.Defs
public import proofs.«01_k».proof.Proof.Gen.NormIdeal.Value
public import proofs.«01_k».proof.Proof.Gen.NormRefIdeal.Run
public import proofs.«01_k».proof.Proof.Gen.NormRefIdeal.Read
public import proofs.«01_k».proof.Proof.Common
public import Idealize.ShloMosaic.Lib.StableHlo.Run

@[expose] public section

set_option maxRecDepth 16384

noncomputable section

namespace Cert.NormIdeal.Value

open Cert Cert.NormIdeal Cert.NormIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- The reciprocal root of a row's mean, from its sum. -/
def invRoot (s : EReal) : EReal :=
  Ideal.rsqrt (Ideal.div s (Ideal.ofBits .f32 0x45800000#32) + Ideal.ofBits .f32 0x358637BD#32)

/-- One and a scale. -/
def onePlus (s : EReal) : EReal := Ideal.ofBits .f32 0x3F800000#32 + s

/-- An entry normed, gained, scaled and shifted. -/
def modNorm (x d g s h : EReal) : EReal := x * d * g * s + h

/-- Equal parts make equal entries. -/
theorem modNorm_congr {x x' d d' g g' s s' h h' : EReal} (hx : x = x') (hd : d = d') (hg : g = g') (hs : s = s') (hh : h = h') :
    modNorm x d g s h = modNorm x' d' g' s' h' := by
  rw [hx, hd, hg, hs, hh]

/-- One row spread over all rows of a matrix: every entry is the row's at its column. -/
theorem spread_apply {M N : ℕ} (hN : N ≠ 1) (g : FVec Ideal ⟨2, ![1, N]⟩ .f32) (hb : (⟨2, ![1, N]⟩ : Shape).Broadcasts ⟨2, ![M, N]⟩)
    (r : Fin M) (q : Fin N) : broadcastTo ⟨2, ![M, N]⟩ g hb (ix2 r q) = g (ix2 (0 : Fin 1) q) := by
  refine broadcastTo_apply _ hb (ix2 r q) (ix2 (0 : Fin 1) q) fun a => ?_
  match a with
  | ⟨0, _⟩ => rfl
  | ⟨1, _⟩ => exact (if_neg hN).symm

/-- One column spread over all columns of a matrix: every entry is the column's at its row. -/
theorem column_apply {M N : ℕ} (hM : M ≠ 1) (g : FVec Ideal ⟨2, ![M, 1]⟩ .f32) (hb : (⟨2, ![M, 1]⟩ : Shape).Broadcasts ⟨2, ![M, N]⟩)
    (r : Fin M) (q : Fin N) : broadcastTo ⟨2, ![M, N]⟩ g hb (ix2 r q) = g (ix2 r (0 : Fin 1)) := by
  refine broadcastTo_apply _ hb (ix2 r q) (ix2 r (0 : Fin 1)) fun a => ?_
  match a with
  | ⟨0, _⟩ => exact (if_neg hM).symm
  | ⟨1, _⟩ => rfl

/-- A row's sum, as a column's entry. -/
theorem rowSum_apply (x : FVec Ideal S256x4096 .f32) (r : Fin 256) :
    shapeCast S256x1 (multiReduction .add [1] S256 x 0x00000000#32 reduces_S256x4096_S256 (.inl rfl) rfl) shapeCasts_S256_S256x1 (ix2 r (0 : Fin 1))
      = (∑ k : Fin 4096, (x (ix2 r k) : EReal) : EReal) := by
  have e : ∀ k : Fin 4096, reduces_S256x4096_S256.lift (ix1 r) k = ix2 r k := fun k => Common.idx2_ext rfl rfl
  have hs : multiReduction .add [1] S256 x 0x00000000#32 reduces_S256x4096_S256 (.inl rfl) rfl (ix1 r)
      = (∑ k : Fin 4096, (x (reduces_S256x4096_S256.lift (ix1 r) k) : EReal) : EReal) :=
    Ideal.multiReduction_add_single x _ reduces_S256x4096_S256 (.inl rfl) rfl (ix1 r)
  refine (shapeCast_apply _ shapeCasts_S256_S256x1 (ix2 r (0 : Fin 1)) (ix1 r) ?_).trans
    (hs.trans (Finset.sum_congr rfl fun k _ => congrArg x (e k)))
  rewrite [Shape.rowMajor_val_one, Shape.rowMajor_val_two]
  show r.val = r.val * 1 + 0
  omega

/-- An entry of the body. -/
theorem pay_apply (x : Vec Ideal S256x4096 .f32) (g : Vec Ideal S1x4096 .f32) (sc sh : Vec Ideal S1x1x4096 .f32) (r : Fin 256) (q : Fin 4096) :
    k0_pay1 (F := Ideal) x g sc sh (ix2 r q) = modNorm (x (ix2 r q)) (invRoot (∑ k : Fin 4096, (x (ix2 r k) : EReal) * (x (ix2 r k) : EReal) : EReal))
      (g (ix2 (0 : Fin 1) q)) (onePlus (sc (ix3 (0 : Fin 1) (0 : Fin 1) q))) (sh (ix3 (0 : Fin 1) (0 : Fin 1) q)) := by
  refine modNorm_congr rfl ((column_apply (by decide) _ broadcasts_S256x1_S256x4096 r q).trans (congrArg invRoot ?_))
    ((spread_apply (by decide) _ broadcasts_S1x4096_S256x4096 r q).trans ?_)
    ((spread_apply (by decide) _ broadcasts_S1x4096_S256x4096 r q).trans (congrArg onePlus ?_))
    (Common.row_spread_apply (by decide) sh _ _ r q)
  · exact rowSum_apply (fun i => (x i : EReal) * (x i : EReal)) r
  · exact shapeCast_apply g shapeCasts_S1x4096_S1x4096 (ix2 (0 : Fin 1) q) (ix2 (0 : Fin 1) q) rfl
  · exact (shapeCast_dropUnit_apply ![1, 4096] sc _ (ix2 (0 : Fin 1) q)).trans (congrArg sc (Common.idx3_ext rfl rfl rfl))

/-- An entry of the reference. -/
theorem ref_apply (x0 : Vec Ideal S16384x4096 .f32) (x1 : Vec Ideal S4096 .f32) (x2 : Vec Ideal S8x1x24576 .f32) (r : Fin 16384) (q : Fin 4096)
    (hb : r.val / 2048 < 8) (hs : 4096 + q.val < 24576) (hh : q.val < 24576) :
    Cert.NormRefIdeal.Read.val_main_v27 (F := Ideal) x0 x1 x2 (ix2 r q)
      = modNorm (x0 (ix2 r q)) (invRoot (∑ k : Fin 4096, (x0 (ix2 r k) : EReal) * (x0 (ix2 r k) : EReal) : EReal)) (x1 (ix1 q))
        (onePlus (x2 (ix3 ⟨r.val / 2048, hb⟩ (0 : Fin 1) ⟨4096 + q.val, hs⟩))) (x2 (ix3 ⟨r.val / 2048, hb⟩ (0 : Fin 1) ⟨q.val, hh⟩)) := by
  have hr := r.isLt
  have hq := q.isLt
  have e : Cert.NormRefIdeal.Read.idx_main_v26 (ix2 r q) = ix3 ⟨r.val / 2048, hb⟩ ⟨r.val % 2048, Nat.mod_lt _ (by omega)⟩ q := by
    refine Common.idx3_ext ?_ ?_ ?_
    · show (r.val * 4096 + q.val) / 8388608 = r.val / 2048; omega
    · show (r.val * 4096 + q.val) / 4096 % 2048 = r.val % 2048; omega
    · show (r.val * 4096 + q.val) % 4096 = q.val; omega
  have ex : ∀ k : Fin 4096, Cert.NormRefIdeal.Read.val_main_v0 (F := Ideal) x0 (ix3 ⟨r.val / 2048, hb⟩ ⟨r.val % 2048, Nat.mod_lt _ (by omega)⟩ k) = x0 (ix2 r k) := fun k => by
    have hk := k.isLt
    rw [Cert.NormRefIdeal.Read.val_main_v0_apply]
    refine congrArg x0 (Common.idx2_ext ?_ ?_)
    · show ((r.val / 2048 * 2048 + r.val % 2048) * 4096 + k.val) / 4096 = r.val; omega
    · show ((r.val / 2048 * 2048 + r.val % 2048) * 4096 + k.val) % 4096 = k.val; omega
  refine (Cert.NormRefIdeal.Read.val_main_v26_apply (F := Ideal) x0 x1 x2 (ix2 r q)).trans ?_
  rw [e]
  refine modNorm_congr (ex q) ?_ ?_ ?_ ?_
  · rw [Cert.NormRefIdeal.Read.val_main_v15_apply]
    refine congrArg invRoot ?_
    rw [Cert.NormRefIdeal.Read.val_main_v9_apply, Cert.NormRefIdeal.Read.val_main_v8_apply]
    refine (congrArg₂ (fun u v : EReal => u + v) Ideal.ofBits_zero_f32 (Finset.sum_congr rfl fun k _ => ?_)).trans (zero_add _)
    rw [Cert.NormRefIdeal.Read.val_main_v7_apply]
    refine congrArg (fun u : EReal => u * u) (Eq.trans (congrArg (Cert.NormRefIdeal.Read.val_main_v0 (F := Ideal) x0) ?_) (ex k))
    exact Common.idx3_ext rfl rfl rfl
  · rw [Cert.NormRefIdeal.Read.val_main_v18_apply, Cert.NormRefIdeal.Read.val_main_v17_apply]
    refine congrArg x1 (funext fun a => Fin.ext ?_)
    match a with
    | ⟨0, _⟩ => rfl
  · rw [Cert.NormRefIdeal.Read.val_main_v22_apply]
    refine congrArg onePlus ?_
    rw [Cert.NormRefIdeal.Read.val_main_v2_apply]
    exact congrArg x2 (Common.idx3_ext rfl rfl rfl)
  · rw [Cert.NormRefIdeal.Read.val_main_v24_apply, Cert.NormRefIdeal.Read.val_main_v1_apply]
    exact congrArg x2 (Common.idx3_ext rfl rfl rfl)

/-- The gain as the region finds it: the argument as one row. -/
theorem gain_apply (c : Dev nD) (q : Fin 4096) : V m c main_v0 (ix2 (0 : Fin 1) q) = m ((c : Thread nD τ).loc main_arg1) (ix1 q) := by
  have e : V m c main_v0 = shapeCast S1x4096 (m ((c : Thread nD τ).loc main_arg1)) shapeCasts_S4096_S1x4096 := by
    show StableHlo.after hostOps0 _ (Proc.devRef .tc main_v0) = _
    after_results
    rfl
  rw [e]
  refine shapeCast_apply _ shapeCasts_S4096_S1x4096 (ix2 (0 : Fin 1) q) (ix1 q) ?_
  rewrite [Shape.rowMajor_val_one, Shape.rowMajor_val_two]
  show q.val = 0 * 4096 + q.val
  omega

/-- The block indices of the windows at grid point `t`: row block `t`, batch `t / 8`, the scale's and the shift's blocks. -/
theorem index_eq : ∀ t : Fin grid0.N, (win0_0.index t 0 = t.val ∧ win0_0.index t 1 = 0)
    ∧ (win0_1.index t 0 = 0 ∧ win0_1.index t 1 = 0)
    ∧ (win0_2.index t 0 = t.val / 8 ∧ win0_2.index t 1 = 0 ∧ win0_2.index t 2 = 1)
    ∧ (win0_3.index t 0 = t.val / 8 ∧ win0_3.index t 1 = 0 ∧ win0_3.index t 2 = 0)
    ∧ win0_4.index t 0 = t.val ∧ win0_4.index t 1 = 0 := by decide +kernel

/-- The result of the reference at the kernel's arguments. -/
abbrev goal (c : Dev nD) : Buf (Elt Ideal) ((c : Thread nD τ).loc main_v1) :=
  Cert.NormRefIdeal.Read.val_main_v27 (F := Ideal) (m ((c : Thread nD τ).loc main_arg0)) (m ((c : Thread nD τ).loc main_arg1))
    (m ((c : Thread nD τ).loc main_arg2))

/-- What each grid point writes back is the reference's block there. -/
theorem flushed_eq (c : Dev nD) (t : Fin cfg0.N) :
    (dats m 0 c).flushed 4 t = (win0_4.blk t).view.read (Elt Ideal) (goal m c) := by
  rw [flushed4]
  funext y
  obtain ⟨r, q, rfl⟩ : ∃ (r : Fin 256) (q : Fin 4096), y = ix2 r q := ⟨y 0, y 1, eq_ix2 y⟩
  unfold out0_4
  rw [View.canon_unit_zero Common.zero2, View.ld_unit_zero (S := S256x4096) Common.zero2, View.ld_unit_zero (S := S1x4096) Common.zero2,
    View.ld_unit_zero Common.zero3, View.ld_unit_zero Common.zero3]
  obtain ⟨e0, e1, e2, e3, e4⟩ := index_eq t
  have ht : t.val < 64 := t.isLt
  have hr := r.isLt
  have hq := q.isLt
  have hR : t.val * 256 + r.val < 16384 := by omega
  have ex : ∀ k : Fin 4096, iblk m c 0 t (ix2 r k) = m ((c : Thread nD τ).loc main_arg0) (ix2 ⟨_, hR⟩ k) := fun k => by
    rw [← V_main_arg0 m c]
    refine congrArg (V m c main_arg0) (Common.idx2_ext ?_ ?_)
    · exact (win0_0.rect_emb_val t (ix2 r k) 0).trans (by rw [e0.1]; rfl)
    · exact (win0_0.rect_emb_val t (ix2 r k) 1).trans (by rw [e0.2, Nat.zero_mul, Nat.zero_add]; rfl)
  refine (pay_apply _ _ _ _ r q).trans (Eq.trans ?_ ((ref_apply (m ((c : Thread nD τ).loc main_arg0))
    (m ((c : Thread nD τ).loc main_arg1)) (m ((c : Thread nD τ).loc main_arg2)) ⟨_, hR⟩ q (by dsimp only; omega) (by omega) (by omega)).symm.trans ?_))
  · refine modNorm_congr (ex q) (congrArg invRoot (Finset.sum_congr rfl fun k _ => congrArg (fun u : EReal => u * u) (ex k))) ?_ (congrArg onePlus ?_) ?_
    · refine Eq.trans ?_ (gain_apply m c q)
      refine congrArg (V m c main_v0) (Common.idx2_ext ?_ ?_)
      · exact (win0_1.rect_emb_val t (ix2 (0 : Fin 1) q) 0).trans (by rw [e1.1, Nat.zero_mul, Nat.zero_add]; rfl)
      · exact (win0_1.rect_emb_val t (ix2 (0 : Fin 1) q) 1).trans (by rw [e1.2, Nat.zero_mul, Nat.zero_add]; rfl)
    · rw [← V_main_arg2 m c]
      refine congrArg (V m c main_arg2) (Common.idx3_ext ?_ ?_ ?_)
      · refine (win0_2.rect_emb_val t (ix3 (0 : Fin 1) (0 : Fin 1) q) 0).trans ?_
        rw [e2.1]; show t.val / 8 * 1 + 0 = (t.val * 256 + r.val) / 2048; omega
      · exact (win0_2.rect_emb_val t (ix3 (0 : Fin 1) (0 : Fin 1) q) 1).trans (by rw [e2.2.1, Nat.zero_mul, Nat.zero_add]; rfl)
      · refine (win0_2.rect_emb_val t (ix3 (0 : Fin 1) (0 : Fin 1) q) 2).trans ?_
        rw [e2.2.2]; show 1 * 4096 + q.val = 4096 + q.val; omega
    · rw [← V_main_arg2 m c]
      refine congrArg (V m c main_arg2) (Common.idx3_ext ?_ ?_ ?_)
      · refine (win0_3.rect_emb_val t (ix3 (0 : Fin 1) (0 : Fin 1) q) 0).trans ?_
        rw [e3.1]; show t.val / 8 * 1 + 0 = (t.val * 256 + r.val) / 2048; omega
      · exact (win0_3.rect_emb_val t (ix3 (0 : Fin 1) (0 : Fin 1) q) 1).trans (by rw [e3.2.1, Nat.zero_mul, Nat.zero_add]; rfl)
      · exact (win0_3.rect_emb_val t (ix3 (0 : Fin 1) (0 : Fin 1) q) 2).trans (by rw [e3.2.2, Nat.zero_mul, Nat.zero_add]; rfl)
  · refine congrArg (goal m c) (Common.idx2_ext ?_ ?_)
    · exact ((win0_4.rect_emb_val t (ix2 r q) 0).trans (by rw [e4.1]; rfl)).symm
    · exact ((win0_4.rect_emb_val t (ix2 r q) 1).trans (by rw [e4.2, Nat.zero_mul, Nat.zero_add]; rfl)).symm

/-- Every entry of the result lies in some point's block. -/
theorem cover (i : S16384x4096.Idx) :
    ∃ t : Fin cfg0.N, (cfg0.win 4).flush t = true ∧ i ∈ ((cfg0.win 4).blk t).view.set := by
  have h0 : (i 0 : Nat) < 16384 := (i 0).isLt
  have h1 : (i 1 : Nat) < 4096 := (i 1).isLt
  obtain ⟨t, ht⟩ : ∃ t : Fin cfg0.N, t.val = (i 0 : Nat) / 256 :=
    ⟨⟨_, (by omega : (i 0 : Nat) / 256 < 64)⟩, rfl⟩
  refine ⟨t, flush0_4 _, ?_⟩
  show i ∈ ((View.whole main_v1).slice (win0_4.rect t)).set
  rw [View.set_slice_whole, Rect.mem_set_unit]
  obtain ⟨-, -, -, -, e4⟩ := index_eq t
  intro a
  match a with
  | ⟨0, _⟩ =>
    show win0_4.index t 0 * 256 ≤ (i 0 : Nat) ∧ (i 0 : Nat) < win0_4.index t 0 * 256 + 256
    rw [e4.1, ht]; omega
  | ⟨1, _⟩ =>
    show win0_4.index t 1 * 4096 ≤ (i 1 : Nat) ∧ (i 1 : Nat) < win0_4.index t 1 * 4096 + 4096
    rw [e4.2]; omega

/-- The kernel's result array is the reference's. -/
theorem final (c : Dev nD) : (dats m 0 c).arrAt 4 cfg0.N = goal m c :=
  (dats m 0 c).arrAt_eq_of_cover 4 (goal m c) (fun t _ => flushed_eq m c t) cover

/-- The kernel and the reference, from equal arguments, end with equal results and unchanged arguments. -/
theorem algebraic : Cert.algebraic_NormIdeal_NormRefIdeal := by
  intro m g m' g' _ hargs
  refine ⟨fun c => goal m c, ?_, ?_⟩
  · exact (θ_run defs _ _).mono (fun r h c => ⟨(h c).1.trans (final m c), (h c).2⟩) (run_blocks m g)
  · refine (θ_run _ _ _).mono (fun r h c => ⟨(h c).1.trans ?_, (h c).2⟩)
      (Cert.NormRefIdeal.Value.run (F := Ideal) m' g')
    rw [(hargs c).1, (hargs c).2.1, (hargs c).2.2]
    rfl

end Cert.NormIdeal.Value

end
-- ==== Proof.lean ====
module

public import proofs.«01_k».proof.Defs
public import proofs.«01_k».proof.Proof.Gen.Sb
public import proofs.«01_k».proof.Proof.Gen.Sb.Frame
public import proofs.«01_k».proof.Proof.Gen.SbIdeal
public import proofs.«01_k».proof.Proof.Gen.SbIdeal.Frame
public import proofs.«01_k».proof.Proof.Gen.SbRefIdeal
public import proofs.«01_k».proof.Proof.Gen.SbRefIdeal.Run
public import proofs.«01_k».proof.Proof.SbValue
public import proofs.«01_k».proof.Proof.Gen.Pre_finite_qk
public import proofs.«01_k».proof.Proof.Gen.Proj
public import proofs.«01_k».proof.Proof.Gen.Proj.Frame
public import proofs.«01_k».proof.Proof.Gen.ProjIdeal
public import proofs.«01_k».proof.Proof.Gen.ProjIdeal.Frame
public import proofs.«01_k».proof.Proof.Gen.ProjRefIdeal
public import proofs.«01_k».proof.Proof.Gen.ProjRefIdeal.Run
public import proofs.«01_k».proof.Proof.ProjValue
public import proofs.«01_k».proof.Proof.Gen.Swiglu
public import proofs.«01_k».proof.Proof.Gen.Swiglu.Frame
public import proofs.«01_k».proof.Proof.Gen.SwigluIdeal
public import proofs.«01_k».proof.Proof.Gen.SwigluIdeal.Frame
public import proofs.«01_k».proof.Proof.Gen.SwigluRefIdeal
public import proofs.«01_k».proof.Proof.Gen.SwigluRefIdeal.Run
public import proofs.«01_k».proof.Proof.SwigluValue
public import proofs.«01_k».proof.Proof.Gen.Out
public import proofs.«01_k».proof.Proof.Gen.Out.Frame
public import proofs.«01_k».proof.Proof.Gen.OutIdeal
public import proofs.«01_k».proof.Proof.Gen.OutIdeal.Frame
public import proofs.«01_k».proof.Proof.Gen.OutRefIdeal
public import proofs.«01_k».proof.Proof.Gen.OutRefIdeal.Run
public import proofs.«01_k».proof.Proof.OutValue
public import proofs.«01_k».proof.Proof.Gen.Down
public import proofs.«01_k».proof.Proof.Gen.Down.Frame
public import proofs.«01_k».proof.Proof.Gen.DownIdeal
public import proofs.«01_k».proof.Proof.Gen.DownIdeal.Frame
public import proofs.«01_k».proof.Proof.Gen.DownRefIdeal
public import proofs.«01_k».proof.Proof.Gen.DownRefIdeal.Run
public import proofs.«01_k».proof.Proof.DownValue
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MergeRefIdeal
public import proofs.«01_k».proof.Proof.Gen.MergeRefIdeal.Run
public import proofs.«01_k».proof.Proof.MergeValue
public import proofs.«01_k».proof.Proof.Gen.MoeDown
public import proofs.«01_k».proof.Proof.Gen.MoeDownIdeal
public import proofs.«01_k».proof.Proof.Gen.MoeDownRefIdeal
public import proofs.«01_k».proof.Proof.Gen.MoeDownRefIdeal.Run
public import proofs.«01_k».proof.Proof.MoeDownFrame
public import proofs.«01_k».proof.Proof.MoeDownValue
public import proofs.«01_k».proof.Proof.Gen.Pre_routed
public import proofs.«01_k».proof.Proof.Gen.MoeUp
public import proofs.«01_k».proof.Proof.Gen.MoeUpIdeal
public import proofs.«01_k».proof.Proof.Gen.MoeUpRefIdeal
public import proofs.«01_k».proof.Proof.Gen.MoeUpRefIdeal.Run
public import proofs.«01_k».proof.Proof.MoeUpFrame
public import proofs.«01_k».proof.Proof.MoeUpValue
public import proofs.«01_k».proof.Proof.Gen.Pre_dispatched
public import proofs.«01_k».proof.Proof.Gen.Ada
public import proofs.«01_k».proof.Proof.Gen.Ada.Frame
public import proofs.«01_k».proof.Proof.Gen.AdaIdeal
public import proofs.«01_k».proof.Proof.Gen.AdaIdeal.Frame
public import proofs.«01_k».proof.Proof.Gen.AdaRefIdeal
public import proofs.«01_k».proof.Proof.Gen.AdaRefIdeal.Run
public import proofs.«01_k».proof.Proof.AdaValue
public import proofs.«01_k».proof.Proof.Gen.Norm
public import proofs.«01_k».proof.Proof.Gen.Norm.Frame
public import proofs.«01_k».proof.Proof.Gen.NormIdeal
public import proofs.«01_k».proof.Proof.Gen.NormIdeal.Frame
public import proofs.«01_k».proof.Proof.Gen.NormRefIdeal
public import proofs.«01_k».proof.Proof.Gen.NormRefIdeal.Run
public import proofs.«01_k».proof.Proof.NormValue
public import Idealize.ShloMosaic.Adequacy
public import Idealize.ShloMosaic.Init

@[expose] public section

noncomputable section

namespace Cert.Proof

open Idealize.ShloMosaic Idealize.SL.Sem

/-- The Sb kernel runs to the end, leaves its arguments as they were and every semaphore at zero. -/
theorem quiescent_Sb : Cert.quiescent_Sb := fun m ρ _ => Cert.Sb.Gen.frame m ρ

/-- The Sb kernel over ideal floats runs to the end, leaves its arguments as they were and every semaphore at zero. -/
theorem quiescent_SbIdeal : Cert.quiescent_SbIdeal := fun m ρ _ => Cert.SbIdeal.Gen.frame m ρ

/-- The Sb reference over ideal floats runs to the end, leaves its arguments as they were and holds no semaphore. -/
theorem quiescent_SbRefIdeal : Cert.quiescent_SbRefIdeal := fun m ρ _ =>
  (θ_run Cert.SbRefIdeal.defs _ _).mono
    (fun r h => ⟨fun c => (h c).2, sem_eq_zero_of_no_sems (by decide) r.2⟩)
    (Cert.SbRefIdeal.Value.run (F := Ideal) m ρ)

/-- The Sb kernel over ideal floats runs quietly under the value claim's precondition, as it does without one. -/
theorem quiescent_SbIdeal_pre_finite_qk : Cert.quiescent_SbIdeal_pre_finite_qk := fun m ρ _ => Cert.SbIdeal.Gen.frame m ρ

/-- The Sb reference over ideal floats runs quietly under the value claim's precondition, as it does without one. -/
theorem quiescent_SbRefIdeal_pre_finite_qk : Cert.quiescent_SbRefIdeal_pre_finite_qk := fun m ρ _ =>
  (θ_run Cert.SbRefIdeal.defs _ _).mono
    (fun r h => ⟨fun c => (h c).2, sem_eq_zero_of_no_sems (by decide) r.2⟩)
    (Cert.SbRefIdeal.Value.run (F := Ideal) m ρ)

/-- The Proj kernel runs to the end, leaves its arguments as they were and every semaphore at zero. -/
theorem quiescent_Proj : Cert.quiescent_Proj := fun m ρ _ => Cert.Proj.Gen.frame m ρ

/-- The Proj kernel over ideal floats runs to the end, leaves its arguments as they were and every semaphore at zero. -/
theorem quiescent_ProjIdeal : Cert.quiescent_ProjIdeal := fun m ρ _ => Cert.ProjIdeal.Gen.frame m ρ

/-- The Proj reference over ideal floats runs to the end, leaves its arguments as they were and holds no semaphore. -/
theorem quiescent_ProjRefIdeal : Cert.quiescent_ProjRefIdeal := fun m ρ _ =>
  (θ_run Cert.ProjRefIdeal.defs _ _).mono
    (fun r h => ⟨fun c => (h c).2, sem_eq_zero_of_no_sems (by decide) r.2⟩)
    (Cert.ProjRefIdeal.Value.run (F := Ideal) m ρ)

/-- The Swiglu kernel runs to the end, leaves its arguments as they were and every semaphore at zero. -/
theorem quiescent_Swiglu : Cert.quiescent_Swiglu := fun m ρ _ => Cert.Swiglu.Gen.frame m ρ

/-- The Swiglu kernel over ideal floats runs to the end, leaves its arguments as they were and every semaphore at zero. -/
theorem quiescent_SwigluIdeal : Cert.quiescent_SwigluIdeal := fun m ρ _ => Cert.SwigluIdeal.Gen.frame m ρ

/-- The Swiglu reference over ideal floats runs to the end, leaves its arguments as they were and holds no semaphore. -/
theorem quiescent_SwigluRefIdeal : Cert.quiescent_SwigluRefIdeal := fun m ρ _ =>
  (θ_run Cert.SwigluRefIdeal.defs _ _).mono
    (fun r h => ⟨fun c => (h c).2, sem_eq_zero_of_no_sems (by decide) r.2⟩)
    (Cert.SwigluRefIdeal.Value.run (F := Ideal) m ρ)

/-- The Out kernel runs to the end, leaves its arguments as they were and every semaphore at zero. -/
theorem quiescent_Out : Cert.quiescent_Out := fun m ρ _ => Cert.Out.Gen.frame m ρ

/-- The Out kernel over ideal floats runs to the end, leaves its arguments as they were and every semaphore at zero. -/
theorem quiescent_OutIdeal : Cert.quiescent_OutIdeal := fun m ρ _ => Cert.OutIdeal.Gen.frame m ρ

/-- The Out reference over ideal floats runs to the end, leaves its arguments as they were and holds no semaphore. -/
theorem quiescent_OutRefIdeal : Cert.quiescent_OutRefIdeal := fun m ρ _ =>
  (θ_run Cert.OutRefIdeal.defs _ _).mono
    (fun r h => ⟨fun c => (h c).2, sem_eq_zero_of_no_sems (by decide) r.2⟩)
    (Cert.OutRefIdeal.Value.run (F := Ideal) m ρ)

/-- The Down kernel runs to the end, leaves its arguments as they were and every semaphore at zero. -/
theorem quiescent_Down : Cert.quiescent_Down := fun m ρ _ => Cert.Down.Gen.frame m ρ

/-- The Down kernel over ideal floats runs to the end, leaves its arguments as they were and every semaphore at zero. -/
theorem quiescent_DownIdeal : Cert.quiescent_DownIdeal := fun m ρ _ => Cert.DownIdeal.Gen.frame m ρ

/-- The Down reference over ideal floats runs to the end, leaves its arguments as they were and holds no semaphore. -/
theorem quiescent_DownRefIdeal : Cert.quiescent_DownRefIdeal := fun m ρ _ =>
  (θ_run Cert.DownRefIdeal.defs _ _).mono
    (fun r h => ⟨fun c => (h c).2, sem_eq_zero_of_no_sems (by decide) r.2⟩)
    (Cert.DownRefIdeal.Value.run (F := Ideal) m ρ)

/-- The Merge kernel runs to the end, leaves its arguments as they were and every semaphore at zero. -/
theorem quiescent_Merge : Cert.quiescent_Merge := fun m ρ _ => Cert.Merge.Gen.frame m ρ

/-- The Merge kernel over ideal floats runs to the end, leaves its arguments as they were and every semaphore at zero. -/
theorem quiescent_MergeIdeal : Cert.quiescent_MergeIdeal := fun m ρ _ => Cert.MergeIdeal.Gen.frame m ρ

/-- The Merge reference over ideal floats runs to the end, leaves its arguments as they were and holds no semaphore. -/
theorem quiescent_MergeRefIdeal : Cert.quiescent_MergeRefIdeal := fun m ρ _ =>
  (θ_run Cert.MergeRefIdeal.defs _ _).mono
    (fun r h => ⟨fun c => (h c).2, sem_eq_zero_of_no_sems (by decide) r.2⟩)
    (Cert.MergeRefIdeal.Value.run (F := Ideal) m ρ)

/-- The MoeDown reference over ideal floats runs to the end, leaves its arguments as they were and holds no semaphore. -/
theorem quiescent_MoeDownRefIdeal : Cert.quiescent_MoeDownRefIdeal := fun m ρ _ =>
  (θ_run Cert.MoeDownRefIdeal.defs _ _).mono
    (fun r h => ⟨fun c => (h c).2, sem_eq_zero_of_no_sems (by decide) r.2⟩)
    (Cert.MoeDownRefIdeal.Value.run (F := Ideal) m ρ)

/-- The MoeDown reference over ideal floats runs quietly under the value claim's precondition, as it does without one. -/
theorem quiescent_MoeDownRefIdeal_pre_routed : Cert.quiescent_MoeDownRefIdeal_pre_routed := fun m ρ _ =>
  (θ_run Cert.MoeDownRefIdeal.defs _ _).mono
    (fun r h => ⟨fun c => (h c).2, sem_eq_zero_of_no_sems (by decide) r.2⟩)
    (Cert.MoeDownRefIdeal.Value.run (F := Ideal) m ρ)

/-- The MoeUp reference over ideal floats runs to the end, leaves its arguments as they were and holds no semaphore. -/
theorem quiescent_MoeUpRefIdeal : Cert.quiescent_MoeUpRefIdeal := fun m ρ _ =>
  (θ_run Cert.MoeUpRefIdeal.defs _ _).mono
    (fun r h => ⟨fun c => (h c).2, sem_eq_zero_of_no_sems (by decide) r.2⟩)
    (Cert.MoeUpRefIdeal.Value.run (F := Ideal) m ρ)

/-- The MoeUp reference over ideal floats runs quietly under the value claim's precondition, as it does without one. -/
theorem quiescent_MoeUpRefIdeal_pre_dispatched : Cert.quiescent_MoeUpRefIdeal_pre_dispatched := fun m ρ _ =>
  (θ_run Cert.MoeUpRefIdeal.defs _ _).mono
    (fun r h => ⟨fun c => (h c).2, sem_eq_zero_of_no_sems (by decide) r.2⟩)
    (Cert.MoeUpRefIdeal.Value.run (F := Ideal) m ρ)

/-- The Ada kernel runs to the end, leaves its arguments as they were and every semaphore at zero. -/
theorem quiescent_Ada : Cert.quiescent_Ada := fun m ρ _ => Cert.Ada.Gen.frame m ρ

/-- The Ada kernel over ideal floats runs to the end, leaves its arguments as they were and every semaphore at zero. -/
theorem quiescent_AdaIdeal : Cert.quiescent_AdaIdeal := fun m ρ _ => Cert.AdaIdeal.Gen.frame m ρ

/-- The Ada reference over ideal floats runs to the end, leaves its arguments as they were and holds no semaphore. -/
theorem quiescent_AdaRefIdeal : Cert.quiescent_AdaRefIdeal := fun m ρ _ =>
  (θ_run Cert.AdaRefIdeal.defs _ _).mono
    (fun r h => ⟨fun c => (h c).2, sem_eq_zero_of_no_sems (by decide) r.2⟩)
    (Cert.AdaRefIdeal.Value.run (F := Ideal) m ρ)

/-- The Norm kernel runs to the end, leaves its arguments as they were and every semaphore at zero. -/
theorem quiescent_Norm : Cert.quiescent_Norm := fun m ρ _ => Cert.Norm.Gen.frame m ρ

/-- The Norm kernel over ideal floats runs to the end, leaves its arguments as they were and every semaphore at zero. -/
theorem quiescent_NormIdeal : Cert.quiescent_NormIdeal := fun m ρ _ => Cert.NormIdeal.Gen.frame m ρ

/-- The Norm reference over ideal floats runs to the end, leaves its arguments as they were and holds no semaphore. -/
theorem quiescent_NormRefIdeal : Cert.quiescent_NormRefIdeal := fun m ρ _ =>
  (θ_run Cert.NormRefIdeal.defs _ _).mono
    (fun r h => ⟨fun c => (h c).2, sem_eq_zero_of_no_sems (by decide) r.2⟩)
    (Cert.NormRefIdeal.Value.run (F := Ideal) m ρ)

/-- All the claims together. -/
theorem claim : Cert.Claim := ⟨Cert.Sb.Gen.facts,
  Cert.SbIdeal.Gen.facts,
  Cert.SbRefIdeal.Gen.facts,
  Cert.Proj.Gen.facts,
  Cert.ProjIdeal.Gen.facts,
  Cert.ProjRefIdeal.Gen.facts,
  Cert.Swiglu.Gen.facts,
  Cert.SwigluIdeal.Gen.facts,
  Cert.SwigluRefIdeal.Gen.facts,
  Cert.Out.Gen.facts,
  Cert.OutIdeal.Gen.facts,
  Cert.OutRefIdeal.Gen.facts,
  Cert.Down.Gen.facts,
  Cert.DownIdeal.Gen.facts,
  Cert.DownRefIdeal.Gen.facts,
  Cert.Merge.Gen.facts,
  Cert.MergeIdeal.Gen.facts,
  Cert.MergeRefIdeal.Gen.facts,
  Cert.MoeDown.Gen.facts,
  Cert.MoeDownIdeal.Gen.facts,
  Cert.MoeDownRefIdeal.Gen.facts,
  Cert.MoeUp.Gen.facts,
  Cert.MoeUpIdeal.Gen.facts,
  Cert.MoeUpRefIdeal.Gen.facts,
  Cert.Ada.Gen.facts,
  Cert.AdaIdeal.Gen.facts,
  Cert.AdaRefIdeal.Gen.facts,
  Cert.Norm.Gen.facts,
  Cert.NormIdeal.Gen.facts,
  Cert.NormRefIdeal.Gen.facts,
  Cert.Pre_finite_qk.Gen.facts,
  Cert.Pre_routed.Gen.facts,
  Cert.Pre_dispatched.Gen.facts,
  quiescent_Sb,
  quiescent_SbIdeal,
  quiescent_SbIdeal_pre_finite_qk,
  quiescent_SbRefIdeal,
  quiescent_SbRefIdeal_pre_finite_qk,
  quiescent_Proj,
  quiescent_ProjIdeal,
  quiescent_ProjRefIdeal,
  quiescent_Swiglu,
  quiescent_SwigluIdeal,
  quiescent_SwigluRefIdeal,
  quiescent_Out,
  quiescent_OutIdeal,
  quiescent_OutRefIdeal,
  quiescent_Down,
  quiescent_DownIdeal,
  quiescent_DownRefIdeal,
  quiescent_Merge,
  quiescent_MergeIdeal,
  quiescent_MergeRefIdeal,
  quiescent_MoeDown,
  quiescent_MoeDownIdeal,
  quiescent_MoeDownRefIdeal,
  quiescent_MoeDownRefIdeal_pre_routed,
  quiescent_MoeUp,
  quiescent_MoeUpIdeal,
  quiescent_MoeUpRefIdeal,
  quiescent_MoeUpRefIdeal_pre_dispatched,
  quiescent_Ada,
  quiescent_AdaIdeal,
  quiescent_AdaRefIdeal,
  quiescent_Norm,
  quiescent_NormIdeal,
  quiescent_NormRefIdeal,
  trivial,
  Cert.SbIdeal.Value.algebraic,
  trivial,
  Cert.ProjIdeal.Value.algebraic,
  trivial,
  Cert.SwigluIdeal.Value.algebraic,
  trivial,
  Cert.OutIdeal.Value.algebraic,
  trivial,
  Cert.DownIdeal.Value.algebraic,
  trivial,
  Cert.MergeIdeal.Value.algebraic,
  trivial,
  Cert.MoeDownIdeal.Value.algebraic,
  trivial,
  Cert.MoeUpIdeal.Value.algebraic,
  trivial,
  Cert.AdaIdeal.Value.algebraic,
  trivial,
  Cert.NormIdeal.Value.algebraic⟩

end Cert.Proof

end
